-- ==== Defs.lean ====
def Pre_Kernel [hPre_sizes_in_range : Cert.Pre_sizes_in_range.Facts] (m : (ℓ : Loc Cert.Kernel.nD Cert.Kernel.τ Cert.Kernel.sig) → Buf (Elt Bits) ℓ) : Prop :=
  ∀ c : Dev Cert.Kernel.nD,
    (Cert.Pre_sizes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_in_range : Cert.Pre_sizes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_in_range [hPre_sizes_in_range : Cert.Pre_sizes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_in_range : Cert.Pre_sizes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_in_range [hReferenceIdeal : Cert.ReferenceIdeal.Facts] [hPre_sizes_in_range : Cert.Pre_sizes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_in_range : Cert.Pre_sizes_in_range.Facts),
    quiescent_Kernel (hKernel := hKernel) (hPre_sizes_in_range := hPre_sizes_in_range)
    ∧ quiescent_KernelIdeal (hKernelIdeal := hKernelIdeal) (hPre_sizes_in_range := hPre_sizes_in_range)
    ∧ quiescent_ReferenceIdeal (hReferenceIdeal := hReferenceIdeal)
    ∧ quiescent_ReferenceIdeal_pre_sizes_in_range (hReferenceIdeal := hReferenceIdeal) (hPre_sizes_in_range := hPre_sizes_in_range)
    ∧ preserves_Kernel_KernelIdeal
    ∧ algebraic_KernelIdeal_ReferenceIdeal (hKernelIdeal := hKernelIdeal) (hReferenceIdeal := hReferenceIdeal) (hPre_sizes_in_range := hPre_sizes_in_range)
-- ==== Pre_sizes_in_range.lean ====
abbrev S256x2048 : Shape := ⟨2, ![256, 2048]⟩
abbrev S256 : Shape := ⟨1, ![256]⟩
abbrev S8 : Shape := ⟨1, ![8]⟩
abbrev S8x2048x2816 : Shape := ⟨3, ![8, 2048, 2816]⟩
abbrev S8x2816 : Shape := ⟨2, ![8, 2816]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S256x2048 .fp8e4m3) (main_arg1 : FVec F S256 .f32) (main_arg2 : IVec S8 32) (main_arg3 : FVec F S8x2048x2816 .fp8e4m3) (main_arg4 : FVec F S8x2816 .f32) : IVec S8 1 :=
  let main_c : IVec S_ 32 := constantI S_ 32 0#32
  let main_v0 : IVec S8 32 := broadcastInDim S8 ![] bcast_S_S8 main_c
  let main_v1 : IVec S8 1 := cmpi .sge main_arg2 main_v0
  let main_c_0 : IVec S_ 32 := constantI S_ 32 268435455#32
  let main_v2 : IVec S8 32 := broadcastInDim S8 ![] bcast_S_S8 main_c_0
  let main_v3 : IVec S8 1 := cmpi .sle main_arg2 main_v2
  let main_v4 : IVec S8 1 := andi main_v1 main_v3
  main_v4
-- ==== Kernel.lean ====
abbrev S256x2048 : Shape := ⟨2, ![256, 2048]⟩
abbrev S256 : Shape := ⟨1, ![256]⟩
abbrev S8 : Shape := ⟨1, ![8]⟩
abbrev S8x2048x2816 : Shape := ⟨3, ![8, 2048, 2816]⟩
abbrev S8x2816 : Shape := ⟨2, ![8, 2816]⟩
abbrev S2x128 : Shape := ⟨2, ![2, 128]⟩
abbrev S256x2816 : Shape := ⟨2, ![256, 2816]⟩
abbrev S88x2048x256 : Shape := ⟨3, ![88, 2048, 256]⟩
abbrev S256x128 : Shape := ⟨2, ![256, 128]⟩
abbrev S_ : Shape := ⟨0, ![]⟩
abbrev S88 : Shape := ⟨1, ![88]⟩
abbrev S1 : Shape := ⟨1, ![1]⟩
abbrev S1x2048x256 : Shape := ⟨3, ![1, 2048, 256]⟩
abbrev S2048x256 : Shape := ⟨2, ![2048, 256]⟩
abbrev S1x128 : Shape := ⟨2, ![1, 128]⟩
abbrev S128x128 : Shape := ⟨2, ![128, 128]⟩
abbrev S1x256 : Shape := ⟨2, ![1, 256]⟩
abbrev S128x2048 : Shape := ⟨2, ![128, 2048]⟩
abbrev S128x256 : Shape := ⟨2, ![128, 256]⟩

abbrev nBuf : Space → Nat
  | .hbm => 7
  | .vmem => 6
  | .smem => 2
  | _ => 0

abbrev bufTy : (tb : Table) → Fin (tcTables nBuf tb) → BufTy
  | .hbm, ⟨0, _⟩ => ⟨S256x2048, .fp8e4m3⟩
  | .hbm, ⟨1, _⟩ => ⟨S256, .f32⟩
  | .hbm, ⟨2, _⟩ => ⟨S8, .i32⟩
  | .hbm, ⟨3, _⟩ => ⟨S8x2048x2816, .fp8e4m3⟩
  | .hbm, ⟨4, _⟩ => ⟨S8x2816, .f32⟩
  | .hbm, ⟨5, _⟩ => ⟨S2x128, .f32⟩
  | .hbm, ⟨6, _⟩ => ⟨S256x2816, .bf16⟩
  | .local _ .vmem, ⟨0, _⟩ => ⟨S256x2048, .fp8e4m3⟩
  | .local _ .vmem, ⟨1, _⟩ => ⟨S2x128, .f32⟩
  | .local _ .vmem, ⟨2, _⟩ => ⟨S8x2816, .f32⟩
  | .local _ .vmem, ⟨3, _⟩ => ⟨S88x2048x256, .fp8e4m3⟩
  | .local _ .vmem, ⟨4, _⟩ => ⟨S256x2816, .bf16⟩
  | .local _ .vmem, ⟨5, _⟩ => ⟨S256x128, .f32⟩
  | .local _ .smem, ⟨0, _⟩ => ⟨S8, .i32⟩
  | .local _ .smem, ⟨1, _⟩ => ⟨S8, .i32⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_scratch6 : Ref sig .tc := ⟨.smem, 1, rfl⟩
abbrev cc0_sem0_0 : DmaSem sig := 0

abbrev nD : Nat := 1
abbrev τ : Topo := Topo.v7x

variable {F : FTy → Type} [FloatOps F]

abbrev grid0 : Pipeline.Grid := .none

def k0_off1 (v1 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let v5 : Index := Scalar.indexCast v4
  ![v5.toNat]

def k0_chk1 (v1 : BitVec 32) : Prop :=
  (∀ a, (k0_off1 v1) a + S1.size a ≤ S8.size a)
theorem k0_off1_inb : ∀ (v1 : BitVec 32) (k0_hw1 : k0_chk1 v1), ∀ a, (k0_off1 v1) a + S1.size a ≤ S8.size a := fun v1 k0_hw1 => k0_hw1

def k0_off2 (v1 : BitVec 32) (v7 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let v11 : Index := Scalar.indexCast v10
  ![v11.toNat]

def k0_chk2 (v1 : BitVec 32) (v7 : BitVec 32) : Prop :=
  (∀ a, (k0_off2 v1 v7) a + S1.size a ≤ S8.size a)
theorem k0_off2_inb : ∀ (v1 : BitVec 32) (v7 : BitVec 32) (k0_hw2 : k0_chk2 v1 v7), ∀ a, (k0_off2 v1 v7) a + S1.size a ≤ S8.size a := fun v1 v7 k0_hw2 => k0_hw2

def k0_off3 (v1 : BitVec 32) (v7 : BitVec 32) (v13 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let v17 : Index := Scalar.indexCast v16
  ![v17.toNat]

def k0_chk3 (v1 : BitVec 32) (v7 : BitVec 32) (v13 : BitVec 32) : Prop :=
  (∀ a, (k0_off3 v1 v7 v13) a + S1.size a ≤ S8.size a)
theorem k0_off3_inb : ∀ (v1 : BitVec 32) (v7 : BitVec 32) (v13 : BitVec 32) (k0_hw3 : k0_chk3 v1 v7 v13), ∀ a, (k0_off3 v1 v7 v13) a + S1.size a ≤ S8.size a := fun v1 v7 v13 k0_hw3 => k0_hw3

def k0_off4 (v1 : BitVec 32) (v7 : BitVec 32) (v13 : BitVec 32) (v19 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let v23 : Index := Scalar.indexCast v22
  ![v23.toNat]

def k0_chk4 (v1 : BitVec 32) (v7 : BitVec 32) (v13 : BitVec 32) (v19 : BitVec 32) : Prop :=
  (∀ a, (k0_off4 v1 v7 v13 v19) a + S1.size a ≤ S8.size a)
theorem k0_off4_inb : ∀ (v1 : BitVec 32) (v7 : BitVec 32) (v13 : BitVec 32) (v19 : BitVec 32) (k0_hw4 : k0_chk4 v1 v7 v13 v19), ∀ a, (k0_off4 v1 v7 v13 v19) a + S1.size a ≤ S8.size a := fun v1 v7 v13 v19 k0_hw4 => k0_hw4

def k0_off5 (v1 : BitVec 32) (v7 : BitVec 32) (v13 : BitVec 32) (v19 : BitVec 32) (v25 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let v29 : Index := Scalar.indexCast v28
  ![v29.toNat]

def k0_chk5 (v1 : BitVec 32) (v7 : BitVec 32) (v13 : BitVec 32) (v19 : BitVec 32) (v25 : BitVec 32) : Prop :=
  (∀ a, (k0_off5 v1 v7 v13 v19 v25) a + S1.size a ≤ S8.size a)
theorem k0_off5_inb : ∀ (v1 : BitVec 32) (v7 : BitVec 32) (v13 : BitVec 32) (v19 : BitVec 32) (v25 : BitVec 32) (k0_hw5 : k0_chk5 v1 v7 v13 v19 v25), ∀ a, (k0_off5 v1 v7 v13 v19 v25) a + S1.size a ≤ S8.size a := fun v1 v7 v13 v19 v25 k0_hw5 => k0_hw5

def k0_off6 (v1 : BitVec 32) (v7 : BitVec 32) (v13 : BitVec 32) (v19 : BitVec 32) (v25 : BitVec 32) (v31 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let v35 : Index := Scalar.indexCast v34
  ![v35.toNat]

def k0_chk6 (v1 : BitVec 32) (v7 : BitVec 32) (v13 : BitVec 32) (v19 : BitVec 32) (v25 : BitVec 32) (v31 : BitVec 32) : Prop :=
  (∀ a, (k0_off6 v1 v7 v13 v19 v25 v31) a + S1.size a ≤ S8.size a)
theorem k0_off6_inb : ∀ (v1 : BitVec 32) (v7 : BitVec 32) (v13 : BitVec 32) (v19 : BitVec 32) (v25 : BitVec 32) (v31 : BitVec 32) (k0_hw6 : k0_chk6 v1 v7 v13 v19 v25 v31), ∀ a, (k0_off6 v1 v7 v13 v19 v25 v31) a + S1.size a ≤ S8.size a := fun v1 v7 v13 v19 v25 v31 k0_hw6 => k0_hw6

def k0_off7 (v1 : BitVec 32) (v7 : BitVec 32) (v13 : BitVec 32) (v19 : BitVec 32) (v25 : BitVec 32) (v31 : BitVec 32) (v37 : BitVec 32) : Fin 1 → Nat :=
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let v41 : Index := Scalar.indexCast v40
  ![v41.toNat]

def k0_chk7 (v1 : BitVec 32) (v7 : BitVec 32) (v13 : BitVec 32) (v19 : BitVec 32) (v25 : BitVec 32) (v31 : BitVec 32) (v37 : BitVec 32) : Prop :=
  (∀ a, (k0_off7 v1 v7 v13 v19 v25 v31 v37) a + S1.size a ≤ S8.size a)
theorem k0_off7_inb : ∀ (v1 : BitVec 32) (v7 : BitVec 32) (v13 : BitVec 32) (v19 : BitVec 32) (v25 : BitVec 32) (v31 : BitVec 32) (v37 : BitVec 32) (k0_hw7 : k0_chk7 v1 v7 v13 v19 v25 v31 v37), ∀ a, (k0_off7 v1 v7 v13 v19 v25 v31 v37) a + S1.size a ≤ S8.size a := fun v1 v7 v13 v19 v25 v31 v37 k0_hw7 => k0_hw7

def k0_off8 : Fin 1 → Nat :=
  let c0_i32_11 : BitVec 32 := 0#32
  let c0_i32_49 : BitVec 32 := 0#32
  let v98 : BitVec 1 := Scalar.cmpi .sgt c0_i32_11 c0_i32_49
  let v99 : BitVec 32 := Scalar.extui v98
  let c0_i32_50 : BitVec 32 := 0#32
  let v100 : BitVec 1 := Scalar.cmpi .slt c0_i32_11 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c0_i32_11 c11_i32_48
  let c0_i32_53 : BitVec 32 := 0#32
  let v110 : BitVec 1 := Scalar.cmpi .ne v109 c0_i32_53
  let v111 : BitVec 1 := Scalar.andi v108 v110
  let v97 : BitVec 32 := Scalar.divsi c0_i32_11 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult1 : BitVec 32 :=
  let c0_i32_11 : BitVec 32 := 0#32
  let c0_i32_49 : BitVec 32 := 0#32
  let v98 : BitVec 1 := Scalar.cmpi .sgt c0_i32_11 c0_i32_49
  let v99 : BitVec 32 := Scalar.extui v98
  let c0_i32_50 : BitVec 32 := 0#32
  let v100 : BitVec 1 := Scalar.cmpi .slt c0_i32_11 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c0_i32_11 c11_i32_48
  let c0_i32_53 : BitVec 32 := 0#32
  let v110 : BitVec 1 := Scalar.cmpi .ne v109 c0_i32_53
  let v111 : BitVec 1 := Scalar.andi v108 v110
  let v97 : BitVec 32 := Scalar.divsi c0_i32_11 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c0_i32_11 v114
  let c256_i32 : BitVec 32 := 256#32
  let v118 : BitVec 32 := Scalar.muli v115 c256_i32
  v118
def k0_off9 (v117 : BitVec 32) : Fin 3 → Nat :=
  let c0_i32_58 : BitVec 32 := 0#32
  let c0_i32_11 : BitVec 32 := 0#32
  let c0_i32_49 : BitVec 32 := 0#32
  let v98 : BitVec 1 := Scalar.cmpi .sgt c0_i32_11 c0_i32_49
  let v99 : BitVec 32 := Scalar.extui v98
  let c0_i32_50 : BitVec 32 := 0#32
  let v100 : BitVec 1 := Scalar.cmpi .slt c0_i32_11 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c0_i32_11 c11_i32_48
  let c0_i32_53 : BitVec 32 := 0#32
  let v110 : BitVec 1 := Scalar.cmpi .ne v109 c0_i32_53
  let v111 : BitVec 1 := Scalar.andi v108 v110
  let v97 : BitVec 32 := Scalar.divsi c0_i32_11 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c0_i32_11 v114
  let c256_i32 : BitVec 32 := 256#32
  let v118 : BitVec 32 := Scalar.muli v115 c256_i32
  let v119 : BitVec 32 := v118
  ![v117.toNat, 0, v119.toNat]
def k0_cond1 (v1 : BitVec 32) (v7 : BitVec 32) (v13 : BitVec 32) (v19 : BitVec 32) (v25 : BitVec 32) (v31 : BitVec 32) (v37 : BitVec 32) (v43 : BitVec 32) : BitVec 1 :=
  let c0_i32_10 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v48 : BitVec 1 := Scalar.cmpi .slt c0_i32_10 v47
  let v49 : BitVec 32 := Scalar.extui v48
  let c0_i32_12 : BitVec 32 := 0#32
  let v50 : BitVec 1 := Scalar.cmpi .ne v49 c0_i32_12
  v50

def k0_chk8 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h1 : k0_cond1 v1 v7 v13 v19 v25 v31 v37 v43 = 1#1), ∀ a, (k0_off9 v117) a + S1x2048x256.size a ≤ S8x2048x2816.size a) ∧
  (∀ (k0_h1 : k0_cond1 v1 v7 v13 v19 v25 v31 v37 v43 = 1#1), ∀ (hinb : ∀ a, (k0_off9 v117) a + S1x2048x256.size a ≤ S8x2048x2816.size a), (Rect.unit (s := S8x2048x2816) (k0_off9 v117) S1x2048x256.size hinb).WholeWords (EltTy.packing .fp8e4m3))
theorem k0_off9_inb : ∀ (v1 : BitVec 32) (v7 : BitVec 32) (v13 : BitVec 32) (v19 : BitVec 32) (v25 : BitVec 32) (v31 : BitVec 32) (v37 : BitVec 32) (v43 : BitVec 32) (v117 : BitVec 32) (k0_hw8 : k0_chk8 v1 v7 v13 v19 v25 v31 v37 v43 v117), ∀ (k0_h1 : k0_cond1 v1 v7 v13 v19 v25 v31 v37 v43 = 1#1), ∀ a, (k0_off9 v117) a + S1x2048x256.size a ≤ S8x2048x2816.size a := fun v1 v7 v13 v19 v25 v31 v37 v43 v117 k0_hw8 k0_h1 => k0_hw8.1 k0_h1
theorem k0_off9_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw8 : k0_chk8 v1 v7 v13 v19 v25 v31 v37 v43 v117), ∀ (k0_h1 : k0_cond1 v1 v7 v13 v19 v25 v31 v37 v43 = 1#1), (Rect.unit (s := S8x2048x2816) (k0_off9 v117) S1x2048x256.size (k0_off9_inb v1 v7 v13 v19 v25 v31 v37 v43 v117 k0_hw8 k0_h1)).WholeWords (EltTy.packing .fp8e4m3) := fun v1 v7 v13 v19 v25 v31 v37 v43 v117 k0_hw8 k0_h1 => k0_hw8.2 k0_h1 (k0_off9_inb v1 v7 v13 v19 v25 v31 v37 v43 v117 k0_hw8 k0_h1)

def k0_off10 : Fin 1 → Nat :=
  let c1_i32_14 : BitVec 32 := 1#32
  let c0_i32_49 : BitVec 32 := 0#32
  let v98 : BitVec 1 := Scalar.cmpi .sgt c1_i32_14 c0_i32_49
  let v99 : BitVec 32 := Scalar.extui v98
  let c0_i32_50 : BitVec 32 := 0#32
  let v100 : BitVec 1 := Scalar.cmpi .slt c1_i32_14 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c1_i32_14 c11_i32_48
  let c0_i32_53 : BitVec 32 := 0#32
  let v110 : BitVec 1 := Scalar.cmpi .ne v109 c0_i32_53
  let v111 : BitVec 1 := Scalar.andi v108 v110
  let v97 : BitVec 32 := Scalar.divsi c1_i32_14 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult2 : BitVec 32 :=
  let c1_i32_14 : BitVec 32 := 1#32
  let c0_i32_49 : BitVec 32 := 0#32
  let v98 : BitVec 1 := Scalar.cmpi .sgt c1_i32_14 c0_i32_49
  let v99 : BitVec 32 := Scalar.extui v98
  let c0_i32_50 : BitVec 32 := 0#32
  let v100 : BitVec 1 := Scalar.cmpi .slt c1_i32_14 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c1_i32_14 c11_i32_48
  let c0_i32_53 : BitVec 32 := 0#32
  let v110 : BitVec 1 := Scalar.cmpi .ne v109 c0_i32_53
  let v111 : BitVec 1 := Scalar.andi v108 v110
  let v97 : BitVec 32 := Scalar.divsi c1_i32_14 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c1_i32_14 v114
  let c256_i32 : BitVec 32 := 256#32
  let v118 : BitVec 32 := Scalar.muli v115 c256_i32
  v118
def k0_off11 (v117 : BitVec 32) : Fin 3 → Nat :=
  let c0_i32_58 : BitVec 32 := 0#32
  let c1_i32_14 : BitVec 32 := 1#32
  let c0_i32_49 : BitVec 32 := 0#32
  let v98 : BitVec 1 := Scalar.cmpi .sgt c1_i32_14 c0_i32_49
  let v99 : BitVec 32 := Scalar.extui v98
  let c0_i32_50 : BitVec 32 := 0#32
  let v100 : BitVec 1 := Scalar.cmpi .slt c1_i32_14 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c1_i32_14 c11_i32_48
  let c0_i32_53 : BitVec 32 := 0#32
  let v110 : BitVec 1 := Scalar.cmpi .ne v109 c0_i32_53
  let v111 : BitVec 1 := Scalar.andi v108 v110
  let v97 : BitVec 32 := Scalar.divsi c1_i32_14 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c1_i32_14 v114
  let c256_i32 : BitVec 32 := 256#32
  let v118 : BitVec 32 := Scalar.muli v115 c256_i32
  let v119 : BitVec 32 := v118
  ![v117.toNat, 0, v119.toNat]
def k0_cond2 (v1 : BitVec 32) (v7 : BitVec 32) (v13 : BitVec 32) (v19 : BitVec 32) (v25 : BitVec 32) (v31 : BitVec 32) (v37 : BitVec 32) (v43 : BitVec 32) : BitVec 1 :=
  let c1_i32_13 : BitVec 32 := 1#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v51 : BitVec 1 := Scalar.cmpi .slt c1_i32_13 v47
  let v52 : BitVec 32 := Scalar.extui v51
  let c0_i32_15 : BitVec 32 := 0#32
  let v53 : BitVec 1 := Scalar.cmpi .ne v52 c0_i32_15
  v53

def k0_chk9 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h2 : k0_cond2 v1 v7 v13 v19 v25 v31 v37 v43 = 1#1), ∀ a, (k0_off11 v117) a + S1x2048x256.size a ≤ S8x2048x2816.size a) ∧
  (∀ (k0_h2 : k0_cond2 v1 v7 v13 v19 v25 v31 v37 v43 = 1#1), ∀ (hinb : ∀ a, (k0_off11 v117) a + S1x2048x256.size a ≤ S8x2048x2816.size a), (Rect.unit (s := S8x2048x2816) (k0_off11 v117) S1x2048x256.size hinb).WholeWords (EltTy.packing .fp8e4m3))
theorem k0_off11_inb : ∀ (v1 : BitVec 32) (v7 : BitVec 32) (v13 : BitVec 32) (v19 : BitVec 32) (v25 : BitVec 32) (v31 : BitVec 32) (v37 : BitVec 32) (v43 : BitVec 32) (v117 : BitVec 32) (k0_hw9 : k0_chk9 v1 v7 v13 v19 v25 v31 v37 v43 v117), ∀ (k0_h2 : k0_cond2 v1 v7 v13 v19 v25 v31 v37 v43 = 1#1), ∀ a, (k0_off11 v117) a + S1x2048x256.size a ≤ S8x2048x2816.size a := fun v1 v7 v13 v19 v25 v31 v37 v43 v117 k0_hw9 k0_h2 => k0_hw9.1 k0_h2
theorem k0_off11_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw9 : k0_chk9 v1 v7 v13 v19 v25 v31 v37 v43 v117), ∀ (k0_h2 : k0_cond2 v1 v7 v13 v19 v25 v31 v37 v43 = 1#1), (Rect.unit (s := S8x2048x2816) (k0_off11 v117) S1x2048x256.size (k0_off11_inb v1 v7 v13 v19 v25 v31 v37 v43 v117 k0_hw9 k0_h2)).WholeWords (EltTy.packing .fp8e4m3) := fun v1 v7 v13 v19 v25 v31 v37 v43 v117 k0_hw9 k0_h2 => k0_hw9.2 k0_h2 (k0_off11_inb v1 v7 v13 v19 v25 v31 v37 v43 v117 k0_hw9 k0_h2)

def k0_off12 : Fin 1 → Nat :=
  let c2_i32_17 : BitVec 32 := 2#32
  let c0_i32_49 : BitVec 32 := 0#32
  let v98 : BitVec 1 := Scalar.cmpi .sgt c2_i32_17 c0_i32_49
  let v99 : BitVec 32 := Scalar.extui v98
  let c0_i32_50 : BitVec 32 := 0#32
  let v100 : BitVec 1 := Scalar.cmpi .slt c2_i32_17 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c2_i32_17 c11_i32_48
  let c0_i32_53 : BitVec 32 := 0#32
  let v110 : BitVec 1 := Scalar.cmpi .ne v109 c0_i32_53
  let v111 : BitVec 1 := Scalar.andi v108 v110
  let v97 : BitVec 32 := Scalar.divsi c2_i32_17 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult3 : BitVec 32 :=
  let c2_i32_17 : BitVec 32 := 2#32
  let c0_i32_49 : BitVec 32 := 0#32
  let v98 : BitVec 1 := Scalar.cmpi .sgt c2_i32_17 c0_i32_49
  let v99 : BitVec 32 := Scalar.extui v98
  let c0_i32_50 : BitVec 32 := 0#32
  let v100 : BitVec 1 := Scalar.cmpi .slt c2_i32_17 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c2_i32_17 c11_i32_48
  let c0_i32_53 : BitVec 32 := 0#32
  let v110 : BitVec 1 := Scalar.cmpi .ne v109 c0_i32_53
  let v111 : BitVec 1 := Scalar.andi v108 v110
  let v97 : BitVec 32 := Scalar.divsi c2_i32_17 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c2_i32_17 v114
  let c256_i32 : BitVec 32 := 256#32
  let v118 : BitVec 32 := Scalar.muli v115 c256_i32
  v118
def k0_off13 (v117 : BitVec 32) : Fin 3 → Nat :=
  let c0_i32_58 : BitVec 32 := 0#32
  let c2_i32_17 : BitVec 32 := 2#32
  let c0_i32_49 : BitVec 32 := 0#32
  let v98 : BitVec 1 := Scalar.cmpi .sgt c2_i32_17 c0_i32_49
  let v99 : BitVec 32 := Scalar.extui v98
  let c0_i32_50 : BitVec 32 := 0#32
  let v100 : BitVec 1 := Scalar.cmpi .slt c2_i32_17 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c2_i32_17 c11_i32_48
  let c0_i32_53 : BitVec 32 := 0#32
  let v110 : BitVec 1 := Scalar.cmpi .ne v109 c0_i32_53
  let v111 : BitVec 1 := Scalar.andi v108 v110
  let v97 : BitVec 32 := Scalar.divsi c2_i32_17 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c2_i32_17 v114
  let c256_i32 : BitVec 32 := 256#32
  let v118 : BitVec 32 := Scalar.muli v115 c256_i32
  let v119 : BitVec 32 := v118
  ![v117.toNat, 0, v119.toNat]
def k0_cond3 (v1 : BitVec 32) (v7 : BitVec 32) (v13 : BitVec 32) (v19 : BitVec 32) (v25 : BitVec 32) (v31 : BitVec 32) (v37 : BitVec 32) (v43 : BitVec 32) : BitVec 1 :=
  let c2_i32_16 : BitVec 32 := 2#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v54 : BitVec 1 := Scalar.cmpi .slt c2_i32_16 v47
  let v55 : BitVec 32 := Scalar.extui v54
  let c0_i32_18 : BitVec 32 := 0#32
  let v56 : BitVec 1 := Scalar.cmpi .ne v55 c0_i32_18
  v56

def k0_chk10 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h3 : k0_cond3 v1 v7 v13 v19 v25 v31 v37 v43 = 1#1), ∀ a, (k0_off13 v117) a + S1x2048x256.size a ≤ S8x2048x2816.size a) ∧
  (∀ (k0_h3 : k0_cond3 v1 v7 v13 v19 v25 v31 v37 v43 = 1#1), ∀ (hinb : ∀ a, (k0_off13 v117) a + S1x2048x256.size a ≤ S8x2048x2816.size a), (Rect.unit (s := S8x2048x2816) (k0_off13 v117) S1x2048x256.size hinb).WholeWords (EltTy.packing .fp8e4m3))
theorem k0_off13_inb : ∀ (v1 : BitVec 32) (v7 : BitVec 32) (v13 : BitVec 32) (v19 : BitVec 32) (v25 : BitVec 32) (v31 : BitVec 32) (v37 : BitVec 32) (v43 : BitVec 32) (v117 : BitVec 32) (k0_hw10 : k0_chk10 v1 v7 v13 v19 v25 v31 v37 v43 v117), ∀ (k0_h3 : k0_cond3 v1 v7 v13 v19 v25 v31 v37 v43 = 1#1), ∀ a, (k0_off13 v117) a + S1x2048x256.size a ≤ S8x2048x2816.size a := fun v1 v7 v13 v19 v25 v31 v37 v43 v117 k0_hw10 k0_h3 => k0_hw10.1 k0_h3
theorem k0_off13_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw10 : k0_chk10 v1 v7 v13 v19 v25 v31 v37 v43 v117), ∀ (k0_h3 : k0_cond3 v1 v7 v13 v19 v25 v31 v37 v43 = 1#1), (Rect.unit (s := S8x2048x2816) (k0_off13 v117) S1x2048x256.size (k0_off13_inb v1 v7 v13 v19 v25 v31 v37 v43 v117 k0_hw10 k0_h3)).WholeWords (EltTy.packing .fp8e4m3) := fun v1 v7 v13 v19 v25 v31 v37 v43 v117 k0_hw10 k0_h3 => k0_hw10.2 k0_h3 (k0_off13_inb v1 v7 v13 v19 v25 v31 v37 v43 v117 k0_hw10 k0_h3)

def k0_off14 : Fin 1 → Nat :=
  let c3_i32_20 : BitVec 32 := 3#32
  let c0_i32_49 : BitVec 32 := 0#32
  let v98 : BitVec 1 := Scalar.cmpi .sgt c3_i32_20 c0_i32_49
  let v99 : BitVec 32 := Scalar.extui v98
  let c0_i32_50 : BitVec 32 := 0#32
  let v100 : BitVec 1 := Scalar.cmpi .slt c3_i32_20 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c3_i32_20 c11_i32_48
  let c0_i32_53 : BitVec 32 := 0#32
  let v110 : BitVec 1 := Scalar.cmpi .ne v109 c0_i32_53
  let v111 : BitVec 1 := Scalar.andi v108 v110
  let v97 : BitVec 32 := Scalar.divsi c3_i32_20 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult4 : BitVec 32 :=
  let c3_i32_20 : BitVec 32 := 3#32
  let c0_i32_49 : BitVec 32 := 0#32
  let v98 : BitVec 1 := Scalar.cmpi .sgt c3_i32_20 c0_i32_49
  let v99 : BitVec 32 := Scalar.extui v98
  let c0_i32_50 : BitVec 32 := 0#32
  let v100 : BitVec 1 := Scalar.cmpi .slt c3_i32_20 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c3_i32_20 c11_i32_48
  let c0_i32_53 : BitVec 32 := 0#32
  let v110 : BitVec 1 := Scalar.cmpi .ne v109 c0_i32_53
  let v111 : BitVec 1 := Scalar.andi v108 v110
  let v97 : BitVec 32 := Scalar.divsi c3_i32_20 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c3_i32_20 v114
  let c256_i32 : BitVec 32 := 256#32
  let v118 : BitVec 32 := Scalar.muli v115 c256_i32
  v118
def k0_off15 (v117 : BitVec 32) : Fin 3 → Nat :=
  let c0_i32_58 : BitVec 32 := 0#32
  let c3_i32_20 : BitVec 32 := 3#32
  let c0_i32_49 : BitVec 32 := 0#32
  let v98 : BitVec 1 := Scalar.cmpi .sgt c3_i32_20 c0_i32_49
  let v99 : BitVec 32 := Scalar.extui v98
  let c0_i32_50 : BitVec 32 := 0#32
  let v100 : BitVec 1 := Scalar.cmpi .slt c3_i32_20 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c3_i32_20 c11_i32_48
  let c0_i32_53 : BitVec 32 := 0#32
  let v110 : BitVec 1 := Scalar.cmpi .ne v109 c0_i32_53
  let v111 : BitVec 1 := Scalar.andi v108 v110
  let v97 : BitVec 32 := Scalar.divsi c3_i32_20 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c3_i32_20 v114
  let c256_i32 : BitVec 32 := 256#32
  let v118 : BitVec 32 := Scalar.muli v115 c256_i32
  let v119 : BitVec 32 := v118
  ![v117.toNat, 0, v119.toNat]
def k0_cond4 (v1 : BitVec 32) (v7 : BitVec 32) (v13 : BitVec 32) (v19 : BitVec 32) (v25 : BitVec 32) (v31 : BitVec 32) (v37 : BitVec 32) (v43 : BitVec 32) : BitVec 1 :=
  let c3_i32_19 : BitVec 32 := 3#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v57 : BitVec 1 := Scalar.cmpi .slt c3_i32_19 v47
  let v58 : BitVec 32 := Scalar.extui v57
  let c0_i32_21 : BitVec 32 := 0#32
  let v59 : BitVec 1 := Scalar.cmpi .ne v58 c0_i32_21
  v59

def k0_chk11 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h4 : k0_cond4 v1 v7 v13 v19 v25 v31 v37 v43 = 1#1), ∀ a, (k0_off15 v117) a + S1x2048x256.size a ≤ S8x2048x2816.size a) ∧
  (∀ (k0_h4 : k0_cond4 v1 v7 v13 v19 v25 v31 v37 v43 = 1#1), ∀ (hinb : ∀ a, (k0_off15 v117) a + S1x2048x256.size a ≤ S8x2048x2816.size a), (Rect.unit (s := S8x2048x2816) (k0_off15 v117) S1x2048x256.size hinb).WholeWords (EltTy.packing .fp8e4m3))
theorem k0_off15_inb : ∀ (v1 : BitVec 32) (v7 : BitVec 32) (v13 : BitVec 32) (v19 : BitVec 32) (v25 : BitVec 32) (v31 : BitVec 32) (v37 : BitVec 32) (v43 : BitVec 32) (v117 : BitVec 32) (k0_hw11 : k0_chk11 v1 v7 v13 v19 v25 v31 v37 v43 v117), ∀ (k0_h4 : k0_cond4 v1 v7 v13 v19 v25 v31 v37 v43 = 1#1), ∀ a, (k0_off15 v117) a + S1x2048x256.size a ≤ S8x2048x2816.size a := fun v1 v7 v13 v19 v25 v31 v37 v43 v117 k0_hw11 k0_h4 => k0_hw11.1 k0_h4
theorem k0_off15_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw11 : k0_chk11 v1 v7 v13 v19 v25 v31 v37 v43 v117), ∀ (k0_h4 : k0_cond4 v1 v7 v13 v19 v25 v31 v37 v43 = 1#1), (Rect.unit (s := S8x2048x2816) (k0_off15 v117) S1x2048x256.size (k0_off15_inb v1 v7 v13 v19 v25 v31 v37 v43 v117 k0_hw11 k0_h4)).WholeWords (EltTy.packing .fp8e4m3) := fun v1 v7 v13 v19 v25 v31 v37 v43 v117 k0_hw11 k0_h4 => k0_hw11.2 k0_h4 (k0_off15_inb v1 v7 v13 v19 v25 v31 v37 v43 v117 k0_hw11 k0_h4)

def k0_off16 : Fin 1 → Nat :=
  let c4_i32_23 : BitVec 32 := 4#32
  let c0_i32_49 : BitVec 32 := 0#32
  let v98 : BitVec 1 := Scalar.cmpi .sgt c4_i32_23 c0_i32_49
  let v99 : BitVec 32 := Scalar.extui v98
  let c0_i32_50 : BitVec 32 := 0#32
  let v100 : BitVec 1 := Scalar.cmpi .slt c4_i32_23 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c4_i32_23 c11_i32_48
  let c0_i32_53 : BitVec 32 := 0#32
  let v110 : BitVec 1 := Scalar.cmpi .ne v109 c0_i32_53
  let v111 : BitVec 1 := Scalar.andi v108 v110
  let v97 : BitVec 32 := Scalar.divsi c4_i32_23 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult5 : BitVec 32 :=
  let c4_i32_23 : BitVec 32 := 4#32
  let c0_i32_49 : BitVec 32 := 0#32
  let v98 : BitVec 1 := Scalar.cmpi .sgt c4_i32_23 c0_i32_49
  let v99 : BitVec 32 := Scalar.extui v98
  let c0_i32_50 : BitVec 32 := 0#32
  let v100 : BitVec 1 := Scalar.cmpi .slt c4_i32_23 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c4_i32_23 c11_i32_48
  let c0_i32_53 : BitVec 32 := 0#32
  let v110 : BitVec 1 := Scalar.cmpi .ne v109 c0_i32_53
  let v111 : BitVec 1 := Scalar.andi v108 v110
  let v97 : BitVec 32 := Scalar.divsi c4_i32_23 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c4_i32_23 v114
  let c256_i32 : BitVec 32 := 256#32
  let v118 : BitVec 32 := Scalar.muli v115 c256_i32
  v118
def k0_off17 (v117 : BitVec 32) : Fin 3 → Nat :=
  let c0_i32_58 : BitVec 32 := 0#32
  let c4_i32_23 : BitVec 32 := 4#32
  let c0_i32_49 : BitVec 32 := 0#32
  let v98 : BitVec 1 := Scalar.cmpi .sgt c4_i32_23 c0_i32_49
  let v99 : BitVec 32 := Scalar.extui v98
  let c0_i32_50 : BitVec 32 := 0#32
  let v100 : BitVec 1 := Scalar.cmpi .slt c4_i32_23 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c4_i32_23 c11_i32_48
  let c0_i32_53 : BitVec 32 := 0#32
  let v110 : BitVec 1 := Scalar.cmpi .ne v109 c0_i32_53
  let v111 : BitVec 1 := Scalar.andi v108 v110
  let v97 : BitVec 32 := Scalar.divsi c4_i32_23 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c4_i32_23 v114
  let c256_i32 : BitVec 32 := 256#32
  let v118 : BitVec 32 := Scalar.muli v115 c256_i32
  let v119 : BitVec 32 := v118
  ![v117.toNat, 0, v119.toNat]
def k0_cond5 (v1 : BitVec 32) (v7 : BitVec 32) (v13 : BitVec 32) (v19 : BitVec 32) (v25 : BitVec 32) (v31 : BitVec 32) (v37 : BitVec 32) (v43 : BitVec 32) : BitVec 1 :=
  let c4_i32_22 : BitVec 32 := 4#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v60 : BitVec 1 := Scalar.cmpi .slt c4_i32_22 v47
  let v61 : BitVec 32 := Scalar.extui v60
  let c0_i32_24 : BitVec 32 := 0#32
  let v62 : BitVec 1 := Scalar.cmpi .ne v61 c0_i32_24
  v62

def k0_chk12 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h5 : k0_cond5 v1 v7 v13 v19 v25 v31 v37 v43 = 1#1), ∀ a, (k0_off17 v117) a + S1x2048x256.size a ≤ S8x2048x2816.size a) ∧
  (∀ (k0_h5 : k0_cond5 v1 v7 v13 v19 v25 v31 v37 v43 = 1#1), ∀ (hinb : ∀ a, (k0_off17 v117) a + S1x2048x256.size a ≤ S8x2048x2816.size a), (Rect.unit (s := S8x2048x2816) (k0_off17 v117) S1x2048x256.size hinb).WholeWords (EltTy.packing .fp8e4m3))
theorem k0_off17_inb : ∀ (v1 : BitVec 32) (v7 : BitVec 32) (v13 : BitVec 32) (v19 : BitVec 32) (v25 : BitVec 32) (v31 : BitVec 32) (v37 : BitVec 32) (v43 : BitVec 32) (v117 : BitVec 32) (k0_hw12 : k0_chk12 v1 v7 v13 v19 v25 v31 v37 v43 v117), ∀ (k0_h5 : k0_cond5 v1 v7 v13 v19 v25 v31 v37 v43 = 1#1), ∀ a, (k0_off17 v117) a + S1x2048x256.size a ≤ S8x2048x2816.size a := fun v1 v7 v13 v19 v25 v31 v37 v43 v117 k0_hw12 k0_h5 => k0_hw12.1 k0_h5
theorem k0_off17_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw12 : k0_chk12 v1 v7 v13 v19 v25 v31 v37 v43 v117), ∀ (k0_h5 : k0_cond5 v1 v7 v13 v19 v25 v31 v37 v43 = 1#1), (Rect.unit (s := S8x2048x2816) (k0_off17 v117) S1x2048x256.size (k0_off17_inb v1 v7 v13 v19 v25 v31 v37 v43 v117 k0_hw12 k0_h5)).WholeWords (EltTy.packing .fp8e4m3) := fun v1 v7 v13 v19 v25 v31 v37 v43 v117 k0_hw12 k0_h5 => k0_hw12.2 k0_h5 (k0_off17_inb v1 v7 v13 v19 v25 v31 v37 v43 v117 k0_hw12 k0_h5)

def k0_off18 : Fin 1 → Nat :=
  let c5_i32_26 : BitVec 32 := 5#32
  let c0_i32_49 : BitVec 32 := 0#32
  let v98 : BitVec 1 := Scalar.cmpi .sgt c5_i32_26 c0_i32_49
  let v99 : BitVec 32 := Scalar.extui v98
  let c0_i32_50 : BitVec 32 := 0#32
  let v100 : BitVec 1 := Scalar.cmpi .slt c5_i32_26 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c5_i32_26 c11_i32_48
  let c0_i32_53 : BitVec 32 := 0#32
  let v110 : BitVec 1 := Scalar.cmpi .ne v109 c0_i32_53
  let v111 : BitVec 1 := Scalar.andi v108 v110
  let v97 : BitVec 32 := Scalar.divsi c5_i32_26 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult6 : BitVec 32 :=
  let c5_i32_26 : BitVec 32 := 5#32
  let c0_i32_49 : BitVec 32 := 0#32
  let v98 : BitVec 1 := Scalar.cmpi .sgt c5_i32_26 c0_i32_49
  let v99 : BitVec 32 := Scalar.extui v98
  let c0_i32_50 : BitVec 32 := 0#32
  let v100 : BitVec 1 := Scalar.cmpi .slt c5_i32_26 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c5_i32_26 c11_i32_48
  let c0_i32_53 : BitVec 32 := 0#32
  let v110 : BitVec 1 := Scalar.cmpi .ne v109 c0_i32_53
  let v111 : BitVec 1 := Scalar.andi v108 v110
  let v97 : BitVec 32 := Scalar.divsi c5_i32_26 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c5_i32_26 v114
  let c256_i32 : BitVec 32 := 256#32
  let v118 : BitVec 32 := Scalar.muli v115 c256_i32
  v118
def k0_off19 (v117 : BitVec 32) : Fin 3 → Nat :=
  let c0_i32_58 : BitVec 32 := 0#32
  let c5_i32_26 : BitVec 32 := 5#32
  let c0_i32_49 : BitVec 32 := 0#32
  let v98 : BitVec 1 := Scalar.cmpi .sgt c5_i32_26 c0_i32_49
  let v99 : BitVec 32 := Scalar.extui v98
  let c0_i32_50 : BitVec 32 := 0#32
  let v100 : BitVec 1 := Scalar.cmpi .slt c5_i32_26 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c5_i32_26 c11_i32_48
  let c0_i32_53 : BitVec 32 := 0#32
  let v110 : BitVec 1 := Scalar.cmpi .ne v109 c0_i32_53
  let v111 : BitVec 1 := Scalar.andi v108 v110
  let v97 : BitVec 32 := Scalar.divsi c5_i32_26 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c5_i32_26 v114
  let c256_i32 : BitVec 32 := 256#32
  let v118 : BitVec 32 := Scalar.muli v115 c256_i32
  let v119 : BitVec 32 := v118
  ![v117.toNat, 0, v119.toNat]
def k0_cond6 (v1 : BitVec 32) (v7 : BitVec 32) (v13 : BitVec 32) (v19 : BitVec 32) (v25 : BitVec 32) (v31 : BitVec 32) (v37 : BitVec 32) (v43 : BitVec 32) : BitVec 1 :=
  let c5_i32_25 : BitVec 32 := 5#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v63 : BitVec 1 := Scalar.cmpi .slt c5_i32_25 v47
  let v64 : BitVec 32 := Scalar.extui v63
  let c0_i32_27 : BitVec 32 := 0#32
  let v65 : BitVec 1 := Scalar.cmpi .ne v64 c0_i32_27
  v65

def k0_chk13 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h6 : k0_cond6 v1 v7 v13 v19 v25 v31 v37 v43 = 1#1), ∀ a, (k0_off19 v117) a + S1x2048x256.size a ≤ S8x2048x2816.size a) ∧
  (∀ (k0_h6 : k0_cond6 v1 v7 v13 v19 v25 v31 v37 v43 = 1#1), ∀ (hinb : ∀ a, (k0_off19 v117) a + S1x2048x256.size a ≤ S8x2048x2816.size a), (Rect.unit (s := S8x2048x2816) (k0_off19 v117) S1x2048x256.size hinb).WholeWords (EltTy.packing .fp8e4m3))
theorem k0_off19_inb : ∀ (v1 : BitVec 32) (v7 : BitVec 32) (v13 : BitVec 32) (v19 : BitVec 32) (v25 : BitVec 32) (v31 : BitVec 32) (v37 : BitVec 32) (v43 : BitVec 32) (v117 : BitVec 32) (k0_hw13 : k0_chk13 v1 v7 v13 v19 v25 v31 v37 v43 v117), ∀ (k0_h6 : k0_cond6 v1 v7 v13 v19 v25 v31 v37 v43 = 1#1), ∀ a, (k0_off19 v117) a + S1x2048x256.size a ≤ S8x2048x2816.size a := fun v1 v7 v13 v19 v25 v31 v37 v43 v117 k0_hw13 k0_h6 => k0_hw13.1 k0_h6
theorem k0_off19_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw13 : k0_chk13 v1 v7 v13 v19 v25 v31 v37 v43 v117), ∀ (k0_h6 : k0_cond6 v1 v7 v13 v19 v25 v31 v37 v43 = 1#1), (Rect.unit (s := S8x2048x2816) (k0_off19 v117) S1x2048x256.size (k0_off19_inb v1 v7 v13 v19 v25 v31 v37 v43 v117 k0_hw13 k0_h6)).WholeWords (EltTy.packing .fp8e4m3) := fun v1 v7 v13 v19 v25 v31 v37 v43 v117 k0_hw13 k0_h6 => k0_hw13.2 k0_h6 (k0_off19_inb v1 v7 v13 v19 v25 v31 v37 v43 v117 k0_hw13 k0_h6)

def k0_off20 : Fin 1 → Nat :=
  let c6_i32_29 : BitVec 32 := 6#32
  let c0_i32_49 : BitVec 32 := 0#32
  let v98 : BitVec 1 := Scalar.cmpi .sgt c6_i32_29 c0_i32_49
  let v99 : BitVec 32 := Scalar.extui v98
  let c0_i32_50 : BitVec 32 := 0#32
  let v100 : BitVec 1 := Scalar.cmpi .slt c6_i32_29 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c6_i32_29 c11_i32_48
  let c0_i32_53 : BitVec 32 := 0#32
  let v110 : BitVec 1 := Scalar.cmpi .ne v109 c0_i32_53
  let v111 : BitVec 1 := Scalar.andi v108 v110
  let v97 : BitVec 32 := Scalar.divsi c6_i32_29 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult7 : BitVec 32 :=
  let c6_i32_29 : BitVec 32 := 6#32
  let c0_i32_49 : BitVec 32 := 0#32
  let v98 : BitVec 1 := Scalar.cmpi .sgt c6_i32_29 c0_i32_49
  let v99 : BitVec 32 := Scalar.extui v98
  let c0_i32_50 : BitVec 32 := 0#32
  let v100 : BitVec 1 := Scalar.cmpi .slt c6_i32_29 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c6_i32_29 c11_i32_48
  let c0_i32_53 : BitVec 32 := 0#32
  let v110 : BitVec 1 := Scalar.cmpi .ne v109 c0_i32_53
  let v111 : BitVec 1 := Scalar.andi v108 v110
  let v97 : BitVec 32 := Scalar.divsi c6_i32_29 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c6_i32_29 v114
  let c256_i32 : BitVec 32 := 256#32
  let v118 : BitVec 32 := Scalar.muli v115 c256_i32
  v118
def k0_off21 (v117 : BitVec 32) : Fin 3 → Nat :=
  let c0_i32_58 : BitVec 32 := 0#32
  let c6_i32_29 : BitVec 32 := 6#32
  let c0_i32_49 : BitVec 32 := 0#32
  let v98 : BitVec 1 := Scalar.cmpi .sgt c6_i32_29 c0_i32_49
  let v99 : BitVec 32 := Scalar.extui v98
  let c0_i32_50 : BitVec 32 := 0#32
  let v100 : BitVec 1 := Scalar.cmpi .slt c6_i32_29 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c6_i32_29 c11_i32_48
  let c0_i32_53 : BitVec 32 := 0#32
  let v110 : BitVec 1 := Scalar.cmpi .ne v109 c0_i32_53
  let v111 : BitVec 1 := Scalar.andi v108 v110
  let v97 : BitVec 32 := Scalar.divsi c6_i32_29 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c6_i32_29 v114
  let c256_i32 : BitVec 32 := 256#32
  let v118 : BitVec 32 := Scalar.muli v115 c256_i32
  let v119 : BitVec 32 := v118
  ![v117.toNat, 0, v119.toNat]
def k0_cond7 (v1 : BitVec 32) (v7 : BitVec 32) (v13 : BitVec 32) (v19 : BitVec 32) (v25 : BitVec 32) (v31 : BitVec 32) (v37 : BitVec 32) (v43 : BitVec 32) : BitVec 1 :=
  let c6_i32_28 : BitVec 32 := 6#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v66 : BitVec 1 := Scalar.cmpi .slt c6_i32_28 v47
  let v67 : BitVec 32 := Scalar.extui v66
  let c0_i32_30 : BitVec 32 := 0#32
  let v68 : BitVec 1 := Scalar.cmpi .ne v67 c0_i32_30
  v68

def k0_chk14 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h7 : k0_cond7 v1 v7 v13 v19 v25 v31 v37 v43 = 1#1), ∀ a, (k0_off21 v117) a + S1x2048x256.size a ≤ S8x2048x2816.size a) ∧
  (∀ (k0_h7 : k0_cond7 v1 v7 v13 v19 v25 v31 v37 v43 = 1#1), ∀ (hinb : ∀ a, (k0_off21 v117) a + S1x2048x256.size a ≤ S8x2048x2816.size a), (Rect.unit (s := S8x2048x2816) (k0_off21 v117) S1x2048x256.size hinb).WholeWords (EltTy.packing .fp8e4m3))
theorem k0_off21_inb : ∀ (v1 : BitVec 32) (v7 : BitVec 32) (v13 : BitVec 32) (v19 : BitVec 32) (v25 : BitVec 32) (v31 : BitVec 32) (v37 : BitVec 32) (v43 : BitVec 32) (v117 : BitVec 32) (k0_hw14 : k0_chk14 v1 v7 v13 v19 v25 v31 v37 v43 v117), ∀ (k0_h7 : k0_cond7 v1 v7 v13 v19 v25 v31 v37 v43 = 1#1), ∀ a, (k0_off21 v117) a + S1x2048x256.size a ≤ S8x2048x2816.size a := fun v1 v7 v13 v19 v25 v31 v37 v43 v117 k0_hw14 k0_h7 => k0_hw14.1 k0_h7
theorem k0_off21_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw14 : k0_chk14 v1 v7 v13 v19 v25 v31 v37 v43 v117), ∀ (k0_h7 : k0_cond7 v1 v7 v13 v19 v25 v31 v37 v43 = 1#1), (Rect.unit (s := S8x2048x2816) (k0_off21 v117) S1x2048x256.size (k0_off21_inb v1 v7 v13 v19 v25 v31 v37 v43 v117 k0_hw14 k0_h7)).WholeWords (EltTy.packing .fp8e4m3) := fun v1 v7 v13 v19 v25 v31 v37 v43 v117 k0_hw14 k0_h7 => k0_hw14.2 k0_h7 (k0_off21_inb v1 v7 v13 v19 v25 v31 v37 v43 v117 k0_hw14 k0_h7)

def k0_off22 : Fin 1 → Nat :=
  let c7_i32_32 : BitVec 32 := 7#32
  let c0_i32_49 : BitVec 32 := 0#32
  let v98 : BitVec 1 := Scalar.cmpi .sgt c7_i32_32 c0_i32_49
  let v99 : BitVec 32 := Scalar.extui v98
  let c0_i32_50 : BitVec 32 := 0#32
  let v100 : BitVec 1 := Scalar.cmpi .slt c7_i32_32 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c7_i32_32 c11_i32_48
  let c0_i32_53 : BitVec 32 := 0#32
  let v110 : BitVec 1 := Scalar.cmpi .ne v109 c0_i32_53
  let v111 : BitVec 1 := Scalar.andi v108 v110
  let v97 : BitVec 32 := Scalar.divsi c7_i32_32 c11_i32_48
  let c1_i32_54 : BitVec 32 := 1#32
  let v112 : BitVec 32 := Scalar.subi v97 c1_i32_54
  let v113 : BitVec 32 := Scalar.select v111 v112 v97
  let v116 : Index := Scalar.indexCast v113
  ![v116.toNat]
def k0_mult8 : BitVec 32 :=
  let c7_i32_32 : BitVec 32 := 7#32
  let c0_i32_49 : BitVec 32 := 0#32
  let v98 : BitVec 1 := Scalar.cmpi .sgt c7_i32_32 c0_i32_49
  let v99 : BitVec 32 := Scalar.extui v98
  let c0_i32_50 : BitVec 32 := 0#32
  let v100 : BitVec 1 := Scalar.cmpi .slt c7_i32_32 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c7_i32_32 c11_i32_48
  let c0_i32_53 : BitVec 32 := 0#32
  let v110 : BitVec 1 := Scalar.cmpi .ne v109 c0_i32_53
  let v111 : BitVec 1 := Scalar.andi v108 v110
  let v97 : BitVec 32 := Scalar.divsi c7_i32_32 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c7_i32_32 v114
  let c256_i32 : BitVec 32 := 256#32
  let v118 : BitVec 32 := Scalar.muli v115 c256_i32
  v118
def k0_off23 (v117 : BitVec 32) : Fin 3 → Nat :=
  let c0_i32_58 : BitVec 32 := 0#32
  let c7_i32_32 : BitVec 32 := 7#32
  let c0_i32_49 : BitVec 32 := 0#32
  let v98 : BitVec 1 := Scalar.cmpi .sgt c7_i32_32 c0_i32_49
  let v99 : BitVec 32 := Scalar.extui v98
  let c0_i32_50 : BitVec 32 := 0#32
  let v100 : BitVec 1 := Scalar.cmpi .slt c7_i32_32 c0_i32_50
  let v101 : BitVec 32 := Scalar.extui v100
  let v102 : BitVec 32 := Scalar.subi v99 v101
  let c11_i32_48 : BitVec 32 := 11#32
  let c0_i32_51 : BitVec 32 := 0#32
  let v103 : BitVec 1 := Scalar.cmpi .sgt c11_i32_48 c0_i32_51
  let v104 : BitVec 32 := Scalar.extui v103
  let c0_i32_52 : BitVec 32 := 0#32
  let v105 : BitVec 1 := Scalar.cmpi .slt c11_i32_48 c0_i32_52
  let v106 : BitVec 32 := Scalar.extui v105
  let v107 : BitVec 32 := Scalar.subi v104 v106
  let v108 : BitVec 1 := Scalar.cmpi .ne v102 v107
  let v109 : BitVec 32 := Scalar.remsi c7_i32_32 c11_i32_48
  let c0_i32_53 : BitVec 32 := 0#32
  let v110 : BitVec 1 := Scalar.cmpi .ne v109 c0_i32_53
  let v111 : BitVec 1 := Scalar.andi v108 v110
  let v97 : BitVec 32 := Scalar.divsi c7_i32_32 c11_i32_48
  let c1_i32_54 : BitVec 32 := 1#32
  let v112 : BitVec 32 := Scalar.subi v97 c1_i32_54
  let v113 : BitVec 32 := Scalar.select v111 v112 v97
  let c11_i32_55 : BitVec 32 := 11#32
  let v114 : BitVec 32 := Scalar.muli v113 c11_i32_55
  let v115 : BitVec 32 := Scalar.subi c7_i32_32 v114
  let c256_i32 : BitVec 32 := 256#32
  let v118 : BitVec 32 := Scalar.muli v115 c256_i32
  let v119 : BitVec 32 := v118
  ![v117.toNat, 0, v119.toNat]
def k0_cond8 (v1 : BitVec 32) (v7 : BitVec 32) (v13 : BitVec 32) (v19 : BitVec 32) (v25 : BitVec 32) (v31 : BitVec 32) (v37 : BitVec 32) (v43 : BitVec 32) : BitVec 1 :=
  let c7_i32_31 : BitVec 32 := 7#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v69 : BitVec 1 := Scalar.cmpi .slt c7_i32_31 v47
  let v70 : BitVec 32 := Scalar.extui v69
  let c0_i32_33 : BitVec 32 := 0#32
  let v71 : BitVec 1 := Scalar.cmpi .ne v70 c0_i32_33
  v71

def k0_chk15 (v1 : BitVec 32) (v7 : BitVec 32) (v13 : BitVec 32) (v19 : BitVec 32) (v25 : BitVec 32) (v31 : BitVec 32) (v37 : BitVec 32) (v43 : BitVec 32) (v117 : BitVec 32) : Prop :=
  (∀ (k0_h8 : k0_cond8 v1 v7 v13 v19 v25 v31 v37 v43 = 1#1), ∀ a, (k0_off23 v117) a + S1x2048x256.size a ≤ S8x2048x2816.size a) ∧
  (∀ (k0_h8 : k0_cond8 v1 v7 v13 v19 v25 v31 v37 v43 = 1#1), ∀ (hinb : ∀ a, (k0_off23 v117) a + S1x2048x256.size a ≤ S8x2048x2816.size a), (Rect.unit (s := S8x2048x2816) (k0_off23 v117) S1x2048x256.size hinb).WholeWords (EltTy.packing .fp8e4m3))
theorem k0_off23_inb : ∀ (v1 : BitVec 32) (v7 : BitVec 32) (v13 : BitVec 32) (v19 : BitVec 32) (v25 : BitVec 32) (v31 : BitVec 32) (v37 : BitVec 32) (v43 : BitVec 32) (v117 : BitVec 32) (k0_hw15 : k0_chk15 v1 v7 v13 v19 v25 v31 v37 v43 v117), ∀ (k0_h8 : k0_cond8 v1 v7 v13 v19 v25 v31 v37 v43 = 1#1), ∀ a, (k0_off23 v117) a + S1x2048x256.size a ≤ S8x2048x2816.size a := fun v1 v7 v13 v19 v25 v31 v37 v43 v117 k0_hw15 k0_h8 => k0_hw15.1 k0_h8
theorem k0_off23_wordsfp8e4m3 : ∀ (v1 : BitVec 32) (v7 : BitVec 32) (v13 : BitVec 32) (v19 : BitVec 32) (v25 : BitVec 32) (v31 : BitVec 32) (v37 : BitVec 32) (v43 : BitVec 32) (v117 : BitVec 32) (k0_hw15 : k0_chk15 v1 v7 v13 v19 v25 v31 v37 v43 v117), ∀ (k0_h8 : k0_cond8 v1 v7 v13 v19 v25 v31 v37 v43 = 1#1), (Rect.unit (s := S8x2048x2816) (k0_off23 v117) S1x2048x256.size (k0_off23_inb v1 v7 v13 v19 v25 v31 v37 v43 v117 k0_hw15 k0_h8)).WholeWords (EltTy.packing .fp8e4m3) := fun v1 v7 v13 v19 v25 v31 v37 v43 v117 k0_hw15 k0_h8 => k0_hw15.2 k0_h8 (k0_off23_inb v1 v7 v13 v19 v25 v31 v37 v43 v117 k0_hw15 k0_h8)

@[reducible] def k0_t1_loop (v1 : BitVec 32) (v7 : BitVec 32) (v13 : BitVec 32) (v19 : BitVec 32) (v25 : BitVec 32) (v31 : BitVec 32) (v37 : BitVec 32) (v43 : BitVec 32) : Scf.Loop 32 :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_46 : BitVec 32 := 1#32
  ⟨c0_i32_43, v94, c1_i32_46⟩

def k0_off24 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) : Fin 1 → Nat :=
  let c0_i32_43 : BitVec 32 := 0#32
  let c1_i32_46 : BitVec 32 := 1#32
  let arg18 : BitVec 32 := Scf.iv c0_i32_43 c1_i32_46 k0_t1
  let v97 : Index := Scalar.indexCast arg18
  ![v97.toNat]
@[reducible] def k0_t2_loop (v98 : BitVec 32) : Scf.Loop 32 :=
  let c0_i32_48 : BitVec 32 := 0#32
  let v99 : BitVec 32 := Scalar.subi v98 c0_i32_48
  let c1_i32_50 : BitVec 32 := 1#32
  let v101 : BitVec 32 := Scalar.divsi v99 c1_i32_50
  let v102 : BitVec 32 := Scalar.muli v101 c1_i32_50
  let v103 : BitVec 32 := Scalar.addi c0_i32_48 v102
  let c1_i32_51 : BitVec 32 := 1#32
  ⟨c0_i32_48, v103, c1_i32_51⟩

def k0_off25 (v98 : BitVec 32) (k0_t2 : Fin (k0_t2_loop v98).trips) : Fin 1 → Nat :=
  let c0_i32_48 : BitVec 32 := 0#32
  let c1_i32_51 : BitVec 32 := 1#32
  let arg20 : BitVec 32 := Scf.iv c0_i32_48 c1_i32_51 k0_t2
  let v150 : Index := Scalar.indexCast arg20
  ![v150.toNat]
@[reducible] def k0_t3_loop (v98 : BitVec 32) : Scf.Loop 32 :=
  let c0_i32_48 : BitVec 32 := 0#32
  let v99 : BitVec 32 := Scalar.subi v98 c0_i32_48
  let c1_i32_50 : BitVec 32 := 1#32
  let v101 : BitVec 32 := Scalar.divsi v99 c1_i32_50
  let v102 : BitVec 32 := Scalar.muli v101 c1_i32_50
  let v103 : BitVec 32 := Scalar.addi c0_i32_48 v102
  let v100 : BitVec 32 := Scalar.addi c0_i32_48 v99
  let c1_i32_52 : BitVec 32 := 1#32
  ⟨v103, v100, c1_i32_52⟩
def k0_off26 (v98 : BitVec 32) (k0_t3 : Fin (k0_t3_loop v98).trips) : Fin 1 → Nat :=
  let c0_i32_48 : BitVec 32 := 0#32
  let v99 : BitVec 32 := Scalar.subi v98 c0_i32_48
  let c1_i32_50 : BitVec 32 := 1#32
  let v101 : BitVec 32 := Scalar.divsi v99 c1_i32_50
  let v102 : BitVec 32 := Scalar.muli v101 c1_i32_50
  let v103 : BitVec 32 := Scalar.addi c0_i32_48 v102
  let c1_i32_52 : BitVec 32 := 1#32
  let arg20 : BitVec 32 := Scf.iv v103 c1_i32_52 k0_t3
  let v150 : Index := Scalar.indexCast arg20
  ![v150.toNat]
def k0_off27 (v98 : BitVec 32) : Fin 1 → Nat :=
  let v106 : Index := Scalar.indexCast v98
  ![v106.toNat]
@[reducible] def k0_t4_loop : Scf.Loop 32 :=
  let c0_i32_69 : BitVec 32 := 0#32
  let c11_i32_70 : BitVec 32 := 11#32
  let v148 : BitVec 32 := Scalar.addi c0_i32_69 c11_i32_70
  let c1_i32_71 : BitVec 32 := 1#32
  ⟨c0_i32_69, v148, c1_i32_71⟩
def k0_off28 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 1 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c8_i32 : BitVec 32 := 8#32
  let v152 : BitVec 32 := Scalar.addi v151 c8_i32
  let c0_i32_96 : BitVec 32 := 0#32
  let v198 : BitVec 1 := Scalar.cmpi .sgt v152 c0_i32_96
  let v199 : BitVec 32 := Scalar.extui v198
  let c0_i32_97 : BitVec 32 := 0#32
  let v200 : BitVec 1 := Scalar.cmpi .slt v152 c0_i32_97
  let v201 : BitVec 32 := Scalar.extui v200
  let v202 : BitVec 32 := Scalar.subi v199 v201
  let c11_i32_95 : BitVec 32 := 11#32
  let c0_i32_98 : BitVec 32 := 0#32
  let v203 : BitVec 1 := Scalar.cmpi .sgt c11_i32_95 c0_i32_98
  let v204 : BitVec 32 := Scalar.extui v203
  let c0_i32_99 : BitVec 32 := 0#32
  let v205 : BitVec 1 := Scalar.cmpi .slt c11_i32_95 c0_i32_99
  let v206 : BitVec 32 := Scalar.extui v205
  let v207 : BitVec 32 := Scalar.subi v204 v206
  let v208 : BitVec 1 := Scalar.cmpi .ne v202 v207
  let v209 : BitVec 32 := Scalar.remsi v152 c11_i32_95
  let c0_i32_100 : BitVec 32 := 0#32
  let v210 : BitVec 1 := Scalar.cmpi .ne v209 c0_i32_100
  let v211 : BitVec 1 := Scalar.andi v208 v210
  let v197 : BitVec 32 := Scalar.divsi v152 c11_i32_95
  let c1_i32_101 : BitVec 32 := 1#32
  let v212 : BitVec 32 := Scalar.subi v197 c1_i32_101
  let v213 : BitVec 32 := Scalar.select v211 v212 v197
  let v216 : Index := Scalar.indexCast v213
  ![v216.toNat]
def k0_cond9 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : BitVec 1 :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c8_i32 : BitVec 32 := 8#32
  let v152 : BitVec 32 := Scalar.addi v151 c8_i32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let c11_i32 : BitVec 32 := 11#32
  let v47 : BitVec 32 := Scalar.muli v46 c11_i32
  let v153 : BitVec 1 := Scalar.cmpi .slt v152 v47
  let v154 : BitVec 32 := Scalar.extui v153
  let c0_i32_75 : BitVec 32 := 0#32
  let v155 : BitVec 1 := Scalar.cmpi .ne v154 c0_i32_75
  v155

def k0_mult9 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : BitVec 32 :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c8_i32 : BitVec 32 := 8#32
  let v152 : BitVec 32 := Scalar.addi v151 c8_i32
  let c0_i32_96 : BitVec 32 := 0#32
  let v198 : BitVec 1 := Scalar.cmpi .sgt v152 c0_i32_96
  let v199 : BitVec 32 := Scalar.extui v198
  let c0_i32_97 : BitVec 32 := 0#32
  let v200 : BitVec 1 := Scalar.cmpi .slt v152 c0_i32_97
  let v201 : BitVec 32 := Scalar.extui v200
  let v202 : BitVec 32 := Scalar.subi v199 v201
  let c11_i32_95 : BitVec 32 := 11#32
  let c0_i32_98 : BitVec 32 := 0#32
  let v203 : BitVec 1 := Scalar.cmpi .sgt c11_i32_95 c0_i32_98
  let v204 : BitVec 32 := Scalar.extui v203
  let c0_i32_99 : BitVec 32 := 0#32
  let v205 : BitVec 1 := Scalar.cmpi .slt c11_i32_95 c0_i32_99
  let v206 : BitVec 32 := Scalar.extui v205
  let v207 : BitVec 32 := Scalar.subi v204 v206
  let v208 : BitVec 1 := Scalar.cmpi .ne v202 v207
  let v209 : BitVec 32 := Scalar.remsi v152 c11_i32_95
  let c0_i32_100 : BitVec 32 := 0#32
  let v210 : BitVec 1 := Scalar.cmpi .ne v209 c0_i32_100
  let v211 : BitVec 1 := Scalar.andi v208 v210
  let v197 : BitVec 32 := Scalar.divsi v152 c11_i32_95
  let c1_i32_101 : BitVec 32 := 1#32
  let v212 : BitVec 32 := Scalar.subi v197 c1_i32_101
  let v213 : BitVec 32 := Scalar.select v211 v212 v197
  let c11_i32_102 : BitVec 32 := 11#32
  let v214 : BitVec 32 := Scalar.muli v213 c11_i32_102
  let v215 : BitVec 32 := Scalar.subi v152 v214
  let c256_i32_103 : BitVec 32 := 256#32
  let v218 : BitVec 32 := Scalar.muli v215 c256_i32_103
  v218
def k0_off29 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 1 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c8_i32 : BitVec 32 := 8#32
  let v152 : BitVec 32 := Scalar.addi v151 c8_i32
  ![v152.toNat]
def k0_off30 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 3 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c8_i32 : BitVec 32 := 8#32
  let v152 : BitVec 32 := Scalar.addi v151 c8_i32
  let c0_i32_104 : BitVec 32 := 0#32
  let c0_i32_105 : BitVec 32 := 0#32
  ![v152.toNat, 0, 0]
def k0_off31 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v217 : BitVec 32) : Fin 3 → Nat :=
  let c0_i32_106 : BitVec 32 := 0#32
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c8_i32 : BitVec 32 := 8#32
  let v152 : BitVec 32 := Scalar.addi v151 c8_i32
  let c0_i32_96 : BitVec 32 := 0#32
  let v198 : BitVec 1 := Scalar.cmpi .sgt v152 c0_i32_96
  let v199 : BitVec 32 := Scalar.extui v198
  let c0_i32_97 : BitVec 32 := 0#32
  let v200 : BitVec 1 := Scalar.cmpi .slt v152 c0_i32_97
  let v201 : BitVec 32 := Scalar.extui v200
  let v202 : BitVec 32 := Scalar.subi v199 v201
  let c11_i32_95 : BitVec 32 := 11#32
  let c0_i32_98 : BitVec 32 := 0#32
  let v203 : BitVec 1 := Scalar.cmpi .sgt c11_i32_95 c0_i32_98
  let v204 : BitVec 32 := Scalar.extui v203
  let c0_i32_99 : BitVec 32 := 0#32
  let v205 : BitVec 1 := Scalar.cmpi .slt c11_i32_95 c0_i32_99
  let v206 : BitVec 32 := Scalar.extui v205
  let v207 : BitVec 32 := Scalar.subi v204 v206
  let v208 : BitVec 1 := Scalar.cmpi .ne v202 v207
  let v209 : BitVec 32 := Scalar.remsi v152 c11_i32_95
  let c0_i32_100 : BitVec 32 := 0#32
  let v210 : BitVec 1 := Scalar.cmpi .ne v209 c0_i32_100
  let v211 : BitVec 1 := Scalar.andi v208 v210
  let v197 : BitVec 32 := Scalar.divsi v152 c11_i32_95
  let c1_i32_101 : BitVec 32 := 1#32
  let v212 : BitVec 32 := Scalar.subi v197 c1_i32_101
  let v213 : BitVec 32 := Scalar.select v211 v212 v197
  let c11_i32_102 : BitVec 32 := 11#32
  let v214 : BitVec 32 := Scalar.muli v213 c11_i32_102
  let v215 : BitVec 32 := Scalar.subi v152 v214
  let c256_i32_103 : BitVec 32 := 256#32
  let v218 : BitVec 32 := Scalar.muli v215 c256_i32_103
  let v219 : BitVec 32 := v218
  ![v217.toNat, 0, v219.toNat]

def k0_chk18 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v217 : BitVec 32) : Prop :=
  (∀ (k0_h9 : k0_cond9 v1 v7 v13 v19 v25 v31 v37 v43 k0_t1 k0_t4 = 1#1), ∀ a, (k0_off31 v1 v7 v13 v19 v25 v31 v37 v43 k0_t1 k0_t4 v217) a + S1x2048x256.size a ≤ S8x2048x2816.size a) ∧
  (∀ (k0_h9 : k0_cond9 v1 v7 v13 v19 v25 v31 v37 v43 k0_t1 k0_t4 = 1#1), ∀ (hinb : ∀ a, (k0_off31 v1 v7 v13 v19 v25 v31 v37 v43 k0_t1 k0_t4 v217) a + S1x2048x256.size a ≤ S8x2048x2816.size a), (Rect.unit (s := S8x2048x2816) (k0_off31 v1 v7 v13 v19 v25 v31 v37 v43 k0_t1 k0_t4 v217) S1x2048x256.size hinb).WholeWords (EltTy.packing .fp8e4m3))
theorem k0_off31_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v217 : BitVec 32) (k0_hw18 : k0_chk18 v1 v7 v13 v19 v25 v31 v37 v43 k0_t1 k0_t4 v217), ∀ (k0_h9 : k0_cond9 v1 v7 v13 v19 v25 v31 v37 v43 k0_t1 k0_t4 = 1#1), ∀ a, (k0_off31 v1 v7 v13 v19 v25 v31 v37 v43 k0_t1 k0_t4 v217) a + S1x2048x256.size a ≤ S8x2048x2816.size a := fun v1 v7 v13 v19 v25 v31 v37 v43 k0_t1 k0_t4 v217 k0_hw18 k0_h9 => k0_hw18.1 k0_h9
theorem k0_off31_wordsfp8e4m3 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v217 : BitVec 32) (k0_hw18 : k0_chk18 v1 v7 v13 v19 v25 v31 v37 v43 k0_t1 k0_t4 v217), ∀ (k0_h9 : k0_cond9 v1 v7 v13 v19 v25 v31 v37 v43 k0_t1 k0_t4 = 1#1), (Rect.unit (s := S8x2048x2816) (k0_off31 v1 v7 v13 v19 v25 v31 v37 v43 k0_t1 k0_t4 v217) S1x2048x256.size (k0_off31_inb v1 v7 v13 v19 v25 v31 v37 v43 k0_t1 k0_t4 v217 k0_hw18 k0_h9)).WholeWords (EltTy.packing .fp8e4m3) := fun v1 v7 v13 v19 v25 v31 v37 v43 k0_t1 k0_t4 v217 k0_hw18 k0_h9 => k0_hw18.2 k0_h9 (k0_off31_inb v1 v7 v13 v19 v25 v31 v37 v43 k0_t1 k0_t4 v217 k0_hw18 k0_h9)

def k0_off32 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 1 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c0_i32_77 : BitVec 32 := 0#32
  let v157 : BitVec 1 := Scalar.cmpi .sgt v151 c0_i32_77
  let v158 : BitVec 32 := Scalar.extui v157
  let c0_i32_78 : BitVec 32 := 0#32
  let v159 : BitVec 1 := Scalar.cmpi .slt v151 c0_i32_78
  let v160 : BitVec 32 := Scalar.extui v159
  let v161 : BitVec 32 := Scalar.subi v158 v160
  let c11_i32_76 : BitVec 32 := 11#32
  let c0_i32_79 : BitVec 32 := 0#32
  let v162 : BitVec 1 := Scalar.cmpi .sgt c11_i32_76 c0_i32_79
  let v163 : BitVec 32 := Scalar.extui v162
  let c0_i32_80 : BitVec 32 := 0#32
  let v164 : BitVec 1 := Scalar.cmpi .slt c11_i32_76 c0_i32_80
  let v165 : BitVec 32 := Scalar.extui v164
  let v166 : BitVec 32 := Scalar.subi v163 v165
  let v167 : BitVec 1 := Scalar.cmpi .ne v161 v166
  let v168 : BitVec 32 := Scalar.remsi v151 c11_i32_76
  let c0_i32_81 : BitVec 32 := 0#32
  let v169 : BitVec 1 := Scalar.cmpi .ne v168 c0_i32_81
  let v170 : BitVec 1 := Scalar.andi v167 v169
  let v156 : BitVec 32 := Scalar.divsi v151 c11_i32_76
  let c1_i32_82 : BitVec 32 := 1#32
  let v171 : BitVec 32 := Scalar.subi v156 c1_i32_82
  let v172 : BitVec 32 := Scalar.select v170 v171 v156
  let v175 : Index := Scalar.indexCast v172
  ![v175.toNat]
def k0_mult10 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : BitVec 32 :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c0_i32_77 : BitVec 32 := 0#32
  let v157 : BitVec 1 := Scalar.cmpi .sgt v151 c0_i32_77
  let v158 : BitVec 32 := Scalar.extui v157
  let c0_i32_78 : BitVec 32 := 0#32
  let v159 : BitVec 1 := Scalar.cmpi .slt v151 c0_i32_78
  let v160 : BitVec 32 := Scalar.extui v159
  let v161 : BitVec 32 := Scalar.subi v158 v160
  let c11_i32_76 : BitVec 32 := 11#32
  let c0_i32_79 : BitVec 32 := 0#32
  let v162 : BitVec 1 := Scalar.cmpi .sgt c11_i32_76 c0_i32_79
  let v163 : BitVec 32 := Scalar.extui v162
  let c0_i32_80 : BitVec 32 := 0#32
  let v164 : BitVec 1 := Scalar.cmpi .slt c11_i32_76 c0_i32_80
  let v165 : BitVec 32 := Scalar.extui v164
  let v166 : BitVec 32 := Scalar.subi v163 v165
  let v167 : BitVec 1 := Scalar.cmpi .ne v161 v166
  let v168 : BitVec 32 := Scalar.remsi v151 c11_i32_76
  let c0_i32_81 : BitVec 32 := 0#32
  let v169 : BitVec 1 := Scalar.cmpi .ne v168 c0_i32_81
  let v170 : BitVec 1 := Scalar.andi v167 v169
  let v156 : BitVec 32 := Scalar.divsi v151 c11_i32_76
  let c1_i32_82 : BitVec 32 := 1#32
  let v171 : BitVec 32 := Scalar.subi v156 c1_i32_82
  let v172 : BitVec 32 := Scalar.select v170 v171 v156
  let c11_i32_83 : BitVec 32 := 11#32
  let v173 : BitVec 32 := Scalar.muli v172 c11_i32_83
  let v174 : BitVec 32 := Scalar.subi v151 v173
  let c256_i32_84 : BitVec 32 := 256#32
  let v177 : BitVec 32 := Scalar.muli v174 c256_i32_84
  v177
def k0_off33 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 1 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  ![v151.toNat]
def k0_off34 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 3 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c0_i32_85 : BitVec 32 := 0#32
  let c0_i32_86 : BitVec 32 := 0#32
  ![v151.toNat, 0, 0]
def k0_off35 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v176 : BitVec 32) : Fin 3 → Nat :=
  let c0_i32_87 : BitVec 32 := 0#32
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let c0_i32_77 : BitVec 32 := 0#32
  let v157 : BitVec 1 := Scalar.cmpi .sgt v151 c0_i32_77
  let v158 : BitVec 32 := Scalar.extui v157
  let c0_i32_78 : BitVec 32 := 0#32
  let v159 : BitVec 1 := Scalar.cmpi .slt v151 c0_i32_78
  let v160 : BitVec 32 := Scalar.extui v159
  let v161 : BitVec 32 := Scalar.subi v158 v160
  let c11_i32_76 : BitVec 32 := 11#32
  let c0_i32_79 : BitVec 32 := 0#32
  let v162 : BitVec 1 := Scalar.cmpi .sgt c11_i32_76 c0_i32_79
  let v163 : BitVec 32 := Scalar.extui v162
  let c0_i32_80 : BitVec 32 := 0#32
  let v164 : BitVec 1 := Scalar.cmpi .slt c11_i32_76 c0_i32_80
  let v165 : BitVec 32 := Scalar.extui v164
  let v166 : BitVec 32 := Scalar.subi v163 v165
  let v167 : BitVec 1 := Scalar.cmpi .ne v161 v166
  let v168 : BitVec 32 := Scalar.remsi v151 c11_i32_76
  let c0_i32_81 : BitVec 32 := 0#32
  let v169 : BitVec 1 := Scalar.cmpi .ne v168 c0_i32_81
  let v170 : BitVec 1 := Scalar.andi v167 v169
  let v156 : BitVec 32 := Scalar.divsi v151 c11_i32_76
  let c1_i32_82 : BitVec 32 := 1#32
  let v171 : BitVec 32 := Scalar.subi v156 c1_i32_82
  let v172 : BitVec 32 := Scalar.select v170 v171 v156
  let c11_i32_83 : BitVec 32 := 11#32
  let v173 : BitVec 32 := Scalar.muli v172 c11_i32_83
  let v174 : BitVec 32 := Scalar.subi v151 v173
  let c256_i32_84 : BitVec 32 := 256#32
  let v177 : BitVec 32 := Scalar.muli v174 c256_i32_84
  let v178 : BitVec 32 := v177
  ![v176.toNat, 0, v178.toNat]

def k0_chk19 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v176 : BitVec 32) : Prop :=
  (∀ a, (k0_off35 v1 v7 v13 v19 v25 v31 v37 v43 k0_t1 k0_t4 v176) a + S1x2048x256.size a ≤ S8x2048x2816.size a) ∧
  (∀ (hinb : ∀ a, (k0_off35 v1 v7 v13 v19 v25 v31 v37 v43 k0_t1 k0_t4 v176) a + S1x2048x256.size a ≤ S8x2048x2816.size a), (Rect.unit (s := S8x2048x2816) (k0_off35 v1 v7 v13 v19 v25 v31 v37 v43 k0_t1 k0_t4 v176) S1x2048x256.size hinb).WholeWords (EltTy.packing .fp8e4m3))
theorem k0_off35_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v176 : BitVec 32) (k0_hw19 : k0_chk19 v1 v7 v13 v19 v25 v31 v37 v43 k0_t1 k0_t4 v176), ∀ a, (k0_off35 v1 v7 v13 v19 v25 v31 v37 v43 k0_t1 k0_t4 v176) a + S1x2048x256.size a ≤ S8x2048x2816.size a := fun v1 v7 v13 v19 v25 v31 v37 v43 k0_t1 k0_t4 v176 k0_hw19 => k0_hw19.1
theorem k0_off35_wordsfp8e4m3 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) (v176 : BitVec 32) (k0_hw19 : k0_chk19 v1 v7 v13 v19 v25 v31 v37 v43 k0_t1 k0_t4 v176), (Rect.unit (s := S8x2048x2816) (k0_off35 v1 v7 v13 v19 v25 v31 v37 v43 k0_t1 k0_t4 v176) S1x2048x256.size (k0_off35_inb v1 v7 v13 v19 v25 v31 v37 v43 k0_t1 k0_t4 v176 k0_hw19)).WholeWords (EltTy.packing .fp8e4m3) := fun v1 v7 v13 v19 v25 v31 v37 v43 k0_t1 k0_t4 v176 k0_hw19 => k0_hw19.2 (k0_off35_inb v1 v7 v13 v19 v25 v31 v37 v43 k0_t1 k0_t4 v176 k0_hw19)

def k0_mult11 (k0_t4 : Fin k0_t4_loop.trips) : BitVec 32 :=
  let c0_i32_69 : BitVec 32 := 0#32
  let c1_i32_71 : BitVec 32 := 1#32
  let arg20 : BitVec 32 := Scf.iv c0_i32_69 c1_i32_71 k0_t4
  let c256_i32_88 : BitVec 32 := 256#32
  let v185 : BitVec 32 := Scalar.muli arg20 c256_i32_88
  v185
def k0_off36 (v98 : BitVec 32) (k0_t4 : Fin k0_t4_loop.trips) : Fin 2 → Nat :=
  let v187 : Index := Scalar.indexCast v98
  let c0_i32_69 : BitVec 32 := 0#32
  let c1_i32_71 : BitVec 32 := 1#32
  let arg20 : BitVec 32 := Scf.iv c0_i32_69 c1_i32_71 k0_t4
  let c256_i32_88 : BitVec 32 := 256#32
  let v185 : BitVec 32 := Scalar.muli arg20 c256_i32_88
  let v186 : BitVec 32 := v185
  let v188 : Index := Scalar.indexCast v186
  ![v187.toNat, v188.toNat]

def k0_chk17 (v98 : BitVec 32) : Prop :=
  ((k0_t2_loop v98).OK) ∧
  (∀ k0_t2 : Fin (k0_t2_loop v98).trips, ∀ a, (k0_off25 v98 k0_t2) a + S1.size a ≤ S8.size a) ∧
  ((k0_t3_loop v98).OK) ∧
  (∀ k0_t3 : Fin (k0_t3_loop v98).trips, ∀ a, (k0_off26 v98 k0_t3) a + S1.size a ≤ S8.size a) ∧
  (∀ a, (k0_off27 v98) a + S1.size a ≤ S8.size a) ∧
  (∀ k0_t4 : Fin k0_t4_loop.trips, ∀ a, (k0_off36 v98 k0_t4) a + S1x256.size a ≤ S8x2816.size a)
theorem k0_t2_ok : ∀ (v98 : BitVec 32) (k0_hw17 : k0_chk17 v98), (k0_t2_loop v98).OK := fun v98 k0_hw17 => k0_hw17.1
theorem k0_off25_inb : ∀ (v98 : BitVec 32) (k0_hw17 : k0_chk17 v98) (k0_t2 : Fin (k0_t2_loop v98).trips), ∀ a, (k0_off25 v98 k0_t2) a + S1.size a ≤ S8.size a := fun v98 k0_hw17 k0_t2 => k0_hw17.2.1 k0_t2
theorem k0_t3_ok : ∀ (v98 : BitVec 32) (k0_hw17 : k0_chk17 v98), (k0_t3_loop v98).OK := fun v98 k0_hw17 => k0_hw17.2.2.1
theorem k0_off26_inb : ∀ (v98 : BitVec 32) (k0_hw17 : k0_chk17 v98) (k0_t3 : Fin (k0_t3_loop v98).trips), ∀ a, (k0_off26 v98 k0_t3) a + S1.size a ≤ S8.size a := fun v98 k0_hw17 k0_t3 => k0_hw17.2.2.2.1 k0_t3
theorem k0_off27_inb : ∀ (v98 : BitVec 32) (k0_hw17 : k0_chk17 v98), ∀ a, (k0_off27 v98) a + S1.size a ≤ S8.size a := fun v98 k0_hw17 => k0_hw17.2.2.2.2.1
theorem k0_off36_inb : ∀ (v98 : BitVec 32) (k0_hw17 : k0_chk17 v98) (k0_t4 : Fin k0_t4_loop.trips), ∀ a, (k0_off36 v98 k0_t4) a + S1x256.size a ≤ S8x2816.size a := fun v98 k0_hw17 k0_t4 => k0_hw17.2.2.2.2.2 k0_t4

@[reducible] def k0_t5_loop (v105 : BitVec 32) (v107 : BitVec 32) : Scf.Loop 32 :=
  let c0_i32_89 : BitVec 32 := 0#32
  let v108 : BitVec 32 := Scalar.addi v105 v107
  let c256_i32 : BitVec 32 := 256#32
  let v109 : BitVec 32 := Scalar.minsi v108 c256_i32
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_92 : BitVec 32 := 1#32
  ⟨c0_i32_89, v194, c1_i32_92⟩

def k0_mult12 (v105 : BitVec 32) (v107 : BitVec 32) (k0_t5 : Fin (k0_t5_loop v105 v107).trips) : BitVec 32 :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t5
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  v199
def k0_off37 (v105 : BitVec 32) (v107 : BitVec 32) (k0_t5 : Fin (k0_t5_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t5
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v201 : Index := Scalar.indexCast v200
  let c0_97 : Index := 0#32
  ![v201.toNat, 0]
def k0_off38 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 3 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let v203 : Index := Scalar.indexCast v151
  let c0_98 : Index := 0#32
  let c0_99 : Index := 0#32
  ![v203.toNat, 0, 0]
def k0_off39 (v105 : BitVec 32) (v107 : BitVec 32) (k0_t5 : Fin (k0_t5_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t5
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v207 : Index := Scalar.indexCast v200
  let c0_101 : Index := 0#32
  ![v207.toNat, 0]
def k0_off40 (v105 : BitVec 32) (v107 : BitVec 32) (k0_t4 : Fin k0_t4_loop.trips) (k0_t5 : Fin (k0_t5_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t5
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v216 : Index := Scalar.indexCast v200
  let c0_i32_69 : BitVec 32 := 0#32
  let c1_i32_71 : BitVec 32 := 1#32
  let arg20 : BitVec 32 := Scf.iv c0_i32_69 c1_i32_71 k0_t4
  let c256_i32_88 : BitVec 32 := 256#32
  let v185 : BitVec 32 := Scalar.muli arg20 c256_i32_88
  let v186 : BitVec 32 := v185
  let v217 : Index := Scalar.indexCast v186
  ![v216.toNat, v217.toNat]
@[reducible] def k0_t6_loop (v105 : BitVec 32) (v107 : BitVec 32) : Scf.Loop 32 :=
  let c0_i32_89 : BitVec 32 := 0#32
  let v108 : BitVec 32 := Scalar.addi v105 v107
  let c256_i32 : BitVec 32 := 256#32
  let v109 : BitVec 32 := Scalar.minsi v108 c256_i32
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let v191 : BitVec 32 := Scalar.addi c0_i32_89 v190
  let c1_i32_93 : BitVec 32 := 1#32
  ⟨v194, v191, c1_i32_93⟩
def k0_mult13 (v105 : BitVec 32) (v107 : BitVec 32) (k0_t6 : Fin (k0_t6_loop v105 v107).trips) : BitVec 32 :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t6
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  v199
def k0_off41 (v105 : BitVec 32) (v107 : BitVec 32) (k0_t6 : Fin (k0_t6_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t6
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v201 : Index := Scalar.indexCast v200
  let c0_97 : Index := 0#32
  ![v201.toNat, 0]
def k0_off42 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (k0_t4 : Fin k0_t4_loop.trips) : Fin 3 → Nat :=
  let c0_i32_43 : BitVec 32 := 0#32
  let c1_i32_46 : BitVec 32 := 1#32
  let arg18 : BitVec 32 := Scf.iv c0_i32_43 c1_i32_46 k0_t1
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t4
  let v151 : BitVec 32 := Scalar.addi v150 arg20
  let v203 : Index := Scalar.indexCast v151
  let c0_98 : Index := 0#32
  let c0_99 : Index := 0#32
  ![v203.toNat, 0, 0]
def k0_off43 (v105 : BitVec 32) (v107 : BitVec 32) (k0_t6 : Fin (k0_t6_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t6
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v207 : Index := Scalar.indexCast v200
  let c0_101 : Index := 0#32
  ![v207.toNat, 0]
def k0_off44 (v105 : BitVec 32) (v107 : BitVec 32) (k0_t4 : Fin k0_t4_loop.trips) (k0_t6 : Fin (k0_t6_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t6
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v216 : Index := Scalar.indexCast v200
  let c0_i32_69 : BitVec 32 := 0#32
  let c1_i32_71 : BitVec 32 := 1#32
  let arg20 : BitVec 32 := Scf.iv c0_i32_69 c1_i32_71 k0_t4
  let c256_i32_88 : BitVec 32 := 256#32
  let v185 : BitVec 32 := Scalar.muli arg20 c256_i32_88
  let v186 : BitVec 32 := v185
  let v217 : Index := Scalar.indexCast v186
  ![v216.toNat, v217.toNat]

def k0_chk20 (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) : Prop :=
  ((k0_t5_loop v105 v107).OK) ∧
  (∀ k0_t5 : Fin (k0_t5_loop v105 v107).trips, 32 ∣ (k0_mult12 v105 v107 k0_t5).toNat) ∧
  (∀ k0_t5 : Fin (k0_t5_loop v105 v107).trips, ∀ a, (k0_off37 v105 v107 k0_t5) a + S128x2048.size a ≤ S256x2048.size a) ∧
  (∀ (k0_t4 : Fin k0_t4_loop.trips) (k0_t5 : Fin (k0_t5_loop v105 v107).trips), ∀ a, (k0_off38 v1 v7 v13 v19 v25 v31 v37 v43 k0_t1 k0_t4) a + S1x2048x256.size a ≤ S88x2048x256.size a) ∧
  (∀ k0_t5 : Fin (k0_t5_loop v105 v107).trips, ∀ a, (k0_off39 v105 v107 k0_t5) a + S128x128.size a ≤ S256x128.size a) ∧
  (∀ (k0_t4 : Fin k0_t4_loop.trips) (k0_t5 : Fin (k0_t5_loop v105 v107).trips), ∀ a, (k0_off40 v105 v107 k0_t4 k0_t5) a + S128x256.size a ≤ S256x2816.size a) ∧
  (∀ (k0_t4 : Fin k0_t4_loop.trips) (k0_t5 : Fin (k0_t5_loop v105 v107).trips), ∀ (hinb : ∀ a, (k0_off40 v105 v107 k0_t4 k0_t5) a + S128x256.size a ≤ S256x2816.size a), (Rect.unit (s := S256x2816) (k0_off40 v105 v107 k0_t4 k0_t5) S128x256.size hinb).PackedRows (EltTy.packing .bf16)) ∧
  ((k0_t6_loop v105 v107).OK) ∧
  (∀ k0_t6 : Fin (k0_t6_loop v105 v107).trips, 32 ∣ (k0_mult13 v105 v107 k0_t6).toNat) ∧
  (∀ k0_t6 : Fin (k0_t6_loop v105 v107).trips, ∀ a, (k0_off41 v105 v107 k0_t6) a + S128x2048.size a ≤ S256x2048.size a) ∧
  (∀ (k0_t4 : Fin k0_t4_loop.trips) (k0_t6 : Fin (k0_t6_loop v105 v107).trips), ∀ a, (k0_off42 v1 v7 v13 v19 v25 v31 v37 v43 k0_t1 k0_t4) a + S1x2048x256.size a ≤ S88x2048x256.size a) ∧
  (∀ k0_t6 : Fin (k0_t6_loop v105 v107).trips, ∀ a, (k0_off43 v105 v107 k0_t6) a + S128x128.size a ≤ S256x128.size a) ∧
  (∀ (k0_t4 : Fin k0_t4_loop.trips) (k0_t6 : Fin (k0_t6_loop v105 v107).trips), ∀ a, (k0_off44 v105 v107 k0_t4 k0_t6) a + S128x256.size a ≤ S256x2816.size a) ∧
  (∀ (k0_t4 : Fin k0_t4_loop.trips) (k0_t6 : Fin (k0_t6_loop v105 v107).trips), ∀ (hinb : ∀ a, (k0_off44 v105 v107 k0_t4 k0_t6) a + S128x256.size a ≤ S256x2816.size a), (Rect.unit (s := S256x2816) (k0_off44 v105 v107 k0_t4 k0_t6) S128x256.size hinb).PackedRows (EltTy.packing .bf16))
theorem k0_t5_ok : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107), (k0_t5_loop v105 v107).OK := fun v1 v7 v13 v19 v25 v31 v37 v43 k0_t1 v105 v107 k0_hw20 => k0_hw20.1
theorem k0_mult12_dvd : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t5 : Fin (k0_t5_loop v105 v107).trips), 32 ∣ (k0_mult12 v105 v107 k0_t5).toNat := fun v1 v7 v13 v19 v25 v31 v37 v43 k0_t1 v105 v107 k0_hw20 k0_t5 => k0_hw20.2.1 k0_t5
theorem k0_off37_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t5 : Fin (k0_t5_loop v105 v107).trips), ∀ a, (k0_off37 v105 v107 k0_t5) a + S128x2048.size a ≤ S256x2048.size a := fun v1 v7 v13 v19 v25 v31 v37 v43 k0_t1 v105 v107 k0_hw20 k0_t5 => k0_hw20.2.2.1 k0_t5
theorem k0_off38_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t4 : Fin k0_t4_loop.trips) (k0_t5 : Fin (k0_t5_loop v105 v107).trips), ∀ a, (k0_off38 v1 v7 v13 v19 v25 v31 v37 v43 k0_t1 k0_t4) a + S1x2048x256.size a ≤ S88x2048x256.size a := fun v1 v7 v13 v19 v25 v31 v37 v43 k0_t1 v105 v107 k0_hw20 k0_t4 k0_t5 => k0_hw20.2.2.2.1 k0_t4 k0_t5
theorem k0_off39_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t5 : Fin (k0_t5_loop v105 v107).trips), ∀ a, (k0_off39 v105 v107 k0_t5) a + S128x128.size a ≤ S256x128.size a := fun v1 v7 v13 v19 v25 v31 v37 v43 k0_t1 v105 v107 k0_hw20 k0_t5 => k0_hw20.2.2.2.2.1 k0_t5
theorem k0_off40_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t4 : Fin k0_t4_loop.trips) (k0_t5 : Fin (k0_t5_loop v105 v107).trips), ∀ a, (k0_off40 v105 v107 k0_t4 k0_t5) a + S128x256.size a ≤ S256x2816.size a := fun v1 v7 v13 v19 v25 v31 v37 v43 k0_t1 v105 v107 k0_hw20 k0_t4 k0_t5 => k0_hw20.2.2.2.2.2.1 k0_t4 k0_t5
theorem k0_off40_packedbf16 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t4 : Fin k0_t4_loop.trips) (k0_t5 : Fin (k0_t5_loop v105 v107).trips), (Rect.unit (s := S256x2816) (k0_off40 v105 v107 k0_t4 k0_t5) S128x256.size (k0_off40_inb v1 v7 v13 v19 v25 v31 v37 v43 k0_t1 v105 v107 k0_hw20 k0_t4 k0_t5)).PackedRows (EltTy.packing .bf16) := fun v1 v7 v13 v19 v25 v31 v37 v43 k0_t1 v105 v107 k0_hw20 k0_t4 k0_t5 => k0_hw20.2.2.2.2.2.2.1 k0_t4 k0_t5 (k0_off40_inb v1 v7 v13 v19 v25 v31 v37 v43 k0_t1 v105 v107 k0_hw20 k0_t4 k0_t5)
theorem k0_t6_ok : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107), (k0_t6_loop v105 v107).OK := fun v1 v7 v13 v19 v25 v31 v37 v43 k0_t1 v105 v107 k0_hw20 => k0_hw20.2.2.2.2.2.2.2.1
theorem k0_mult13_dvd : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t6 : Fin (k0_t6_loop v105 v107).trips), 32 ∣ (k0_mult13 v105 v107 k0_t6).toNat := fun v1 v7 v13 v19 v25 v31 v37 v43 k0_t1 v105 v107 k0_hw20 k0_t6 => k0_hw20.2.2.2.2.2.2.2.2.1 k0_t6
theorem k0_off41_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t6 : Fin (k0_t6_loop v105 v107).trips), ∀ a, (k0_off41 v105 v107 k0_t6) a + S128x2048.size a ≤ S256x2048.size a := fun v1 v7 v13 v19 v25 v31 v37 v43 k0_t1 v105 v107 k0_hw20 k0_t6 => k0_hw20.2.2.2.2.2.2.2.2.2.1 k0_t6
theorem k0_off42_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t4 : Fin k0_t4_loop.trips) (k0_t6 : Fin (k0_t6_loop v105 v107).trips), ∀ a, (k0_off42 v1 v7 v13 v19 v25 v31 v37 v43 k0_t1 k0_t4) a + S1x2048x256.size a ≤ S88x2048x256.size a := fun v1 v7 v13 v19 v25 v31 v37 v43 k0_t1 v105 v107 k0_hw20 k0_t4 k0_t6 => k0_hw20.2.2.2.2.2.2.2.2.2.2.1 k0_t4 k0_t6
theorem k0_off43_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t6 : Fin (k0_t6_loop v105 v107).trips), ∀ a, (k0_off43 v105 v107 k0_t6) a + S128x128.size a ≤ S256x128.size a := fun v1 v7 v13 v19 v25 v31 v37 v43 k0_t1 v105 v107 k0_hw20 k0_t6 => k0_hw20.2.2.2.2.2.2.2.2.2.2.2.1 k0_t6
theorem k0_off44_inb : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t4 : Fin k0_t4_loop.trips) (k0_t6 : Fin (k0_t6_loop v105 v107).trips), ∀ a, (k0_off44 v105 v107 k0_t4 k0_t6) a + S128x256.size a ≤ S256x2816.size a := fun v1 v7 v13 v19 v25 v31 v37 v43 k0_t1 v105 v107 k0_hw20 k0_t4 k0_t6 => k0_hw20.2.2.2.2.2.2.2.2.2.2.2.2.1 k0_t4 k0_t6
theorem k0_off44_packedbf16 : ∀ (v1 : BitVec 32) (v7 : BitVec 32) (v13 : BitVec 32) (v19 : BitVec 32) (v25 : BitVec 32) (v31 : BitVec 32) (v37 : BitVec 32) (v43 : BitVec 32) (k0_t1 : Fin (k0_t1_loop v1 v7 v13 v19 v25 v31 v37 v43).trips) (v105 : BitVec 32) (v107 : BitVec 32) (k0_hw20 : k0_chk20 v1 v7 v13 v19 v25 v31 v37 v43 k0_t1 v105 v107) (k0_t4 : Fin k0_t4_loop.trips) (k0_t6 : Fin (k0_t6_loop v105 v107).trips), (Rect.unit (s := S256x2816) (k0_off44 v105 v107 k0_t4 k0_t6) S128x256.size (k0_off44_inb v1 v7 v13 v19 v25 v31 v37 v43 k0_t1 v105 v107 k0_hw20 k0_t4 k0_t6)).PackedRows (EltTy.packing .bf16) := fun v1 v7 v13 v19 v25 v31 v37 v43 k0_t1 v105 v107 k0_hw20 k0_t4 k0_t6 => k0_hw20.2.2.2.2.2.2.2.2.2.2.2.2.2 k0_t4 k0_t6 (k0_off44_inb v1 v7 v13 v19 v25 v31 v37 v43 k0_t1 v105 v107 k0_hw20 k0_t4 k0_t6)

@[reducible] def k0_t7_loop (v1 : BitVec 32) (v7 : BitVec 32) (v13 : BitVec 32) (v19 : BitVec 32) (v25 : BitVec 32) (v31 : BitVec 32) (v37 : BitVec 32) (v43 : BitVec 32) : Scf.Loop 32 :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let v91 : BitVec 32 := Scalar.addi c0_i32_43 v90
  let c1_i32_47 : BitVec 32 := 1#32
  ⟨v94, v91, c1_i32_47⟩
def k0_off45 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) : Fin 1 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let v97 : Index := Scalar.indexCast arg18
  ![v97.toNat]
@[reducible] def k0_t8_loop (v98 : BitVec 32) : Scf.Loop 32 :=
  let c0_i32_48 : BitVec 32 := 0#32
  let v99 : BitVec 32 := Scalar.subi v98 c0_i32_48
  let c1_i32_50 : BitVec 32 := 1#32
  let v101 : BitVec 32 := Scalar.divsi v99 c1_i32_50
  let v102 : BitVec 32 := Scalar.muli v101 c1_i32_50
  let v103 : BitVec 32 := Scalar.addi c0_i32_48 v102
  let c1_i32_51 : BitVec 32 := 1#32
  ⟨c0_i32_48, v103, c1_i32_51⟩

def k0_off46 (v98 : BitVec 32) (k0_t8 : Fin (k0_t8_loop v98).trips) : Fin 1 → Nat :=
  let c0_i32_48 : BitVec 32 := 0#32
  let c1_i32_51 : BitVec 32 := 1#32
  let arg20 : BitVec 32 := Scf.iv c0_i32_48 c1_i32_51 k0_t8
  let v150 : Index := Scalar.indexCast arg20
  ![v150.toNat]
@[reducible] def k0_t9_loop (v98 : BitVec 32) : Scf.Loop 32 :=
  let c0_i32_48 : BitVec 32 := 0#32
  let v99 : BitVec 32 := Scalar.subi v98 c0_i32_48
  let c1_i32_50 : BitVec 32 := 1#32
  let v101 : BitVec 32 := Scalar.divsi v99 c1_i32_50
  let v102 : BitVec 32 := Scalar.muli v101 c1_i32_50
  let v103 : BitVec 32 := Scalar.addi c0_i32_48 v102
  let v100 : BitVec 32 := Scalar.addi c0_i32_48 v99
  let c1_i32_52 : BitVec 32 := 1#32
  ⟨v103, v100, c1_i32_52⟩
def k0_off47 (v98 : BitVec 32) (k0_t9 : Fin (k0_t9_loop v98).trips) : Fin 1 → Nat :=
  let c0_i32_48 : BitVec 32 := 0#32
  let v99 : BitVec 32 := Scalar.subi v98 c0_i32_48
  let c1_i32_50 : BitVec 32 := 1#32
  let v101 : BitVec 32 := Scalar.divsi v99 c1_i32_50
  let v102 : BitVec 32 := Scalar.muli v101 c1_i32_50
  let v103 : BitVec 32 := Scalar.addi c0_i32_48 v102
  let c1_i32_52 : BitVec 32 := 1#32
  let arg20 : BitVec 32 := Scf.iv v103 c1_i32_52 k0_t9
  let v150 : Index := Scalar.indexCast arg20
  ![v150.toNat]
def k0_off48 (v98 : BitVec 32) : Fin 1 → Nat :=
  let v106 : Index := Scalar.indexCast v98
  ![v106.toNat]
@[reducible] def k0_t10_loop : Scf.Loop 32 :=
  let c0_i32_69 : BitVec 32 := 0#32
  let c11_i32_70 : BitVec 32 := 11#32
  let v148 : BitVec 32 := Scalar.addi c0_i32_69 c11_i32_70
  let c1_i32_71 : BitVec 32 := 1#32
  ⟨c0_i32_69, v148, c1_i32_71⟩
def k0_off49 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 1 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c8_i32 : BitVec 32 := 8#32
  let v152 : BitVec 32 := Scalar.addi v151 c8_i32
  let c0_i32_96 : BitVec 32 := 0#32
  let v198 : BitVec 1 := Scalar.cmpi .sgt v152 c0_i32_96
  let v199 : BitVec 32 := Scalar.extui v198
  let c0_i32_97 : BitVec 32 := 0#32
  let v200 : BitVec 1 := Scalar.cmpi .slt v152 c0_i32_97
  let v201 : BitVec 32 := Scalar.extui v200
  let v202 : BitVec 32 := Scalar.subi v199 v201
  let c11_i32_95 : BitVec 32 := 11#32
  let c0_i32_98 : BitVec 32 := 0#32
  let v203 : BitVec 1 := Scalar.cmpi .sgt c11_i32_95 c0_i32_98
  let v204 : BitVec 32 := Scalar.extui v203
  let c0_i32_99 : BitVec 32 := 0#32
  let v205 : BitVec 1 := Scalar.cmpi .slt c11_i32_95 c0_i32_99
  let v206 : BitVec 32 := Scalar.extui v205
  let v207 : BitVec 32 := Scalar.subi v204 v206
  let v208 : BitVec 1 := Scalar.cmpi .ne v202 v207
  let v209 : BitVec 32 := Scalar.remsi v152 c11_i32_95
  let c0_i32_100 : BitVec 32 := 0#32
  let v210 : BitVec 1 := Scalar.cmpi .ne v209 c0_i32_100
  let v211 : BitVec 1 := Scalar.andi v208 v210
  let v197 : BitVec 32 := Scalar.divsi v152 c11_i32_95
  let c1_i32_101 : BitVec 32 := 1#32
  let v212 : BitVec 32 := Scalar.subi v197 c1_i32_101
  let v213 : BitVec 32 := Scalar.select v211 v212 v197
  let v216 : Index := Scalar.indexCast v213
  ![v216.toNat]
def k0_cond10 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : BitVec 1 :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c8_i32 : BitVec 32 := 8#32
  let v152 : BitVec 32 := Scalar.addi v151 c8_i32
  let c11_i32 : BitVec 32 := 11#32
  let v47 : BitVec 32 := Scalar.muli v46 c11_i32
  let v153 : BitVec 1 := Scalar.cmpi .slt v152 v47
  let v154 : BitVec 32 := Scalar.extui v153
  let c0_i32_75 : BitVec 32 := 0#32
  let v155 : BitVec 1 := Scalar.cmpi .ne v154 c0_i32_75
  v155

def k0_mult14 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : BitVec 32 :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c8_i32 : BitVec 32 := 8#32
  let v152 : BitVec 32 := Scalar.addi v151 c8_i32
  let c0_i32_96 : BitVec 32 := 0#32
  let v198 : BitVec 1 := Scalar.cmpi .sgt v152 c0_i32_96
  let v199 : BitVec 32 := Scalar.extui v198
  let c0_i32_97 : BitVec 32 := 0#32
  let v200 : BitVec 1 := Scalar.cmpi .slt v152 c0_i32_97
  let v201 : BitVec 32 := Scalar.extui v200
  let v202 : BitVec 32 := Scalar.subi v199 v201
  let c11_i32_95 : BitVec 32 := 11#32
  let c0_i32_98 : BitVec 32 := 0#32
  let v203 : BitVec 1 := Scalar.cmpi .sgt c11_i32_95 c0_i32_98
  let v204 : BitVec 32 := Scalar.extui v203
  let c0_i32_99 : BitVec 32 := 0#32
  let v205 : BitVec 1 := Scalar.cmpi .slt c11_i32_95 c0_i32_99
  let v206 : BitVec 32 := Scalar.extui v205
  let v207 : BitVec 32 := Scalar.subi v204 v206
  let v208 : BitVec 1 := Scalar.cmpi .ne v202 v207
  let v209 : BitVec 32 := Scalar.remsi v152 c11_i32_95
  let c0_i32_100 : BitVec 32 := 0#32
  let v210 : BitVec 1 := Scalar.cmpi .ne v209 c0_i32_100
  let v211 : BitVec 1 := Scalar.andi v208 v210
  let v197 : BitVec 32 := Scalar.divsi v152 c11_i32_95
  let c1_i32_101 : BitVec 32 := 1#32
  let v212 : BitVec 32 := Scalar.subi v197 c1_i32_101
  let v213 : BitVec 32 := Scalar.select v211 v212 v197
  let c11_i32_102 : BitVec 32 := 11#32
  let v214 : BitVec 32 := Scalar.muli v213 c11_i32_102
  let v215 : BitVec 32 := Scalar.subi v152 v214
  let c256_i32_103 : BitVec 32 := 256#32
  let v218 : BitVec 32 := Scalar.muli v215 c256_i32_103
  v218
def k0_off50 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 1 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c8_i32 : BitVec 32 := 8#32
  let v152 : BitVec 32 := Scalar.addi v151 c8_i32
  ![v152.toNat]
def k0_off51 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 3 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c8_i32 : BitVec 32 := 8#32
  let v152 : BitVec 32 := Scalar.addi v151 c8_i32
  let c0_i32_104 : BitVec 32 := 0#32
  let c0_i32_105 : BitVec 32 := 0#32
  ![v152.toNat, 0, 0]
def k0_off52 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v217 : BitVec 32) : Fin 3 → Nat :=
  let c0_i32_106 : BitVec 32 := 0#32
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c8_i32 : BitVec 32 := 8#32
  let v152 : BitVec 32 := Scalar.addi v151 c8_i32
  let c0_i32_96 : BitVec 32 := 0#32
  let v198 : BitVec 1 := Scalar.cmpi .sgt v152 c0_i32_96
  let v199 : BitVec 32 := Scalar.extui v198
  let c0_i32_97 : BitVec 32 := 0#32
  let v200 : BitVec 1 := Scalar.cmpi .slt v152 c0_i32_97
  let v201 : BitVec 32 := Scalar.extui v200
  let v202 : BitVec 32 := Scalar.subi v199 v201
  let c11_i32_95 : BitVec 32 := 11#32
  let c0_i32_98 : BitVec 32 := 0#32
  let v203 : BitVec 1 := Scalar.cmpi .sgt c11_i32_95 c0_i32_98
  let v204 : BitVec 32 := Scalar.extui v203
  let c0_i32_99 : BitVec 32 := 0#32
  let v205 : BitVec 1 := Scalar.cmpi .slt c11_i32_95 c0_i32_99
  let v206 : BitVec 32 := Scalar.extui v205
  let v207 : BitVec 32 := Scalar.subi v204 v206
  let v208 : BitVec 1 := Scalar.cmpi .ne v202 v207
  let v209 : BitVec 32 := Scalar.remsi v152 c11_i32_95
  let c0_i32_100 : BitVec 32 := 0#32
  let v210 : BitVec 1 := Scalar.cmpi .ne v209 c0_i32_100
  let v211 : BitVec 1 := Scalar.andi v208 v210
  let v197 : BitVec 32 := Scalar.divsi v152 c11_i32_95
  let c1_i32_101 : BitVec 32 := 1#32
  let v212 : BitVec 32 := Scalar.subi v197 c1_i32_101
  let v213 : BitVec 32 := Scalar.select v211 v212 v197
  let c11_i32_102 : BitVec 32 := 11#32
  let v214 : BitVec 32 := Scalar.muli v213 c11_i32_102
  let v215 : BitVec 32 := Scalar.subi v152 v214
  let c256_i32_103 : BitVec 32 := 256#32
  let v218 : BitVec 32 := Scalar.muli v215 c256_i32_103
  let v219 : BitVec 32 := v218
  ![v217.toNat, 0, v219.toNat]

def k0_chk22 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v217 : BitVec 32) : Prop :=
  (∀ (k0_h10 : k0_cond10 v1 v7 v13 v19 v25 v31 v37 v43 k0_t7 k0_t10 = 1#1), ∀ a, (k0_off52 v1 v7 v13 v19 v25 v31 v37 v43 k0_t7 k0_t10 v217) a + S1x2048x256.size a ≤ S8x2048x2816.size a) ∧
  (∀ (k0_h10 : k0_cond10 v1 v7 v13 v19 v25 v31 v37 v43 k0_t7 k0_t10 = 1#1), ∀ (hinb : ∀ a, (k0_off52 v1 v7 v13 v19 v25 v31 v37 v43 k0_t7 k0_t10 v217) a + S1x2048x256.size a ≤ S8x2048x2816.size a), (Rect.unit (s := S8x2048x2816) (k0_off52 v1 v7 v13 v19 v25 v31 v37 v43 k0_t7 k0_t10 v217) S1x2048x256.size hinb).WholeWords (EltTy.packing .fp8e4m3))
theorem k0_off52_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v217 : BitVec 32) (k0_hw22 : k0_chk22 v1 v7 v13 v19 v25 v31 v37 v43 k0_t7 k0_t10 v217), ∀ (k0_h10 : k0_cond10 v1 v7 v13 v19 v25 v31 v37 v43 k0_t7 k0_t10 = 1#1), ∀ a, (k0_off52 v1 v7 v13 v19 v25 v31 v37 v43 k0_t7 k0_t10 v217) a + S1x2048x256.size a ≤ S8x2048x2816.size a := fun v1 v7 v13 v19 v25 v31 v37 v43 k0_t7 k0_t10 v217 k0_hw22 k0_h10 => k0_hw22.1 k0_h10
theorem k0_off52_wordsfp8e4m3 : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v217 : BitVec 32) (k0_hw22 : k0_chk22 v1 v7 v13 v19 v25 v31 v37 v43 k0_t7 k0_t10 v217), ∀ (k0_h10 : k0_cond10 v1 v7 v13 v19 v25 v31 v37 v43 k0_t7 k0_t10 = 1#1), (Rect.unit (s := S8x2048x2816) (k0_off52 v1 v7 v13 v19 v25 v31 v37 v43 k0_t7 k0_t10 v217) S1x2048x256.size (k0_off52_inb v1 v7 v13 v19 v25 v31 v37 v43 k0_t7 k0_t10 v217 k0_hw22 k0_h10)).WholeWords (EltTy.packing .fp8e4m3) := fun v1 v7 v13 v19 v25 v31 v37 v43 k0_t7 k0_t10 v217 k0_hw22 k0_h10 => k0_hw22.2 k0_h10 (k0_off52_inb v1 v7 v13 v19 v25 v31 v37 v43 k0_t7 k0_t10 v217 k0_hw22 k0_h10)

def k0_off53 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 1 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c0_i32_77 : BitVec 32 := 0#32
  let v157 : BitVec 1 := Scalar.cmpi .sgt v151 c0_i32_77
  let v158 : BitVec 32 := Scalar.extui v157
  let c0_i32_78 : BitVec 32 := 0#32
  let v159 : BitVec 1 := Scalar.cmpi .slt v151 c0_i32_78
  let v160 : BitVec 32 := Scalar.extui v159
  let v161 : BitVec 32 := Scalar.subi v158 v160
  let c11_i32_76 : BitVec 32 := 11#32
  let c0_i32_79 : BitVec 32 := 0#32
  let v162 : BitVec 1 := Scalar.cmpi .sgt c11_i32_76 c0_i32_79
  let v163 : BitVec 32 := Scalar.extui v162
  let c0_i32_80 : BitVec 32 := 0#32
  let v164 : BitVec 1 := Scalar.cmpi .slt c11_i32_76 c0_i32_80
  let v165 : BitVec 32 := Scalar.extui v164
  let v166 : BitVec 32 := Scalar.subi v163 v165
  let v167 : BitVec 1 := Scalar.cmpi .ne v161 v166
  let v168 : BitVec 32 := Scalar.remsi v151 c11_i32_76
  let c0_i32_81 : BitVec 32 := 0#32
  let v169 : BitVec 1 := Scalar.cmpi .ne v168 c0_i32_81
  let v170 : BitVec 1 := Scalar.andi v167 v169
  let v156 : BitVec 32 := Scalar.divsi v151 c11_i32_76
  let c1_i32_82 : BitVec 32 := 1#32
  let v171 : BitVec 32 := Scalar.subi v156 c1_i32_82
  let v172 : BitVec 32 := Scalar.select v170 v171 v156
  let v175 : Index := Scalar.indexCast v172
  ![v175.toNat]
def k0_mult15 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : BitVec 32 :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c0_i32_77 : BitVec 32 := 0#32
  let v157 : BitVec 1 := Scalar.cmpi .sgt v151 c0_i32_77
  let v158 : BitVec 32 := Scalar.extui v157
  let c0_i32_78 : BitVec 32 := 0#32
  let v159 : BitVec 1 := Scalar.cmpi .slt v151 c0_i32_78
  let v160 : BitVec 32 := Scalar.extui v159
  let v161 : BitVec 32 := Scalar.subi v158 v160
  let c11_i32_76 : BitVec 32 := 11#32
  let c0_i32_79 : BitVec 32 := 0#32
  let v162 : BitVec 1 := Scalar.cmpi .sgt c11_i32_76 c0_i32_79
  let v163 : BitVec 32 := Scalar.extui v162
  let c0_i32_80 : BitVec 32 := 0#32
  let v164 : BitVec 1 := Scalar.cmpi .slt c11_i32_76 c0_i32_80
  let v165 : BitVec 32 := Scalar.extui v164
  let v166 : BitVec 32 := Scalar.subi v163 v165
  let v167 : BitVec 1 := Scalar.cmpi .ne v161 v166
  let v168 : BitVec 32 := Scalar.remsi v151 c11_i32_76
  let c0_i32_81 : BitVec 32 := 0#32
  let v169 : BitVec 1 := Scalar.cmpi .ne v168 c0_i32_81
  let v170 : BitVec 1 := Scalar.andi v167 v169
  let v156 : BitVec 32 := Scalar.divsi v151 c11_i32_76
  let c1_i32_82 : BitVec 32 := 1#32
  let v171 : BitVec 32 := Scalar.subi v156 c1_i32_82
  let v172 : BitVec 32 := Scalar.select v170 v171 v156
  let c11_i32_83 : BitVec 32 := 11#32
  let v173 : BitVec 32 := Scalar.muli v172 c11_i32_83
  let v174 : BitVec 32 := Scalar.subi v151 v173
  let c256_i32_84 : BitVec 32 := 256#32
  let v177 : BitVec 32 := Scalar.muli v174 c256_i32_84
  v177
def k0_off54 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 1 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  ![v151.toNat]
def k0_off55 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 3 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c0_i32_85 : BitVec 32 := 0#32
  let c0_i32_86 : BitVec 32 := 0#32
  ![v151.toNat, 0, 0]
def k0_off56 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v176 : BitVec 32) : Fin 3 → Nat :=
  let c0_i32_87 : BitVec 32 := 0#32
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let c0_i32_77 : BitVec 32 := 0#32
  let v157 : BitVec 1 := Scalar.cmpi .sgt v151 c0_i32_77
  let v158 : BitVec 32 := Scalar.extui v157
  let c0_i32_78 : BitVec 32 := 0#32
  let v159 : BitVec 1 := Scalar.cmpi .slt v151 c0_i32_78
  let v160 : BitVec 32 := Scalar.extui v159
  let v161 : BitVec 32 := Scalar.subi v158 v160
  let c11_i32_76 : BitVec 32 := 11#32
  let c0_i32_79 : BitVec 32 := 0#32
  let v162 : BitVec 1 := Scalar.cmpi .sgt c11_i32_76 c0_i32_79
  let v163 : BitVec 32 := Scalar.extui v162
  let c0_i32_80 : BitVec 32 := 0#32
  let v164 : BitVec 1 := Scalar.cmpi .slt c11_i32_76 c0_i32_80
  let v165 : BitVec 32 := Scalar.extui v164
  let v166 : BitVec 32 := Scalar.subi v163 v165
  let v167 : BitVec 1 := Scalar.cmpi .ne v161 v166
  let v168 : BitVec 32 := Scalar.remsi v151 c11_i32_76
  let c0_i32_81 : BitVec 32 := 0#32
  let v169 : BitVec 1 := Scalar.cmpi .ne v168 c0_i32_81
  let v170 : BitVec 1 := Scalar.andi v167 v169
  let v156 : BitVec 32 := Scalar.divsi v151 c11_i32_76
  let c1_i32_82 : BitVec 32 := 1#32
  let v171 : BitVec 32 := Scalar.subi v156 c1_i32_82
  let v172 : BitVec 32 := Scalar.select v170 v171 v156
  let c11_i32_83 : BitVec 32 := 11#32
  let v173 : BitVec 32 := Scalar.muli v172 c11_i32_83
  let v174 : BitVec 32 := Scalar.subi v151 v173
  let c256_i32_84 : BitVec 32 := 256#32
  let v177 : BitVec 32 := Scalar.muli v174 c256_i32_84
  let v178 : BitVec 32 := v177
  ![v176.toNat, 0, v178.toNat]

def k0_chk23 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v176 : BitVec 32) : Prop :=
  (∀ a, (k0_off56 v1 v7 v13 v19 v25 v31 v37 v43 k0_t7 k0_t10 v176) a + S1x2048x256.size a ≤ S8x2048x2816.size a) ∧
  (∀ (hinb : ∀ a, (k0_off56 v1 v7 v13 v19 v25 v31 v37 v43 k0_t7 k0_t10 v176) a + S1x2048x256.size a ≤ S8x2048x2816.size a), (Rect.unit (s := S8x2048x2816) (k0_off56 v1 v7 v13 v19 v25 v31 v37 v43 k0_t7 k0_t10 v176) S1x2048x256.size hinb).WholeWords (EltTy.packing .fp8e4m3))
theorem k0_off56_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v176 : BitVec 32) (k0_hw23 : k0_chk23 v1 v7 v13 v19 v25 v31 v37 v43 k0_t7 k0_t10 v176), ∀ a, (k0_off56 v1 v7 v13 v19 v25 v31 v37 v43 k0_t7 k0_t10 v176) a + S1x2048x256.size a ≤ S8x2048x2816.size a := fun v1 v7 v13 v19 v25 v31 v37 v43 k0_t7 k0_t10 v176 k0_hw23 => k0_hw23.1
theorem k0_off56_wordsfp8e4m3 : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) (v176 : BitVec 32) (k0_hw23 : k0_chk23 v1 v7 v13 v19 v25 v31 v37 v43 k0_t7 k0_t10 v176), (Rect.unit (s := S8x2048x2816) (k0_off56 v1 v7 v13 v19 v25 v31 v37 v43 k0_t7 k0_t10 v176) S1x2048x256.size (k0_off56_inb v1 v7 v13 v19 v25 v31 v37 v43 k0_t7 k0_t10 v176 k0_hw23)).WholeWords (EltTy.packing .fp8e4m3) := fun v1 v7 v13 v19 v25 v31 v37 v43 k0_t7 k0_t10 v176 k0_hw23 => k0_hw23.2 (k0_off56_inb v1 v7 v13 v19 v25 v31 v37 v43 k0_t7 k0_t10 v176 k0_hw23)

def k0_chk16 (v1 : BitVec 32) (v7 : BitVec 32) (v13 : BitVec 32) (v19 : BitVec 32) (v25 : BitVec 32) (v31 : BitVec 32) (v37 : BitVec 32) (v43 : BitVec 32) : Prop :=
  ((k0_t1_loop v1 v7 v13 v19 v25 v31 v37 v43).OK) ∧
  (∀ k0_t1 : Fin (k0_t1_loop v1 v7 v13 v19 v25 v31 v37 v43).trips, ∀ a, (k0_off24 v1 v7 v13 v19 v25 v31 v37 v43 k0_t1) a + S1.size a ≤ S8.size a) ∧
  (∀ (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), ∀ a, (k0_off28 v1 v7 v13 v19 v25 v31 v37 v43 k0_t1 k0_t4) a + S1.size a ≤ S8.size a) ∧
  (∀ (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), 256 ∣ (k0_mult9 v1 v7 v13 v19 v25 v31 v37 v43 k0_t1 k0_t4).toNat) ∧
  (∀ (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), ∀ a, (k0_off29 v1 v7 v13 v19 v25 v31 v37 v43 k0_t1 k0_t4) a + S1.size a ≤ S88.size a) ∧
  (∀ (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), ∀ a, (k0_off30 v1 v7 v13 v19 v25 v31 v37 v43 k0_t1 k0_t4) a + S1x2048x256.size a ≤ S88x2048x256.size a) ∧
  (∀ (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), ∀ (hinb : ∀ a, (k0_off30 v1 v7 v13 v19 v25 v31 v37 v43 k0_t1 k0_t4) a + S1x2048x256.size a ≤ S88x2048x256.size a), (Rect.unit (s := S88x2048x256) (k0_off30 v1 v7 v13 v19 v25 v31 v37 v43 k0_t1 k0_t4) S1x2048x256.size hinb).WholeWords (EltTy.packing .fp8e4m3)) ∧
  (∀ (k0_t1 : Fin (k0_t1_loop v1 v7 v13 v19 v25 v31 v37 v43).trips) (k0_t4 : Fin k0_t4_loop.trips), ∀ a, (k0_off32 v1 v7 v13 v19 v25 v31 v37 v43 k0_t1 k0_t4) a + S1.size a ≤ S8.size a) ∧
  (∀ (k0_t1 : Fin (k0_t1_loop v1 v7 v13 v19 v25 v31 v37 v43).trips) (k0_t4 : Fin k0_t4_loop.trips), 256 ∣ (k0_mult10 v1 v7 v13 v19 v25 v31 v37 v43 k0_t1 k0_t4).toNat) ∧
  (∀ (k0_t1 : Fin (k0_t1_loop v1 v7 v13 v19 v25 v31 v37 v43).trips) (k0_t4 : Fin k0_t4_loop.trips), ∀ a, (k0_off33 v1 v7 v13 v19 v25 v31 v37 v43 k0_t1 k0_t4) a + S1.size a ≤ S88.size a) ∧
  (∀ (k0_t1 : Fin (k0_t1_loop v1 v7 v13 v19 v25 v31 v37 v43).trips) (k0_t4 : Fin k0_t4_loop.trips), ∀ a, (k0_off34 v1 v7 v13 v19 v25 v31 v37 v43 k0_t1 k0_t4) a + S1x2048x256.size a ≤ S88x2048x256.size a) ∧
  (∀ (k0_t1 : Fin (k0_t1_loop v1 v7 v13 v19 v25 v31 v37 v43).trips) (k0_t4 : Fin k0_t4_loop.trips), ∀ (hinb : ∀ a, (k0_off34 v1 v7 v13 v19 v25 v31 v37 v43 k0_t1 k0_t4) a + S1x2048x256.size a ≤ S88x2048x256.size a), (Rect.unit (s := S88x2048x256) (k0_off34 v1 v7 v13 v19 v25 v31 v37 v43 k0_t1 k0_t4) S1x2048x256.size hinb).WholeWords (EltTy.packing .fp8e4m3)) ∧
  ((k0_t7_loop v1 v7 v13 v19 v25 v31 v37 v43).OK) ∧
  (∀ k0_t7 : Fin (k0_t7_loop v1 v7 v13 v19 v25 v31 v37 v43).trips, ∀ a, (k0_off45 v1 v7 v13 v19 v25 v31 v37 v43 k0_t7) a + S1.size a ≤ S8.size a) ∧
  (∀ (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), ∀ a, (k0_off49 v1 v7 v13 v19 v25 v31 v37 v43 k0_t7 k0_t10) a + S1.size a ≤ S8.size a) ∧
  (∀ (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), 256 ∣ (k0_mult14 v1 v7 v13 v19 v25 v31 v37 v43 k0_t7 k0_t10).toNat) ∧
  (∀ (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), ∀ a, (k0_off50 v1 v7 v13 v19 v25 v31 v37 v43 k0_t7 k0_t10) a + S1.size a ≤ S88.size a) ∧
  (∀ (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), ∀ a, (k0_off51 v1 v7 v13 v19 v25 v31 v37 v43 k0_t7 k0_t10) a + S1x2048x256.size a ≤ S88x2048x256.size a) ∧
  (∀ (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), ∀ (hinb : ∀ a, (k0_off51 v1 v7 v13 v19 v25 v31 v37 v43 k0_t7 k0_t10) a + S1x2048x256.size a ≤ S88x2048x256.size a), (Rect.unit (s := S88x2048x256) (k0_off51 v1 v7 v13 v19 v25 v31 v37 v43 k0_t7 k0_t10) S1x2048x256.size hinb).WholeWords (EltTy.packing .fp8e4m3)) ∧
  (∀ (k0_t7 : Fin (k0_t7_loop v1 v7 v13 v19 v25 v31 v37 v43).trips) (k0_t10 : Fin k0_t10_loop.trips), ∀ a, (k0_off53 v1 v7 v13 v19 v25 v31 v37 v43 k0_t7 k0_t10) a + S1.size a ≤ S8.size a) ∧
  (∀ (k0_t7 : Fin (k0_t7_loop v1 v7 v13 v19 v25 v31 v37 v43).trips) (k0_t10 : Fin k0_t10_loop.trips), 256 ∣ (k0_mult15 v1 v7 v13 v19 v25 v31 v37 v43 k0_t7 k0_t10).toNat) ∧
  (∀ (k0_t7 : Fin (k0_t7_loop v1 v7 v13 v19 v25 v31 v37 v43).trips) (k0_t10 : Fin k0_t10_loop.trips), ∀ a, (k0_off54 v1 v7 v13 v19 v25 v31 v37 v43 k0_t7 k0_t10) a + S1.size a ≤ S88.size a) ∧
  (∀ (k0_t7 : Fin (k0_t7_loop v1 v7 v13 v19 v25 v31 v37 v43).trips) (k0_t10 : Fin k0_t10_loop.trips), ∀ a, (k0_off55 v1 v7 v13 v19 v25 v31 v37 v43 k0_t7 k0_t10) a + S1x2048x256.size a ≤ S88x2048x256.size a) ∧
  (∀ (k0_t7 : Fin (k0_t7_loop v1 v7 v13 v19 v25 v31 v37 v43).trips) (k0_t10 : Fin k0_t10_loop.trips), ∀ (hinb : ∀ a, (k0_off55 v1 v7 v13 v19 v25 v31 v37 v43 k0_t7 k0_t10) a + S1x2048x256.size a ≤ S88x2048x256.size a), (Rect.unit (s := S88x2048x256) (k0_off55 v1 v7 v13 v19 v25 v31 v37 v43 k0_t7 k0_t10) S1x2048x256.size hinb).WholeWords (EltTy.packing .fp8e4m3))
theorem k0_t1_ok : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43), (k0_t1_loop v1 v7 v13 v19 v25 v31 v37 v43).OK := fun v1 v7 v13 v19 v25 v31 v37 v43 k0_hw16 => k0_hw16.1
theorem k0_off24_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips), ∀ a, (k0_off24 v1 v7 v13 v19 v25 v31 v37 v43 k0_t1) a + S1.size a ≤ S8.size a := fun v1 v7 v13 v19 v25 v31 v37 v43 k0_hw16 k0_t1 => k0_hw16.2.1 k0_t1
theorem k0_off28_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), ∀ a, (k0_off28 v1 v7 v13 v19 v25 v31 v37 v43 k0_t1 k0_t4) a + S1.size a ≤ S8.size a := fun v1 v7 v13 v19 v25 v31 v37 v43 k0_hw16 k0_t1 k0_t4 k0_h9 => k0_hw16.2.2.1 k0_t1 k0_t4 k0_h9
theorem k0_mult9_dvd : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), 256 ∣ (k0_mult9 v1 v7 v13 v19 v25 v31 v37 v43 k0_t1 k0_t4).toNat := fun v1 v7 v13 v19 v25 v31 v37 v43 k0_hw16 k0_t1 k0_t4 k0_h9 => k0_hw16.2.2.2.1 k0_t1 k0_t4 k0_h9
theorem k0_off29_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), ∀ a, (k0_off29 v1 v7 v13 v19 v25 v31 v37 v43 k0_t1 k0_t4) a + S1.size a ≤ S88.size a := fun v1 v7 v13 v19 v25 v31 v37 v43 k0_hw16 k0_t1 k0_t4 k0_h9 => k0_hw16.2.2.2.2.1 k0_t1 k0_t4 k0_h9
theorem k0_off30_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), ∀ a, (k0_off30 v1 v7 v13 v19 v25 v31 v37 v43 k0_t1 k0_t4) a + S1x2048x256.size a ≤ S88x2048x256.size a := fun v1 v7 v13 v19 v25 v31 v37 v43 k0_hw16 k0_t1 k0_t4 k0_h9 => k0_hw16.2.2.2.2.2.1 k0_t1 k0_t4 k0_h9
theorem k0_off30_wordsfp8e4m3 : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ (k0_h9 : k0_cond9 v1 v7 v13 v19 v25 v31 v37 v43 k0_t1 k0_t4 = 1#1), (Rect.unit (s := S88x2048x256) (k0_off30 v1 v7 v13 v19 v25 v31 v37 v43 k0_t1 k0_t4) S1x2048x256.size (k0_off30_inb v1 v7 v13 v19 v25 v31 v37 v43 k0_hw16 k0_t1 k0_t4 k0_h9)).WholeWords (EltTy.packing .fp8e4m3) := fun v1 v7 v13 v19 v25 v31 v37 v43 k0_hw16 k0_t1 k0_t4 k0_h9 => k0_hw16.2.2.2.2.2.2.1 k0_t1 k0_t4 k0_h9 (k0_off30_inb v1 v7 v13 v19 v25 v31 v37 v43 k0_hw16 k0_t1 k0_t4 k0_h9)
theorem k0_off32_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ a, (k0_off32 v1 v7 v13 v19 v25 v31 v37 v43 k0_t1 k0_t4) a + S1.size a ≤ S8.size a := fun v1 v7 v13 v19 v25 v31 v37 v43 k0_hw16 k0_t1 k0_t4 => k0_hw16.2.2.2.2.2.2.2.1 k0_t1 k0_t4
theorem k0_mult10_dvd : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), 256 ∣ (k0_mult10 v1 v7 v13 v19 v25 v31 v37 v43 k0_t1 k0_t4).toNat := fun v1 v7 v13 v19 v25 v31 v37 v43 k0_hw16 k0_t1 k0_t4 => k0_hw16.2.2.2.2.2.2.2.2.1 k0_t1 k0_t4
theorem k0_off33_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ a, (k0_off33 v1 v7 v13 v19 v25 v31 v37 v43 k0_t1 k0_t4) a + S1.size a ≤ S88.size a := fun v1 v7 v13 v19 v25 v31 v37 v43 k0_hw16 k0_t1 k0_t4 => k0_hw16.2.2.2.2.2.2.2.2.2.1 k0_t1 k0_t4
theorem k0_off34_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), ∀ a, (k0_off34 v1 v7 v13 v19 v25 v31 v37 v43 k0_t1 k0_t4) a + S1x2048x256.size a ≤ S88x2048x256.size a := fun v1 v7 v13 v19 v25 v31 v37 v43 k0_hw16 k0_t1 k0_t4 => k0_hw16.2.2.2.2.2.2.2.2.2.2.1 k0_t1 k0_t4
theorem k0_off34_wordsfp8e4m3 : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t1 : Fin (k0_t1_loop v1 v7 v13 v19 v25 v31 v37 v43).trips) (k0_t4 : Fin k0_t4_loop.trips), (Rect.unit (s := S88x2048x256) (k0_off34 v1 v7 v13 v19 v25 v31 v37 v43 k0_t1 k0_t4) S1x2048x256.size (k0_off34_inb v1 v7 v13 v19 v25 v31 v37 v43 k0_hw16 k0_t1 k0_t4)).WholeWords (EltTy.packing .fp8e4m3) := fun v1 v7 v13 v19 v25 v31 v37 v43 k0_hw16 k0_t1 k0_t4 => k0_hw16.2.2.2.2.2.2.2.2.2.2.2.1 k0_t1 k0_t4 (k0_off34_inb v1 v7 v13 v19 v25 v31 v37 v43 k0_hw16 k0_t1 k0_t4)
theorem k0_t7_ok : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43), (k0_t7_loop v1 v7 v13 v19 v25 v31 v37 v43).OK := fun v1 v7 v13 v19 v25 v31 v37 v43 k0_hw16 => k0_hw16.2.2.2.2.2.2.2.2.2.2.2.2.1
theorem k0_off45_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips), ∀ a, (k0_off45 v1 v7 v13 v19 v25 v31 v37 v43 k0_t7) a + S1.size a ≤ S8.size a := fun v1 v7 v13 v19 v25 v31 v37 v43 k0_hw16 k0_t7 => k0_hw16.2.2.2.2.2.2.2.2.2.2.2.2.2.1 k0_t7
theorem k0_off49_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), ∀ a, (k0_off49 v1 v7 v13 v19 v25 v31 v37 v43 k0_t7 k0_t10) a + S1.size a ≤ S8.size a := fun v1 v7 v13 v19 v25 v31 v37 v43 k0_hw16 k0_t7 k0_t10 k0_h10 => k0_hw16.2.2.2.2.2.2.2.2.2.2.2.2.2.2.1 k0_t7 k0_t10 k0_h10
theorem k0_mult14_dvd : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), 256 ∣ (k0_mult14 v1 v7 v13 v19 v25 v31 v37 v43 k0_t7 k0_t10).toNat := fun v1 v7 v13 v19 v25 v31 v37 v43 k0_hw16 k0_t7 k0_t10 k0_h10 => k0_hw16.2.2.2.2.2.2.2.2.2.2.2.2.2.2.2.1 k0_t7 k0_t10 k0_h10
theorem k0_off50_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), ∀ a, (k0_off50 v1 v7 v13 v19 v25 v31 v37 v43 k0_t7 k0_t10) a + S1.size a ≤ S88.size a := fun v1 v7 v13 v19 v25 v31 v37 v43 k0_hw16 k0_t7 k0_t10 k0_h10 => k0_hw16.2.2.2.2.2.2.2.2.2.2.2.2.2.2.2.2.1 k0_t7 k0_t10 k0_h10
theorem k0_off51_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), ∀ a, (k0_off51 v1 v7 v13 v19 v25 v31 v37 v43 k0_t7 k0_t10) a + S1x2048x256.size a ≤ S88x2048x256.size a := fun v1 v7 v13 v19 v25 v31 v37 v43 k0_hw16 k0_t7 k0_t10 k0_h10 => k0_hw16.2.2.2.2.2.2.2.2.2.2.2.2.2.2.2.2.2.1 k0_t7 k0_t10 k0_h10
theorem k0_off51_wordsfp8e4m3 : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ (k0_h10 : k0_cond10 v1 v7 v13 v19 v25 v31 v37 v43 k0_t7 k0_t10 = 1#1), (Rect.unit (s := S88x2048x256) (k0_off51 v1 v7 v13 v19 v25 v31 v37 v43 k0_t7 k0_t10) S1x2048x256.size (k0_off51_inb v1 v7 v13 v19 v25 v31 v37 v43 k0_hw16 k0_t7 k0_t10 k0_h10)).WholeWords (EltTy.packing .fp8e4m3) := fun v1 v7 v13 v19 v25 v31 v37 v43 k0_hw16 k0_t7 k0_t10 k0_h10 => k0_hw16.2.2.2.2.2.2.2.2.2.2.2.2.2.2.2.2.2.2.1 k0_t7 k0_t10 k0_h10 (k0_off51_inb v1 v7 v13 v19 v25 v31 v37 v43 k0_hw16 k0_t7 k0_t10 k0_h10)
theorem k0_off53_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ a, (k0_off53 v1 v7 v13 v19 v25 v31 v37 v43 k0_t7 k0_t10) a + S1.size a ≤ S8.size a := fun v1 v7 v13 v19 v25 v31 v37 v43 k0_hw16 k0_t7 k0_t10 => k0_hw16.2.2.2.2.2.2.2.2.2.2.2.2.2.2.2.2.2.2.2.1 k0_t7 k0_t10
theorem k0_mult15_dvd : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), 256 ∣ (k0_mult15 v1 v7 v13 v19 v25 v31 v37 v43 k0_t7 k0_t10).toNat := fun v1 v7 v13 v19 v25 v31 v37 v43 k0_hw16 k0_t7 k0_t10 => k0_hw16.2.2.2.2.2.2.2.2.2.2.2.2.2.2.2.2.2.2.2.2.1 k0_t7 k0_t10
theorem k0_off54_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ a, (k0_off54 v1 v7 v13 v19 v25 v31 v37 v43 k0_t7 k0_t10) a + S1.size a ≤ S88.size a := fun v1 v7 v13 v19 v25 v31 v37 v43 k0_hw16 k0_t7 k0_t10 => k0_hw16.2.2.2.2.2.2.2.2.2.2.2.2.2.2.2.2.2.2.2.2.2.1 k0_t7 k0_t10
theorem k0_off55_inb : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), ∀ a, (k0_off55 v1 v7 v13 v19 v25 v31 v37 v43 k0_t7 k0_t10) a + S1x2048x256.size a ≤ S88x2048x256.size a := fun v1 v7 v13 v19 v25 v31 v37 v43 k0_hw16 k0_t7 k0_t10 => k0_hw16.2.2.2.2.2.2.2.2.2.2.2.2.2.2.2.2.2.2.2.2.2.2.1 k0_t7 k0_t10
theorem k0_off55_wordsfp8e4m3 : ∀ (v1 : BitVec 32) (v7 : BitVec 32) (v13 : BitVec 32) (v19 : BitVec 32) (v25 : BitVec 32) (v31 : BitVec 32) (v37 : BitVec 32) (v43 : BitVec 32) (k0_hw16 : k0_chk16 v1 v7 v13 v19 v25 v31 v37 v43) (k0_t7 : Fin (k0_t7_loop v1 v7 v13 v19 v25 v31 v37 v43).trips) (k0_t10 : Fin k0_t10_loop.trips), (Rect.unit (s := S88x2048x256) (k0_off55 v1 v7 v13 v19 v25 v31 v37 v43 k0_t7 k0_t10) S1x2048x256.size (k0_off55_inb v1 v7 v13 v19 v25 v31 v37 v43 k0_hw16 k0_t7 k0_t10)).WholeWords (EltTy.packing .fp8e4m3) := fun v1 v7 v13 v19 v25 v31 v37 v43 k0_hw16 k0_t7 k0_t10 => k0_hw16.2.2.2.2.2.2.2.2.2.2.2.2.2.2.2.2.2.2.2.2.2.2.2 k0_t7 k0_t10 (k0_off55_inb v1 v7 v13 v19 v25 v31 v37 v43 k0_hw16 k0_t7 k0_t10)

def k0_mult16 (k0_t10 : Fin k0_t10_loop.trips) : BitVec 32 :=
  let c0_i32_69 : BitVec 32 := 0#32
  let c1_i32_71 : BitVec 32 := 1#32
  let arg20 : BitVec 32 := Scf.iv c0_i32_69 c1_i32_71 k0_t10
  let c256_i32_88 : BitVec 32 := 256#32
  let v185 : BitVec 32 := Scalar.muli arg20 c256_i32_88
  v185
def k0_off57 (v98 : BitVec 32) (k0_t10 : Fin k0_t10_loop.trips) : Fin 2 → Nat :=
  let v187 : Index := Scalar.indexCast v98
  let c0_i32_69 : BitVec 32 := 0#32
  let c1_i32_71 : BitVec 32 := 1#32
  let arg20 : BitVec 32 := Scf.iv c0_i32_69 c1_i32_71 k0_t10
  let c256_i32_88 : BitVec 32 := 256#32
  let v185 : BitVec 32 := Scalar.muli arg20 c256_i32_88
  let v186 : BitVec 32 := v185
  let v188 : Index := Scalar.indexCast v186
  ![v187.toNat, v188.toNat]

def k0_chk21 (v98 : BitVec 32) : Prop :=
  ((k0_t8_loop v98).OK) ∧
  (∀ k0_t8 : Fin (k0_t8_loop v98).trips, ∀ a, (k0_off46 v98 k0_t8) a + S1.size a ≤ S8.size a) ∧
  ((k0_t9_loop v98).OK) ∧
  (∀ k0_t9 : Fin (k0_t9_loop v98).trips, ∀ a, (k0_off47 v98 k0_t9) a + S1.size a ≤ S8.size a) ∧
  (∀ a, (k0_off48 v98) a + S1.size a ≤ S8.size a) ∧
  (∀ k0_t10 : Fin k0_t10_loop.trips, ∀ a, (k0_off57 v98 k0_t10) a + S1x256.size a ≤ S8x2816.size a)
theorem k0_t8_ok : ∀ (v98 : BitVec 32) (k0_hw21 : k0_chk21 v98), (k0_t8_loop v98).OK := fun v98 k0_hw21 => k0_hw21.1
theorem k0_off46_inb : ∀ (v98 : BitVec 32) (k0_hw21 : k0_chk21 v98) (k0_t8 : Fin (k0_t8_loop v98).trips), ∀ a, (k0_off46 v98 k0_t8) a + S1.size a ≤ S8.size a := fun v98 k0_hw21 k0_t8 => k0_hw21.2.1 k0_t8
theorem k0_t9_ok : ∀ (v98 : BitVec 32) (k0_hw21 : k0_chk21 v98), (k0_t9_loop v98).OK := fun v98 k0_hw21 => k0_hw21.2.2.1
theorem k0_off47_inb : ∀ (v98 : BitVec 32) (k0_hw21 : k0_chk21 v98) (k0_t9 : Fin (k0_t9_loop v98).trips), ∀ a, (k0_off47 v98 k0_t9) a + S1.size a ≤ S8.size a := fun v98 k0_hw21 k0_t9 => k0_hw21.2.2.2.1 k0_t9
theorem k0_off48_inb : ∀ (v98 : BitVec 32) (k0_hw21 : k0_chk21 v98), ∀ a, (k0_off48 v98) a + S1.size a ≤ S8.size a := fun v98 k0_hw21 => k0_hw21.2.2.2.2.1
theorem k0_off57_inb : ∀ (v98 : BitVec 32) (k0_hw21 : k0_chk21 v98) (k0_t10 : Fin k0_t10_loop.trips), ∀ a, (k0_off57 v98 k0_t10) a + S1x256.size a ≤ S8x2816.size a := fun v98 k0_hw21 k0_t10 => k0_hw21.2.2.2.2.2 k0_t10

@[reducible] def k0_t11_loop (v105 : BitVec 32) (v107 : BitVec 32) : Scf.Loop 32 :=
  let c0_i32_89 : BitVec 32 := 0#32
  let v108 : BitVec 32 := Scalar.addi v105 v107
  let c256_i32 : BitVec 32 := 256#32
  let v109 : BitVec 32 := Scalar.minsi v108 c256_i32
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_92 : BitVec 32 := 1#32
  ⟨c0_i32_89, v194, c1_i32_92⟩

def k0_mult17 (v105 : BitVec 32) (v107 : BitVec 32) (k0_t11 : Fin (k0_t11_loop v105 v107).trips) : BitVec 32 :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t11
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  v199
def k0_off58 (v105 : BitVec 32) (v107 : BitVec 32) (k0_t11 : Fin (k0_t11_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t11
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v201 : Index := Scalar.indexCast v200
  let c0_97 : Index := 0#32
  ![v201.toNat, 0]
def k0_off59 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 3 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let v203 : Index := Scalar.indexCast v151
  let c0_98 : Index := 0#32
  let c0_99 : Index := 0#32
  ![v203.toNat, 0, 0]
def k0_off60 (v105 : BitVec 32) (v107 : BitVec 32) (k0_t11 : Fin (k0_t11_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t11
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v207 : Index := Scalar.indexCast v200
  let c0_101 : Index := 0#32
  ![v207.toNat, 0]
def k0_off61 (v105 : BitVec 32) (v107 : BitVec 32) (k0_t10 : Fin k0_t10_loop.trips) (k0_t11 : Fin (k0_t11_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let c1_i32_92 : BitVec 32 := 1#32
  let arg22 : BitVec 32 := Scf.iv c0_i32_89 c1_i32_92 k0_t11
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v216 : Index := Scalar.indexCast v200
  let c0_i32_69 : BitVec 32 := 0#32
  let c1_i32_71 : BitVec 32 := 1#32
  let arg20 : BitVec 32 := Scf.iv c0_i32_69 c1_i32_71 k0_t10
  let c256_i32_88 : BitVec 32 := 256#32
  let v185 : BitVec 32 := Scalar.muli arg20 c256_i32_88
  let v186 : BitVec 32 := v185
  let v217 : Index := Scalar.indexCast v186
  ![v216.toNat, v217.toNat]
@[reducible] def k0_t12_loop (v105 : BitVec 32) (v107 : BitVec 32) : Scf.Loop 32 :=
  let c0_i32_89 : BitVec 32 := 0#32
  let v108 : BitVec 32 := Scalar.addi v105 v107
  let c256_i32 : BitVec 32 := 256#32
  let v109 : BitVec 32 := Scalar.minsi v108 c256_i32
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let v191 : BitVec 32 := Scalar.addi c0_i32_89 v190
  let c1_i32_93 : BitVec 32 := 1#32
  ⟨v194, v191, c1_i32_93⟩
def k0_mult18 (v105 : BitVec 32) (v107 : BitVec 32) (k0_t12 : Fin (k0_t12_loop v105 v107).trips) : BitVec 32 :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t12
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  v199
def k0_off62 (v105 : BitVec 32) (v107 : BitVec 32) (k0_t12 : Fin (k0_t12_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t12
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v201 : Index := Scalar.indexCast v200
  let c0_97 : Index := 0#32
  ![v201.toNat, 0]
def k0_off63 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (k0_t10 : Fin k0_t10_loop.trips) : Fin 3 → Nat :=
  let c0_i32_43 : BitVec 32 := 0#32
  let c0_i32_2 : BitVec 32 := 0#32
  let c0_i32_1 : BitVec 32 := 0#32
  let v2 : BitVec 1 := Scalar.cmpi .sgt v1 c0_i32_1
  let v3 : BitVec 32 := Scalar.extui v2
  let v4 : BitVec 32 := Scalar.addi c0_i32_2 v3
  let c0_i32_3 : BitVec 32 := 0#32
  let v8 : BitVec 1 := Scalar.cmpi .sgt v7 c0_i32_3
  let v9 : BitVec 32 := Scalar.extui v8
  let v10 : BitVec 32 := Scalar.addi v4 v9
  let c0_i32_4 : BitVec 32 := 0#32
  let v14 : BitVec 1 := Scalar.cmpi .sgt v13 c0_i32_4
  let v15 : BitVec 32 := Scalar.extui v14
  let v16 : BitVec 32 := Scalar.addi v10 v15
  let c0_i32_5 : BitVec 32 := 0#32
  let v20 : BitVec 1 := Scalar.cmpi .sgt v19 c0_i32_5
  let v21 : BitVec 32 := Scalar.extui v20
  let v22 : BitVec 32 := Scalar.addi v16 v21
  let c0_i32_6 : BitVec 32 := 0#32
  let v26 : BitVec 1 := Scalar.cmpi .sgt v25 c0_i32_6
  let v27 : BitVec 32 := Scalar.extui v26
  let v28 : BitVec 32 := Scalar.addi v22 v27
  let c0_i32_7 : BitVec 32 := 0#32
  let v32 : BitVec 1 := Scalar.cmpi .sgt v31 c0_i32_7
  let v33 : BitVec 32 := Scalar.extui v32
  let v34 : BitVec 32 := Scalar.addi v28 v33
  let c0_i32_8 : BitVec 32 := 0#32
  let v38 : BitVec 1 := Scalar.cmpi .sgt v37 c0_i32_8
  let v39 : BitVec 32 := Scalar.extui v38
  let v40 : BitVec 32 := Scalar.addi v34 v39
  let c0_i32_9 : BitVec 32 := 0#32
  let v44 : BitVec 1 := Scalar.cmpi .sgt v43 c0_i32_9
  let v45 : BitVec 32 := Scalar.extui v44
  let v46 : BitVec 32 := Scalar.addi v40 v45
  let v90 : BitVec 32 := Scalar.subi v46 c0_i32_43
  let c1_i32_45 : BitVec 32 := 1#32
  let v92 : BitVec 32 := Scalar.divsi v90 c1_i32_45
  let v93 : BitVec 32 := Scalar.muli v92 c1_i32_45
  let v94 : BitVec 32 := Scalar.addi c0_i32_43 v93
  let c1_i32_47 : BitVec 32 := 1#32
  let arg18 : BitVec 32 := Scf.iv v94 c1_i32_47 k0_t7
  let c11_i32_74 : BitVec 32 := 11#32
  let v150 : BitVec 32 := Scalar.muli arg18 c11_i32_74
  let c0_i32_69 : BitVec 32 := 0#32
  let c1_i32_71 : BitVec 32 := 1#32
  let arg20 : BitVec 32 := Scf.iv c0_i32_69 c1_i32_71 k0_t10
  let v151 : BitVec 32 := Scalar.addi v150 arg20
  let v203 : Index := Scalar.indexCast v151
  let c0_98 : Index := 0#32
  let c0_99 : Index := 0#32
  ![v203.toNat, 0, 0]
def k0_off64 (v105 : BitVec 32) (v107 : BitVec 32) (k0_t12 : Fin (k0_t12_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t12
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v207 : Index := Scalar.indexCast v200
  let c0_101 : Index := 0#32
  ![v207.toNat, 0]
def k0_off65 (v105 : BitVec 32) (v107 : BitVec 32) (k0_t10 : Fin k0_t10_loop.trips) (k0_t12 : Fin (k0_t12_loop v105 v107).trips) : Fin 2 → Nat :=
  let c0_i32_53 : BitVec 32 := 0#32
  let v111 : BitVec 1 := Scalar.cmpi .sgt v105 c0_i32_53
  let v112 : BitVec 32 := Scalar.extui v111
  let c0_i32_54 : BitVec 32 := 0#32
  let v113 : BitVec 1 := Scalar.cmpi .slt v105 c0_i32_54
  let v114 : BitVec 32 := Scalar.extui v113
  let v115 : BitVec 32 := Scalar.subi v112 v114
  let c32_i32 : BitVec 32 := 32#32
  let c0_i32_55 : BitVec 32 := 0#32
  let v116 : BitVec 1 := Scalar.cmpi .sgt c32_i32 c0_i32_55
  let v117 : BitVec 32 := Scalar.extui v116
  let c0_i32_56 : BitVec 32 := 0#32
  let v118 : BitVec 1 := Scalar.cmpi .slt c32_i32 c0_i32_56
  let v119 : BitVec 32 := Scalar.extui v118
  let v120 : BitVec 32 := Scalar.subi v117 v119
  let v121 : BitVec 1 := Scalar.cmpi .ne v115 v120
  let v122 : BitVec 32 := Scalar.remsi v105 c32_i32
  let c0_i32_57 : BitVec 32 := 0#32
  let v123 : BitVec 1 := Scalar.cmpi .ne v122 c0_i32_57
  let v124 : BitVec 1 := Scalar.andi v121 v123
  let v110 : BitVec 32 := Scalar.divsi v105 c32_i32
  let c1_i32_58 : BitVec 32 := 1#32
  let v125 : BitVec 32 := Scalar.subi v110 c1_i32_58
  let v126 : BitVec 32 := Scalar.select v124 v125 v110
  let c32_i32_59 : BitVec 32 := 32#32
  let v127 : BitVec 32 := Scalar.muli v126 c32_i32_59
  let c0_i32_89 : BitVec 32 := 0#32
  let v108 : BitVec 32 := Scalar.addi v105 v107
  let c256_i32 : BitVec 32 := 256#32
  let v109 : BitVec 32 := Scalar.minsi v108 c256_i32
  let v128 : BitVec 32 := Scalar.subi v109 v127
  let c128_i32 : BitVec 32 := 128#32
  let v129 : BitVec 32 := Scalar.addi v128 c128_i32
  let c1_i32_60 : BitVec 32 := 1#32
  let v130 : BitVec 32 := Scalar.subi v129 c1_i32_60
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c128_i32_61 : BitVec 32 := 128#32
  let c0_i32_64 : BitVec 32 := 0#32
  let v137 : BitVec 1 := Scalar.cmpi .sgt c128_i32_61 c0_i32_64
  let v138 : BitVec 32 := Scalar.extui v137
  let c0_i32_65 : BitVec 32 := 0#32
  let v139 : BitVec 1 := Scalar.cmpi .slt c128_i32_61 c0_i32_65
  let v140 : BitVec 32 := Scalar.extui v139
  let v141 : BitVec 32 := Scalar.subi v138 v140
  let v142 : BitVec 1 := Scalar.cmpi .ne v136 v141
  let v143 : BitVec 32 := Scalar.remsi v130 c128_i32_61
  let c0_i32_66 : BitVec 32 := 0#32
  let v144 : BitVec 1 := Scalar.cmpi .ne v143 c0_i32_66
  let v145 : BitVec 1 := Scalar.andi v142 v144
  let v131 : BitVec 32 := Scalar.divsi v130 c128_i32_61
  let c1_i32_67 : BitVec 32 := 1#32
  let v146 : BitVec 32 := Scalar.subi v131 c1_i32_67
  let v147 : BitVec 32 := Scalar.select v145 v146 v131
  let v190 : BitVec 32 := Scalar.subi v147 c0_i32_89
  let c1_i32_91 : BitVec 32 := 1#32
  let v192 : BitVec 32 := Scalar.divsi v190 c1_i32_91
  let v193 : BitVec 32 := Scalar.muli v192 c1_i32_91
  let v194 : BitVec 32 := Scalar.addi c0_i32_89 v193
  let c1_i32_93 : BitVec 32 := 1#32
  let arg22 : BitVec 32 := Scf.iv v194 c1_i32_93 k0_t12
  let c128_i32_95 : BitVec 32 := 128#32
  let v197 : BitVec 32 := Scalar.muli arg22 c128_i32_95
  let v198 : BitVec 32 := Scalar.addi v127 v197
  let c128_i32_96 : BitVec 32 := 128#32
  let v199 : BitVec 32 := Scalar.minsi v198 c128_i32_96
  let v200 : BitVec 32 := v199
  let v216 : Index := Scalar.indexCast v200
  let c0_i32_69 : BitVec 32 := 0#32
  let c1_i32_71 : BitVec 32 := 1#32
  let arg20 : BitVec 32 := Scf.iv c0_i32_69 c1_i32_71 k0_t10
  let c256_i32_88 : BitVec 32 := 256#32
  let v185 : BitVec 32 := Scalar.muli arg20 c256_i32_88
  let v186 : BitVec 32 := v185
  let v217 : Index := Scalar.indexCast v186
  ![v216.toNat, v217.toNat]

def k0_chk24 (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) : Prop :=
  ((k0_t11_loop v105 v107).OK) ∧
  (∀ k0_t11 : Fin (k0_t11_loop v105 v107).trips, 32 ∣ (k0_mult17 v105 v107 k0_t11).toNat) ∧
  (∀ k0_t11 : Fin (k0_t11_loop v105 v107).trips, ∀ a, (k0_off58 v105 v107 k0_t11) a + S128x2048.size a ≤ S256x2048.size a) ∧
  (∀ (k0_t10 : Fin k0_t10_loop.trips) (k0_t11 : Fin (k0_t11_loop v105 v107).trips), ∀ a, (k0_off59 v1 v7 v13 v19 v25 v31 v37 v43 k0_t7 k0_t10) a + S1x2048x256.size a ≤ S88x2048x256.size a) ∧
  (∀ k0_t11 : Fin (k0_t11_loop v105 v107).trips, ∀ a, (k0_off60 v105 v107 k0_t11) a + S128x128.size a ≤ S256x128.size a) ∧
  (∀ (k0_t10 : Fin k0_t10_loop.trips) (k0_t11 : Fin (k0_t11_loop v105 v107).trips), ∀ a, (k0_off61 v105 v107 k0_t10 k0_t11) a + S128x256.size a ≤ S256x2816.size a) ∧
  (∀ (k0_t10 : Fin k0_t10_loop.trips) (k0_t11 : Fin (k0_t11_loop v105 v107).trips), ∀ (hinb : ∀ a, (k0_off61 v105 v107 k0_t10 k0_t11) a + S128x256.size a ≤ S256x2816.size a), (Rect.unit (s := S256x2816) (k0_off61 v105 v107 k0_t10 k0_t11) S128x256.size hinb).PackedRows (EltTy.packing .bf16)) ∧
  ((k0_t12_loop v105 v107).OK) ∧
  (∀ k0_t12 : Fin (k0_t12_loop v105 v107).trips, 32 ∣ (k0_mult18 v105 v107 k0_t12).toNat) ∧
  (∀ k0_t12 : Fin (k0_t12_loop v105 v107).trips, ∀ a, (k0_off62 v105 v107 k0_t12) a + S128x2048.size a ≤ S256x2048.size a) ∧
  (∀ (k0_t10 : Fin k0_t10_loop.trips) (k0_t12 : Fin (k0_t12_loop v105 v107).trips), ∀ a, (k0_off63 v1 v7 v13 v19 v25 v31 v37 v43 k0_t7 k0_t10) a + S1x2048x256.size a ≤ S88x2048x256.size a) ∧
  (∀ k0_t12 : Fin (k0_t12_loop v105 v107).trips, ∀ a, (k0_off64 v105 v107 k0_t12) a + S128x128.size a ≤ S256x128.size a) ∧
  (∀ (k0_t10 : Fin k0_t10_loop.trips) (k0_t12 : Fin (k0_t12_loop v105 v107).trips), ∀ a, (k0_off65 v105 v107 k0_t10 k0_t12) a + S128x256.size a ≤ S256x2816.size a) ∧
  (∀ (k0_t10 : Fin k0_t10_loop.trips) (k0_t12 : Fin (k0_t12_loop v105 v107).trips), ∀ (hinb : ∀ a, (k0_off65 v105 v107 k0_t10 k0_t12) a + S128x256.size a ≤ S256x2816.size a), (Rect.unit (s := S256x2816) (k0_off65 v105 v107 k0_t10 k0_t12) S128x256.size hinb).PackedRows (EltTy.packing .bf16))
theorem k0_t11_ok : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107), (k0_t11_loop v105 v107).OK := fun v1 v7 v13 v19 v25 v31 v37 v43 k0_t7 v105 v107 k0_hw24 => k0_hw24.1
theorem k0_mult17_dvd : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t11 : Fin (k0_t11_loop v105 v107).trips), 32 ∣ (k0_mult17 v105 v107 k0_t11).toNat := fun v1 v7 v13 v19 v25 v31 v37 v43 k0_t7 v105 v107 k0_hw24 k0_t11 => k0_hw24.2.1 k0_t11
theorem k0_off58_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t11 : Fin (k0_t11_loop v105 v107).trips), ∀ a, (k0_off58 v105 v107 k0_t11) a + S128x2048.size a ≤ S256x2048.size a := fun v1 v7 v13 v19 v25 v31 v37 v43 k0_t7 v105 v107 k0_hw24 k0_t11 => k0_hw24.2.2.1 k0_t11
theorem k0_off59_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t10 : Fin k0_t10_loop.trips) (k0_t11 : Fin (k0_t11_loop v105 v107).trips), ∀ a, (k0_off59 v1 v7 v13 v19 v25 v31 v37 v43 k0_t7 k0_t10) a + S1x2048x256.size a ≤ S88x2048x256.size a := fun v1 v7 v13 v19 v25 v31 v37 v43 k0_t7 v105 v107 k0_hw24 k0_t10 k0_t11 => k0_hw24.2.2.2.1 k0_t10 k0_t11
theorem k0_off60_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t11 : Fin (k0_t11_loop v105 v107).trips), ∀ a, (k0_off60 v105 v107 k0_t11) a + S128x128.size a ≤ S256x128.size a := fun v1 v7 v13 v19 v25 v31 v37 v43 k0_t7 v105 v107 k0_hw24 k0_t11 => k0_hw24.2.2.2.2.1 k0_t11
theorem k0_off61_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t10 : Fin k0_t10_loop.trips) (k0_t11 : Fin (k0_t11_loop v105 v107).trips), ∀ a, (k0_off61 v105 v107 k0_t10 k0_t11) a + S128x256.size a ≤ S256x2816.size a := fun v1 v7 v13 v19 v25 v31 v37 v43 k0_t7 v105 v107 k0_hw24 k0_t10 k0_t11 => k0_hw24.2.2.2.2.2.1 k0_t10 k0_t11
theorem k0_off61_packedbf16 : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t10 : Fin k0_t10_loop.trips) (k0_t11 : Fin (k0_t11_loop v105 v107).trips), (Rect.unit (s := S256x2816) (k0_off61 v105 v107 k0_t10 k0_t11) S128x256.size (k0_off61_inb v1 v7 v13 v19 v25 v31 v37 v43 k0_t7 v105 v107 k0_hw24 k0_t10 k0_t11)).PackedRows (EltTy.packing .bf16) := fun v1 v7 v13 v19 v25 v31 v37 v43 k0_t7 v105 v107 k0_hw24 k0_t10 k0_t11 => k0_hw24.2.2.2.2.2.2.1 k0_t10 k0_t11 (k0_off61_inb v1 v7 v13 v19 v25 v31 v37 v43 k0_t7 v105 v107 k0_hw24 k0_t10 k0_t11)
theorem k0_t12_ok : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107), (k0_t12_loop v105 v107).OK := fun v1 v7 v13 v19 v25 v31 v37 v43 k0_t7 v105 v107 k0_hw24 => k0_hw24.2.2.2.2.2.2.2.1
theorem k0_mult18_dvd : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t12 : Fin (k0_t12_loop v105 v107).trips), 32 ∣ (k0_mult18 v105 v107 k0_t12).toNat := fun v1 v7 v13 v19 v25 v31 v37 v43 k0_t7 v105 v107 k0_hw24 k0_t12 => k0_hw24.2.2.2.2.2.2.2.2.1 k0_t12
theorem k0_off62_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t12 : Fin (k0_t12_loop v105 v107).trips), ∀ a, (k0_off62 v105 v107 k0_t12) a + S128x2048.size a ≤ S256x2048.size a := fun v1 v7 v13 v19 v25 v31 v37 v43 k0_t7 v105 v107 k0_hw24 k0_t12 => k0_hw24.2.2.2.2.2.2.2.2.2.1 k0_t12
theorem k0_off63_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t10 : Fin k0_t10_loop.trips) (k0_t12 : Fin (k0_t12_loop v105 v107).trips), ∀ a, (k0_off63 v1 v7 v13 v19 v25 v31 v37 v43 k0_t7 k0_t10) a + S1x2048x256.size a ≤ S88x2048x256.size a := fun v1 v7 v13 v19 v25 v31 v37 v43 k0_t7 v105 v107 k0_hw24 k0_t10 k0_t12 => k0_hw24.2.2.2.2.2.2.2.2.2.2.1 k0_t10 k0_t12
theorem k0_off64_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t12 : Fin (k0_t12_loop v105 v107).trips), ∀ a, (k0_off64 v105 v107 k0_t12) a + S128x128.size a ≤ S256x128.size a := fun v1 v7 v13 v19 v25 v31 v37 v43 k0_t7 v105 v107 k0_hw24 k0_t12 => k0_hw24.2.2.2.2.2.2.2.2.2.2.2.1 k0_t12
theorem k0_off65_inb : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t10 : Fin k0_t10_loop.trips) (k0_t12 : Fin (k0_t12_loop v105 v107).trips), ∀ a, (k0_off65 v105 v107 k0_t10 k0_t12) a + S128x256.size a ≤ S256x2816.size a := fun v1 v7 v13 v19 v25 v31 v37 v43 k0_t7 v105 v107 k0_hw24 k0_t10 k0_t12 => k0_hw24.2.2.2.2.2.2.2.2.2.2.2.2.1 k0_t10 k0_t12
theorem k0_off65_packedbf16 : ∀ (v1 : BitVec 32) (v7 : BitVec 32) (v13 : BitVec 32) (v19 : BitVec 32) (v25 : BitVec 32) (v31 : BitVec 32) (v37 : BitVec 32) (v43 : BitVec 32) (k0_t7 : Fin (k0_t7_loop v1 v7 v13 v19 v25 v31 v37 v43).trips) (v105 : BitVec 32) (v107 : BitVec 32) (k0_hw24 : k0_chk24 v1 v7 v13 v19 v25 v31 v37 v43 k0_t7 v105 v107) (k0_t10 : Fin k0_t10_loop.trips) (k0_t12 : Fin (k0_t12_loop v105 v107).trips), (Rect.unit (s := S256x2816) (k0_off65 v105 v107 k0_t10 k0_t12) S128x256.size (k0_off65_inb v1 v7 v13 v19 v25 v31 v37 v43 k0_t7 v105 v107 k0_hw24 k0_t10 k0_t12)).PackedRows (EltTy.packing .bf16) := fun v1 v7 v13 v19 v25 v31 v37 v43 k0_t7 v105 v107 k0_hw24 k0_t10 k0_t12 => k0_hw24.2.2.2.2.2.2.2.2.2.2.2.2.2 k0_t10 k0_t12 (k0_off65_inb v1 v7 v13 v19 v25 v31 v37 v43 k0_t7 v105 v107 k0_hw24 k0_t10 k0_t12)

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x2048 : Shape := ⟨2, ![256, 2048]⟩
abbrev S256 : Shape := ⟨1, ![256]⟩
abbrev S8 : Shape := ⟨1, ![8]⟩
abbrev S8x2048x2816 : Shape := ⟨3, ![8, 2048, 2816]⟩
abbrev S8x2816 : Shape := ⟨2, ![8, 2816]⟩
abbrev S256x1 : Shape := ⟨2, ![256, 1]⟩
abbrev S256x2816 : Shape := ⟨2, ![256, 2816]⟩
abbrev S1 : Shape := ⟨1, ![1]⟩
abbrev S1x2048x2816 : Shape := ⟨3, ![1, 2048, 2816]⟩
abbrev S2048x2816 : Shape := ⟨2, ![2048, 2816]⟩
abbrev S1x2816 : Shape := ⟨2, ![1, 2816]⟩

abbrev nBuf : Space → Nat
  | .hbm => 7
  | .vmem => 5
  | .smem => 1
  | _ => 0

abbrev bufTy : (tb : Table) → Fin (tcTables nBuf tb) → BufTy
  | .hbm, ⟨0, _⟩ => ⟨S256x2048, .fp8e4m3⟩
  | .hbm, ⟨1, _⟩ => ⟨S256, .f32⟩
  | .hbm, ⟨2, _⟩ => ⟨S8, .i32⟩
  | .hbm, ⟨3, _⟩ => ⟨S8x2048x2816, .fp8e4m3⟩
  | .hbm, ⟨4, _⟩ => ⟨S8x2816, .f32⟩
  | .hbm, ⟨5, _⟩ => ⟨S256x1, .f32⟩
  | .hbm, ⟨6, _⟩ => ⟨S256x2816, .bf16⟩
  | .local _ .vmem, ⟨0, _⟩ => ⟨S256x2048, .fp8e4m3⟩
  | .local _ .vmem, ⟨1, _⟩ => ⟨S256x1, .f32⟩
  | .local _ .vmem, ⟨2, _⟩ => ⟨S8x2048x2816, .fp8e4m3⟩
  | .local _ .vmem, ⟨3, _⟩ => ⟨S8x2816, .f32⟩
  | .local _ .vmem, ⟨4, _⟩ => ⟨S256x2816, .bf16⟩
  | .local _ .smem, ⟨0, _⟩ => ⟨S8, .i32⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Moe.Words.lean ====
/- Words: what the kernel's 32-bit scalar arithmetic computes, as natural numbers. -/
module

public import Idealize.ShloMosaic.Lib.LoopRemainder
public import Idealize.ShloMosaic.Lib.Affine
public import Idealize.ShloMosaic.Lib.Affine.Words
public import Idealize.ShloMosaic.Lib.WordArith.Masks

@[expose] public section

set_option maxRecDepth 16384

namespace Cert.Moe

open Idealize.ShloMosaic

/-! ## Single operations -/

/-- A sum of two words that does not overflow. -/
theorem addi_toNat (x y : BitVec 32) (h : x.toNat + y.toNat < 4294967296) : (Scalar.addi x y).toNat = x.toNat + y.toNat := by
  show (x + y).toNat = _
  rw [BitVec.toNat_add]; omega

/-- A difference of two words that does not go below zero. -/
theorem subi_toNat (x y : BitVec 32) (h : y.toNat ≤ x.toNat) : (Scalar.subi x y).toNat = x.toNat - y.toNat := by
  show (x - y).toNat = _
  rw [BitVec.toNat_sub]; have := x.isLt; have := y.isLt; omega

/-- A product of two words that does not overflow. -/
theorem muli_toNat (x y : BitVec 32) (h : x.toNat * y.toNat < 4294967296) : (Scalar.muli x y).toNat = x.toNat * y.toNat := by
  show (x * y).toNat = _
  rw [BitVec.toNat_mul]; exact Nat.mod_eq_of_lt h

/-- The signed reading of a word below `2^31`. -/
theorem toInt_of (x : BitVec 32) (h : x.toNat < 2147483648) : x.toInt = x.toNat := by
  rw [BitVec.toInt_eq_toNat_cond]; split <;> omega

/-- The smaller of two words below `2^31`. -/
theorem minsi_toNat (x y : BitVec 32) (hx : x.toNat < 2147483648) (hy : y.toNat < 2147483648) :
    (Scalar.minsi x y).toNat = min x.toNat y.toNat :=
  WordArith.toNat_minsi_of_lt x y hx hy

/-- The counter of a loop from 0 by steps of 1. -/
theorem iv_toNat (k : ℕ) (hk : k < 4294967296) : (Scf.iv 0#32 1#32 k).toNat = k := WordArith.toNat_iv_zero_one k hk

/-- A positivity test of a word below `2^31`, widened to 32 bits. -/
theorem sgt_toNat (v : BitVec 32) (h : v.toNat < 2147483648) :
    (Scalar.extui (Scalar.cmpi .sgt v 0#32)).toNat = if 0 < v.toNat then 1 else 0 := by
  have hi := toInt_of v h
  have hz : (0#32 : BitVec 32).toInt = 0 := by decide
  split
  · have h1 : Scalar.cmpi .sgt v 0#32 = 1#1 := by
      show BitVec.ofBool (BitVec.slt 0#32 v) = 1#1
      rw [show BitVec.slt 0#32 v = true by simp only [BitVec.slt, decide_eq_true_eq]; omega]; rfl
    rw [h1]; rfl
  · have h1 : Scalar.cmpi .sgt v 0#32 = 0#1 := by
      show BitVec.ofBool (BitVec.slt 0#32 v) = 0#1
      rw [show BitVec.slt 0#32 v = false by simp only [BitVec.slt, decide_eq_false_iff_not]; omega]; rfl
    rw [h1]; rfl

/-- A signed comparison of two words below `2^31`, as the condition word of a branch. -/
theorem slt_cond (x y : BitVec 32) (hx : x.toNat < 2147483648) (hy : y.toNat < 2147483648) :
    (Scalar.cmpi .ne (Scalar.extui (Scalar.cmpi .slt x y)) 0#32 = 1#1) ↔ x.toNat < y.toNat := by
  have h1 := toInt_of x hx
  have h2 := toInt_of y hy
  by_cases h : x.toNat < y.toNat
  · have : Scalar.cmpi .slt x y = 1#1 := by
      show BitVec.ofBool (BitVec.slt x y) = 1#1
      rw [show BitVec.slt x y = true by simp only [BitVec.slt, decide_eq_true_eq]; omega]; rfl
    rw [this]; exact ⟨fun _ => h, fun _ => by decide⟩
  · have : Scalar.cmpi .slt x y = 0#1 := by
      show BitVec.ofBool (BitVec.slt x y) = 0#1
      rw [show BitVec.slt x y = false by simp only [BitVec.slt, decide_eq_false_iff_not]; omega]; rfl
    rw [this]; exact ⟨fun h => absurd h (by decide), fun h' => absurd h' h⟩

/-! ## Floor division -/

/-- Floor division as the kernel spells it: the truncated quotient, less one where the signs differ and a remainder is left. -/
def fdiv (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The truncated quotient of two words below `2^31`. -/
theorem divsi_toNat (x d : BitVec 32) (hx : x.toNat < 2147483648) (h0 : 0 < d.toNat) (hd : d.toNat < 2147483648) :
    (Scalar.divsi x d).toNat = x.toNat / d.toNat := by
  have hxi := Affine.isInt_toNat x hx
  have hdi := Affine.isInt_toNat d hd
  have := Affine.divsi (e := (x.toNat : Int) / d.toNat) hxi hdi ⟨rfl, by omega, by omega⟩
  have h := Affine.toNat_of this (Int.ediv_nonneg (by omega) (by omega))
  have h2 : ((x.toNat / d.toNat : ℕ) : Int) = (x.toNat : Int) / d.toNat := by push_cast; rfl
  omega

/-- Floor division of two words below `2^31`. -/
theorem fdiv_toNat (x d : BitVec 32) (hx : x.toNat < 2147483648) (h0 : 0 < d.toNat) (hd : d.toNat < 2147483648) :
    (fdiv x d).toNat = x.toNat / d.toNat := by
  have hq := divsi_toNat x d hx h0 hd
  have hxi := Affine.isInt_toNat x hx
  have hdi := Affine.isInt_toNat d hd
  have hz : Affine.IsInt (0#32) 0 := Affine.isInt_lit 0
  rw [← hq]
  unfold fdiv
  by_cases hx0 : 0 < x.toNat
  · have e1 : Scalar.cmpi .sgt x 0#32 = 1#1 := by
      have := Affine.sgt_holds hxi hz (by omega); exact this
    have e2 : Scalar.cmpi .sgt d 0#32 = 1#1 := by
      have := Affine.sgt_holds hdi hz (by omega); exact this
    have e3 : Scalar.cmpi .slt x 0#32 = 0#1 := by
      have := Affine.slt_fails hxi hz (by omega)
      exact (BitVec.eq_zero_or_eq_one _).resolve_right this
    have e4 : Scalar.cmpi .slt d 0#32 = 0#1 := by
      have := Affine.slt_fails hdi hz (by omega)
      exact (BitVec.eq_zero_or_eq_one _).resolve_right this
    rw [e1, e2, e3, e4]
    have : ∀ b : BitVec 1, Scalar.andi (Scalar.cmpi .ne (Scalar.subi (Scalar.extui 1#1) (Scalar.extui 0#1))
        (Scalar.subi (Scalar.extui 1#1) (Scalar.extui 0#1))) b = 0#1 := by decide
    rw [this]; rfl
  · have hx1 : x = 0#32 := by apply BitVec.eq_of_toNat_eq; simp; omega
    have hr := Affine.remsi (e := 0) hxi hdi ⟨by rw [show x.toNat = 0 by omega]; simp, by omega, by omega⟩
    have hr0 : Scalar.cmpi .ne (Scalar.remsi x d) 0#32 = 0#1 :=
      (BitVec.eq_zero_or_eq_one _).resolve_right (Affine.ne_fails hr hz rfl)
    rw [hr0]
    have : ∀ b : BitVec 1, Scalar.andi b 0#1 = 0#1 := by decide
    rw [this]; rfl

/-- Floor division of a word that reads as at most zero, by 128: at most zero. -/
theorem fdiv_nonpos (x : BitVec 32) (hx : x.toInt ≤ 0) (hm : -2147483648 < x.toInt) : (fdiv x 128#32).toInt ≤ 0 := by
  have ht : x.toInt.tdiv 128 = -((-x.toInt) / 128) := by
    rw [← Int.tdiv_eq_ediv_of_nonneg (by omega), Int.neg_tdiv, neg_neg]
  have hq : (Scalar.divsi x 128#32).toInt = x.toInt.tdiv 128 := by
    unfold Scalar.divsi IntOp.divsi
    have hc : ¬ IntOp.SDivCorner x 128#32 := by
      rintro (h | h)
      · exact absurd h (by decide)
      · exact absurd h.2 (by decide)
    rw [if_neg hc]
    rw [BitVec.toInt_sdiv]
    have h128 : (128#32 : BitVec 32).toInt = 128 := by decide
    rw [h128]
    rw [Int.bmod_eq_of_le] <;> omega
  unfold fdiv Scalar.select
  split
  · have h1 : (1#32 : BitVec 32).toInt = 1 := by decide
    have := WordArith.toInt_sub_of_bounds (Scalar.divsi x 128#32) 1#32 (by omega) (by omega)
    have e : (Scalar.subi (Scalar.divsi x 128#32) 1#32) = Scalar.divsi x 128#32 - 1#32 := rfl
    rw [e]; omega
  · omega

/-! ## Loop bounds -/

/-- The main loop behind a run-time number of steps makes that number of trips. -/
theorem main_trips (x : BitVec 32) :
    Scf.trips 0#32 (Scalar.addi 0#32 (Scalar.muli (Scalar.divsi (Scalar.subi x 0#32) 1#32) 1#32)) 1#32 = x.toInt.toNat := by
  rw [Scalar.muli_divsi_one]
  have : Scalar.addi 0#32 (Scalar.subi x 0#32) = x := by
    show 0#32 + (x - 0#32) = x
    simp
  rw [this]
  have h1 : (1#32 : BitVec 32).toInt = 1 := by decide
  have h0 : (0#32 : BitVec 32).toInt = 0 := by decide
  unfold Scf.trips
  rw [h0, h1]; congr 1; omega

/-- and its bounds have a meaning. -/
theorem main_ok (x : BitVec 32) :
    Scf.OK 0#32 (Scalar.addi 0#32 (Scalar.muli (Scalar.divsi (Scalar.subi x 0#32) 1#32) 1#32)) 1#32 := by
  have h1 : (1#32 : BitVec 32).toInt = 1 := by decide
  have h0 : (0#32 : BitVec 32).toInt = 0 := by decide
  refine ⟨by rw [h1]; omega, ?_⟩
  rw [main_trips, h0, h1]
  have := Affine.word_range x
  omega

/-! ## Counting the experts that have rows -/

/-- How many of the first `n` groups have rows. -/
def cnt (gs : ℕ → ℕ) : ℕ → ℕ
  | 0 => 0
  | n + 1 => cnt gs n + if 0 < gs n then 1 else 0

/-- The first row of group `n`: the sizes of the groups before it, summed. -/
def start (gs : ℕ → ℕ) : ℕ → ℕ
  | 0 => 0
  | n + 1 => start gs n + gs n

theorem cnt_succ_le (gs : ℕ → ℕ) (n : ℕ) : cnt gs n ≤ cnt gs (n + 1) := by
  show _ ≤ _ + _; omega

theorem cnt_mono (gs : ℕ → ℕ) {m n : ℕ} (h : m ≤ n) : cnt gs m ≤ cnt gs n := by
  induction h with
  | refl => exact le_rfl
  | step _ ih => exact ih.trans (cnt_succ_le _ _)

theorem cnt_le (gs : ℕ → ℕ) (n : ℕ) : cnt gs n ≤ n := by
  induction n with
  | zero => exact le_rfl
  | succ n ih => show cnt gs n + _ ≤ _; split <;> omega

/-- A group with rows is counted before every later group. -/
theorem cnt_lt (gs : ℕ → ℕ) {m n : ℕ} (h : m < n) (hm : 0 < gs m) : cnt gs m < cnt gs n := by
  refine lt_of_lt_of_le ?_ (cnt_mono gs h)
  show cnt gs m < cnt gs m + _
  rw [if_pos hm]; omega

/-- Two groups with rows that are counted at one place are one group. -/
theorem cnt_inj (gs : ℕ → ℕ) {m n : ℕ} (hm : 0 < gs m) (hn : 0 < gs n) (h : cnt gs m = cnt gs n) : m = n := by
  rcases lt_trichotomy m n with h1 | h1 | h1
  · have := cnt_lt gs h1 hm; omega
  · exact h1
  · have := cnt_lt gs h1 hn; omega

theorem start_mono (gs : ℕ → ℕ) {m n : ℕ} (h : m ≤ n) : start gs m ≤ start gs n := by
  induction h with
  | refl => exact le_rfl
  | step _ ih => exact ih.trans (Nat.le_add_right _ _)

theorem start_le (gs : ℕ → ℕ) (B : ℕ) (h : ∀ i, gs i ≤ B) (n : ℕ) : start gs n ≤ n * B := by
  induction n with
  | zero => exact Nat.zero_le _
  | succ n ih => show start gs n + gs n ≤ _; have := h n; rw [Nat.succ_mul]; omega

/-- The eight group sizes as a sequence of naturals. -/
def sizes (v1 v7 v13 v19 v25 v31 v37 v43 : BitVec 32) : ℕ → ℕ
  | 0 => v1.toNat | 1 => v7.toNat | 2 => v13.toNat | 3 => v19.toNat
  | 4 => v25.toNat | 5 => v31.toNat | 6 => v37.toNat | 7 => v43.toNat | _ => 0

/-- No size is above `2^28 - 1`. -/
def InRange (v1 v7 v13 v19 v25 v31 v37 v43 : BitVec 32) : Prop :=
  ∀ i, sizes v1 v7 v13 v19 v25 v31 v37 v43 i ≤ 268435455

/-- The running count after one more group, as the kernel adds it up. -/
def cw (w v : BitVec 32) : BitVec 32 := Scalar.addi w (Scalar.extui (Scalar.cmpi .sgt v 0#32))

theorem cw_toNat (gs : ℕ → ℕ) (n : ℕ) (w v : BitVec 32) (hw : w.toNat = cnt gs n) (hn : n ≤ 8) (hv : v.toNat = gs n) (h : gs n ≤ 268435455) :
    (cw w v).toNat = cnt gs (n + 1) := by
  have h1 := sgt_toNat v (by omega)
  have h2 := cnt_le gs n
  unfold cw
  rw [addi_toNat _ _ (by rw [h1]; split <;> omega), h1, hw]
  show _ = cnt gs n + _
  rw [hv]

section Count
variable {v1 v7 v13 v19 v25 v31 v37 v43 : BitVec 32} (H : InRange v1 v7 v13 v19 v25 v31 v37 v43)

/-- The number of experts with rows, as the kernel adds it up. -/
def nact (v1 v7 v13 v19 v25 v31 v37 v43 : BitVec 32) : BitVec 32 := cw (cw (cw (cw (cw (cw (cw (cw 0#32 v1) v7) v13) v19) v25) v31) v37) v43

include H
theorem cw1 : (cw 0#32 v1).toNat = cnt (sizes v1 v7 v13 v19 v25 v31 v37 v43) 1 := cw_toNat _ 0 _ _ rfl (by omega) rfl (H 0)
theorem cw2 : (cw (cw 0#32 v1) v7).toNat = cnt (sizes v1 v7 v13 v19 v25 v31 v37 v43) 2 := cw_toNat _ 1 _ _ (cw1 H) (by omega) rfl (H 1)
theorem cw3 : (cw (cw (cw 0#32 v1) v7) v13).toNat = cnt (sizes v1 v7 v13 v19 v25 v31 v37 v43) 3 := cw_toNat _ 2 _ _ (cw2 H) (by omega) rfl (H 2)
theorem cw4 : (cw (cw (cw (cw 0#32 v1) v7) v13) v19).toNat = cnt (sizes v1 v7 v13 v19 v25 v31 v37 v43) 4 :=
  cw_toNat _ 3 _ _ (cw3 H) (by omega) rfl (H 3)
theorem cw5 : (cw (cw (cw (cw (cw 0#32 v1) v7) v13) v19) v25).toNat = cnt (sizes v1 v7 v13 v19 v25 v31 v37 v43) 5 :=
  cw_toNat _ 4 _ _ (cw4 H) (by omega) rfl (H 4)
theorem cw6 : (cw (cw (cw (cw (cw (cw 0#32 v1) v7) v13) v19) v25) v31).toNat = cnt (sizes v1 v7 v13 v19 v25 v31 v37 v43) 6 :=
  cw_toNat _ 5 _ _ (cw5 H) (by omega) rfl (H 5)
theorem cw7 : (cw (cw (cw (cw (cw (cw (cw 0#32 v1) v7) v13) v19) v25) v31) v37).toNat = cnt (sizes v1 v7 v13 v19 v25 v31 v37 v43) 7 :=
  cw_toNat _ 6 _ _ (cw6 H) (by omega) rfl (H 6)
/-- The kernel's count is the number of groups with rows, -/
theorem nact_toNat : (nact v1 v7 v13 v19 v25 v31 v37 v43).toNat = cnt (sizes v1 v7 v13 v19 v25 v31 v37 v43) 8 :=
  cw_toNat _ 7 _ _ (cw7 H) (by omega) rfl (H 7)
/-- and at most eight. -/
theorem nact_le : (nact v1 v7 v13 v19 v25 v31 v37 v43).toNat ≤ 8 := by rw [nact_toNat H]; exact cnt_le _ _

end Count

/-! ## The window of rows an expert touches -/

/-- The words an expert's row window is computed from: the first row `s` of its group, and its size `g`. -/
def endW (s g : BitVec 32) : BitVec 32 := Scalar.minsi (Scalar.addi s g) 256#32
/-- The first row rounded down to a multiple of 32. -/
def baseW (s : BitVec 32) : BitVec 32 := Scalar.muli (fdiv s 32#32) 32#32
/-- The number of windows of 128 rows from there to the end of the group. -/
def nwinW (s g : BitVec 32) : BitVec 32 :=
  fdiv (Scalar.subi (Scalar.addi (Scalar.subi (endW s g) (baseW s)) 128#32) 1#32) 128#32
/-- The first row of window `k`. -/
def rowW (s : BitVec 32) (k : ℕ) : BitVec 32 :=
  Scalar.minsi (Scalar.addi (baseW s) (Scalar.muli (Scf.iv 0#32 1#32 k) 128#32)) 128#32

section Window
variable {s g : BitVec 32} (hs : s.toNat ≤ 1879048185) (hg : g.toNat ≤ 268435455)

include hs in
theorem baseW_toNat : (baseW s).toNat = s.toNat / 32 * 32 := by
  have h := fdiv_toNat s 32#32 (by omega) (by decide) (by decide)
  have e : (32#32 : BitVec 32).toNat = 32 := rfl
  rw [e] at h
  unfold baseW
  rw [muli_toNat _ _ (by rw [h, e]; omega), h, e]

include hs hg
theorem endW_toNat : (endW s g).toNat = min (s.toNat + g.toNat) 256 := by
  unfold endW
  have h := addi_toNat s g (by omega)
  rw [minsi_toNat _ _ (by omega) (by decide), h]; rfl

/-- The number of windows, as a natural number: none where the group starts past the last row. -/
theorem nwinW_toInt : (nwinW s g).toInt.toNat = (min (s.toNat + g.toNat) 256 + 127 - s.toNat / 32 * 32) / 128 := by
  have hb := baseW_toNat hs
  have he := endW_toNat hs hg
  have hbi := toInt_of (baseW s) (by omega)
  have hei := toInt_of (endW s g) (by omega)
  have h1 : (Scalar.subi (endW s g) (baseW s)).toInt = (endW s g).toInt - (baseW s).toInt :=
    WordArith.toInt_sub_of_bounds _ _ (by omega) (by omega)
  have e128 : (128#32 : BitVec 32).toInt = 128 := by decide
  have e1 : (1#32 : BitVec 32).toInt = 1 := by decide
  have h2 : (Scalar.addi (Scalar.subi (endW s g) (baseW s)) 128#32).toInt = (endW s g).toInt - (baseW s).toInt + 128 := by
    have := WordArith.toInt_add_of_bounds (Scalar.subi (endW s g) (baseW s)) 128#32 (by omega) (by omega)
    exact this.trans (by omega)
  have h3 : (Scalar.subi (Scalar.addi (Scalar.subi (endW s g) (baseW s)) 128#32) 1#32).toInt = (endW s g).toInt - (baseW s).toInt + 127 := by
    have := WordArith.toInt_sub_of_bounds (Scalar.addi (Scalar.subi (endW s g) (baseW s)) 128#32) 1#32 (by omega) (by omega)
    exact this.trans (by omega)
  unfold nwinW
  generalize Scalar.subi (Scalar.addi (Scalar.subi (endW s g) (baseW s)) 128#32) 1#32 = X at h3
  by_cases hX : X.toInt ≤ 0
  · have := fdiv_nonpos X hX (by omega)
    omega
  · have hXn : (X.toNat : Int) = X.toInt := by
      rw [BitVec.toInt_eq_toNat_cond] at hX ⊢; split at hX <;> split <;> omega
    have := fdiv_toNat X 128#32 (by omega) (by decide) (by decide)
    have e : (128#32 : BitVec 32).toNat = 128 := rfl
    rw [e] at this
    have h5 := toInt_of (fdiv X 128#32) (by omega)
    omega

/-- The first row of window `k`: it is a multiple of 32, at most 128. -/
theorem rowW_toNat (k : ℕ) (hk : k < (nwinW s g).toInt.toNat) : (rowW s k).toNat = min (s.toNat / 32 * 32 + k * 128) 128 := by
  rw [nwinW_toInt hs hg] at hk
  have hb := baseW_toNat hs
  have hiv := iv_toNat k (by omega)
  have e : (128#32 : BitVec 32).toNat = 128 := rfl
  unfold rowW
  have hm := muli_toNat (Scf.iv 0#32 1#32 k) 128#32 (by rw [hiv, e]; omega)
  rw [hiv, e] at hm
  have ha := addi_toNat (baseW s) (Scalar.muli (Scf.iv 0#32 1#32 k) 128#32) (by omega)
  rw [minsi_toNat _ _ (by omega) (by decide), ha, hm, hb, e]

end Window

/-! ## Chunks -/

/-- Chunk `11 a + j`: slab `j` of the `a`-th expert with rows. -/
def chunkW (a j : ℕ) : BitVec 32 := Scalar.addi (Scalar.muli (Scf.iv 0#32 1#32 a) 11#32) (Scf.iv 0#32 1#32 j)

theorem chunkW_toNat (a j : ℕ) (ha : a < 8) (hj : j < 11) : (chunkW a j).toNat = a * 11 + j := by
  have h1 := iv_toNat a (by omega)
  have h2 := iv_toNat j (by omega)
  have e : (11#32 : BitVec 32).toNat = 11 := rfl
  have h3 := muli_toNat (Scf.iv 0#32 1#32 a) 11#32 (by rw [h1, e]; omega)
  rw [h1, e] at h3
  unfold chunkW
  rw [addi_toNat _ _ (by omega), h3, h2]

/-- The column of the first lane of chunk `c`'s slab, as the kernel computes it. -/
def colW (c : BitVec 32) : BitVec 32 := Scalar.muli (Scalar.subi c (Scalar.muli (fdiv c 11#32) 11#32)) 256#32

theorem fdiv11 (c : BitVec 32) (hc : c.toNat < 100) : (fdiv c 11#32).toNat = c.toNat / 11 :=
  fdiv_toNat c 11#32 (by omega) (by decide) (by decide)

theorem colW_toNat (c : BitVec 32) (hc : c.toNat < 100) : (colW c).toNat = c.toNat % 11 * 256 := by
  have h := fdiv11 c hc
  have e : (11#32 : BitVec 32).toNat = 11 := rfl
  have e2 : (256#32 : BitVec 32).toNat = 256 := rfl
  have h1 := muli_toNat (fdiv c 11#32) 11#32 (by rw [h, e]; omega)
  rw [h, e] at h1
  have h2 := subi_toNat c (Scalar.muli (fdiv c 11#32) 11#32) (by omega)
  unfold colW
  rw [muli_toNat _ _ (by rw [e2]; omega), h2, e2, h1]
  omega

end Cert.Moe

end
-- ==== Proof.Kernel.Checks.lean ====
/- The side conditions the kernel's body assumes, from the range of the group sizes. -/
module

public import proofs.«01_k».proof.Kernel
public import proofs.«01_k».proof.Proof.Moe.Words

@[expose] public section

set_option maxRecDepth 16384

namespace Cert.Kernel.Moe

open Idealize.ShloMosaic Cert.Moe

variable {v1 v7 v13 v19 v25 v31 v37 v43 : BitVec 32} (H : InRange v1 v7 v13 v19 v25 v31 v37 v43)

local notation "gs" => sizes v1 v7 v13 v19 v25 v31 v37 v43

/-! ## Offsets as numbers -/

/-- A one-axis offset in bounds. -/
theorem inb1 {f : Fin 1 → ℕ} {n b : ℕ} (hf : f 0 = n) (h : n + 1 ≤ b) : ∀ a : Fin 1, f a + S1.size a ≤ (⟨1, ![b]⟩ : Shape).size a := by
  intro a; fin_cases a; show f 0 + 1 ≤ b; omega

include H
theorem off1_eq : k0_off1 v1 0 = cnt gs 1 := cw1 H
theorem off2_eq : k0_off2 v1 v7 0 = cnt gs 2 := cw2 H
theorem off3_eq : k0_off3 v1 v7 v13 0 = cnt gs 3 := cw3 H
theorem off4_eq : k0_off4 v1 v7 v13 v19 0 = cnt gs 4 := cw4 H
theorem off5_eq : k0_off5 v1 v7 v13 v19 v25 0 = cnt gs 5 := cw5 H
theorem off6_eq : k0_off6 v1 v7 v13 v19 v25 v31 0 = cnt gs 6 := cw6 H
theorem off7_eq : k0_off7 v1 v7 v13 v19 v25 v31 v37 0 = cnt gs 7 := cw7 H

theorem chk1 : k0_chk1 v1 := inb1 (off1_eq H) (by have := cnt_le gs 1; omega)
theorem chk2 : k0_chk2 v1 v7 := inb1 (off2_eq H) (by have := cnt_le gs 2; omega)
theorem chk3 : k0_chk3 v1 v7 v13 := inb1 (off3_eq H) (by have := cnt_le gs 3; omega)
theorem chk4 : k0_chk4 v1 v7 v13 v19 := inb1 (off4_eq H) (by have := cnt_le gs 4; omega)
theorem chk5 : k0_chk5 v1 v7 v13 v19 v25 := inb1 (off5_eq H) (by have := cnt_le gs 5; omega)
theorem chk6 : k0_chk6 v1 v7 v13 v19 v25 v31 := inb1 (off6_eq H) (by have := cnt_le gs 6; omega)
theorem chk7 : k0_chk7 v1 v7 v13 v19 v25 v31 v37 := inb1 (off7_eq H) (by have := cnt_le gs 7; omega)

/-- The number of chunks, as the kernel computes it. -/
theorem nchunk_toNat : (Scalar.muli (nact v1 v7 v13 v19 v25 v31 v37 v43) 11#32).toNat = cnt gs 8 * 11 := by
  have h := nact_toNat H
  have h2 := nact_le H
  have e : (11#32 : BitVec 32).toNat = 11 := rfl
  rw [muli_toNat _ _ (by rw [e]; omega), h, e]

/-- The expert loop runs once for each group with rows. -/
theorem t1_trips : (k0_t1_loop v1 v7 v13 v19 v25 v31 v37 v43).trips = cnt gs 8 := by
  have h := nact_toNat H
  have h2 := nact_le H
  refine (main_trips (nact v1 v7 v13 v19 v25 v31 v37 v43)).trans ?_
  rw [toInt_of _ (by omega)]; omega

omit H in
theorem t1_ok : (k0_t1_loop v1 v7 v13 v19 v25 v31 v37 v43).OK := main_ok (nact v1 v7 v13 v19 v25 v31 v37 v43)

omit H in
theorem t7_ok : (k0_t7_loop v1 v7 v13 v19 v25 v31 v37 v43).OK := Scf.rem_ok 0#32 (Scalar.subi (nact v1 v7 v13 v19 v25 v31 v37 v43) 0#32)

omit H in
theorem t7_none (k : Fin (k0_t7_loop v1 v7 v13 v19 v25 v31 v37 v43).trips) : False :=
  Scf.rem_no_trip 0#32 (Scalar.subi (nact v1 v7 v13 v19 v25 v31 v37 v43) 0#32) k

theorem t1_lt (t : Fin (k0_t1_loop v1 v7 v13 v19 v25 v31 v37 v43).trips) : t.val < cnt gs 8 := by
  exact lt_of_lt_of_eq t.isLt (t1_trips H)

theorem t1_lt8 (t : Fin (k0_t1_loop v1 v7 v13 v19 v25 v31 v37 v43).trips) : t.val < 8 := by
  have := t1_lt H t; have := cnt_le gs 8; omega

omit H in
theorem t4_lt (t : Fin k0_t4_loop.trips) : t.val < 11 := lt_of_lt_of_le t.isLt (by decide)

section Chunk
variable (t1 : Fin (k0_t1_loop v1 v7 v13 v19 v25 v31 v37 v43).trips) (t4 : Fin k0_t4_loop.trips)

omit H in
theorem off24_eq (h8 : t1.val < 8) : k0_off24 v1 v7 v13 v19 v25 v31 v37 v43 t1 0 = t1.val := iv_toNat t1.val (by omega)

/-- The chunk waited for in slab `t4` of expert `t1`, -/
theorem chunk_toNat : (chunkW t1.val t4.val).toNat = t1.val * 11 + t4.val := chunkW_toNat _ _ (t1_lt8 H t1) (t4_lt t4)

/-- and the one eight chunks on, which is started there. -/
theorem next_toNat : (Scalar.addi (chunkW t1.val t4.val) 8#32).toNat = t1.val * 11 + t4.val + 8 := by
  have h := chunk_toNat H t1 t4
  have := t1_lt8 H t1
  have := t4_lt t4
  have e : (8#32 : BitVec 32).toNat = 8 := rfl
  rw [addi_toNat _ _ (by rw [e]; omega), h, e]

theorem cond9_iff : k0_cond9 v1 v7 v13 v19 v25 v31 v37 v43 t1 t4 = 1#1 ↔ t1.val * 11 + t4.val + 8 < cnt gs 8 * 11 := by
  have h := next_toNat H t1 t4
  have h2 := nchunk_toNat H
  have := t1_lt8 H t1
  have := t4_lt t4
  have := cnt_le gs 8
  have := slt_cond (Scalar.addi (chunkW t1.val t4.val) 8#32) (Scalar.muli (nact v1 v7 v13 v19 v25 v31 v37 v43) 11#32) (by omega) (by omega)
  rw [h, h2] at this
  exact this

theorem next_lt100 : (Scalar.addi (chunkW t1.val t4.val) 8#32).toNat < 100 := by
  have h := next_toNat H t1 t4
  have := t1_lt8 H t1
  have := t4_lt t4
  omega

theorem chunk_lt100 : (chunkW t1.val t4.val).toNat < 100 := by
  have h := chunk_toNat H t1 t4
  have := t1_lt8 H t1
  have := t4_lt t4
  omega

theorem off28_eq : k0_off28 v1 v7 v13 v19 v25 v31 v37 v43 t1 t4 0 = (t1.val * 11 + t4.val + 8) / 11 := by
  have h := fdiv11 _ (next_lt100 H t1 t4)
  rw [next_toNat H t1 t4] at h
  exact h

theorem off29_eq : k0_off29 v1 v7 v13 v19 v25 v31 v37 v43 t1 t4 0 = t1.val * 11 + t4.val + 8 := next_toNat H t1 t4

theorem off30_eq : k0_off30 v1 v7 v13 v19 v25 v31 v37 v43 t1 t4 = ![t1.val * 11 + t4.val + 8, 0, 0] := by
  show ![(Scalar.addi (chunkW t1.val t4.val) 8#32).toNat, 0, 0] = _
  rw [next_toNat H t1 t4]

theorem off31_eq (v : BitVec 32) : k0_off31 v1 v7 v13 v19 v25 v31 v37 v43 t1 t4 v = ![v.toNat, 0, (t1.val * 11 + t4.val + 8) % 11 * 256] := by
  have h := colW_toNat _ (next_lt100 H t1 t4)
  rw [next_toNat H t1 t4] at h
  rw [← h]; rfl

theorem mult9_eq : (k0_mult9 v1 v7 v13 v19 v25 v31 v37 v43 t1 t4).toNat = (t1.val * 11 + t4.val + 8) % 11 * 256 := by
  have h := colW_toNat _ (next_lt100 H t1 t4)
  rw [next_toNat H t1 t4] at h
  exact h

theorem off32_eq : k0_off32 v1 v7 v13 v19 v25 v31 v37 v43 t1 t4 0 = t1.val := by
  have h := fdiv11 _ (chunk_lt100 H t1 t4)
  rw [chunk_toNat H t1 t4] at h
  have := t4_lt t4
  exact h.trans (by omega)

theorem off33_eq : k0_off33 v1 v7 v13 v19 v25 v31 v37 v43 t1 t4 0 = t1.val * 11 + t4.val := chunk_toNat H t1 t4

theorem off34_eq : k0_off34 v1 v7 v13 v19 v25 v31 v37 v43 t1 t4 = ![t1.val * 11 + t4.val, 0, 0] := by
  show ![(chunkW t1.val t4.val).toNat, 0, 0] = _
  rw [chunk_toNat H t1 t4]

theorem off38_eq : k0_off38 v1 v7 v13 v19 v25 v31 v37 v43 t1 t4 = ![t1.val * 11 + t4.val, 0, 0] := by
  show ![(chunkW t1.val t4.val).toNat, 0, 0] = _
  rw [chunk_toNat H t1 t4]

theorem off35_eq (v : BitVec 32) : k0_off35 v1 v7 v13 v19 v25 v31 v37 v43 t1 t4 v = ![v.toNat, 0, t4.val * 256] := by
  have h := colW_toNat _ (chunk_lt100 H t1 t4)
  rw [chunk_toNat H t1 t4] at h
  have := t4_lt t4
  rw [show t4.val * 256 = (t1.val * 11 + t4.val) % 11 * 256 by omega, ← h]; rfl

theorem mult10_eq : (k0_mult10 v1 v7 v13 v19 v25 v31 v37 v43 t1 t4).toNat = (t1.val * 11 + t4.val) % 11 * 256 := by
  have h := colW_toNat _ (chunk_lt100 H t1 t4)
  rw [chunk_toNat H t1 t4] at h
  exact h

end Chunk

omit H in
/-- A slab of the weights in bounds. -/
theorem inbW {f : Fin 3 → ℕ} {e c : ℕ} (hf : f = ![e, 0, c]) (he : e < 8) (hc : c + 256 ≤ 2816) :
    ∀ a, f a + S1x2048x256.size a ≤ S8x2048x2816.size a := by
  subst hf; intro a; fin_cases a
  · show e + 1 ≤ 8; omega
  · show 0 + 2048 ≤ 2048; omega
  · show c + 256 ≤ 2816; omega

omit H in
/-- A slot of the weight ring in bounds. -/
theorem inbR {f : Fin 3 → ℕ} {e : ℕ} (hf : f = ![e, 0, 0]) (he : e < 88) :
    ∀ a, f a + S1x2048x256.size a ≤ S88x2048x256.size a := by
  subst hf; intro a; fin_cases a
  · show e + 1 ≤ 88; omega
  · show 0 + 2048 ≤ 2048; omega
  · show 0 + 256 ≤ 256; omega

/-- The chunk side conditions that hold for all group sizes in range. -/
theorem chk16 : k0_chk16 v1 v7 v13 v19 v25 v31 v37 v43 := by
  have h8 := cnt_le gs 8
  refine ⟨t1_ok, fun t1 => inb1 (off24_eq t1 (t1_lt8 H t1)) (t1_lt8 H t1), ?_, ?_, ?_, ?_, ?_, ?_, ?_, ?_, ?_, ?_, t7_ok,
    fun t => (t7_none t).elim, fun t => (t7_none t).elim, fun t => (t7_none t).elim, fun t => (t7_none t).elim, fun t => (t7_none t).elim,
    fun t => (t7_none t).elim, fun t => (t7_none t).elim, fun t => (t7_none t).elim, fun t => (t7_none t).elim, fun t => (t7_none t).elim,
    fun t => (t7_none t).elim⟩
  · intro t1 t4 h9
    have := (cond9_iff H t1 t4).mp h9
    exact inb1 (off28_eq H t1 t4) (by omega)
  · intro t1 t4 _
    rw [mult9_eq H t1 t4]; exact Nat.dvd_mul_left _ _
  · intro t1 t4 h9
    have := (cond9_iff H t1 t4).mp h9
    exact inb1 (off29_eq H t1 t4) (by omega)
  · intro t1 t4 h9
    have := (cond9_iff H t1 t4).mp h9
    exact inbR (off30_eq H t1 t4) (by omega)
  · intro t1 t4 h9 hinb
    exact Affine.words_rows (by decide) (by rw [off30_eq H t1 t4]; rfl) rfl
  · intro t1 t4
    exact inb1 (off32_eq H t1 t4) (t1_lt8 H t1)
  · intro t1 t4
    rw [mult10_eq H t1 t4]; exact Nat.dvd_mul_left _ _
  · intro t1 t4
    have := t1_lt8 H t1; have := t4_lt t4
    exact inb1 (off33_eq H t1 t4) (by omega)
  · intro t1 t4
    have := t1_lt8 H t1; have := t4_lt t4
    exact inbR (off34_eq H t1 t4) (by omega)
  · intro t1 t4 hinb
    exact Affine.words_rows (by decide) (by rw [off34_eq H t1 t4]; rfl) rfl

/-- The copy started in a slab stays inside the weights, if the word read is an expert. -/
theorem chk18 (t1 : Fin (k0_t1_loop v1 v7 v13 v19 v25 v31 v37 v43).trips) (t4 : Fin k0_t4_loop.trips) (v : BitVec 32) (hv : v.toNat < 8) :
    k0_chk18 v1 v7 v13 v19 v25 v31 v37 v43 t1 t4 v :=
  ⟨fun _ => inbW (off31_eq H t1 t4 v) hv (by omega),
    fun _ _ => Affine.words_rows (by decide) (by rw [off31_eq H t1 t4 v]; rfl) rfl⟩

/-- The copy waited for in a slab, likewise. -/
theorem chk19 (t1 : Fin (k0_t1_loop v1 v7 v13 v19 v25 v31 v37 v43).trips) (t4 : Fin k0_t4_loop.trips) (v : BitVec 32) (hv : v.toNat < 8) :
    k0_chk19 v1 v7 v13 v19 v25 v31 v37 v43 t1 t4 v :=
  ⟨inbW (off35_eq H t1 t4 v) hv (by have := t4_lt t4; omega),
    fun _ => Affine.words_rows (by decide) (by rw [off35_eq H t1 t4 v]; rfl) rfl⟩

/-! ## The expert's word -/

omit H in
/-- The prefix sum runs over the groups before the expert. -/
theorem t2_trips (v : BitVec 32) (hv : v.toNat < 8) : (k0_t2_loop v).trips = v.toNat := by
  refine (main_trips v).trans ?_
  rw [toInt_of _ (by omega)]; omega

omit H in
theorem off36_eq (v : BitVec 32) (t4 : Fin k0_t4_loop.trips) : k0_off36 v t4 = ![v.toNat, t4.val * 256] := by
  have := t4_lt t4
  have hiv := iv_toNat t4.val (by omega)
  have e : (256#32 : BitVec 32).toNat = 256 := rfl
  have := muli_toNat (Scf.iv 0#32 1#32 t4.val) 256#32 (by rw [hiv, e]; omega)
  rw [hiv, e] at this
  rw [← this]; rfl

omit H in
/-- What the body assumes of the expert it reads. -/
theorem chk17 (v : BitVec 32) (hv : v.toNat < 8) : k0_chk17 v := by
  refine ⟨main_ok v, fun t => ?_, Scf.rem_ok 0#32 (Scalar.subi v 0#32), fun t => (Scf.rem_no_trip 0#32 (Scalar.subi v 0#32) t).elim, ?_, fun t4 => ?_⟩
  · have := lt_of_lt_of_eq t.isLt (t2_trips v hv)
    exact inb1 (f := k0_off25 v t) (iv_toNat t.val (by omega)) (by omega)
  · exact inb1 (f := k0_off27 v) (n := v.toNat) rfl (by omega)
  · have := t4_lt t4
    rw [off36_eq]
    intro a; fin_cases a
    · show v.toNat + 1 ≤ 8; omega
    · show t4.val * 256 + 256 ≤ 2816; omega

/-! ## The row windows -/

section Rows
variable {s g : BitVec 32} (hs : s.toNat ≤ 1879048185) (hg : g.toNat ≤ 268435455)
include hs hg
omit H

theorem t5_trips : (k0_t5_loop s g).trips = (min (s.toNat + g.toNat) 256 + 127 - s.toNat / 32 * 32) / 128 :=
  (main_trips (nwinW s g)).trans (nwinW_toInt hs hg)

theorem row_eq (t : Fin (k0_t5_loop s g).trips) : (rowW s t.val).toNat = min (s.toNat / 32 * 32 + t.val * 128) 128 := by
  refine rowW_toNat hs hg t.val ?_
  exact lt_of_lt_of_eq t.isLt ((t5_trips hs hg).trans (nwinW_toInt hs hg).symm)

theorem off37_eq (t : Fin (k0_t5_loop s g).trips) : k0_off37 s g t = ![min (s.toNat / 32 * 32 + t.val * 128) 128, 0] := by
  rw [← row_eq hs hg t]; rfl

theorem off39_eq (t : Fin (k0_t5_loop s g).trips) : k0_off39 s g t = ![min (s.toNat / 32 * 32 + t.val * 128) 128, 0] := by
  rw [← row_eq hs hg t]; rfl

theorem off40_eq (t4 : Fin k0_t4_loop.trips) (t : Fin (k0_t5_loop s g).trips) :
    k0_off40 s g t4 t = ![min (s.toNat / 32 * 32 + t.val * 128) 128, t4.val * 256] := by
  have := t4_lt t4
  have hiv := iv_toNat t4.val (by omega)
  have e : (256#32 : BitVec 32).toNat = 256 := rfl
  have := muli_toNat (Scf.iv 0#32 1#32 t4.val) 256#32 (by rw [hiv, e]; omega)
  rw [hiv, e] at this
  rw [← row_eq hs hg t, ← this]; rfl

/-- What the body assumes of an expert's row windows. -/
theorem chk20 (H : InRange v1 v7 v13 v19 v25 v31 v37 v43) (t1 : Fin (k0_t1_loop v1 v7 v13 v19 v25 v31 v37 v43).trips) :
    k0_chk20 v1 v7 v13 v19 v25 v31 v37 v43 t1 s g := by
  have no6 : ∀ t : Fin (k0_t6_loop s g).trips, False := fun t => Scf.rem_no_trip 0#32 (Scalar.subi (nwinW s g) 0#32) t
  refine ⟨main_ok (nwinW s g), fun t => ?_, fun t => ?_, fun t4 t => ?_, fun t => ?_, fun t4 t => ?_, fun t4 t hinb => ?_,
    Scf.rem_ok 0#32 (Scalar.subi (nwinW s g) 0#32), fun t => (no6 t).elim, fun t => (no6 t).elim, fun _ t => (no6 t).elim,
    fun t => (no6 t).elim, fun _ t => (no6 t).elim, fun _ t => (no6 t).elim⟩
  · have h := row_eq hs hg t
    have : (k0_mult12 s g t).toNat = (rowW s t.val).toNat := rfl
    rw [this, h]; omega
  · rw [off37_eq hs hg t]; intro a; fin_cases a
    · show min (s.toNat / 32 * 32 + t.val * 128) 128 + 128 ≤ 256; omega
    · show 0 + 2048 ≤ 2048; omega
  · have := t1_lt8 H t1; have := t4_lt t4
    exact inbR (off38_eq H t1 t4) (by omega)
  · rw [off39_eq hs hg t]; intro a; fin_cases a
    · show min (s.toNat / 32 * 32 + t.val * 128) 128 + 128 ≤ 256; omega
    · show 0 + 128 ≤ 128; omega
  · have := t4_lt t4
    rw [off40_eq hs hg t4 t]; intro a; fin_cases a
    · show min (s.toNat / 32 * 32 + t.val * 128) 128 + 128 ≤ 256; omega
    · show t4.val * 256 + 256 ≤ 2816; omega
  · refine Affine.packed_dvd (by decide) ?_ (by decide)
    rw [off40_eq hs hg t4 t]
    show EltTy.packing .bf16 ∣ min (s.toNat / 32 * 32 + t.val * 128) 128
    show 2 ∣ min (s.toNat / 32 * 32 + t.val * 128) 128
    omega

end Rows

/-! ## The copies started before the loops -/

/-- There is a first chunk exactly where some group has rows. -/
theorem cond_iff (c : BitVec 32) (k : ℕ) (hc : c.toNat = k) (hk : k < 8) :
    (Scalar.cmpi .ne (Scalar.extui (Scalar.cmpi .slt c (Scalar.muli (nact v1 v7 v13 v19 v25 v31 v37 v43) 11#32))) 0#32 = 1#1) ↔ 0 < cnt gs 8 := by
  have h2 := nchunk_toNat H
  have := cnt_le gs 8
  rw [slt_cond _ _ (by omega) (by omega), h2, hc]
  omega

theorem cond1_iff : k0_cond1 v1 v7 v13 v19 v25 v31 v37 v43 = 1#1 ↔ 0 < cnt gs 8 := cond_iff H 0#32 0 rfl (by omega)
theorem cond2_iff : k0_cond2 v1 v7 v13 v19 v25 v31 v37 v43 = 1#1 ↔ 0 < cnt gs 8 := cond_iff H 1#32 1 rfl (by omega)
theorem cond3_iff : k0_cond3 v1 v7 v13 v19 v25 v31 v37 v43 = 1#1 ↔ 0 < cnt gs 8 := cond_iff H 2#32 2 rfl (by omega)
theorem cond4_iff : k0_cond4 v1 v7 v13 v19 v25 v31 v37 v43 = 1#1 ↔ 0 < cnt gs 8 := cond_iff H 3#32 3 rfl (by omega)
theorem cond5_iff : k0_cond5 v1 v7 v13 v19 v25 v31 v37 v43 = 1#1 ↔ 0 < cnt gs 8 := cond_iff H 4#32 4 rfl (by omega)
theorem cond6_iff : k0_cond6 v1 v7 v13 v19 v25 v31 v37 v43 = 1#1 ↔ 0 < cnt gs 8 := cond_iff H 5#32 5 rfl (by omega)
theorem cond7_iff : k0_cond7 v1 v7 v13 v19 v25 v31 v37 v43 = 1#1 ↔ 0 < cnt gs 8 := cond_iff H 6#32 6 rfl (by omega)
theorem cond8_iff : k0_cond8 v1 v7 v13 v19 v25 v31 v37 v43 = 1#1 ↔ 0 < cnt gs 8 := cond_iff H 7#32 7 rfl (by omega)

section First
omit H
variable (v : BitVec 32) (hv : v.toNat < 8)
theorem off9_eq : k0_off9 v = ![v.toNat, 0, 0] := rfl
theorem off11_eq : k0_off11 v = ![v.toNat, 0, 256] := rfl
theorem off13_eq : k0_off13 v = ![v.toNat, 0, 512] := rfl
theorem off15_eq : k0_off15 v = ![v.toNat, 0, 768] := rfl
theorem off17_eq : k0_off17 v = ![v.toNat, 0, 1024] := rfl
theorem off19_eq : k0_off19 v = ![v.toNat, 0, 1280] := rfl
theorem off21_eq : k0_off21 v = ![v.toNat, 0, 1536] := rfl
theorem off23_eq : k0_off23 v = ![v.toNat, 0, 1792] := rfl
include hv
theorem chk8 : k0_chk8 v1 v7 v13 v19 v25 v31 v37 v43 v :=
  ⟨fun _ => inbW (off9_eq v) hv (by omega), fun _ _ => Affine.words_rows (by decide) (by rw [off9_eq]; rfl) rfl⟩
theorem chk9 : k0_chk9 v1 v7 v13 v19 v25 v31 v37 v43 v :=
  ⟨fun _ => inbW (off11_eq v) hv (by omega), fun _ _ => Affine.words_rows (by decide) (by rw [off11_eq]; rfl) rfl⟩
theorem chk10 : k0_chk10 v1 v7 v13 v19 v25 v31 v37 v43 v :=
  ⟨fun _ => inbW (off13_eq v) hv (by omega), fun _ _ => Affine.words_rows (by decide) (by rw [off13_eq]; rfl) rfl⟩
theorem chk11 : k0_chk11 v1 v7 v13 v19 v25 v31 v37 v43 v :=
  ⟨fun _ => inbW (off15_eq v) hv (by omega), fun _ _ => Affine.words_rows (by decide) (by rw [off15_eq]; rfl) rfl⟩
theorem chk12 : k0_chk12 v1 v7 v13 v19 v25 v31 v37 v43 v :=
  ⟨fun _ => inbW (off17_eq v) hv (by omega), fun _ _ => Affine.words_rows (by decide) (by rw [off17_eq]; rfl) rfl⟩
theorem chk13 : k0_chk13 v1 v7 v13 v19 v25 v31 v37 v43 v :=
  ⟨fun _ => inbW (off19_eq v) hv (by omega), fun _ _ => Affine.words_rows (by decide) (by rw [off19_eq]; rfl) rfl⟩
theorem chk14 : k0_chk14 v1 v7 v13 v19 v25 v31 v37 v43 v :=
  ⟨fun _ => inbW (off21_eq v) hv (by omega), fun _ _ => Affine.words_rows (by decide) (by rw [off21_eq]; rfl) rfl⟩
theorem chk15 : k0_chk15 v1 v7 v13 v19 v25 v31 v37 v43 v :=
  ⟨fun _ => inbW (off23_eq v) hv (by omega), fun _ _ => Affine.words_rows (by decide) (by rw [off23_eq]; rfl) rfl⟩
end First

end Cert.Kernel.Moe

end
-- ==== Proof.Kernel.Base.lean ====
/- The weight ring: its slots, their cells and the tokens of the weights, each in one of three states. -/
module

public import proofs.«01_k».proof.Proof.Kernel.Checks
public import proofs.«01_k».proof.Proof.Gen.Kernel.Skeleton
public import proofs.«01_k».proof.Proof.Gen.Kernel.Loops
public import proofs.«01_k».proof.Proof.Gen.Kernel.Points
public import Idealize.ShloMosaic.Lib.Pipeline.Routed
public import Idealize.ShloMosaic.Lib.LoopRemainder
public import Idealize.ShloMosaic.Lib.Ring
public import Idealize.ShloMosaic.Lib.Tactic
public import Idealize.ShloMosaic.Lib.Transfers

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

/-! ## The kernel's operands -/

abbrev mX : Memref sig .tc .hbm S256x2048 .fp8e4m3 := Memref.whole main_arg0
abbrev mXs : Memref sig .tc .hbm S2x128 .f32 := Memref.whole main_v0
abbrev mW : Memref sig .tc .hbm S8x2048x2816 .fp8e4m3 := Memref.whole main_arg3
abbrev mWs : Memref sig .tc .hbm S8x2816 .f32 := Memref.whole main_arg4
abbrev mO : Memref sig .tc .hbm S256x2816 .bf16 := Memref.whole main_v1
abbrev vX : Memref sig .tc .vmem S256x2048 .fp8e4m3 := Memref.whole cc0_scratch0
abbrev vXs : Memref sig .tc .vmem S2x128 .f32 := Memref.whole cc0_scratch1
abbrev vWs : Memref sig .tc .vmem S8x2816 .f32 := Memref.whole cc0_scratch2
abbrev vW : Memref sig .tc .vmem S88x2048x256 .fp8e4m3 := Memref.whole cc0_scratch3
abbrev vO : Memref sig .tc .vmem S256x2816 .bf16 := Memref.whole cc0_scratch4
abbrev vB : Memref sig .tc .vmem S256x128 .f32 := Memref.whole cc0_scratch5
abbrev sA : Memref sig .tc .smem S8 .i32 := Memref.whole cc0_scratch6

/-! ## Slots, cells and slabs -/

/-- A slot inside the ring buffer, -/
abbrev InSlot (o : Fin 3 → ℕ) : Prop := ∀ a, o a + S1x2048x256.size a ≤ S88x2048x256.size a
/-- a slab inside the weights, -/
abbrev InSlab (o : Fin 3 → ℕ) : Prop := ∀ a, o a + S1x2048x256.size a ≤ S8x2048x2816.size a
/-- a cell inside the semaphore array. -/
abbrev InCell (o : Fin 1 → ℕ) : Prop := ∀ a, o a + S1.size a ≤ S88.size a

/-- The slot of the weight ring at offsets `o`, -/
abbrev slotAt (o : Fin 3 → ℕ) (ho : InSlot o) : Memref sig .tc .vmem S2048x256 .fp8e4m3 :=
  (vW.slice (Rect.unit (s := S88x2048x256) o S1x2048x256.size ho) (fun _ => rfl)).squeeze S2048x256 squeezes_S1x2048x256_S2048x256
/-- the slab of the weights at offsets `o`, -/
abbrev slabAt (o : Fin 3 → ℕ) (ho : InSlab o) : Memref sig .tc .hbm S2048x256 .fp8e4m3 :=
  (mW.slice (Rect.unit (s := S8x2048x2816) o S1x2048x256.size ho) (fun _ => rfl)).squeeze S2048x256 squeezes_S1x2048x256_S2048x256
/-- and the cell at offset `o`. -/
abbrev cellAt (o : Fin 1 → ℕ) (ho : InCell o) : SemLoc sig :=
  SemLoc.dma ((cc0_scratch10.slice (Rect.unit (s := S88) o S1.size ho)).squeeze S_ squeezes_S1_S_).sem

/-- Place `k` of an eight-word list. -/
abbrev ix8 (k : Fin 8) : S8.Idx := fun a => ⟨k.val, by fin_cases a; exact k.isLt⟩

/-- The list of active experts in scalar memory, read at one place. -/
theorem sA_read (o : Fin 1 → ℕ) (ho : ∀ a, o a + S1.size a ≤ S8.size a) (fa : sA.view.ty.Contents (Elt F))
    (x : (Rect.unit (s := S8) o S1.size ho).toLoadRect.shape.Idx) (k : Fin 8) (hk : o 0 = k.val) :
    (View.readAt (Elt F) sA.view (Rect.unit (s := S8) o S1.size ho).toLoadRect fa x : BitVec 32) = fa (ix8 k) := by
  refine congrArg fa (funext fun a => Fin.ext ?_)
  fin_cases a
  have hx : (x 0).val = 0 := by have := (x 0).isLt; exact Nat.lt_one_iff.mp this
  show o 0 + 1 * (x 0).val = k.val
  omega

variable (c : Dev nD) (fw : Buf (Elt F) (mW.view.loc (c : Thread nD τ)))

/-- The read token of the weights that belongs to chunk `k`, on the elements `S`. -/
abbrev tokW (k : Fin 88) (S : Finset (Idx (mW.view.loc (c : Thread nD τ)))) : sProp 𝕄 :=
  mW.view.loc (c : Thread nD τ) ↦[S]{Transfers.shareTok fullShare 88 k} fw

/-- The contents a slot has once a slab has landed in it over `f`. -/
abbrev landed (o : Fin 3 → ℕ) (ho : InSlot o) (q : Fin 3 → ℕ) (hq : InSlab q) (f : Buf (Elt F) ((slotAt o ho).view.loc (c : Thread nD τ))) :
    Buf (Elt F) ((slotAt o ho).view.loc (c : Thread nD τ)) :=
  (slotAt o ho).view.writes (Elt F) f [⟨Rect.whole S2048x256, ReadAs.same.apply ((slabAt q hq).view.read (Elt F) fw)⟩]

/-- A chunk not yet started: its cell at zero, its slot at anything, its token whole. -/
abbrev freeAt (o : Fin 3 → ℕ) (ho : InSlot o) (s : Fin 1 → ℕ) (hs : InCell s) (k : Fin 88) : sProp 𝕄 :=
  iprop(semVal ((c : Thread nD τ), cellAt s hs) 0
    ∗ (∃ f, (slotAt o ho).view.loc (c : Thread nD τ) ↦[(slotAt o ho).view.set]{fullShare} f)
    ∗ tokW c fw k Finset.univ)

/-- A chunk on its way: the transfer of its slab into its slot, and the rest of its token. -/
abbrev flyAt (o : Fin 3 → ℕ) (ho : InSlot o) (s : Fin 1 → ℕ) (hs : InCell s) (q : Fin 3 → ℕ) (hq : InSlab q) (k : Fin 88) : sProp 𝕄 :=
  iprop((∃ f, Transfers.Flight countersEmb (c : Thread nD τ) (cellAt s hs) () 16384
      iprop(((slotAt o ho).view.loc (c : Thread nD τ) ↦[(slotAt o ho).view.set]{fullShare} landed c fw o ho q hq f)
        ∗ tokW c fw k (slabAt q hq).view.set))
    ∗ tokW c fw k (Finset.univ \ (slabAt q hq).view.set))

/-- A chunk that has arrived: its cell at zero, the slab in its slot, its token whole. -/
abbrev hereAt (o : Fin 3 → ℕ) (ho : InSlot o) (s : Fin 1 → ℕ) (hs : InCell s) (q : Fin 3 → ℕ) (hq : InSlab q) (k : Fin 88) : sProp 𝕄 :=
  iprop(semVal ((c : Thread nD τ), cellAt s hs) 0
    ∗ (∃ f, (slotAt o ho).view.loc (c : Thread nD τ) ↦[(slotAt o ho).view.set]{fullShare} landed c fw o ho q hq f)
    ∗ tokW c fw k Finset.univ)

theorem inb_slot (k : Fin 88) : ∀ a, (![k.val, 0, 0] : Fin 3 → ℕ) a + S1x2048x256.size a ≤ S88x2048x256.size a := inbR rfl k.isLt
theorem inb_cell (k : Fin 88) : ∀ a, (![k.val] : Fin 1 → ℕ) a + S1.size a ≤ S88.size a := inb1 rfl k.isLt
theorem inb_slab (e : Fin 8) (k : ℕ) : ∀ a, (![e.val, 0, k % 11 * 256] : Fin 3 → ℕ) a + S1x2048x256.size a ≤ S8x2048x2816.size a :=
  inbW rfl e.isLt (by omega)

/-- The state of a chunk. -/
inductive ChunkState | free | fly | here

/-- What is held of chunk `k` in each state, the active experts in order being `A`. -/
def chunk (A : ℕ → Fin 8) (k : Fin 88) (s : ChunkState) : sProp 𝕄 :=
  match s with
  | .free => freeAt c fw ![k.val, 0, 0] (inb_slot k) ![k.val] (inb_cell k) k
  | .fly => flyAt c fw ![k.val, 0, 0] (inb_slot k) ![k.val] (inb_cell k) ![(A (k.val / 11)).val, 0, k.val % 11 * 256] (inb_slab _ _) k
  | .here => hereAt c fw ![k.val, 0, 0] (inb_slot k) ![k.val] (inb_cell k) ![(A (k.val / 11)).val, 0, k.val % 11 * 256] (inb_slab _ _) k

/-- The state of chunk `k` when chunks below `d` have arrived and chunks below `i` have been started. -/
def stateOf (d i : ℕ) (k : Fin 88) : ChunkState := if k.val < d then .here else if k.val < i then .fly else .free

/-- The whole ring. -/
abbrev ring (A : ℕ → Fin 8) (d i : ℕ) : sProp 𝕄 := Ring.AtW (chunk c fw A) (stateOf d i)

variable {A : ℕ → Fin 8}

theorem chunk_free (k : Fin 88) (o : Fin 3 → ℕ) (ho : InSlot o) (s : Fin 1 → ℕ) (hs : InCell s) (eo : o = ![k.val, 0, 0]) (es : s 0 = k.val) :
    chunk c fw A k .free = freeAt c fw o ho s hs k := by
  obtain rfl : s = ![k.val] := by funext i; fin_cases i; exact es
  subst eo; rfl

theorem chunk_fly (k : Fin 88) (o : Fin 3 → ℕ) (ho : InSlot o) (s : Fin 1 → ℕ) (hs : InCell s) (q : Fin 3 → ℕ) (hq : InSlab q) (eo : o = ![k.val, 0, 0])
    (es : s 0 = k.val) (eq : q = ![(A (k.val / 11)).val, 0, k.val % 11 * 256]) :
    chunk c fw A k .fly = flyAt c fw o ho s hs q hq k := by
  obtain rfl : s = ![k.val] := by funext i; fin_cases i; exact es
  subst eo; subst eq; rfl

theorem chunk_here (k : Fin 88) (o : Fin 3 → ℕ) (ho : InSlot o) (s : Fin 1 → ℕ) (hs : InCell s) (q : Fin 3 → ℕ) (hq : InSlab q) (eo : o = ![k.val, 0, 0])
    (es : s 0 = k.val) (eq : q = ![(A (k.val / 11)).val, 0, k.val % 11 * 256]) :
    chunk c fw A k .here = hereAt c fw o ho s hs q hq k := by
  obtain rfl : s = ![k.val] := by funext i; fin_cases i; exact es
  subst eo; subst eq; rfl

/-- Starting the next chunk moves the second bound, -/
theorem state_start (d i : ℕ) (hi : i < 88) (h : d ≤ i) : Function.update (stateOf d i) ⟨i, hi⟩ .fly = stateOf d (i + 1) := by
  funext k
  by_cases e : k = ⟨i, hi⟩
  · subst e; rw [Function.update_self]; unfold stateOf; rw [if_neg (by simp; omega), if_pos (by simp)]
  · rw [Function.update_of_ne e]; unfold stateOf
    have : k.val ≠ i := fun h => e (Fin.ext h)
    by_cases h1 : k.val < d
    · rw [if_pos h1, if_pos h1]
    · rw [if_neg h1, if_neg h1]
      by_cases h2 : k.val < i
      · rw [if_pos h2, if_pos (by omega)]
      · rw [if_neg h2, if_neg (by omega)]

/-- and waiting for one the first. -/
theorem state_wait (d i : ℕ) (hd : d < 88) : Function.update (stateOf d i) ⟨d, hd⟩ .here = stateOf (d + 1) i := by
  funext k
  by_cases e : k = ⟨d, hd⟩
  · subst e; rw [Function.update_self]; unfold stateOf; rw [if_pos (by simp)]
  · rw [Function.update_of_ne e]; unfold stateOf
    have : k.val ≠ d := fun h => e (Fin.ext h)
    by_cases h1 : k.val < d
    · rw [if_pos h1, if_pos (show k.val < d + 1 by omega)]
    · rw [if_neg h1, if_neg (show ¬k.val < d + 1 by omega)]

/-- The ring with the next chunk to start and the next to wait for set apart, -/
theorem ring_focus₂ (d i : ℕ) (hd : d < 88) (hi : i < 88) (h : d < i) :
    (ring c fw A d i : sProp 𝕄) = iprop(chunk c fw A ⟨i, hi⟩ .free ∗ chunk c fw A ⟨d, hd⟩ .fly
      ∗ bigSep ((Finset.univ.erase (⟨i, hi⟩ : Fin 88)).erase ⟨d, hd⟩) fun k => chunk c fw A k (stateOf d i k)) := by
  have hne : (⟨d, hd⟩ : Fin 88) ≠ ⟨i, hi⟩ := fun e => by have := congrArg Fin.val e; simp at this; omega
  unfold ring
  rw [Ring.AtW_focus _ _ ⟨i, hi⟩, Ring.restW_focus _ _ _ _ hne]
  unfold stateOf
  rw [if_neg (show ¬i < d by omega), if_neg (lt_irrefl i), if_neg (lt_irrefl d), if_pos (show d < i from h)]

/-- and both put back, the one started and the other arrived. -/
theorem ring_update₂ (d i : ℕ) (hd : d < 88) (hi : i < 88) (h : d < i) :
    iprop(chunk c fw A ⟨i, hi⟩ .fly ∗ chunk c fw A ⟨d, hd⟩ .here
      ∗ bigSep ((Finset.univ.erase (⟨i, hi⟩ : Fin 88)).erase ⟨d, hd⟩) fun k => chunk c fw A k (stateOf d i k))
      ⊢ (ring c fw A (d + 1) (i + 1) : sProp 𝕄) := by
  have hne : (⟨d, hd⟩ : Fin 88) ≠ ⟨i, hi⟩ := fun e => by have := congrArg Fin.val e; simp at this; omega
  unfold ring
  rw [← state_start (d + 1) i hi (by omega), ← state_wait d i hd]
  iintro ⟨Hi, Hd⟩
  iapply (Ring.AtW_update (chunk c fw A) _ _ _)
  isplitl [Hi]; · iexact Hi
  iapply (Ring.restW_update₂ (chunk c fw A) _ _ _ hne _)
  iexact Hd

/-- The ring with the next chunk to wait for set apart, -/
theorem ring_focus (d i : ℕ) (hd : d < 88) (h : d < i) :
    (ring c fw A d i : sProp 𝕄) = iprop(chunk c fw A ⟨d, hd⟩ .fly ∗ Ring.restW (chunk c fw A) (stateOf d i) ⟨d, hd⟩) := by
  unfold ring
  rw [Ring.AtW_focus _ _ ⟨d, hd⟩]
  congr 2
  unfold stateOf
  rw [if_neg (lt_irrefl d), if_pos (show d < i from h)]

/-- and put back once it has arrived. -/
theorem ring_update (d i : ℕ) (hd : d < 88) :
    iprop(chunk c fw A ⟨d, hd⟩ .here ∗ Ring.restW (chunk c fw A) (stateOf d i) ⟨d, hd⟩) ⊢ (ring c fw A (d + 1) i : sProp 𝕄) := by
  unfold ring
  rw [← state_wait d i hd]
  exact Ring.AtW_update (chunk c fw A) _ _ _

theorem state_free (d i : ℕ) (hi : i < 88) (h : d ≤ i) : stateOf d i ⟨i, hi⟩ = .free := by
  unfold stateOf; rw [if_neg (by simp; omega), if_neg (by simp)]
theorem state_fly (d i : ℕ) (hd : d < 88) (h : d < i) : stateOf d i ⟨d, hd⟩ = .fly := by
  unfold stateOf; rw [if_neg (by simp), if_pos (by simpa using h)]
theorem state_here (d i k : ℕ) (hk : k < 88) (h : k < d) : stateOf d i ⟨k, hk⟩ = .here := by
  unfold stateOf; rw [if_pos (by simpa using h)]

end Cert.Kernel.Moe

end
-- ==== Proof.Kernel.Slab.lean ====
/- One slab of one expert: the next chunk started, this chunk waited for. -/
module

public import proofs.«01_k».proof.Proof.Kernel.Base

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ)))
  (arg0 : Memref sig .tc .smem S8 .i32) (harg0 : arg0.IsWhole)
  (v1 v7 v13 v19 v25 v31 v37 v43 : BitVec 32) (H : InRange v1 v7 v13 v19 v25 v31 v37 v43)

local notation "gs" => sizes v1 v7 v13 v19 v25 v31 v37 v43

/-- The list of active experts in scalar memory. -/
abbrev actP (fa : Buf (Elt F) (sA.view.loc (c : Thread nD τ))) : sProp 𝕄 :=
  sA.view.loc (c : Thread nD τ) ↦[sA.view.set]{fullShare} fa

/-- What the kernel's weight scales in vector memory hold. -/
abbrev wsP (f : Buf (Elt F) (vWs.view.loc (c : Thread nD τ))) : sProp 𝕄 :=
  vWs.view.loc (c : Thread nD τ) ↦[vWs.view.set]{fullShare} f

/-- The list names the active experts in order. -/
def Lists (n : ℕ) (A : ℕ → Fin 8) (fa : Buf (Elt F) (sA.view.loc (c : Thread nD τ))) : Prop :=
  ∀ a : Fin 8, a.val < n → (fa (ix8 a) : BitVec 32).toNat = (A a.val).val

/-- The list read at the active expert `a`. -/
theorem Lists.read {n : ℕ} {A : ℕ → Fin 8} {fa : Buf (Elt F) (sA.view.loc (c : Thread nD τ))} (hfa : Lists c n A fa) (o : Fin 1 → ℕ)
    (ho : ∀ a, o a + S1.size a ≤ S8.size a) (x : (Rect.unit (s := S8) o S1.size ho).toLoadRect.shape.Idx) (a : ℕ) (h8 : a < 8) (ha : a < n) (ho0 : o 0 = a) :
    BitVec.toNat (View.readAt (Elt F) sA.view (Rect.unit (s := S8) o S1.size ho).toLoadRect fa x) = (A a).val := by
  rw [sA_read o ho fa x ⟨a, h8⟩ ho0]; exact hfa ⟨a, h8⟩ ha

/-- What the weight scales of one expert's slab read. -/
abbrev wsRead (fs : Buf (Elt F) (vWs.view.loc (c : Thread nD τ))) (v98 : BitVec 32) (hw17 : k0_chk17 v98) (t4 : Fin k0_t4_loop.trips) : Vec F S1x256 .f32 :=
  View.readAt (Elt F) vWs.view (Rect.unit (s := S8x2816) (k0_off36 v98 t4) S1x256.size (k0_off36_inb v98 hw17 t4)).toLoadRect fs

set_option maxHeartbeats 400000 in
include H in
/-- The wait for a chunk with another to start: that one is started, and this one arrives. -/
theorem part1_start
    (A : ℕ → Fin 8) (fa : Buf (Elt F) (sA.view.loc (c : Thread nD τ))) (fs : Buf (Elt F) (vWs.view.loc (c : Thread nD τ)))
    (hw16 : k0_chk16 v1 v7 v13 v19 v25 v31 v37 v43) (v47 : BitVec 32) (t1 : Fin (k0_t1_loop v1 v7 v13 v19 v25 v31 v37 v43).trips)
    (arg18 v98 : BitVec 32) (hw17 : k0_chk17 v98) (c0 c1 : BitVec 32) (t4 : Fin k0_t4_loop.trips)
    (hfa : Lists c (cnt (sizes v1 v7 v13 v19 v25 v31 v37 v43) 8) A fa) (W : Waits sig Unit)
    (Q : ((_ : BitVec 32) ×' (_ : BitVec 32) ×' Vec F S1x256 EltTy.f32) → sProp 𝕄)
    (h9 : k0_cond9 v1 v7 v13 v19 v25 v31 v37 v43 t1 t4 = 1#1) :
    iprop(ring c fw A (t1.val * 11 + t4.val) (t1.val * 11 + t4.val + 8) ∗ actP c fa ∗ wsP c fs ∗ owes (c : Thread nD τ) 0 W
        ∗ (∀ r, iprop(⌜r.2.2 = wsRead c fs v98 hw17 t4⌝ ∗ ring c fw A (t1.val * 11 + t4.val + 1) (t1.val * 11 + t4.val + 8 + 1) ∗ actP c fa ∗ wsP c fs
            ∗ (∃ W', owes (c : Thread nD τ) 0 W')) -∗ Q r))
      ⊢ wp frame (wpE (defs₀ (F := F)) Variants.none (c : Thread nD τ) none) Set.univ
          (k0_part1 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 c0 c1 t4) Q := by
  have hb := t1_lt8 H t1
  have hb4 := t4_lt t4
  have hbn := t1_lt H t1
  have hcnt := cnt_le (sizes v1 v7 v13 v19 v25 v31 v37 v43) 8
  have hd : t1.val * 11 + t4.val < 88 := by omega
  have hA2 := hfa.read c _ (k0_off32_inb v1 v7 v13 v19 v25 v31 v37 v43 hw16 t1 t4) (Shape.Idx.first numel1_S1.ge) t1.val (by omega) hbn (off32_eq H t1 t4)
  have h19 := chk19 H t1 t4 _ (lt_of_eq_of_lt hA2 (A _).isLt)
  have q1 : (t1.val * 11 + t4.val) / 11 = t1.val := by omega
  have q2 : (t1.val * 11 + t4.val) % 11 = t4.val := by omega
  have hq2 : k0_off35 v1 v7 v13 v19 v25 v31 v37 v43 t1 t4 (View.readAt (Elt F) sA.view (Rect.unit (s := S8) (k0_off32 v1 v7 v13 v19 v25 v31 v37 v43 t1 t4) S1.size (k0_off32_inb v1 v7 v13 v19 v25 v31 v37 v43 hw16 t1 t4)).toLoadRect fa (Shape.Idx.first numel1_S1.ge))
      = ![(A ((t1.val * 11 + t4.val) / 11)).val, 0, (t1.val * 11 + t4.val) % 11 * 256] := by
    rw [off35_eq H t1 t4, hA2, q1, q2]
  have hn := (cond9_iff H t1 t4).mp h9
  have hi : t1.val * 11 + t4.val + 8 < 88 := by omega
  have hA1 := hfa.read c _ (k0_off28_inb v1 v7 v13 v19 v25 v31 v37 v43 hw16 t1 t4 h9) (Shape.Idx.first numel1_S1.ge) ((t1.val * 11 + t4.val + 8) / 11) (by omega) (by omega) (off28_eq H t1 t4)
  have h18 := chk18 H t1 t4 _ (lt_of_eq_of_lt hA1 (A _).isLt)
  have hq1 : k0_off31 v1 v7 v13 v19 v25 v31 v37 v43 t1 t4 (View.readAt (Elt F) sA.view (Rect.unit (s := S8) (k0_off28 v1 v7 v13 v19 v25 v31 v37 v43 t1 t4) S1.size (k0_off28_inb v1 v7 v13 v19 v25 v31 v37 v43 hw16 t1 t4 h9)).toLoadRect fa (Shape.Idx.first numel1_S1.ge))
      = ![(A ((t1.val * 11 + t4.val + 8) / 11)).val, 0, (t1.val * 11 + t4.val + 8) % 11 * 256] := by
    rw [off31_eq H t1 t4, hA1]
  simp only [k0_part1_eq_skeleton]; unfold k0_part1_skel
  rw [ring_focus₂ c fw _ _ hd hi (by omega), chunk_free c fw ⟨t1.val * 11 + t4.val + 8, hi⟩ _ (k0_off30_inb v1 v7 v13 v19 v25 v31 v37 v43 hw16 t1 t4 h9) _ (k0_off29_inb v1 v7 v13 v19 v25 v31 v37 v43 hw16 t1 t4 h9) (off30_eq H t1 t4) (off29_eq H t1 t4),
    chunk_fly c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
  iintro ⟨⟨⟨Hcell, ⟨%f, Hslot⟩, Htok⟩, ⟨⟨%f2, Hfl⟩, Htok2⟩, Hrest⟩, HA, HS, HO, Hk⟩
  sl_exec
  sl_step
  iapply Hk
  isplitr; · ipureintro; rfl
  isplitr [HA HS HO]
  · iapply (ring_update₂ c fw _ _ hd hi (by omega))
    rw [chunk_fly c fw ⟨t1.val * 11 + t4.val + 8, hi⟩ _ (k0_off30_inb v1 v7 v13 v19 v25 v31 v37 v43 hw16 t1 t4 h9) _ (k0_off29_inb v1 v7 v13 v19 v25 v31 v37 v43 hw16 t1 t4 h9) _
      (k0_off31_inb v1 v7 v13 v19 v25 v31 v37 v43 t1 t4 _ h18 h9) (off30_eq H t1 t4) (off29_eq H t1 t4) hq1,
      chunk_here c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
    isplitl [Hcell Htok]
    · isplitl [Hcell]
      · iexists f; iexact Hcell
      · iexact Htok
    isplitr [Hrest]
    · isplitl [Hfl]; · iexact Hfl
      isplitl [Hfl_dst]; · iexists f2; iexact Hfl_dst
      iexact Htok2
    · iexact Hrest
  isplitl [HA]; · iexact HA
  isplitl [HS]; · iexact HS
  iexists _; iexact HO

set_option maxHeartbeats 400000 in
include H in
/-- The wait for a chunk with no other to start. -/
theorem part1_last
    (A : ℕ → Fin 8) (fa : Buf (Elt F) (sA.view.loc (c : Thread nD τ))) (fs : Buf (Elt F) (vWs.view.loc (c : Thread nD τ)))
    (hw16 : k0_chk16 v1 v7 v13 v19 v25 v31 v37 v43) (v47 : BitVec 32) (t1 : Fin (k0_t1_loop v1 v7 v13 v19 v25 v31 v37 v43).trips)
    (arg18 v98 : BitVec 32) (hw17 : k0_chk17 v98) (c0 c1 : BitVec 32) (t4 : Fin k0_t4_loop.trips)
    (hfa : Lists c (cnt (sizes v1 v7 v13 v19 v25 v31 v37 v43) 8) A fa) (W : Waits sig Unit)
    (Q : ((_ : BitVec 32) ×' (_ : BitVec 32) ×' Vec F S1x256 EltTy.f32) → sProp 𝕄)
    (h9 : ¬k0_cond9 v1 v7 v13 v19 v25 v31 v37 v43 t1 t4 = 1#1) (i : ℕ) (hi : t1.val * 11 + t4.val < i) :
    iprop(ring c fw A (t1.val * 11 + t4.val) i ∗ actP c fa ∗ wsP c fs ∗ owes (c : Thread nD τ) 0 W
        ∗ (∀ r, iprop(⌜r.2.2 = wsRead c fs v98 hw17 t4⌝ ∗ ring c fw A (t1.val * 11 + t4.val + 1) i ∗ actP c fa ∗ wsP c fs
            ∗ (∃ W', owes (c : Thread nD τ) 0 W')) -∗ Q r))
      ⊢ wp frame (wpE (defs₀ (F := F)) Variants.none (c : Thread nD τ) none) Set.univ
          (k0_part1 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 c0 c1 t4) Q := by
  have hb := t1_lt8 H t1
  have hb4 := t4_lt t4
  have hbn := t1_lt H t1
  have hcnt := cnt_le (sizes v1 v7 v13 v19 v25 v31 v37 v43) 8
  have hd : t1.val * 11 + t4.val < 88 := by omega
  have hA2 := hfa.read c _ (k0_off32_inb v1 v7 v13 v19 v25 v31 v37 v43 hw16 t1 t4) (Shape.Idx.first numel1_S1.ge) t1.val (by omega) hbn (off32_eq H t1 t4)
  have h19 := chk19 H t1 t4 _ (lt_of_eq_of_lt hA2 (A _).isLt)
  have q1 : (t1.val * 11 + t4.val) / 11 = t1.val := by omega
  have q2 : (t1.val * 11 + t4.val) % 11 = t4.val := by omega
  have hq2 : k0_off35 v1 v7 v13 v19 v25 v31 v37 v43 t1 t4 (View.readAt (Elt F) sA.view (Rect.unit (s := S8) (k0_off32 v1 v7 v13 v19 v25 v31 v37 v43 t1 t4) S1.size (k0_off32_inb v1 v7 v13 v19 v25 v31 v37 v43 hw16 t1 t4)).toLoadRect fa (Shape.Idx.first numel1_S1.ge))
      = ![(A ((t1.val * 11 + t4.val) / 11)).val, 0, (t1.val * 11 + t4.val) % 11 * 256] := by
    rw [off35_eq H t1 t4, hA2, q1, q2]
  simp only [k0_part1_eq_skeleton]; unfold k0_part1_skel
  rw [ring_focus c fw _ _ hd hi,
    chunk_fly c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
  iintro ⟨⟨⟨⟨%f2, Hfl⟩, Htok2⟩, Hrest⟩, HA, HS, HO, Hk⟩
  sl_exec
  sl_step
  iapply Hk
  isplitr; · ipureintro; rfl
  isplitr [HA HS HO]
  · iapply (ring_update c fw _ _ hd)
    rw [chunk_here c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
    isplitr [Hrest]
    · isplitl [Hfl]; · iexact Hfl
      isplitl [Hfl_dst]; · iexists f2; iexact Hfl_dst
      iexact Htok2
    · iexact Hrest
  isplitl [HA]; · iexact HA
  isplitl [HS]; · iexact HS
  iexists _; iexact HO

include H in
/-- The wait for a chunk, whether or not there is another to start. -/
theorem part1_run
    (A : ℕ → Fin 8) (fa : Buf (Elt F) (sA.view.loc (c : Thread nD τ))) (fs : Buf (Elt F) (vWs.view.loc (c : Thread nD τ)))
    (hw16 : k0_chk16 v1 v7 v13 v19 v25 v31 v37 v43) (v47 : BitVec 32) (t1 : Fin (k0_t1_loop v1 v7 v13 v19 v25 v31 v37 v43).trips)
    (arg18 v98 : BitVec 32) (hw17 : k0_chk17 v98) (c0 c1 : BitVec 32) (t4 : Fin k0_t4_loop.trips)
    (hfa : Lists c (cnt (sizes v1 v7 v13 v19 v25 v31 v37 v43) 8) A fa) (W : Waits sig Unit)
    (Q : ((_ : BitVec 32) ×' (_ : BitVec 32) ×' Vec F S1x256 EltTy.f32) → sProp 𝕄) :
    iprop(ring c fw A (t1.val * 11 + t4.val) (min (t1.val * 11 + t4.val + 8) (cnt (sizes v1 v7 v13 v19 v25 v31 v37 v43) 8 * 11)) ∗ actP c fa ∗ wsP c fs ∗ owes (c : Thread nD τ) 0 W
        ∗ (∀ r, iprop(⌜r.2.2 = wsRead c fs v98 hw17 t4⌝ ∗ ring c fw A (t1.val * 11 + t4.val + 1) (min (t1.val * 11 + t4.val + 1 + 8) (cnt (sizes v1 v7 v13 v19 v25 v31 v37 v43) 8 * 11)) ∗ actP c fa ∗ wsP c fs
            ∗ (∃ W', owes (c : Thread nD τ) 0 W')) -∗ Q r))
      ⊢ wp frame (wpE (defs₀ (F := F)) Variants.none (c : Thread nD τ) none) Set.univ
          (k0_part1 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 c0 c1 t4) Q := by
  have hbn := t1_lt H t1
  have hb4 := t4_lt t4
  by_cases h9 : k0_cond9 v1 v7 v13 v19 v25 v31 v37 v43 t1 t4 = 1#1
  · have hn := (cond9_iff H t1 t4).mp h9
    rw [show min (t1.val * 11 + t4.val + 8) (cnt (sizes v1 v7 v13 v19 v25 v31 v37 v43) 8 * 11) = t1.val * 11 + t4.val + 8 by omega,
      show min (t1.val * 11 + t4.val + 1 + 8) (cnt (sizes v1 v7 v13 v19 v25 v31 v37 v43) 8 * 11) = t1.val * 11 + t4.val + 8 + 1 by omega]
    exact part1_start c fw arg0 harg0 v1 v7 v13 v19 v25 v31 v37 v43 H A fa fs hw16 v47 t1 arg18 v98 hw17 c0 c1 t4 hfa W Q h9
  · have hn : ¬t1.val * 11 + t4.val + 8 < cnt (sizes v1 v7 v13 v19 v25 v31 v37 v43) 8 * 11 := fun h => h9 ((cond9_iff H t1 t4).mpr h)
    rw [show min (t1.val * 11 + t4.val + 8) (cnt (sizes v1 v7 v13 v19 v25 v31 v37 v43) 8 * 11) = cnt (sizes v1 v7 v13 v19 v25 v31 v37 v43) 8 * 11 by omega,
      show min (t1.val * 11 + t4.val + 1 + 8) (cnt (sizes v1 v7 v13 v19 v25 v31 v37 v43) 8 * 11) = cnt (sizes v1 v7 v13 v19 v25 v31 v37 v43) 8 * 11 by omega]
    exact part1_last c fw arg0 harg0 v1 v7 v13 v19 v25 v31 v37 v43 H A fa fs hw16 v47 t1 arg18 v98 hw17 c0 c1 t4 hfa W Q h9 _ (by omega)

end Cert.Kernel.Moe

end
-- ==== Proof.Kernel.Window.lean ====
/- One row window of one slab, and the loop over a slab's windows. -/
module

public import proofs.«01_k».proof.Proof.Kernel.Slab

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (arg0 : Memref sig .tc .smem S8 .i32) (harg0 : arg0.IsWhole)
  (v1 v7 v13 v19 v25 v31 v37 v43 : BitVec 32)

/-- The activations in vector memory, -/
abbrev xP (f : Buf (Elt F) (vX.view.loc (c : Thread nD τ))) : sProp 𝕄 := vX.view.loc (c : Thread nD τ) ↦[vX.view.set]{fullShare} f
/-- the row scales, each repeated along its row, -/
abbrev bP (f : Buf (Elt F) (vB.view.loc (c : Thread nD τ))) : sProp 𝕄 := vB.view.loc (c : Thread nD τ) ↦[vB.view.set]{fullShare} f
/-- the output, -/
abbrev oP (f : Buf (Elt F) (vO.view.loc (c : Thread nD τ))) : sProp 𝕄 := vO.view.loc (c : Thread nD τ) ↦[vO.view.set]{fullShare} f
/-- and one slot of the weight ring. -/
abbrev slotP (o : Fin 3 → ℕ) (ho : InSlot o) (f : Buf (Elt F) ((slotAt o ho).view.loc (c : Thread nD τ))) : sProp 𝕄 :=
  (slotAt o ho).view.loc (c : Thread nD τ) ↦[(slotAt o ho).view.set]{fullShare} f

/-- The slab of the weights at offsets `q`, as the three-dimensional block the product takes. -/
abbrev slabVec (fw : Buf (Elt F) (mW.view.loc (c : Thread nD τ))) (q : Fin 3 → ℕ) (hq : InSlab q) : Vec F S1x2048x256 .fp8e4m3 :=
  View.readAt (Elt F) mW.view (Rect.unit (s := S8x2048x2816) q S1x2048x256.size hq).toLoadRect fw

/-- A slot a slab has landed in reads the slab. -/
theorem landed_read (fw : Buf (Elt F) (mW.view.loc (c : Thread nD τ))) (o : Fin 3 → ℕ) (ho : InSlot o) (q : Fin 3 → ℕ) (hq : InSlab q)
    (f : Buf (Elt F) ((slotAt o ho).view.loc (c : Thread nD τ))) :
    View.readAt (Elt F) vW.view (Rect.unit (s := S88x2048x256) o S1x2048x256.size ho).toLoadRect (landed c fw o ho q hq f) = slabVec c fw q hq := by
  have h := View.read_writes_whole (slotAt o ho).view f (ReadAs.same.apply ((slabAt q hq).view.read (Elt F) fw))
  have hn : S2048x256.numel = (Rect.unit (s := S88x2048x256) o S1x2048x256.size ho).shape.numel := squeezes_S1x2048x256_S2048x256.numel_eq
  funext x
  have hx := congrFun h ((Shape.reshapeEquiv hn).symm x)
  have e1 : (slotAt o ho).view.read (Elt F) (landed c fw o ho q hq f) ((Shape.reshapeEquiv hn).symm x)
      = View.readAt (Elt F) vW.view (Rect.unit (s := S88x2048x256) o S1x2048x256.size ho).toLoadRect (landed c fw o ho q hq f) (Shape.reshapeEquiv hn ((Shape.reshapeEquiv hn).symm x)) := rfl
  have e2 : ReadAs.same.apply ((slabAt q hq).view.read (Elt F) fw) ((Shape.reshapeEquiv hn).symm x)
      = slabVec c fw q hq (Shape.reshapeEquiv hn ((Shape.reshapeEquiv hn).symm x)) := rfl
  rw [Equiv.apply_symm_apply] at e1 e2
  exact e1.symm.trans (hx.trans e2)

/-- The output once one window has been computed over it. -/
abbrev winOut (fx : Buf (Elt F) (vX.view.loc (c : Thread nD τ))) (fb : Buf (Elt F) (vB.view.loc (c : Thread nD τ)))
    (t1 : Fin (k0_t1_loop v1 v7 v13 v19 v25 v31 v37 v43).trips) (v105 v107 : BitVec 32) (hw20 : k0_chk20 v1 v7 v13 v19 v25 v31 v37 v43 t1 v105 v107) (v109 v127 : BitVec 32)
    (t4 : Fin k0_t4_loop.trips) (v189 : Vec F S1x256 .f32) (w : Vec F S1x2048x256 .fp8e4m3)
    (k : Fin (k0_t5_loop v105 v107).trips) (fo : Buf (Elt F) (vO.view.loc (c : Thread nD τ))) : Buf (Elt F) (vO.view.loc (c : Thread nD τ)) :=
  vO.view.writes (Elt F) fo [⟨Rect.unit (s := S256x2816) (k0_off40 v105 v107 t4 k) S128x256.size (k0_off40_inb v1 v7 v13 v19 v25 v31 v37 v43 t1 v105 v107 hw20 t4 k),
    k0_pay2 v105 v107 v109 v127 v189 k
      (View.readAt (Elt F) vX.view (Rect.unit (s := S256x2048) (k0_off37 v105 v107 k) S128x2048.size (k0_off37_inb v1 v7 v13 v19 v25 v31 v37 v43 t1 v105 v107 hw20 k)).toLoadRect fx) w
      (View.readAt (Elt F) vB.view (Rect.unit (s := S256x128) (k0_off39 v105 v107 k) S128x128.size (k0_off39_inb v1 v7 v13 v19 v25 v31 v37 v43 t1 v105 v107 hw20 k)).toLoadRect fb)
      (View.readAt (Elt F) vO.view (Rect.unit (s := S256x2816) (k0_off40 v105 v107 t4 k) S128x256.size (k0_off40_inb v1 v7 v13 v19 v25 v31 v37 v43 t1 v105 v107 hw20 t4 k)).toLoadRect fo)⟩]

set_option maxHeartbeats 400000 in
/-- One window. -/
theorem t5_trip (H : InRange v1 v7 v13 v19 v25 v31 v37 v43) (fx : Buf (Elt F) (vX.view.loc (c : Thread nD τ))) (fb : Buf (Elt F) (vB.view.loc (c : Thread nD τ)))
    (t1 : Fin (k0_t1_loop v1 v7 v13 v19 v25 v31 v37 v43).trips) (v105 v107 : BitVec 32) (hw20 : k0_chk20 v1 v7 v13 v19 v25 v31 v37 v43 t1 v105 v107) (v109 v127 : BitVec 32)
    (t4 : Fin k0_t4_loop.trips) (v189 : Vec F S1x256 .f32) (ho : InSlot (k0_off38 v1 v7 v13 v19 v25 v31 v37 v43 t1 t4))
    (fs : Buf (Elt F) ((slotAt (k0_off38 v1 v7 v13 v19 v25 v31 v37 v43 t1 t4) ho).view.loc (c : Thread nD τ))) (w : Vec F S1x2048x256 .fp8e4m3)
    (hw : View.readAt (Elt F) vW.view (Rect.unit (s := S88x2048x256) (k0_off38 v1 v7 v13 v19 v25 v31 v37 v43 t1 t4) S1x2048x256.size ho).toLoadRect fs = w)
    (fo : Buf (Elt F) (vO.view.loc (c : Thread nD τ)))
    (k : Fin (k0_t5_loop v105 v107).trips) (acc : BitVec 32) (Q : BitVec 32 → sProp 𝕄) :
    iprop(xP c fx ∗ bP c fb ∗ slotP c _ ho fs ∗ oP c fo
        ∗ (∀ r, iprop(xP c fx ∗ bP c fb ∗ slotP c _ ho fs ∗ oP c (winOut c v1 v7 v13 v19 v25 v31 v37 v43 fx fb t1 v105 v107 hw20 v109 v127 t4 v189 w k fo)) -∗ Q r))
      ⊢ wp frame (wpE (defs₀ (F := F)) Variants.none (c : Thread nD τ) none) Set.univ
          (k0_t5_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 t1 v105 v107 hw20 v109 v127 t4 v189 k acc) Q := by
  letI : ClosedOff (k0_off38 v1 v7 v13 v19 v25 v31 v37 v43 t1 t4) := ⟨![t1.val * 11 + t4.val, 0, 0], off38_eq H t1 t4⟩
  subst hw
  unfold k0_t5_body
  iintro ⟨HX, HB, HS, HO, Hk⟩
  sl_exec
  sl_step
  iapply Hk
  isplitl [HX]; · iexact HX
  isplitl [HB]; · iexact HB
  isplitl [HS]; · iexact HS
  iexact HO

/-- What holds between the windows of a slab: the operands, and the output at some contents that `P` knows. -/
abbrev winInv (fx : Buf (Elt F) (vX.view.loc (c : Thread nD τ))) (fb : Buf (Elt F) (vB.view.loc (c : Thread nD τ)))
    (o : Fin 3 → ℕ) (ho : InSlot o) (fs : Buf (Elt F) ((slotAt o ho).view.loc (c : Thread nD τ)))
    (P : Buf (Elt F) (vO.view.loc (c : Thread nD τ)) → Prop) : sProp 𝕄 :=
  iprop(xP c fx ∗ bP c fb ∗ slotP c o ho fs ∗ ∃ fo, ⌜P fo⌝ ∗ oP c fo)

set_option maxHeartbeats 400000 in
/-- The loop over a slab's windows, and the remainder loop that runs no trip: whatever each window carries on is carried through. -/
theorem t5_loop (H : InRange v1 v7 v13 v19 v25 v31 v37 v43) (fx : Buf (Elt F) (vX.view.loc (c : Thread nD τ))) (fb : Buf (Elt F) (vB.view.loc (c : Thread nD τ)))
    (t1 : Fin (k0_t1_loop v1 v7 v13 v19 v25 v31 v37 v43).trips) (v105 v107 : BitVec 32) (hw20 : k0_chk20 v1 v7 v13 v19 v25 v31 v37 v43 t1 v105 v107) (v109 v127 : BitVec 32)
    (t4 : Fin k0_t4_loop.trips) (v189 : Vec F S1x256 .f32) (ho : InSlot (k0_off38 v1 v7 v13 v19 v25 v31 v37 v43 t1 t4))
    (fs : Buf (Elt F) ((slotAt (k0_off38 v1 v7 v13 v19 v25 v31 v37 v43 t1 t4) ho).view.loc (c : Thread nD τ))) (w : Vec F S1x2048x256 .fp8e4m3)
    (hw : View.readAt (Elt F) vW.view (Rect.unit (s := S88x2048x256) (k0_off38 v1 v7 v13 v19 v25 v31 v37 v43 t1 t4) S1x2048x256.size ho).toLoadRect fs = w)
    (P : ℕ → Buf (Elt F) (vO.view.loc (c : Thread nD τ)) → Prop)
    (hP : ∀ (k : Fin (k0_t5_loop v105 v107).trips) fo, P k.val fo → P (k.val + 1) (winOut c v1 v7 v13 v19 v25 v31 v37 v43 fx fb t1 v105 v107 hw20 v109 v127 t4 v189 w k fo))
    (kk : BitVec 32 → Prog (TpuEff nD τ sig (Elt F) Λ₀ .tc) (BitVec 32)) (Q : BitVec 32 → sProp 𝕄) :
    iprop(winInv c fx fb _ ho fs (P 0)
        ∗ (∀ r, winInv c fx fb _ ho fs (P (k0_t5_loop v105 v107).trips) -∗ wp frame (wpE (defs₀ (F := F)) Variants.none (c : Thread nD τ) none) Set.univ (kk r) Q))
      ⊢ wp frame (wpE (defs₀ (F := F)) Variants.none (c : Thread nD τ) none) Set.univ
          (Scf.Loop.for (k0_t5_loop v105 v107) (k0_t5_ok v1 v7 v13 v19 v25 v31 v37 v43 t1 v105 v107 hw20) 0#32
            (k0_t5_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 t1 v105 v107 hw20 v109 v127 t4 v189) >>= kk) Q := by
  refine BI.wand_elim (Scf.wp_for_bind frame (wpE (defs₀ (F := F)) Variants.none (c : Thread nD τ) none) Set.univ _ _ _ _ _ _
    (fun k _ => winInv c fx fb _ ho fs (P k)) ?_)
  intro k acc
  iintro ⟨HX, HB, HS, HO⟩
  icases HO with ⟨%fo, %hfo, HO⟩
  iapply (t5_trip c arg0 harg0 v1 v7 v13 v19 v25 v31 v37 v43 H fx fb t1 v105 v107 hw20 v109 v127 t4 v189 ho fs w hw fo k acc _)
  isplitl [HX]; · iexact HX
  isplitl [HB]; · iexact HB
  isplitl [HS]; · iexact HS
  isplitl [HO]; · iexact HO
  iintro %r ⟨HX, HB, HS, HO⟩
  isplitl [HX]; · iexact HX
  isplitl [HB]; · iexact HB
  isplitl [HS]; · iexact HS
  iexists _
  isplitr
  · ipureintro; exact hP k fo hfo
  iexact HO

end Cert.Kernel.Moe

end
-- ==== Proof.Kernel.Expert.lean ====
/- The slabs of one expert: each waited for, its windows computed, and one more started. -/
module

public import proofs.«01_k».proof.Proof.Kernel.Window

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

theorem inb_slabOf (A : ℕ → Fin 8) (a : ℕ) (t4 : Fin k0_t4_loop.trips) : InSlab ![(A a).val, 0, t4.val * 256] :=
  inbW rfl (A a).isLt (by have := t4_lt t4; omega)

/-- The slab of the weights an active expert multiplies by. -/
abbrev slabOf (A : ℕ → Fin 8) (a : ℕ) (t4 : Fin k0_t4_loop.trips) : Vec F S1x2048x256 .fp8e4m3 :=
  slabVec c fw ![(A a).val, 0, t4.val * 256] (inb_slabOf A a t4)

/-- What holds between two slabs: the ring, what the kernel reads, and the output at contents that `P` knows. `d` chunks have arrived. -/
abbrev slabInv (A : ℕ → Fin 8) (n d : ℕ) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (P : Buf (Elt F) (vO.view.loc (c : Thread nD τ)) → Prop) : sProp 𝕄 :=
  iprop(ring c fw A d (min (d + 8) (n * 11)) ∗ actP c fa ∗ wsP c fs ∗ (∃ W, owes (c : Thread nD τ) 0 W) ∗ xP c fx ∗ bP c fb
    ∗ ∃ fo, ⌜P fo⌝ ∗ oP c fo)

set_option maxHeartbeats 400000 in
/-- The slot of a chunk that has arrived, taken out of the ring to be read and put back. -/
theorem ring_take (A : ℕ → Fin 8) (d i k : ℕ) (hk : k < 88) (hd : k < d) (o : Fin 3 → ℕ) (ho : InSlot o) (q : Fin 3 → ℕ) (hq : InSlab q)
    (eo : o = ![k, 0, 0]) (eq : q = ![(A (k / 11)).val, 0, k % 11 * 256]) :
    (ring c fw A d i : sProp 𝕄) ⊢ iprop(∃ fs, ⌜View.readAt (Elt F) vW.view (Rect.unit (s := S88x2048x256) o S1x2048x256.size ho).toLoadRect fs = slabVec c fw q hq⌝
      ∗ slotP c o ho fs ∗ (slotP c o ho fs -∗ ring c fw A d i)) := by
  unfold ring
  rw [Ring.AtW_focus _ _ (⟨k, hk⟩ : Fin 88), state_here d i k hk hd,
    chunk_here c fw (A := A) ⟨k, hk⟩ o ho ![k] (inb_cell ⟨k, hk⟩) q hq eo rfl eq]
  iintro ⟨⟨Hc, ⟨%f, HS⟩, Ht⟩, HR⟩
  iexists _
  isplitr; · ipureintro; exact landed_read c fw o ho q hq f
  isplitl [HS]; · iexact HS
  iintro HS
  isplitr [HR]
  · isplitl [Hc]; · iexact Hc
    isplitl [HS]; · iexists f; iexact HS
    iexact Ht
  · iexact HR

set_option maxHeartbeats 400000 in
/-- One slab. -/
theorem t4_trip (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (hw16 : k0_chk16 v1 v7 v13 v19 v25 v31 v37 v43) (v47 : BitVec 32)
    (t1 : Fin (k0_t1_loop v1 v7 v13 v19 v25 v31 v37 v43).trips) (arg18 v98 : BitVec 32) (hw17 : k0_chk17 v98) (v105 v107 : BitVec 32) (hw20 : k0_chk20 v1 v7 v13 v19 v25 v31 v37 v43 t1 v105 v107)
    (v109 v127 v130 v128 v131 v133 : BitVec 32) (v134 : BitVec 1)
    (t4 : Fin k0_t4_loop.trips) (hfa : Lists c (cnt (sizes v1 v7 v13 v19 v25 v31 v37 v43) 8) A fa)
    (P : ℕ → Buf (Elt F) (vO.view.loc (c : Thread nD τ)) → Prop)
    (hP : ∀ (k : Fin (k0_t5_loop v105 v107).trips) fo, P k.val fo
      → P (k.val + 1) (winOut c v1 v7 v13 v19 v25 v31 v37 v43 fx fb t1 v105 v107 hw20 v109 v127 t4 (wsRead c fs v98 hw17 t4) (slabOf c fw A t1.val t4) k fo))
    (acc : BitVec 32) (Q : BitVec 32 → sProp 𝕄) :
    iprop(slabInv c fw A (cnt (sizes v1 v7 v13 v19 v25 v31 v37 v43) 8) (t1.val * 11 + t4.val) fa fs fx fb (P 0)
        ∗ (∀ r, slabInv c fw A (cnt (sizes v1 v7 v13 v19 v25 v31 v37 v43) 8) (t1.val * 11 + t4.val + 1) fa fs fx fb (P (k0_t5_loop v105 v107).trips) -∗ Q r))
      ⊢ wp frame (wpE (defs₀ (F := F)) Variants.none (c : Thread nD τ) none) Set.univ
          (k0_t4_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 v105 v107 hw20 v109 v127 v130 v128 v131 v133 v134 t4 acc) Q := by
  have hb := t1_lt8 H t1
  have hbn := t1_lt H t1
  have hb4 := t4_lt t4
  have hd : t1.val * 11 + t4.val < 88 := by omega
  unfold k0_t4_body
  rw [wp_bind]
  iintro ⟨⟨HR, HA, HW, HO, HX, HB, Ho⟩, Hk⟩
  icases HO with ⟨%W, HO⟩
  iapply (part1_run c fw arg0 harg0 v1 v7 v13 v19 v25 v31 v37 v43 H A fa fs hw16 v47 t1 arg18 v98 hw17 0#32 1#32 t4 hfa W _)
  isplitl [HR]; · iexact HR
  isplitl [HA]; · iexact HA
  isplitl [HW]; · iexact HW
  isplitl [HO]; · iexact HO
  iintro %r ⟨%hr, HR, HA, HW, HO⟩
  obtain ⟨r1, r2, v189⟩ := r
  obtain rfl : v189 = wsRead c fs v98 hw17 t4 := hr
  have ho : InSlot (k0_off38 v1 v7 v13 v19 v25 v31 v37 v43 t1 t4) := by rw [off38_eq H t1 t4]; exact inb_slot ⟨_, hd⟩
  have q1 : (t1.val * 11 + t4.val) / 11 = t1.val := by omega
  have q2 : (t1.val * 11 + t4.val) % 11 = t4.val := by omega
  ihave HR2 := (ring_take c fw A (t1.val * 11 + t4.val + 1) (min (t1.val * 11 + t4.val + 1 + 8) (cnt (sizes v1 v7 v13 v19 v25 v31 v37 v43) 8 * 11)) (t1.val * 11 + t4.val) hd (by omega)
    (k0_off38 v1 v7 v13 v19 v25 v31 v37 v43 t1 t4) ho ![(A t1.val).val, 0, t4.val * 256] (inb_slabOf A t1.val t4) (off38_eq H t1 t4) (by rw [q1, q2])) $$ HR
  icases HR2 with ⟨%fs2, %hfs2, HS, HR⟩
  iapply (t5_loop c arg0 harg0 v1 v7 v13 v19 v25 v31 v37 v43 H fx fb t1 v105 v107 hw20 v109 v127 t4 (wsRead c fs v98 hw17 t4) ho fs2
    (slabOf c fw A t1.val t4) hfs2 P hP _ _)
  isplitl [HX HB HS Ho]
  · isplitl [HX]; · iexact HX
    isplitl [HB]; · iexact HB
    isplitl [HS]; · iexact HS
    iexact Ho
  iintro %r ⟨HX, HB, HS, Ho⟩
  sl_exec
  sl_step
  iapply Hk
  isplitl [HR HS]
  · iapply HR; iexact HS
  isplitl [HA]; · iexact HA
  isplitl [HW]; · iexact HW
  isplitl [HO]; · iexact HO
  isplitl [HX]; · iexact HX
  isplitl [HB]; · iexact HB
  iexact Ho

end Cert.Kernel.Moe

end
-- ==== Proof.Kernel.Head.lean ====
/- The head of one expert's step: which expert it is, where its rows start, and how many there are. -/
module

public import proofs.«01_k».proof.Proof.Kernel.Expert

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (arg0 : Memref sig .tc .smem S8 .i32) (harg0 : arg0.IsWhole)
  (v1 v7 v13 v19 v25 v31 v37 v43 : BitVec 32)

/-- The table of group sizes in scalar memory, -/
abbrev gsP (f : Buf (Elt F) (arg0.view.loc (c : Thread nD τ))) : sProp 𝕄 := arg0.view.loc (c : Thread nD τ) ↦[arg0.view.set]{fullShare} f

/-- which holds the sizes `gs`. -/
def Tbl (f : Buf (Elt F) (arg0.view.loc (c : Thread nD τ))) (gs : ℕ → ℕ) : Prop :=
  ∀ (o : Fin 1 → ℕ) (ho : ∀ a, o a + S1.size a ≤ S8.size a),
    BitVec.toNat (View.readAt (Elt F) arg0.view (Rect.unit (s := S8) o S1.size ho).toLoadRect f (Shape.Idx.first numel1_S1.ge)) = gs (o 0)

/-- A sum of two words that name known numbers. -/
theorem add_of {x y : BitVec 32} {a b : ℕ} (hx : x.toNat = a) (hy : y.toNat = b) (h : a + b < 4294967296) : (Scalar.addi x y).toNat = a + b := by
  subst hx hy; exact addi_toNat x y h

set_option maxHeartbeats 400000 in
/-- The loop that adds up the sizes of the groups before an expert's: it ends at the expert's first row. -/
theorem t2_loop (H : InRange v1 v7 v13 v19 v25 v31 v37 v43) (fg : Buf (Elt F) (arg0.view.loc (c : Thread nD τ))) (hfg : Tbl c arg0 fg (sizes v1 v7 v13 v19 v25 v31 v37 v43))
    (hw16 : k0_chk16 v1 v7 v13 v19 v25 v31 v37 v43) (c0 c1 : BitVec 32) (t1 : Fin (k0_t1_loop v1 v7 v13 v19 v25 v31 v37 v43).trips) (v98 : BitVec 32) (hw17 : k0_chk17 v98) (hv : v98.toNat < 8)
    (kk : BitVec 32 → Prog (TpuEff nD τ sig (Elt F) Λ₀ .tc) (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1)) (Q : (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1) → sProp 𝕄) :
    iprop(gsP c arg0 fg
        ∗ (∀ r : BitVec 32, iprop(⌜r.toNat = start (sizes v1 v7 v13 v19 v25 v31 v37 v43) v98.toNat⌝ ∗ gsP c arg0 fg) -∗ wp frame (wpE (defs₀ (F := F)) Variants.none (c : Thread nD τ) none) Set.univ (kk r) Q))
      ⊢ wp frame (wpE (defs₀ (F := F)) Variants.none (c : Thread nD τ) none) Set.univ
          (Scf.Loop.for (k0_t2_loop v98) (k0_t2_ok v98 hw17) 0#32
            (k0_t2_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 c0 c1 t1 v98 hw17) >>= kk) Q := by
  rw [← t2_trips v98 hv]
  have h0 : (gsP c arg0 fg : sProp 𝕄) ⊢ iprop(⌜(0#32 : BitVec 32).toNat = start (sizes v1 v7 v13 v19 v25 v31 v37 v43) 0⌝ ∗ gsP c arg0 fg) := by
    iintro HG
    isplitr; · ipureintro; rfl
    iexact HG
  refine BI.wand_elim (h0.trans (Scf.wp_for_bind frame (wpE (defs₀ (F := F)) Variants.none (c : Thread nD τ) none) Set.univ _ _ _ _ _ _
    (fun k (r : BitVec 32) => iprop(⌜r.toNat = start (sizes v1 v7 v13 v19 v25 v31 v37 v43) k⌝ ∗ gsP c arg0 fg)) ?_))
  intro k acc
  have hk := lt_of_lt_of_eq k.isLt (t2_trips v98 hv)
  iintro ⟨%ha, HG⟩
  have h1 := hfg (k0_off25 v98 k) (k0_off25_inb v98 hw17 k)
  rw [show k0_off25 v98 k 0 = k.val from iv_toNat k.val (by omega)] at h1
  have h2 := start_le (sizes v1 v7 v13 v19 v25 v31 v37 v43) 268435455 H k.val
  have h3 := H k.val
  have key := add_of ha h1 (by omega)
  unfold k0_t2_body
  sl_exec
  sl_step
  isplitr
  · ipureintro; exact key
  · iexact HG

set_option maxHeartbeats 400000 in
/-- The head of an expert's step. -/
theorem part2_run (H : InRange v1 v7 v13 v19 v25 v31 v37 v43) (A : ℕ → Fin 8) (fa : Buf (Elt F) (sA.view.loc (c : Thread nD τ)))
    (fg : Buf (Elt F) (arg0.view.loc (c : Thread nD τ))) (hfg : Tbl c arg0 fg (sizes v1 v7 v13 v19 v25 v31 v37 v43))
    (hw16 : k0_chk16 v1 v7 v13 v19 v25 v31 v37 v43) (c0 c1 : BitVec 32) (t1 : Fin (k0_t1_loop v1 v7 v13 v19 v25 v31 v37 v43).trips)
    (hfa : Lists c (cnt (sizes v1 v7 v13 v19 v25 v31 v37 v43) 8) A fa) (Q : (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1) → sProp 𝕄) :
    iprop(gsP c arg0 fg ∗ actP c fa
        ∗ (∀ r : (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1), iprop(⌜r.2.1.toNat = (A t1.val).val ∧ r.2.2.2.1.toNat = start (sizes v1 v7 v13 v19 v25 v31 v37 v43) (A t1.val).val ∧ BitVec.toNat r.2.2.2.2.1 = sizes v1 v7 v13 v19 v25 v31 v37 v43 (A t1.val).val
            ∧ r.2.2.2.2.2.2.1 = endW r.2.2.2.1 r.2.2.2.2.1 ∧ r.2.2.2.2.2.2.2.1 = baseW r.2.2.2.1⌝ ∗ gsP c arg0 fg ∗ actP c fa) -∗ Q r))
      ⊢ wp frame (wpE (defs₀ (F := F)) Variants.none (c : Thread nD τ) none) Set.univ
          (k0_part2 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 c0 c1 t1) Q := by
  have hb := t1_lt8 H t1
  have hbn := t1_lt H t1
  have hA := hfa.read c _ (k0_off24_inb v1 v7 v13 v19 v25 v31 v37 v43 hw16 t1) (Shape.Idx.first numel1_S1.ge) t1.val hb hbn (off24_eq t1 hb)
  have hA8 := lt_of_eq_of_lt hA (A t1.val).isLt
  have h17 := chk17 _ hA8
  simp only [k0_part2_eq_skeleton]; unfold k0_part2_skel
  iintro ⟨HG, HA, Hk⟩
  have hG := hfg (k0_off27 (View.readAt (Elt F) sA.view (Rect.unit (s := S8) (k0_off24 v1 v7 v13 v19 v25 v31 v37 v43 t1) S1.size (k0_off24_inb v1 v7 v13 v19 v25 v31 v37 v43 hw16 t1)).toLoadRect fa (Shape.Idx.first numel1_S1.ge))) (k0_off27_inb _ h17)
  rw [show k0_off27 (View.readAt (Elt F) sA.view (Rect.unit (s := S8) (k0_off24 v1 v7 v13 v19 v25 v31 v37 v43 t1) S1.size (k0_off24_inb v1 v7 v13 v19 v25 v31 v37 v43 hw16 t1)).toLoadRect fa (Shape.Idx.first numel1_S1.ge)) 0 = (A t1.val).val from hA] at hG
  have h2 := start_le (sizes v1 v7 v13 v19 v25 v31 v37 v43) 268435455 H (A t1.val).val
  have h8 := (A t1.val).isLt
  sl_exec
  iapply (t2_loop c arg0 harg0 v1 v7 v13 v19 v25 v31 v37 v43 H fg hfg hw16 c0 c1 t1 _ _ hA8 _ _)
  isplitl [HG]; · iexact HG
  iintro %s ⟨%hs, HG⟩
  replace hs := hs.trans (congrArg (start (sizes v1 v7 v13 v19 v25 v31 v37 v43)) hA)
  have h20 := chk20 (s := s) (g := View.readAt (Elt F) arg0.view (Rect.unit (s := S8) (k0_off27 (View.readAt (Elt F) sA.view (Rect.unit (s := S8) (k0_off24 v1 v7 v13 v19 v25 v31 v37 v43 t1) S1.size (k0_off24_inb v1 v7 v13 v19 v25 v31 v37 v43 hw16 t1)).toLoadRect fa (Shape.Idx.first numel1_S1.ge))) S1.size (k0_off27_inb _ h17)).toLoadRect fg (Shape.Idx.first numel1_S1.ge))
    (by rw [hs]; omega) (lt_of_eq_of_lt hG (Nat.lt_succ_of_le (H _)) |> Nat.le_of_lt_succ) H t1
  sl_exec
  sl_step
  iapply Hk
  isplitr
  · ipureintro; exact ⟨hA, hs, hG, rfl, rfl⟩
  isplitl [HG]; · iexact HG
  iexact HA

end Cert.Kernel.Moe

end
-- ==== Proof.Kernel.Experts.lean ====
/- The loop over the active experts. -/
module

public import proofs.«01_k».proof.Proof.Kernel.Head

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

/-- A property of the output that every window, the end of every slab and the end of every expert carry on: `P a j k` of the output
when `k` windows of slab `j` of active expert `a` are done. -/
structure Steps (A : ℕ → Fin 8) (fs : Buf (Elt F) (vWs.view.loc (c : Thread nD τ)))
    (fx : Buf (Elt F) (vX.view.loc (c : Thread nD τ))) (fb : Buf (Elt F) (vB.view.loc (c : Thread nD τ)))
    (P : ℕ → ℕ → ℕ → Buf (Elt F) (vO.view.loc (c : Thread nD τ)) → Prop) : Prop where
  win : ∀ (t1 : Fin (k0_t1_loop v1 v7 v13 v19 v25 v31 v37 v43).trips) (v98 : BitVec 32) (hw17 : k0_chk17 v98) (v105 v107 : BitVec 32) (hw20 : k0_chk20 v1 v7 v13 v19 v25 v31 v37 v43 t1 v105 v107)
    (t4 : Fin k0_t4_loop.trips) (k : Fin (k0_t5_loop v105 v107).trips) fo,
    v98.toNat = (A t1.val).val → v105.toNat = start (sizes v1 v7 v13 v19 v25 v31 v37 v43) (A t1.val).val → v107.toNat = sizes v1 v7 v13 v19 v25 v31 v37 v43 (A t1.val).val →
    P t1.val t4.val k.val fo →
    P t1.val t4.val (k.val + 1) (winOut c v1 v7 v13 v19 v25 v31 v37 v43 fx fb t1 v105 v107 hw20 (endW v105 v107) (baseW v105) t4 (wsRead c fs v98 hw17 t4) (slabOf c fw A t1.val t4) k fo)
  slab : ∀ (t1 : Fin (k0_t1_loop v1 v7 v13 v19 v25 v31 v37 v43).trips) (v105 v107 : BitVec 32) (t4 : Fin k0_t4_loop.trips) fo,
    v105.toNat = start (sizes v1 v7 v13 v19 v25 v31 v37 v43) (A t1.val).val → v107.toNat = sizes v1 v7 v13 v19 v25 v31 v37 v43 (A t1.val).val →
    P t1.val t4.val (k0_t5_loop v105 v107).trips fo → P t1.val (t4.val + 1) 0 fo
  expert : ∀ (t1 : Fin (k0_t1_loop v1 v7 v13 v19 v25 v31 v37 v43).trips) fo, P t1.val 11 0 fo → P (t1.val + 1) 0 0 fo

theorem t4_trips : k0_t4_loop.trips = 11 := by decide

/-- The loop over the slabs of one expert. -/
theorem t4_loop (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (hw16 : k0_chk16 v1 v7 v13 v19 v25 v31 v37 v43) (v47 : BitVec 32)
    (t1 : Fin (k0_t1_loop v1 v7 v13 v19 v25 v31 v37 v43).trips) (arg18 v98 : BitVec 32) (hw17 : k0_chk17 v98) (v105 v107 : BitVec 32) (hw20 : k0_chk20 v1 v7 v13 v19 v25 v31 v37 v43 t1 v105 v107)
    (v109 v127 v130 v128 v131 v133 : BitVec 32) (v134 : BitVec 1)
    (hfa : Lists c (cnt (sizes v1 v7 v13 v19 v25 v31 v37 v43) 8) A fa)
    (P : ℕ → ℕ → ℕ → Buf (Elt F) (vO.view.loc (c : Thread nD τ)) → Prop) (hP : Steps c fw v1 v7 v13 v19 v25 v31 v37 v43 A fs fx fb P)
    (h98 : v98.toNat = (A t1.val).val) (h105 : v105.toNat = start (sizes v1 v7 v13 v19 v25 v31 v37 v43) (A t1.val).val) (h107 : v107.toNat = sizes v1 v7 v13 v19 v25 v31 v37 v43 (A t1.val).val)
    (h109 : v109 = endW v105 v107) (h127 : v127 = baseW v105)
    (kk : BitVec 32 → Prog (TpuEff nD τ sig (Elt F) Λ₀ .tc) (BitVec 32)) (Q : BitVec 32 → sProp 𝕄) :
    iprop(slabInv c fw A (cnt (sizes v1 v7 v13 v19 v25 v31 v37 v43) 8) (t1.val * 11) fa fs fx fb (P t1.val 0 0)
        ∗ (∀ r, slabInv c fw A (cnt (sizes v1 v7 v13 v19 v25 v31 v37 v43) 8) (t1.val * 11 + k0_t4_loop.trips) fa fs fx fb (P t1.val k0_t4_loop.trips 0)
            -∗ wp frame (wpE (defs₀ (F := F)) Variants.none (c : Thread nD τ) none) Set.univ (kk r) Q))
      ⊢ wp frame (wpE (defs₀ (F := F)) Variants.none (c : Thread nD τ) none) Set.univ
          (Scf.Loop.for k0_t4_loop k0_t4_ok 0#32
            (k0_t4_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 v105 v107 hw20 v109 v127 v130 v128 v131 v133 v134) >>= kk) Q := by
  subst h109 h127
  refine BI.wand_elim (Scf.wp_for_bind frame (wpE (defs₀ (F := F)) Variants.none (c : Thread nD τ) none) Set.univ _ _ _ _ _ _
    (fun j _ => slabInv c fw A (cnt (sizes v1 v7 v13 v19 v25 v31 v37 v43) 8) (t1.val * 11 + j) fa fs fx fb (P t1.val j 0)) ?_)
  intro t4 acc
  iintro HI
  iapply (t4_trip c fw arg0 harg0 v1 v7 v13 v19 v25 v31 v37 v43 H A fa fs fx fb hw16 v47 t1 arg18 v98 hw17 v105 v107 hw20 _ _ v130 v128 v131 v133 v134 t4 hfa
    (fun k => P t1.val t4.val k) (fun k fo => hP.win t1 v98 hw17 v105 v107 hw20 t4 k fo h98 h105 h107) acc _)
  isplitl [HI]; · iexact HI
  iintro %r ⟨HR, HA, HW, HO, HX, HB, ⟨%fo, %hfo, Ho⟩⟩
  isplitl [HR]; · iexact HR
  isplitl [HA]; · iexact HA
  isplitl [HW]; · iexact HW
  isplitl [HO]; · iexact HO
  isplitl [HX]; · iexact HX
  isplitl [HB]; · iexact HB
  iexists fo
  isplitr; · ipureintro; exact hP.slab t1 v105 v107 t4 fo h105 h107 hfo
  iexact Ho

set_option maxHeartbeats 400000 in
/-- One expert. -/
theorem t1_trip (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (fg : Buf (Elt F) (arg0.view.loc (c : Thread nD τ))) (hfg : Tbl c arg0 fg (sizes v1 v7 v13 v19 v25 v31 v37 v43))
    (hw16 : k0_chk16 v1 v7 v13 v19 v25 v31 v37 v43) (v47 : BitVec 32) (hfa : Lists c (cnt (sizes v1 v7 v13 v19 v25 v31 v37 v43) 8) A fa)
    (P : ℕ → ℕ → ℕ → Buf (Elt F) (vO.view.loc (c : Thread nD τ)) → Prop) (hP : Steps c fw v1 v7 v13 v19 v25 v31 v37 v43 A fs fx fb P)
    (t1 : Fin (k0_t1_loop v1 v7 v13 v19 v25 v31 v37 v43).trips) (acc : BitVec 32) (Q : BitVec 32 → sProp 𝕄) :
    iprop(gsP c arg0 fg ∗ slabInv c fw A (cnt (sizes v1 v7 v13 v19 v25 v31 v37 v43) 8) (t1.val * 11) fa fs fx fb (P t1.val 0 0)
        ∗ (∀ r, iprop(gsP c arg0 fg ∗ slabInv c fw A (cnt (sizes v1 v7 v13 v19 v25 v31 v37 v43) 8) ((t1.val + 1) * 11) fa fs fx fb (P (t1.val + 1) 0 0)) -∗ Q r))
      ⊢ wp frame (wpE (defs₀ (F := F)) Variants.none (c : Thread nD τ) none) Set.univ
          (k0_t1_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 acc) Q := by
  unfold k0_t1_body
  rw [wp_bind]
  iintro ⟨HG, ⟨HR, HA, Hrest⟩, Hk⟩
  iapply (part2_run c arg0 harg0 v1 v7 v13 v19 v25 v31 v37 v43 H A fa fg hfg hw16 0#32 1#32 t1 hfa _)
  isplitl [HG]; · iexact HG
  isplitl [HA]; · iexact HA
  iintro %r ⟨%hr, HG, HA⟩
  obtain ⟨arg18, v98, hw17, v105, v107, hw20, v109, v127, v130, v128, v131, v133, v134⟩ := r
  obtain ⟨h98, h105, h107, h109, h127⟩ := hr
  iapply (t4_loop c fw arg0 harg0 v1 v7 v13 v19 v25 v31 v37 v43 H A fa fs fx fb hw16 v47 t1 arg18 v98 hw17 v105 v107 hw20 v109 v127 v130 v128 v131 v133 v134 hfa P hP h98 h105 h107 h109 h127 _ _)
  isplitl [HR HA Hrest]
  · isplitl [HR]; · iexact HR
    isplitl [HA]; · iexact HA
    iexact Hrest
  iintro %r2 HI
  sl_exec
  sl_step
  iapply Hk
  isplitl [HG]; · iexact HG
  rw [show (t1.val + 1) * 11 = t1.val * 11 + k0_t4_loop.trips by rw [t4_trips]; omega]
  icases HI with ⟨HR, HA, HW, HO, HX, HB, ⟨%fo, %hfo, Ho⟩⟩
  isplitl [HR]; · iexact HR
  isplitl [HA]; · iexact HA
  isplitl [HW]; · iexact HW
  isplitl [HO]; · iexact HO
  isplitl [HX]; · iexact HX
  isplitl [HB]; · iexact HB
  iexists fo
  isplitr
  · ipureintro
    rw [t4_trips] at hfo
    exact hP.expert t1 fo hfo
  iexact Ho

/-- All of them. -/
theorem t1_loop (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (fg : Buf (Elt F) (arg0.view.loc (c : Thread nD τ))) (hfg : Tbl c arg0 fg (sizes v1 v7 v13 v19 v25 v31 v37 v43))
    (hw16 : k0_chk16 v1 v7 v13 v19 v25 v31 v37 v43) (v47 : BitVec 32) (hfa : Lists c (cnt (sizes v1 v7 v13 v19 v25 v31 v37 v43) 8) A fa)
    (P : ℕ → ℕ → ℕ → Buf (Elt F) (vO.view.loc (c : Thread nD τ)) → Prop) (hP : Steps c fw v1 v7 v13 v19 v25 v31 v37 v43 A fs fx fb P)
    (kk : BitVec 32 → Prog (TpuEff nD τ sig (Elt F) Λ₀ .tc) PUnit) (Q : PUnit → sProp 𝕄) :
    iprop((gsP c arg0 fg ∗ slabInv c fw A (cnt (sizes v1 v7 v13 v19 v25 v31 v37 v43) 8) (0 * 11) fa fs fx fb (P 0 0 0))
        ∗ (∀ r, iprop(gsP c arg0 fg ∗ slabInv c fw A (cnt (sizes v1 v7 v13 v19 v25 v31 v37 v43) 8) ((k0_t1_loop v1 v7 v13 v19 v25 v31 v37 v43).trips * 11) fa fs fx fb (P (k0_t1_loop v1 v7 v13 v19 v25 v31 v37 v43).trips 0 0))
            -∗ wp frame (wpE (defs₀ (F := F)) Variants.none (c : Thread nD τ) none) Set.univ (kk r) Q))
      ⊢ wp frame (wpE (defs₀ (F := F)) Variants.none (c : Thread nD τ) none) Set.univ
          (Scf.Loop.for (k0_t1_loop v1 v7 v13 v19 v25 v31 v37 v43) (k0_t1_ok v1 v7 v13 v19 v25 v31 v37 v43 hw16) 0#32
            (k0_t1_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47) >>= kk) Q := by
  refine BI.wand_elim (Scf.wp_for_bind frame (wpE (defs₀ (F := F)) Variants.none (c : Thread nD τ) none) Set.univ _ _ _ _ _ _
    (fun a _ => iprop(gsP c arg0 fg ∗ slabInv c fw A (cnt (sizes v1 v7 v13 v19 v25 v31 v37 v43) 8) (a * 11) fa fs fx fb (P a 0 0))) ?_)
  intro t1 acc
  iintro ⟨HG, HI⟩
  iapply (t1_trip c fw arg0 harg0 v1 v7 v13 v19 v25 v31 v37 v43 H A fa fs fx fb fg hfg hw16 v47 hfa P hP t1 acc _)
  isplitl [HG]; · iexact HG
  isplitl [HI]; · iexact HI
  iintro %r HI
  iexact HI

end Cert.Kernel.Moe

end
-- ==== Proof.Kernel.Start.lean ====
/- The start of the body: three copies into vector memory are started, and the list of active experts is built. -/
module

public import proofs.«01_k».proof.Proof.Kernel.Experts
public import Idealize.ShloMosaic.Lib.WritesUnit

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (arg0 : Memref sig .tc .smem S8 .i32) (harg0 : arg0.IsWhole)
  (v1 v7 v13 v19 v25 v31 v37 v43 : BitVec 32)

/-- Entry `i` of the table of sizes. -/
abbrev gsAt (fg : Buf (Elt F) (arg0.view.loc (c : Thread nD τ))) (i : ℕ) (hi : ∀ a, (![i] : Fin 1 → ℕ) a + S1.size a ≤ S8.size a) : BitVec 32 :=
  View.readAt (Elt F) arg0.view (Rect.unit (s := S8) ![i] S1.size hi).toLoadRect fg (Shape.Idx.first numel1_S1.ge)

/-- The eight words the table holds. -/
structure Loads (fg : Buf (Elt F) (arg0.view.loc (c : Thread nD τ))) : Prop where
  h0 : gsAt c arg0 fg 0 inb_S8_S1_0 = v1
  h1 : gsAt c arg0 fg 1 inb_S8_S1_1 = v7
  h2 : gsAt c arg0 fg 2 inb_S8_S1_2 = v13
  h3 : gsAt c arg0 fg 3 inb_S8_S1_3 = v19
  h4 : gsAt c arg0 fg 4 inb_S8_S1_4 = v25
  h5 : gsAt c arg0 fg 5 inb_S8_S1_5 = v31
  h6 : gsAt c arg0 fg 6 inb_S8_S1_6 = v37
  h7 : gsAt c arg0 fg 7 inb_S8_S1_7 = v43

/-- The list after `n` groups: each of them that has rows is at its place. -/
def Filled (n : ℕ) (gs : ℕ → ℕ) (fa : Buf (Elt F) (sA.view.loc (c : Thread nD τ))) : Prop :=
  ∀ i, i < n → 0 < gs i → ∀ k : Fin 8, k.val = cnt gs i → (fa (ix8 k) : BitVec 32).toNat = i

theorem Filled.zero (gs : ℕ → ℕ) (fa : Buf (Elt F) (sA.view.loc (c : Thread nD τ))) : Filled c 0 gs fa := fun i hi => absurd hi (Nat.not_lt_zero i)

/-- One more group. -/
theorem Filled.cons {gs : ℕ → ℕ} (fa : Buf (Elt F) (sA.view.loc (c : Thread nD τ))) (L : List (View.Piece (Elt F) S8 .i32)) (n : ℕ) (w : BitVec 32) (hw : w.toNat = n)
    (o : Fin 1 → ℕ) (ho : ∀ a, o a + S1.size a ≤ S8.size a) (h0 : o 0 = cnt gs n) (h : Filled c n gs (sA.view.writes (Elt F) fa L)) :
    Filled c (n + 1) gs (sA.view.writes (Elt F) fa (⟨Rect.unit (s := S8) o S1.size ho, fun _ => w⟩ :: L)) := by
  intro i hi hg k hk
  by_cases e : i = n
  · subst e
    have := View.read_writes_cons_unit_of_mem sA.view fa ho (fun _ => w) L (ix8 k) (fun a => ⟨0, by fin_cases a; exact Nat.one_pos⟩) rfl (by
      intro a; fin_cases a; show k.val = o 0 + 0; omega)
    exact (congrArg BitVec.toNat this).trans hw
  · have hlt : i < n := by omega
    have hc := cnt_lt gs hlt hg
    have := View.read_writes_cons_unit_of_not_mem sA.view fa ho (fun _ => w) L (ix8 k) rfl 0 (.inl (show k.val < o 0 by omega))
    exact (congrArg BitVec.toNat this).trans (h i hlt hg k hk)

/-- An operand in the host's memory, or in vector memory, held whole. -/
abbrev memP {sp : Space} {s : Shape} {e : EltTy} (M : Memref sig .tc sp s e) (f : Buf (Elt F) (M.view.loc (c : Thread nD τ))) : sProp 𝕄 :=
  M.view.loc (c : Thread nD τ) ↦[M.view.set]{fullShare} f

/-- The copy of a whole operand `M` into `V`, on its way on the cell `l`: it gives both back, `V` holding what `M` reads. -/
abbrev flyP {sp sp' : Space} {s : Shape} {e : EltTy} (M : Memref sig .tc sp s e) (V : Memref sig .tc sp' s e) (l : SemLoc sig) (n : ℕ)
    (f : Buf (Elt F) (M.view.loc (c : Thread nD τ))) (g : Buf (Elt F) (V.view.loc (c : Thread nD τ))) : sProp 𝕄 :=
  Transfers.Flight countersEmb (c : Thread nD τ) l () n
    iprop(memP c V (V.view.writes (Elt F) g [⟨Rect.whole s, ReadAs.same.apply (M.view.read (Elt F) f)⟩]) ∗ memP c M f)

set_option maxHeartbeats 400000 in
/-- The three copies started, and the first five groups listed. -/
theorem part5_run (H : InRange v1 v7 v13 v19 v25 v31 v37 v43) (fg : Buf (Elt F) (arg0.view.loc (c : Thread nD τ))) (hL : Loads c arg0 v1 v7 v13 v19 v25 v31 v37 v43 fg)
    (fmx : Buf (Elt F) (mX.view.loc (c : Thread nD τ))) (fx : Buf (Elt F) (vX.view.loc (c : Thread nD τ)))
    (fms : Buf (Elt F) (mXs.view.loc (c : Thread nD τ))) (fxs : Buf (Elt F) (vXs.view.loc (c : Thread nD τ)))
    (fmw : Buf (Elt F) (mWs.view.loc (c : Thread nD τ))) (fws : Buf (Elt F) (vWs.view.loc (c : Thread nD τ)))
    (fa : Buf (Elt F) (sA.view.loc (c : Thread nD τ))) (W : Waits sig Unit) (Q : (Σ' (v1 : Elt F .i32) (v7 : Elt F .i32) (v13 : Elt F .i32) (v19 : Elt F .i32) (v25 : Elt F .i32) (k0_hw5 : k0_chk5 v1 v7 v13 v19 v25) (v28 : BitVec 32), BitVec 32) → sProp 𝕄) :
    iprop(gsP c arg0 fg ∗ actP c fa ∗ memP c mX fmx ∗ memP c vX fx ∗ memP c mXs fms ∗ memP c vXs fxs ∗ memP c mWs fmw ∗ memP c vWs fws
        ∗ semVal ((c : Thread nD τ), SemLoc.dma cc0_scratch7.sem) 0 ∗ semVal ((c : Thread nD τ), SemLoc.dma cc0_scratch8.sem) 0 ∗ semVal ((c : Thread nD τ), SemLoc.dma cc0_scratch9.sem) 0
        ∗ owes (c : Thread nD τ) 0 W
        ∗ (∀ r, iprop(⌜r.1 = v1 ∧ r.2.1 = v7 ∧ r.2.2.1 = v13 ∧ r.2.2.2.1 = v19 ∧ r.2.2.2.2.1 = v25 ∧ r.2.2.2.2.2.2.2 = 5#32⌝ ∗ gsP c arg0 fg
            ∗ (∃ fa', ⌜Filled c 5 (sizes v1 v7 v13 v19 v25 v31 v37 v43) fa'⌝ ∗ actP c fa')
            ∗ flyP c mX vX (SemLoc.dma cc0_scratch7.sem) 16384 fmx fx ∗ flyP c mXs vXs (SemLoc.dma cc0_scratch8.sem) 32 fms fxs
            ∗ flyP c mWs vWs (SemLoc.dma cc0_scratch9.sem) 2816 fmw fws ∗ owes (c : Thread nD τ) 0 W) -∗ Q r))
      ⊢ wp frame (wpE (defs₀ (F := F)) Variants.none (c : Thread nD τ) none) Set.univ
          (k0_part5 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11) Q := by
  obtain ⟨rfl, rfl, rfl, rfl, rfl, rfl, rfl, rfl⟩ := hL
  have h1 := chk1 H
  have h2 := chk2 H
  have h3 := chk3 H
  have h4 := chk4 H
  have h5 := chk5 H
  simp only [k0_part5_eq_skeleton]; unfold k0_part5_skel
  iintro ⟨HG, HA, HmX, HvX, HmS, HvS, HmW, HvW, Hs7, Hs8, Hs9, HO, Hk⟩
  sl_exec
  sl_step
  iapply Hk
  isplitr; · ipureintro; exact ⟨rfl, rfl, rfl, rfl, rfl, rfl⟩
  isplitl [HG]; · iexact HG
  isplitl [HA]
  · iexists _
    isplitr [HA]
    swap
    · iexact HA
    · ipureintro
      exact Filled.cons c fa _ 4 4#32 rfl _ _ (off4_eq H) (Filled.cons c fa _ 3 3#32 rfl _ _ (off3_eq H) (Filled.cons c fa _ 2 2#32 rfl _ _ (off2_eq H)
        (Filled.cons c fa _ 1 1#32 rfl _ _ (off1_eq H) (Filled.cons c fa [] 0 0#32 rfl ![0] inb_S8_S1_0 rfl (Filled.zero c _ _)))))
  isplitl [Hs7]; · iexact Hs7
  isplitl [Hs8]; · iexact Hs8
  isplitl [Hs9]; · iexact Hs9
  iexact HO

end Cert.Kernel.Moe

end
-- ==== Proof.Kernel.Start6.lean ====
/- The list of active experts completed, and the first three chunks started. -/
module

public import proofs.«01_k».proof.Proof.Kernel.Start

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

/-- The next chunk to start, out of the ring, -/
theorem ring_open (A : ℕ → Fin 8) (k : ℕ) (hk : k < 88) (o : Fin 3 → ℕ) (ho : InSlot o) (s : Fin 1 → ℕ) (hs : InCell s) (eo : o = ![k, 0, 0]) (es : s 0 = k) :
    (ring c fw A 0 k : sProp 𝕄) ⊢ iprop(freeAt c fw o ho s hs ⟨k, hk⟩ ∗ Ring.restW (chunk c fw A) (stateOf 0 k) ⟨k, hk⟩) := by
  unfold ring
  rw [Ring.AtW_focus _ _ (⟨k, hk⟩ : Fin 88), state_free 0 k hk (by omega), chunk_free c fw (A := A) ⟨k, hk⟩ o ho s hs eo es]

/-- and put back on its way. -/
theorem ring_close (A : ℕ → Fin 8) (k : ℕ) (hk : k < 88) (o : Fin 3 → ℕ) (ho : InSlot o) (s : Fin 1 → ℕ) (hs : InCell s) (q : Fin 3 → ℕ) (hq : InSlab q)
    (eo : o = ![k, 0, 0]) (es : s 0 = k) (eq : q = ![(A (k / 11)).val, 0, k % 11 * 256]) :
    iprop(flyAt c fw o ho s hs q hq ⟨k, hk⟩ ∗ Ring.restW (chunk c fw A) (stateOf 0 k) ⟨k, hk⟩) ⊢ (ring c fw A 0 (k + 1) : sProp 𝕄) := by
  unfold ring
  rw [← state_start 0 k hk (by omega), ← chunk_fly c fw (A := A) ⟨k, hk⟩ o ho s hs q hq eo es eq]
  exact Ring.AtW_update (chunk c fw A) _ _ _

/-- `A` names the groups that have rows, in order. -/
def Names (gs : ℕ → ℕ) (A : ℕ → Fin 8) : Prop := ∀ a, a < cnt gs 8 → 0 < gs (A a).val ∧ cnt gs (A a).val = a

/-- A list with all eight groups names them. -/
theorem Filled.lists {gs : ℕ → ℕ} {A : ℕ → Fin 8} (hA : Names gs A) {fa : Buf (Elt F) (sA.view.loc (c : Thread nD τ))} (h : Filled c 8 gs fa) :
    Lists c (cnt gs 8) A fa := fun a ha => h _ (A a.val).isLt (hA _ ha).1 a (hA _ ha).2.symm

/-- The contents of the list of active experts put out of sight. -/
theorem act_hide {fa : Buf (Elt F) (sA.view.loc (c : Thread nD τ))} : (actP c fa : sProp 𝕄) ⊢ iprop(∃ fb, ⌜fb = fa⌝ ∗ actP c fb) := by
  iintro H
  iexists fa
  isplitr; · ipureintro; rfl
  iexact H

set_option maxHeartbeats 400000 in
/-- There are chunks: three are started. -/
theorem part6_start (H : InRange v1 v7 v13 v19 v25 v31 v37 v43) (A : ℕ → Fin 8) (hA : Names (sizes v1 v7 v13 v19 v25 v31 v37 v43) A)
    (fg : Buf (Elt F) (arg0.view.loc (c : Thread nD τ))) (hL : Loads c arg0 v1 v7 v13 v19 v25 v31 v37 v43 fg)
    (fa : Buf (Elt F) (sA.view.loc (c : Thread nD τ))) (hfa : Filled c 5 (sizes v1 v7 v13 v19 v25 v31 v37 v43) fa) (hw5 : k0_chk5 v1 v7 v13 v19 v25) (v28 : BitVec 32)
    (hn : 0 < cnt (sizes v1 v7 v13 v19 v25 v31 v37 v43) 8) (W : Waits sig Unit) (Q : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32) → sProp 𝕄) :
    iprop(gsP c arg0 fg ∗ actP c fa ∗ ring c fw A 0 0 ∗ owes (c : Thread nD τ) 0 W
        ∗ (∀ r : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32), iprop(⌜r.1 = v31 ∧ r.2.1 = v37 ∧ r.2.2.1 = v43⌝ ∗ gsP c arg0 fg
            ∗ (∃ fa', ⌜Lists c (cnt (sizes v1 v7 v13 v19 v25 v31 v37 v43) 8) A fa'⌝ ∗ actP c fa')
            ∗ ring c fw A 0 3 ∗ owes (c : Thread nD τ) 0 W) -∗ Q r))
      ⊢ wp frame (wpE (defs₀ (F := F)) Variants.none (c : Thread nD τ) none) Set.univ
          (k0_part6 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 hw5 v28 5#32) Q := by
  have h6 := chk6 H
  have h7 := chk7 H
  have h8 := (chk16 H : k0_chk16 v1 v7 v13 v19 v25 v31 v37 v43)
  obtain ⟨h0, h1, h2, h3, h4, rfl, rfl, rfl⟩ := hL
  simp only [k0_part6_eq_skeleton]; unfold k0_part6_skel
  iintro ⟨HG, HA, HR, HO, Hk⟩
  sl_exec
  ihave HE := (act_hide c) $$ HA
  icases HE with ⟨%fb, %e, HA⟩
  have hfb : Lists c (cnt (sizes v1 v7 v13 v19 v25 (gsAt c arg0 fg 5 inb_S8_S1_5) (gsAt c arg0 fg 6 inb_S8_S1_6) (gsAt c arg0 fg 7 inb_S8_S1_7)) 8) A fb := by
    rw [e]
    exact Filled.lists c hA (Filled.cons c fa _ 7 7#32 rfl _ h7 (off7_eq H) (Filled.cons c fa _ 6 6#32 rfl _ h6 (off6_eq H) (Filled.cons c fa [] 5 5#32 rfl _ hw5 (off5_eq H) hfa)))
  have ha0 := hfb.read c k0_off8 k0_off8_inb (Shape.Idx.first numel1_S1.ge) 0 (by omega) hn (by rfl)
  have hc0 : k0_chk8 v1 v7 v13 v19 v25 (gsAt c arg0 fg 5 inb_S8_S1_5) (gsAt c arg0 fg 6 inb_S8_S1_6) (gsAt c arg0 fg 7 inb_S8_S1_7) _ := chk8 _ (lt_of_eq_of_lt ha0 (A 0).isLt)
  have hq0 : k0_off9 (View.readAt (Elt F) sA.view (Rect.unit (s := S8) k0_off8 S1.size k0_off8_inb).toLoadRect fb (Shape.Idx.first numel1_S1.ge)) = ![(A (0 / 11)).val, 0, 0 % 11 * 256] := by
    rw [off9_eq, ha0]
  have hd0 := (cond1_iff H).2 hn
  have ha1 := hfb.read c k0_off10 k0_off10_inb (Shape.Idx.first numel1_S1.ge) 0 (by omega) hn (by rfl)
  have hc1 : k0_chk9 v1 v7 v13 v19 v25 (gsAt c arg0 fg 5 inb_S8_S1_5) (gsAt c arg0 fg 6 inb_S8_S1_6) (gsAt c arg0 fg 7 inb_S8_S1_7) _ := chk9 _ (lt_of_eq_of_lt ha1 (A 0).isLt)
  have hq1 : k0_off11 (View.readAt (Elt F) sA.view (Rect.unit (s := S8) k0_off10 S1.size k0_off10_inb).toLoadRect fb (Shape.Idx.first numel1_S1.ge)) = ![(A (1 / 11)).val, 0, 1 % 11 * 256] := by
    rw [off11_eq, ha1]
  have hd1 := (cond2_iff H).2 hn
  have ha2 := hfb.read c k0_off12 k0_off12_inb (Shape.Idx.first numel1_S1.ge) 0 (by omega) hn (by rfl)
  have hc2 : k0_chk10 v1 v7 v13 v19 v25 (gsAt c arg0 fg 5 inb_S8_S1_5) (gsAt c arg0 fg 6 inb_S8_S1_6) (gsAt c arg0 fg 7 inb_S8_S1_7) _ := chk10 _ (lt_of_eq_of_lt ha2 (A 0).isLt)
  have hq2 : k0_off13 (View.readAt (Elt F) sA.view (Rect.unit (s := S8) k0_off12 S1.size k0_off12_inb).toLoadRect fb (Shape.Idx.first numel1_S1.ge)) = ![(A (2 / 11)).val, 0, 2 % 11 * 256] := by
    rw [off13_eq, ha2]
  have hd2 := (cond3_iff H).2 hn
  ihave HC := (ring_open c fw A 0 (by omega) ![0, 0, 0] inb_S88x2048x256_S1x2048x256_0_0_0 ![0] inb_S88_S1_0 rfl rfl) $$ HR
  icases HC with ⟨⟨Hcell0, ⟨%f0, Hslot0⟩, Htok0⟩, HR⟩
  sl_exec
  ihave HR := (ring_close c fw A 0 (by omega) ![0, 0, 0] inb_S88x2048x256_S1x2048x256_0_0_0 ![0] inb_S88_S1_0 _ (k0_off9_inb v1 v7 v13 v19 v25 (gsAt c arg0 fg 5 inb_S8_S1_5) (gsAt c arg0 fg 6 inb_S8_S1_6) (gsAt c arg0 fg 7 inb_S8_S1_7) _ hc0 hd0) rfl rfl hq0) $$ [Hcell0 Htok0 HR]
  · isplitr [HR]
    · isplitl [Hcell0]; · iexists f0; iexact Hcell0
      iexact Htok0
    · iexact HR
  ihave HC := (ring_open c fw A 1 (by omega) ![1, 0, 0] inb_S88x2048x256_S1x2048x256_1_0_0 ![1] inb_S88_S1_1 rfl rfl) $$ HR
  icases HC with ⟨⟨Hcell1, ⟨%f1, Hslot1⟩, Htok1⟩, HR⟩
  sl_exec
  ihave HR := (ring_close c fw A 1 (by omega) ![1, 0, 0] inb_S88x2048x256_S1x2048x256_1_0_0 ![1] inb_S88_S1_1 _ (k0_off11_inb v1 v7 v13 v19 v25 (gsAt c arg0 fg 5 inb_S8_S1_5) (gsAt c arg0 fg 6 inb_S8_S1_6) (gsAt c arg0 fg 7 inb_S8_S1_7) _ hc1 hd1) rfl rfl hq1) $$ [Hcell1 Htok1 HR]
  · isplitr [HR]
    · isplitl [Hcell1]; · iexists f1; iexact Hcell1
      iexact Htok1
    · iexact HR
  ihave HC := (ring_open c fw A 2 (by omega) ![2, 0, 0] inb_S88x2048x256_S1x2048x256_2_0_0 ![2] inb_S88_S1_2 rfl rfl) $$ HR
  icases HC with ⟨⟨Hcell2, ⟨%f2, Hslot2⟩, Htok2⟩, HR⟩
  sl_exec
  ihave HR := (ring_close c fw A 2 (by omega) ![2, 0, 0] inb_S88x2048x256_S1x2048x256_2_0_0 ![2] inb_S88_S1_2 _ (k0_off13_inb v1 v7 v13 v19 v25 (gsAt c arg0 fg 5 inb_S8_S1_5) (gsAt c arg0 fg 6 inb_S8_S1_6) (gsAt c arg0 fg 7 inb_S8_S1_7) _ hc2 hd2) rfl rfl hq2) $$ [Hcell2 Htok2 HR]
  · isplitr [HR]
    · isplitl [Hcell2]; · iexists f2; iexact Hcell2
      iexact Htok2
    · iexact HR
  sl_exec
  sl_step
  iapply Hk
  isplitr; · ipureintro; exact ⟨rfl, rfl, rfl⟩
  isplitl [HG]; · iexact HG
  isplitl [HA]
  · iexists fb
    isplitr; · ipureintro; exact hfb
    iexact HA
  isplitl [HR]; · iexact HR
  iexact HO

set_option maxHeartbeats 400000 in
/-- There are none: nothing is started. -/
theorem part6_none (H : InRange v1 v7 v13 v19 v25 v31 v37 v43) (A : ℕ → Fin 8) (hA : Names (sizes v1 v7 v13 v19 v25 v31 v37 v43) A)
    (fg : Buf (Elt F) (arg0.view.loc (c : Thread nD τ))) (hL : Loads c arg0 v1 v7 v13 v19 v25 v31 v37 v43 fg)
    (fa : Buf (Elt F) (sA.view.loc (c : Thread nD τ))) (hfa : Filled c 5 (sizes v1 v7 v13 v19 v25 v31 v37 v43) fa) (hw5 : k0_chk5 v1 v7 v13 v19 v25) (v28 : BitVec 32)
    (hn : ¬0 < cnt (sizes v1 v7 v13 v19 v25 v31 v37 v43) 8) (W : Waits sig Unit) (Q : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32) → sProp 𝕄) :
    iprop(gsP c arg0 fg ∗ actP c fa ∗ ring c fw A 0 0 ∗ owes (c : Thread nD τ) 0 W
        ∗ (∀ r : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32), iprop(⌜r.1 = v31 ∧ r.2.1 = v37 ∧ r.2.2.1 = v43⌝ ∗ gsP c arg0 fg
            ∗ (∃ fa', ⌜Lists c (cnt (sizes v1 v7 v13 v19 v25 v31 v37 v43) 8) A fa'⌝ ∗ actP c fa')
            ∗ ring c fw A 0 0 ∗ owes (c : Thread nD τ) 0 W) -∗ Q r))
      ⊢ wp frame (wpE (defs₀ (F := F)) Variants.none (c : Thread nD τ) none) Set.univ
          (k0_part6 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 hw5 v28 5#32) Q := by
  have h6 := chk6 H
  have h7 := chk7 H
  have h8 := (chk16 H : k0_chk16 v1 v7 v13 v19 v25 v31 v37 v43)
  obtain ⟨h0, h1, h2, h3, h4, rfl, rfl, rfl⟩ := hL
  simp only [k0_part6_eq_skeleton]; unfold k0_part6_skel
  iintro ⟨HG, HA, HR, HO, Hk⟩
  sl_exec
  ihave HE := (act_hide c) $$ HA
  icases HE with ⟨%fb, %e, HA⟩
  have hfb : Lists c (cnt (sizes v1 v7 v13 v19 v25 (gsAt c arg0 fg 5 inb_S8_S1_5) (gsAt c arg0 fg 6 inb_S8_S1_6) (gsAt c arg0 fg 7 inb_S8_S1_7)) 8) A fb := by
    rw [e]
    exact Filled.lists c hA (Filled.cons c fa _ 7 7#32 rfl _ h7 (off7_eq H) (Filled.cons c fa _ 6 6#32 rfl _ h6 (off6_eq H) (Filled.cons c fa [] 5 5#32 rfl _ hw5 (off5_eq H) hfa)))
  have hd0 := mt (cond1_iff H).1 hn
  have hd1 := mt (cond2_iff H).1 hn
  have hd2 := mt (cond3_iff H).1 hn
  sl_exec
  sl_step
  iapply Hk
  isplitr; · ipureintro; exact ⟨rfl, rfl, rfl⟩
  isplitl [HG]; · iexact HG
  isplitl [HA]
  · iexists fb
    isplitr; · ipureintro; exact hfb
    iexact HA
  isplitl [HR]; · iexact HR
  iexact HO

/-- Either way. -/
theorem part6_run (H : InRange v1 v7 v13 v19 v25 v31 v37 v43) (A : ℕ → Fin 8) (hA : Names (sizes v1 v7 v13 v19 v25 v31 v37 v43) A)
    (fg : Buf (Elt F) (arg0.view.loc (c : Thread nD τ))) (hL : Loads c arg0 v1 v7 v13 v19 v25 v31 v37 v43 fg)
    (fa : Buf (Elt F) (sA.view.loc (c : Thread nD τ))) (hfa : Filled c 5 (sizes v1 v7 v13 v19 v25 v31 v37 v43) fa) (hw5 : k0_chk5 v1 v7 v13 v19 v25) (v28 : BitVec 32)
     (W : Waits sig Unit) (Q : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32) → sProp 𝕄) :
    iprop(gsP c arg0 fg ∗ actP c fa ∗ ring c fw A 0 0 ∗ owes (c : Thread nD τ) 0 W
        ∗ (∀ r : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32), iprop(⌜r.1 = v31 ∧ r.2.1 = v37 ∧ r.2.2.1 = v43⌝ ∗ gsP c arg0 fg
            ∗ (∃ fa', ⌜Lists c (cnt (sizes v1 v7 v13 v19 v25 v31 v37 v43) 8) A fa'⌝ ∗ actP c fa')
            ∗ ring c fw A 0 (min 3 (cnt (sizes v1 v7 v13 v19 v25 v31 v37 v43) 8 * 11)) ∗ owes (c : Thread nD τ) 0 W) -∗ Q r))
      ⊢ wp frame (wpE (defs₀ (F := F)) Variants.none (c : Thread nD τ) none) Set.univ
          (k0_part6 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 hw5 v28 5#32) Q := by
  by_cases hn : 0 < cnt (sizes v1 v7 v13 v19 v25 v31 v37 v43) 8
  · rw [show min 3 (cnt (sizes v1 v7 v13 v19 v25 v31 v37 v43) 8 * 11) = 3 by omega]
    exact part6_start c fw arg0 harg0 v1 v7 v13 v19 v25 v31 v37 v43 H A hA fg hL fa hfa hw5 v28 hn W Q
  · rw [show min 3 (cnt (sizes v1 v7 v13 v19 v25 v31 v37 v43) 8 * 11) = 0 by omega]
    exact part6_none c fw arg0 harg0 v1 v7 v13 v19 v25 v31 v37 v43 H A hA fg hL fa hfa hw5 v28 hn W Q

end Cert.Kernel.Moe

end
-- ==== Proof.Kernel.Start7.lean ====
/- The next five chunks started, the output cleared, and the row scales spread over the lanes. -/
module

public import proofs.«01_k».proof.Proof.Kernel.Start6

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

/-- One row of the row scales, as the copy brings them. -/
abbrev xsRow (fms : Buf (Elt F) (mXs.view.loc (c : Thread nD τ))) (h : ℕ) (hi : ∀ a, (![h, 0] : Fin 2 → ℕ) a + S1x128.size a ≤ S2x128.size a) : Vec F S1x128 .f32 :=
  vXs.view.readCov [⟨Rect.whole S2x128, ReadAs.same.apply (mXs.view.read (Elt F) fms)⟩] (Rect.unit (s := S2x128) ![h, 0] S1x128.size hi).toLoadRect

set_option maxHeartbeats 400000 in
/-- There are chunks: five more are started. -/
theorem part7_start (H : InRange v1 v7 v13 v19 v25 v31 v37 v43) (A : ℕ → Fin 8)
    (fb : Buf (Elt F) (sA.view.loc (c : Thread nD τ))) (hfb : Lists c (cnt (sizes v1 v7 v13 v19 v25 v31 v37 v43) 8) A fb) (v47 v58 c3 c0 : BitVec 32)
    (fms : Buf (Elt F) (mXs.view.loc (c : Thread nD τ))) (fxs : Buf (Elt F) (vXs.view.loc (c : Thread nD τ)))
    (fo : Buf (Elt F) (vO.view.loc (c : Thread nD τ))) (fB : Buf (Elt F) (vB.view.loc (c : Thread nD τ)))
    (hn : 0 < cnt (sizes v1 v7 v13 v19 v25 v31 v37 v43) 8) (W : Waits sig Unit) (Q : (Σ' (_ : FVec F S128x128 .f32), Vec F S128x128 .f32) → sProp 𝕄) :
    iprop(actP c fb ∗ ring c fw A 0 3 ∗ memP c vO fo ∗ memP c vB fB ∗ flyP c mXs vXs (SemLoc.dma cc0_scratch8.sem) 32 fms fxs ∗ owes (c : Thread nD τ) 0 W
        ∗ (∀ r : (Σ' (_ : FVec F S128x128 .f32), Vec F S128x128 .f32), iprop(⌜r.1 = k0_pay8 (xsRow c fms 1 inb_S2x128_S1x128_1_0)⌝ ∗ actP c fb ∗ ring c fw A 0 8
            ∗ memP c vO (vO.view.writes (Elt F) fo [⟨Rect.unit (s := S256x2816) ![0, 0] S256x2816.size inb_S256x2816_S256x2816_0_0, k0_pay6⟩])
            ∗ memP c vB (vB.view.writes (Elt F) fB [⟨Rect.unit (s := S256x128) ![0, 0] S128x128.size inb_S256x128_S128x128_0_0, k0_pay7 (xsRow c fms 0 inb_S2x128_S1x128_0_0)⟩])
            ∗ memP c vXs (vXs.view.writes (Elt F) fxs [⟨Rect.whole S2x128, ReadAs.same.apply (mXs.view.read (Elt F) fms)⟩]) ∗ memP c mXs fms
            ∗ semVal ((c : Thread nD τ), SemLoc.dma cc0_scratch8.sem) 0 ∗ (∃ W, owes (c : Thread nD τ) 0 W)) -∗ Q r))
      ⊢ wp frame (wpE (defs₀ (F := F)) Variants.none (c : Thread nD τ) none) Set.univ
          (k0_part7 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 v47 v58 c3 c0) Q := by
  simp only [k0_part7_eq_skeleton]; unfold k0_part7_skel
  iintro ⟨HA, HR, HvO, HvB, HF, HO, Hk⟩
  have ha3 := hfb.read c k0_off14 k0_off14_inb (Shape.Idx.first numel1_S1.ge) 0 (by omega) hn (by rfl)
  have hc3 : k0_chk11 v1 v7 v13 v19 v25 v31 v37 v43 _ := chk11 _ (lt_of_eq_of_lt ha3 (A 0).isLt)
  have hq3 : k0_off15 (View.readAt (Elt F) sA.view (Rect.unit (s := S8) k0_off14 S1.size k0_off14_inb).toLoadRect fb (Shape.Idx.first numel1_S1.ge)) = ![(A (3 / 11)).val, 0, 3 % 11 * 256] := by
    rw [off15_eq, ha3]
  have hd3 := (cond4_iff H).2 hn
  have ha4 := hfb.read c k0_off16 k0_off16_inb (Shape.Idx.first numel1_S1.ge) 0 (by omega) hn (by rfl)
  have hc4 : k0_chk12 v1 v7 v13 v19 v25 v31 v37 v43 _ := chk12 _ (lt_of_eq_of_lt ha4 (A 0).isLt)
  have hq4 : k0_off17 (View.readAt (Elt F) sA.view (Rect.unit (s := S8) k0_off16 S1.size k0_off16_inb).toLoadRect fb (Shape.Idx.first numel1_S1.ge)) = ![(A (4 / 11)).val, 0, 4 % 11 * 256] := by
    rw [off17_eq, ha4]
  have hd4 := (cond5_iff H).2 hn
  have ha5 := hfb.read c k0_off18 k0_off18_inb (Shape.Idx.first numel1_S1.ge) 0 (by omega) hn (by rfl)
  have hc5 : k0_chk13 v1 v7 v13 v19 v25 v31 v37 v43 _ := chk13 _ (lt_of_eq_of_lt ha5 (A 0).isLt)
  have hq5 : k0_off19 (View.readAt (Elt F) sA.view (Rect.unit (s := S8) k0_off18 S1.size k0_off18_inb).toLoadRect fb (Shape.Idx.first numel1_S1.ge)) = ![(A (5 / 11)).val, 0, 5 % 11 * 256] := by
    rw [off19_eq, ha5]
  have hd5 := (cond6_iff H).2 hn
  have ha6 := hfb.read c k0_off20 k0_off20_inb (Shape.Idx.first numel1_S1.ge) 0 (by omega) hn (by rfl)
  have hc6 : k0_chk14 v1 v7 v13 v19 v25 v31 v37 v43 _ := chk14 _ (lt_of_eq_of_lt ha6 (A 0).isLt)
  have hq6 : k0_off21 (View.readAt (Elt F) sA.view (Rect.unit (s := S8) k0_off20 S1.size k0_off20_inb).toLoadRect fb (Shape.Idx.first numel1_S1.ge)) = ![(A (6 / 11)).val, 0, 6 % 11 * 256] := by
    rw [off21_eq, ha6]
  have hd6 := (cond7_iff H).2 hn
  have ha7 := hfb.read c k0_off22 k0_off22_inb (Shape.Idx.first numel1_S1.ge) 0 (by omega) hn (by rfl)
  have hc7 : k0_chk15 v1 v7 v13 v19 v25 v31 v37 v43 _ := chk15 _ (lt_of_eq_of_lt ha7 (A 0).isLt)
  have hq7 : k0_off23 (View.readAt (Elt F) sA.view (Rect.unit (s := S8) k0_off22 S1.size k0_off22_inb).toLoadRect fb (Shape.Idx.first numel1_S1.ge)) = ![(A (7 / 11)).val, 0, 7 % 11 * 256] := by
    rw [off23_eq, ha7]
  have hd7 := (cond8_iff H).2 hn
  ihave HC := (ring_open c fw A 3 (by omega) ![3, 0, 0] inb_S88x2048x256_S1x2048x256_3_0_0 ![3] inb_S88_S1_3 rfl rfl) $$ HR
  icases HC with ⟨⟨Hcell3, ⟨%f3, Hslot3⟩, Htok3⟩, HR⟩
  sl_exec
  ihave HR := (ring_close c fw A 3 (by omega) ![3, 0, 0] inb_S88x2048x256_S1x2048x256_3_0_0 ![3] inb_S88_S1_3 _ (k0_off15_inb v1 v7 v13 v19 v25 v31 v37 v43 _ hc3 hd3) rfl rfl hq3) $$ [Hcell3 Htok3 HR]
  · isplitr [HR]
    · isplitl [Hcell3]; · iexists f3; iexact Hcell3
      iexact Htok3
    · iexact HR
  ihave HC := (ring_open c fw A 4 (by omega) ![4, 0, 0] inb_S88x2048x256_S1x2048x256_4_0_0 ![4] inb_S88_S1_4 rfl rfl) $$ HR
  icases HC with ⟨⟨Hcell4, ⟨%f4, Hslot4⟩, Htok4⟩, HR⟩
  sl_exec
  ihave HR := (ring_close c fw A 4 (by omega) ![4, 0, 0] inb_S88x2048x256_S1x2048x256_4_0_0 ![4] inb_S88_S1_4 _ (k0_off17_inb v1 v7 v13 v19 v25 v31 v37 v43 _ hc4 hd4) rfl rfl hq4) $$ [Hcell4 Htok4 HR]
  · isplitr [HR]
    · isplitl [Hcell4]; · iexists f4; iexact Hcell4
      iexact Htok4
    · iexact HR
  ihave HC := (ring_open c fw A 5 (by omega) ![5, 0, 0] inb_S88x2048x256_S1x2048x256_5_0_0 ![5] inb_S88_S1_5 rfl rfl) $$ HR
  icases HC with ⟨⟨Hcell5, ⟨%f5, Hslot5⟩, Htok5⟩, HR⟩
  sl_exec
  ihave HR := (ring_close c fw A 5 (by omega) ![5, 0, 0] inb_S88x2048x256_S1x2048x256_5_0_0 ![5] inb_S88_S1_5 _ (k0_off19_inb v1 v7 v13 v19 v25 v31 v37 v43 _ hc5 hd5) rfl rfl hq5) $$ [Hcell5 Htok5 HR]
  · isplitr [HR]
    · isplitl [Hcell5]; · iexists f5; iexact Hcell5
      iexact Htok5
    · iexact HR
  ihave HC := (ring_open c fw A 6 (by omega) ![6, 0, 0] inb_S88x2048x256_S1x2048x256_6_0_0 ![6] inb_S88_S1_6 rfl rfl) $$ HR
  icases HC with ⟨⟨Hcell6, ⟨%f6, Hslot6⟩, Htok6⟩, HR⟩
  sl_exec
  ihave HR := (ring_close c fw A 6 (by omega) ![6, 0, 0] inb_S88x2048x256_S1x2048x256_6_0_0 ![6] inb_S88_S1_6 _ (k0_off21_inb v1 v7 v13 v19 v25 v31 v37 v43 _ hc6 hd6) rfl rfl hq6) $$ [Hcell6 Htok6 HR]
  · isplitr [HR]
    · isplitl [Hcell6]; · iexists f6; iexact Hcell6
      iexact Htok6
    · iexact HR
  ihave HC := (ring_open c fw A 7 (by omega) ![7, 0, 0] inb_S88x2048x256_S1x2048x256_7_0_0 ![7] inb_S88_S1_7 rfl rfl) $$ HR
  icases HC with ⟨⟨Hcell7, ⟨%f7, Hslot7⟩, Htok7⟩, HR⟩
  sl_exec
  ihave HR := (ring_close c fw A 7 (by omega) ![7, 0, 0] inb_S88x2048x256_S1x2048x256_7_0_0 ![7] inb_S88_S1_7 _ (k0_off23_inb v1 v7 v13 v19 v25 v31 v37 v43 _ hc7 hd7) rfl rfl hq7) $$ [Hcell7 Htok7 HR]
  · isplitr [HR]
    · isplitl [Hcell7]; · iexists f7; iexact Hcell7
      iexact Htok7
    · iexact HR
  sl_exec
  sl_step
  iapply Hk
  isplitr; · ipureintro; rfl
  isplitl [HA]; · iexact HA
  isplitl [HR]; · iexact HR
  isplitl [HvO]; · iexact HvO
  isplitl [HvB]; · iexact HvB
  isplitl [HF_dst]; · iexact HF_dst
  isplitl [HF_src]; · iexact HF_src
  isplitl [HF]; · iexact HF
  iexists _; iexact HO

set_option maxHeartbeats 400000 in
/-- There are none. -/
theorem part7_none (H : InRange v1 v7 v13 v19 v25 v31 v37 v43) (A : ℕ → Fin 8)
    (fb : Buf (Elt F) (sA.view.loc (c : Thread nD τ))) (hfb : Lists c (cnt (sizes v1 v7 v13 v19 v25 v31 v37 v43) 8) A fb) (v47 v58 c3 c0 : BitVec 32)
    (fms : Buf (Elt F) (mXs.view.loc (c : Thread nD τ))) (fxs : Buf (Elt F) (vXs.view.loc (c : Thread nD τ)))
    (fo : Buf (Elt F) (vO.view.loc (c : Thread nD τ))) (fB : Buf (Elt F) (vB.view.loc (c : Thread nD τ)))
    (hn : ¬0 < cnt (sizes v1 v7 v13 v19 v25 v31 v37 v43) 8) (W : Waits sig Unit) (Q : (Σ' (_ : FVec F S128x128 .f32), Vec F S128x128 .f32) → sProp 𝕄) :
    iprop(actP c fb ∗ ring c fw A 0 0 ∗ memP c vO fo ∗ memP c vB fB ∗ flyP c mXs vXs (SemLoc.dma cc0_scratch8.sem) 32 fms fxs ∗ owes (c : Thread nD τ) 0 W
        ∗ (∀ r : (Σ' (_ : FVec F S128x128 .f32), Vec F S128x128 .f32), iprop(⌜r.1 = k0_pay8 (xsRow c fms 1 inb_S2x128_S1x128_1_0)⌝ ∗ actP c fb ∗ ring c fw A 0 0
            ∗ memP c vO (vO.view.writes (Elt F) fo [⟨Rect.unit (s := S256x2816) ![0, 0] S256x2816.size inb_S256x2816_S256x2816_0_0, k0_pay6⟩])
            ∗ memP c vB (vB.view.writes (Elt F) fB [⟨Rect.unit (s := S256x128) ![0, 0] S128x128.size inb_S256x128_S128x128_0_0, k0_pay7 (xsRow c fms 0 inb_S2x128_S1x128_0_0)⟩])
            ∗ memP c vXs (vXs.view.writes (Elt F) fxs [⟨Rect.whole S2x128, ReadAs.same.apply (mXs.view.read (Elt F) fms)⟩]) ∗ memP c mXs fms
            ∗ semVal ((c : Thread nD τ), SemLoc.dma cc0_scratch8.sem) 0 ∗ (∃ W, owes (c : Thread nD τ) 0 W)) -∗ Q r))
      ⊢ wp frame (wpE (defs₀ (F := F)) Variants.none (c : Thread nD τ) none) Set.univ
          (k0_part7 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 v47 v58 c3 c0) Q := by
  simp only [k0_part7_eq_skeleton]; unfold k0_part7_skel
  iintro ⟨HA, HR, HvO, HvB, HF, HO, Hk⟩
  have hd3 := mt (cond4_iff H).1 hn
  have hd4 := mt (cond5_iff H).1 hn
  have hd5 := mt (cond6_iff H).1 hn
  have hd6 := mt (cond7_iff H).1 hn
  have hd7 := mt (cond8_iff H).1 hn
  sl_exec
  sl_step
  iapply Hk
  isplitr; · ipureintro; rfl
  isplitl [HA]; · iexact HA
  isplitl [HR]; · iexact HR
  isplitl [HvO]; · iexact HvO
  isplitl [HvB]; · iexact HvB
  isplitl [HF_dst]; · iexact HF_dst
  isplitl [HF_src]; · iexact HF_src
  isplitl [HF]; · iexact HF
  iexists _; iexact HO

/-- Either way. -/
theorem part7_run (H : InRange v1 v7 v13 v19 v25 v31 v37 v43) (A : ℕ → Fin 8)
    (fb : Buf (Elt F) (sA.view.loc (c : Thread nD τ))) (hfb : Lists c (cnt (sizes v1 v7 v13 v19 v25 v31 v37 v43) 8) A fb) (v47 v58 c3 c0 : BitVec 32)
    (fms : Buf (Elt F) (mXs.view.loc (c : Thread nD τ))) (fxs : Buf (Elt F) (vXs.view.loc (c : Thread nD τ)))
    (fo : Buf (Elt F) (vO.view.loc (c : Thread nD τ))) (fB : Buf (Elt F) (vB.view.loc (c : Thread nD τ)))
     (W : Waits sig Unit) (Q : (Σ' (_ : FVec F S128x128 .f32), Vec F S128x128 .f32) → sProp 𝕄) :
    iprop(actP c fb ∗ ring c fw A 0 (min 3 (cnt (sizes v1 v7 v13 v19 v25 v31 v37 v43) 8 * 11)) ∗ memP c vO fo ∗ memP c vB fB ∗ flyP c mXs vXs (SemLoc.dma cc0_scratch8.sem) 32 fms fxs ∗ owes (c : Thread nD τ) 0 W
        ∗ (∀ r : (Σ' (_ : FVec F S128x128 .f32), Vec F S128x128 .f32), iprop(⌜r.1 = k0_pay8 (xsRow c fms 1 inb_S2x128_S1x128_1_0)⌝ ∗ actP c fb ∗ ring c fw A 0 (min 8 (cnt (sizes v1 v7 v13 v19 v25 v31 v37 v43) 8 * 11))
            ∗ memP c vO (vO.view.writes (Elt F) fo [⟨Rect.unit (s := S256x2816) ![0, 0] S256x2816.size inb_S256x2816_S256x2816_0_0, k0_pay6⟩])
            ∗ memP c vB (vB.view.writes (Elt F) fB [⟨Rect.unit (s := S256x128) ![0, 0] S128x128.size inb_S256x128_S128x128_0_0, k0_pay7 (xsRow c fms 0 inb_S2x128_S1x128_0_0)⟩])
            ∗ memP c vXs (vXs.view.writes (Elt F) fxs [⟨Rect.whole S2x128, ReadAs.same.apply (mXs.view.read (Elt F) fms)⟩]) ∗ memP c mXs fms
            ∗ semVal ((c : Thread nD τ), SemLoc.dma cc0_scratch8.sem) 0 ∗ (∃ W, owes (c : Thread nD τ) 0 W)) -∗ Q r))
      ⊢ wp frame (wpE (defs₀ (F := F)) Variants.none (c : Thread nD τ) none) Set.univ
          (k0_part7 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 v47 v58 c3 c0) Q := by
  by_cases hn : 0 < cnt (sizes v1 v7 v13 v19 v25 v31 v37 v43) 8
  · rw [show min 3 (cnt (sizes v1 v7 v13 v19 v25 v31 v37 v43) 8 * 11) = 3 by omega, show min 8 (cnt (sizes v1 v7 v13 v19 v25 v31 v37 v43) 8 * 11) = 8 by omega]
    exact part7_start c fw arg0 harg0 v1 v7 v13 v19 v25 v31 v37 v43 H A fb hfb v47 v58 c3 c0 fms fxs fo fB hn W Q
  · rw [show min 3 (cnt (sizes v1 v7 v13 v19 v25 v31 v37 v43) 8 * 11) = 0 by omega, show min 8 (cnt (sizes v1 v7 v13 v19 v25 v31 v37 v43) 8 * 11) = 0 by omega]
    exact part7_none c fw arg0 harg0 v1 v7 v13 v19 v25 v31 v37 v43 H A fb hfb v47 v58 c3 c0 fms fxs fo fB hn W Q

end Cert.Kernel.Moe

end
-- ==== Proof.Kernel.Run.lean ====
/- The whole kernel body, from its operands and its empty ring to the stored result. -/
module

public import proofs.«01_k».proof.Proof.Kernel.Experts
public import proofs.«01_k».proof.Proof.Kernel.Start7

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

include harg0 in
/-- The table read at any place is the group's size. -/
theorem Loads.tbl (fg : Buf (Elt F) (arg0.view.loc (c : Thread nD τ))) (hL : Loads c arg0 v1 v7 v13 v19 v25 v31 v37 v43 fg) : Tbl c arg0 fg (sizes v1 v7 v13 v19 v25 v31 v37 v43) := by
  intro o ho
  obtain ⟨rfl, rfl, rfl, rfl, rfl, rfl, rfl, rfl⟩ := hL
  have hi : o 0 < 8 := by have := ho 0; exact this
  have key : ∀ (i : ℕ) (hi : ∀ a, (![i] : Fin 1 → ℕ) a + S1.size a ≤ S8.size a), o 0 = i →
      View.readAt (Elt F) arg0.view (Rect.unit (s := S8) o S1.size ho).toLoadRect fg (Shape.Idx.first numel1_S1.ge) = gsAt c arg0 fg i hi := by
    intro i hi e
    obtain rfl : o = ![i] := by funext a; fin_cases a; exact e
    rfl
  rcases (show o 0 = 0 ∨ o 0 = 1 ∨ o 0 = 2 ∨ o 0 = 3 ∨ o 0 = 4 ∨ o 0 = 5 ∨ o 0 = 6 ∨ o 0 = 7 by omega) with hk | hk | hk | hk | hk | hk | hk | hk
  · rw [key 0 inb_S8_S1_0 hk, hk]; rfl
  · rw [key 1 inb_S8_S1_1 hk, hk]; rfl
  · rw [key 2 inb_S8_S1_2 hk, hk]; rfl
  · rw [key 3 inb_S8_S1_3 hk, hk]; rfl
  · rw [key 4 inb_S8_S1_4 hk, hk]; rfl
  · rw [key 5 inb_S8_S1_5 hk, hk]; rfl
  · rw [key 6 inb_S8_S1_6 hk, hk]; rfl
  · rw [key 7 inb_S8_S1_7 hk, hk]; rfl

/-- The row scales spread over the lanes. -/
abbrev scales (fms : Buf (Elt F) (mXs.view.loc (c : Thread nD τ))) : Buf (Elt F) (vB.view.loc (c : Thread nD τ)) :=
  vB.view.writes (Elt F) vB.view.junk [⟨Rect.unit (s := S256x128) ![128, 0] S128x128.size inb_S256x128_S128x128_128_0, k0_pay1 (k0_pay8 (xsRow c fms 1 inb_S2x128_S1x128_1_0))⟩,
    ⟨Rect.unit (s := S256x128) ![0, 0] S128x128.size inb_S256x128_S128x128_0_0, k0_pay7 (xsRow c fms 0 inb_S2x128_S1x128_0_0)⟩]

/-- The output cleared. -/
abbrev cleared : Buf (Elt F) (vO.view.loc (c : Thread nD τ)) :=
  vO.view.writes (Elt F) vO.view.junk [⟨Rect.unit (s := S256x2816) ![0, 0] S256x2816.size inb_S256x2816_S256x2816_0_0, k0_pay6⟩]

/-- An operand brought whole from `M` into `V`. -/
abbrev brought {sp sp' : Space} {s : Shape} {e : EltTy} (M : Memref sig .tc sp s e) (V : Memref sig .tc sp' s e)
    (f : Buf (Elt F) (M.view.loc (c : Thread nD τ))) : Buf (Elt F) (V.view.loc (c : Thread nD τ)) :=
  V.view.writes (Elt F) V.view.junk [⟨Rect.whole s, ReadAs.same.apply (M.view.read (Elt F) f)⟩]

/-- After the last expert every chunk started has arrived. -/
theorem ring_end (A : ℕ → Fin 8) (H : InRange v1 v7 v13 v19 v25 v31 v37 v43) :
    (ring c fw A ((k0_t1_loop v1 v7 v13 v19 v25 v31 v37 v43).trips * 11) (min ((k0_t1_loop v1 v7 v13 v19 v25 v31 v37 v43).trips * 11 + 8) (cnt (sizes v1 v7 v13 v19 v25 v31 v37 v43) 8 * 11)) : sProp 𝕄)
      ⊢ ring c fw A (cnt (sizes v1 v7 v13 v19 v25 v31 v37 v43) 8 * 11) (cnt (sizes v1 v7 v13 v19 v25 v31 v37 v43) 8 * 11) := by
  rw [t1_trips H, Nat.min_eq_right (Nat.le_add_right _ 8)]

set_option maxHeartbeats 400000 in
/-- The body. -/
theorem body_run (H : InRange v1 v7 v13 v19 v25 v31 v37 v43) (A : ℕ → Fin 8) (hA : Names (sizes v1 v7 v13 v19 v25 v31 v37 v43) A) (fg : Buf (Elt F) (arg0.view.loc (c : Thread nD τ))) (hL : Loads c arg0 v1 v7 v13 v19 v25 v31 v37 v43 fg)
    (fmx : Buf (Elt F) (mX.view.loc (c : Thread nD τ))) (fx : Buf (Elt F) (vX.view.loc (c : Thread nD τ)))
    (fms : Buf (Elt F) (mXs.view.loc (c : Thread nD τ))) (fxs : Buf (Elt F) (vXs.view.loc (c : Thread nD τ)))
    (fmw : Buf (Elt F) (mWs.view.loc (c : Thread nD τ))) (fws : Buf (Elt F) (vWs.view.loc (c : Thread nD τ)))
    (fo : Buf (Elt F) (vO.view.loc (c : Thread nD τ))) (fB : Buf (Elt F) (vB.view.loc (c : Thread nD τ)))
    (fa : Buf (Elt F) (sA.view.loc (c : Thread nD τ))) (fm : Buf (Elt F) (mO.view.loc (c : Thread nD τ)))
    (P : ℕ → ℕ → ℕ → Buf (Elt F) (vO.view.loc (c : Thread nD τ)) → Prop) (hP0 : P 0 0 0 (cleared c))
    (hP : Steps c fw v1 v7 v13 v19 v25 v31 v37 v43 A (brought c mWs vWs fmw) (brought c mX vX fmx) (scales c fms) P)
    (W : Waits sig Unit) (Q : PUnit → sProp 𝕄) :
    iprop(gsP c arg0 fg ∗ actP c fa ∗ memP c mX fmx ∗ memP c vX fx ∗ memP c mXs fms ∗ memP c vXs fxs ∗ memP c mWs fmw ∗ memP c vWs fws
        ∗ memP c vO fo ∗ memP c vB fB ∗ memP c mO fm ∗ ring c fw A 0 0
        ∗ semVal ((c : Thread nD τ), SemLoc.dma cc0_scratch7.sem) 0 ∗ semVal ((c : Thread nD τ), SemLoc.dma cc0_scratch8.sem) 0 ∗ semVal ((c : Thread nD τ), SemLoc.dma cc0_scratch9.sem) 0 ∗ semVal ((c : Thread nD τ), SemLoc.dma cc0_scratch11.sem) 0 ∗ owes (c : Thread nD τ) 0 W
        ∗ (iprop(gsP c arg0 fg ∗ (∃ fa, actP c fa) ∗ memP c mX fmx ∗ (∃ f, memP c vX f) ∗ memP c mXs fms ∗ (∃ f, memP c vXs f) ∗ memP c mWs fmw ∗ (∃ f, memP c vWs f)
            ∗ (∃ f, memP c vO f) ∗ (∃ f, memP c vB f)
            ∗ (∃ f, ⌜P (cnt (sizes v1 v7 v13 v19 v25 v31 v37 v43) 8) 0 0 f⌝ ∗ memP c mO (mO.view.writes (Elt F) fm [⟨Rect.whole S256x2816, ReadAs.same.apply (vO.view.read (Elt F) f)⟩]))
            ∗ ring c fw A (cnt (sizes v1 v7 v13 v19 v25 v31 v37 v43) 8 * 11) (cnt (sizes v1 v7 v13 v19 v25 v31 v37 v43) 8 * 11)
            ∗ semVal ((c : Thread nD τ), SemLoc.dma cc0_scratch7.sem) 0 ∗ semVal ((c : Thread nD τ), SemLoc.dma cc0_scratch8.sem) 0 ∗ semVal ((c : Thread nD τ), SemLoc.dma cc0_scratch9.sem) 0 ∗ semVal ((c : Thread nD τ), SemLoc.dma cc0_scratch11.sem) 0 ∗ (∃ W, owes (c : Thread nD τ) 0 W)) -∗ Q ⟨⟩))
      ⊢ wp frame (wpE (defs₀ (F := F)) Variants.none (c : Thread nD τ) none) Set.univ
          (cc0_moe_grouped_fp8 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11) Q := by
  have htbl := hL.tbl c arg0 harg0
  simp only [cc0_moe_grouped_fp8_eq_skeleton]; unfold cc0_moe_grouped_fp8_skel
  rw [wp_bind]
  iintro ⟨HG, HA, HmX, HvX, HmS, HvS, HmW, HvW, HvO, HvB, HmO, HR, Hs7, Hs8, Hs9, Hs11, HO, Hk⟩
  iapply (part5_run c arg0 harg0 v1 v7 v13 v19 v25 v31 v37 v43 H fg hL fmx fx fms fxs fmw fws fa W _)
  isplitl [HG]; · iexact HG
  isplitl [HA]; · iexact HA
  isplitl [HmX]; · iexact HmX
  isplitl [HvX]; · iexact HvX
  isplitl [HmS]; · iexact HmS
  isplitl [HvS]; · iexact HvS
  isplitl [HmW]; · iexact HmW
  isplitl [HvW]; · iexact HvW
  isplitl [Hs7]; · iexact Hs7
  isplitl [Hs8]; · iexact Hs8
  isplitl [Hs9]; · iexact Hs9
  isplitl [HO]; · iexact HO
  iintro %r ⟨%hr, HG, ⟨%fa5, %hfa5, HA⟩, Hf7, Hf8, Hf9, HO⟩
  obtain ⟨a1, a2, a3, a4, a5, hw5, v28, c5⟩ := r
  obtain ⟨e1, e2, e3, e4, e5, e6⟩ := hr
  dsimp only at e1 e2 e3 e4 e5 e6
  subst e1 e2 e3 e4 e5 e6
  irw [wp_bind]
  iapply (part6_run c fw arg0 harg0 _ _ _ _ _ v31 v37 v43 H A hA fg hL fa5 hfa5 hw5 v28 W _)
  isplitl [HG]; · iexact HG
  isplitl [HA]; · iexact HA
  isplitl [HR]; · iexact HR
  isplitl [HO]; · iexact HO
  iintro %r ⟨%hr, HG, ⟨%fa6, %hfa6, HA⟩, HR, HO⟩
  obtain ⟨a6, a7, a8, hw16, v46, v47, v58, c3, c0⟩ := r
  obtain ⟨e1, e2, e3⟩ := hr
  dsimp only at e1 e2 e3
  subst e1 e2 e3
  irw [wp_bind]
  iapply (part7_run c fw arg0 harg0 _ _ _ _ _ _ _ _ H A fa6 hfa6 v47 v58 c3 c0 fms fxs fo fB W _)
  isplitl [HA]; · iexact HA
  isplitl [HR]; · iexact HR
  isplitl [HvO]; · iexact HvO
  isplitl [HvB]; · iexact HvB
  isplitl [Hf8]; · iexact Hf8
  isplitl [HO]; · iexact HO
  iintro %r ⟨%hr, HA, HR, HvO, HvB, HvS, HmS, Hs8, ⟨%W7, HO⟩⟩
  obtain ⟨a9, a10⟩ := r
  dsimp only at hr
  subst hr
  sl_exec
  iapply (t1_loop c fw arg0 harg0 _ _ _ _ _ _ _ _ H A fa6 (brought c mWs vWs fmw) (brought c mX vX fmx) (scales c fms) fg htbl hw16 v47 hfa6 P hP)
  isplitl [HG HR HA Hf9_dst HO Hf7_dst HvB HvO]
  · isplitl [HG]; · iexact HG
    isplitl [HR]; · irw [Nat.zero_mul, Nat.zero_add]; iexact HR
    isplitl [HA]; · iexact HA
    isplitl [Hf9_dst]; · iexact Hf9_dst
    isplitl [HO]; · iexists _; iexact HO
    isplitl [Hf7_dst]; · iexact Hf7_dst
    isplitl [HvB]; · iexact HvB
    iexists _
    isplitr [HvO]
    swap
    · iexact HvO
    · ipureintro; exact hP0
  iintro %r ⟨HG, HR, HA, HvW, ⟨%W8, HO⟩, HvX, HvB, ⟨%f, %hf, HvO⟩⟩
  sl_exec
  sl_step
  iapply Hk
  isplitl [HG]; · iexact HG
  isplitl [HA]; · iexists _; iexact HA
  isplitl [Hf7_src]; · iexact Hf7_src
  isplitl [HvX]; · iexists _; iexact HvX
  isplitl [HmS]; · iexact HmS
  isplitl [HvS]; · iexists _; iexact HvS
  isplitl [Hf9_src]; · iexact Hf9_src
  isplitl [HvW]; · iexists _; iexact HvW
  isplitl [HvO]; · iexists _; iexact HvO
  isplitl [HvB]; · iexists _; iexact HvB
  rw [t1_trips H] at hf
  isplitl [HmO]
  · iexists f
    isplitr; · ipureintro; exact hf
    iexact HmO
  isplitl [HR]
  · iapply (ring_end c fw _ _ _ _ _ _ _ _ A H)
    iexact HR
  isplitl [Hf7]; · iexact Hf7
  isplitl [Hs8]; · iexact Hs8
  isplitl [Hf9]; · iexact Hf9
  isplitl [Hs11]; · iexact Hs11
  iexists _; iexact HO

end Cert.Kernel.Moe

end
-- ==== Proof.Kernel.Whole.lean ====
/- The weight ring made from the whole buffers and cells it consists of, and taken apart again. -/
module

public import proofs.«01_k».proof.Proof.Kernel.Run

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

/-! ## The ring's cells -/

/-- The kernel's own semaphores: the three of the operand copies, the one of the result's, and the ring's. -/
def osem : Fin 4 ⊕ Fin 88 → SemLoc sig
  | .inl j => (![SemLoc.dma cc0_scratch7.sem, SemLoc.dma cc0_scratch8.sem, SemLoc.dma cc0_scratch9.sem, SemLoc.dma cc0_scratch11.sem] : Fin 4 → SemLoc sig) j
  | .inr k => cellAt ![k.val] (inb_cell k)

/-- The number of each of them in the pool. -/
def osemNum : Fin 4 ⊕ Fin 88 → ℕ
  | .inl j => (![1, 2, 3, 92] : Fin 4 → ℕ) j
  | .inr k => 4 + k.val

theorem osemNum_lt (k : Fin 4 ⊕ Fin 88) : 1 ≤ osemNum k ∧ osemNum k < 93 := by
  rcases k with j | k
  · fin_cases j <;> exact ⟨by decide, by decide⟩
  · have := k.isLt
    exact ⟨by show 1 ≤ 4 + k.val; omega, by show 4 + k.val < 93; omega⟩

theorem cell_val : ∀ k : Fin 88, cellAt ![k.val] (inb_cell k) = SemLoc.dma ⟨4 + k.val, by have := k.isLt; show 4 + k.val < 93; omega⟩ := by
  decide +kernel

theorem osem_eq (k : Fin 4 ⊕ Fin 88) : osem k = SemLoc.dma ⟨osemNum k, (osemNum_lt k).2⟩ := by
  rcases k with j | k
  · fin_cases j <;> rfl
  · exact cell_val k

theorem osemNum_inj {a b : Fin 4 ⊕ Fin 88} (h : osemNum a = osemNum b) : a = b := by
  rcases a with j | k <;> rcases b with j' | k'
  · congr 1; revert h; fin_cases j <;> fin_cases j' <;> simp [osemNum]
  · exfalso; have := k'.isLt; revert h; fin_cases j <;> simp [osemNum] <;> omega
  · exfalso; have := k.isLt; revert h; fin_cases j' <;> simp [osemNum] <;> omega
  · congr 1; exact Fin.ext (by have : 4 + k.val = 4 + k'.val := h; omega)

theorem dma_scoped : ∀ i : Fin 93, (SemLoc.dma i : SemLoc sig).isScoped .tc = true := by decide +kernel

theorem osemFacts : Pipeline.OwnSemFacts spec0 osem where
  isScoped k := by rw [osem_eq]; exact dma_scoped _
  inj a b h := by
    rw [osem_eq, osem_eq] at h
    injection h with h
    exact osemNum_inj (congrArg Fin.val h)
  disj k w s h := by
    rw [osem_eq] at h
    injection h with h
    have h1 := (osemNum_lt k).1
    have h2 := congrArg Fin.val h
    have h3 : ∀ (w : Fin 1) (s : Fin (spec0 w).nbuf), ((spec0 w).sem s).val = 0 := by decide
    rw [h3] at h2
    exact absurd h2 (by show osemNum k ≠ 0; omega)

variable (c : Dev nD) (fw : Buf (Elt F) (mW.view.loc (c : Thread nD τ)))

/-- All of them at zero: the four, and the ring's. -/
theorem ownSems_eq : (Pipeline.ownSems0 (Ix := Unit) (Name := ℕ) (U := Pipeline.UC sig nD τ) (Lvl := ℕ) (Val := Elt F) (τ := τ) osem c : sProp 𝕄)
    = iprop((semVal ((c : Thread nD τ), SemLoc.dma cc0_scratch7.sem) 0 ∗ semVal ((c : Thread nD τ), SemLoc.dma cc0_scratch8.sem) 0
        ∗ semVal ((c : Thread nD τ), SemLoc.dma cc0_scratch9.sem) 0 ∗ semVal ((c : Thread nD τ), SemLoc.dma cc0_scratch11.sem) 0)
      ∗ bigSep Finset.univ fun k : Fin 88 => semVal ((c : Thread nD τ), cellAt ![k.val] (inb_cell k)) 0) := by
  unfold Pipeline.ownSems0
  rw [BI.bigSep_univ_sum]
  congr 1
  exact bigSep_univ_eq_bigSepL [(0 : Fin 4), 1, 2, 3] (by decide) (by decide) _

/-! ## The ring's slots -/

/-- The elements of slot `k`. -/
abbrev slotSet (k : Fin 88) : Finset S88x2048x256.Idx := (Rect.unit (s := S88x2048x256) ![k.val, 0, 0] S1x2048x256.size (inb_slot k)).set

theorem slot_set (k : Fin 88) : (slotAt ![k.val, 0, 0] (inb_slot k)).view.set = slotSet k :=
  (View.set_reshape _ _).trans (View.set_slice_whole _ _)

theorem slots_disjoint (b b' : Fin 88) (h : b ≠ b') : Disjoint (slotSet b) (slotSet b') :=
  Ring.lead_disjoint (s := S88x2048x256) (NB := 88) 0 1 (fun b => ![b.val, 0, 0]) S1x2048x256.size inb_slot (fun b => (Nat.one_mul _).symm) rfl b b' h

theorem slots_cover : Finset.univ.biUnion slotSet = Finset.univ :=
  Ring.lead_cover (s := S88x2048x256) (NB := 88) 0 1 (fun b => ![b.val, 0, 0]) S1x2048x256.size inb_slot (fun b => (Nat.one_mul _).symm)
    (fun b a ha => by fin_cases a <;> first | exact absurd rfl ha | rfl) rfl (fun a ha => by fin_cases a <;> first | exact absurd rfl ha | rfl) rfl

/-- The whole ring buffer is its slots. -/
theorem slots_split (f : Buf (Elt F) (vW.view.loc (c : Thread nD τ))) :
    (memP c vW f : sProp 𝕄) = bigSep Finset.univ fun k : Fin 88 =>
      ((slotAt ![k.val, 0, 0] (inb_slot k)).view.loc (c : Thread nD τ) ↦[(slotAt ![k.val, 0, 0] (inb_slot k)).view.set]{fullShare} f : sProp 𝕄) := by
  have h := Ring.pointsTo_blocks (Ix := Unit) (Name := ℕ) (U := Pipeline.UC sig nD τ) (Lvl := ℕ) (Val := Elt F) (ℓ := vW.view.loc (c : Thread nD τ)) (q := fullShare) slotSet slots_disjoint slots_cover f
  rw [memP, show vW.view.set = Finset.univ from View.set_whole _]
  refine h.trans (BI.bigSep_congr fun k _ => ?_)
  rw [slot_set]

/-- A slot at contents named is a slot at some contents. -/
theorem slot_any (k : Fin 88) (f : Buf (Elt F) (vW.view.loc (c : Thread nD τ))) :
    ((slotAt ![k.val, 0, 0] (inb_slot k)).view.loc (c : Thread nD τ) ↦[(slotAt ![k.val, 0, 0] (inb_slot k)).view.set]{fullShare} f : sProp 𝕄)
      ⊢ iprop(∃ f, (slotAt ![k.val, 0, 0] (inb_slot k)).view.loc (c : Thread nD τ) ↦[(slotAt ![k.val, 0, 0] (inb_slot k)).view.set]{fullShare} f) := by
  iintro H; iexists _; iexact H

/-- A slot at some contents, its elements spelled as a part of the ring buffer. -/
theorem slot_part (k : Fin 88) :
    (iprop(∃ f, (slotAt ![k.val, 0, 0] (inb_slot k)).view.loc (c : Thread nD τ) ↦[(slotAt ![k.val, 0, 0] (inb_slot k)).view.set]{fullShare} f) : sProp 𝕄)
      ⊢ iprop(∃ f, vW.view.loc (c : Thread nD τ) ↦[slotSet k]{fullShare} f) := by
  rw [slot_set]

/-- The slots, each at contents of its own, are the whole ring buffer at some contents. -/
theorem slots_join (f₀ : Buf (Elt F) (vW.view.loc (c : Thread nD τ))) :
    (bigSep Finset.univ fun k : Fin 88 => iprop(∃ f, (slotAt ![k.val, 0, 0] (inb_slot k)).view.loc (c : Thread nD τ) ↦[(slotAt ![k.val, 0, 0] (inb_slot k)).view.set]{fullShare} f))
      ⊢ (iprop(∃ f, memP c vW f) : sProp 𝕄) := by
  have h := Ring.pointsTo_blocks_join_exists (Ix := Unit) (Name := ℕ) (U := Pipeline.UC sig nD τ) (Lvl := ℕ) (Val := Elt F) (ℓ := vW.view.loc (c : Thread nD τ)) (q := fullShare) slotSet slots_disjoint slots_cover f₀
  have e (g : Buf (Elt F) (vW.view.loc (c : Thread nD τ))) : (memP c vW g : sProp 𝕄) = (vW.view.loc (c : Thread nD τ) ↦{fullShare} g) := by
    rw [memP, show vW.view.set = Finset.univ from View.set_whole _]
  refine BI.Entails.trans (BI.bigSep_mono fun k _ => slot_part c k) (BI.Entails.trans h ?_)
  exact (show (iprop(∃ g, vW.view.loc (c : Thread nD τ) ↦{fullShare} g) : sProp 𝕄) ⊢ iprop(∃ f, memP c vW f) from by
    iintro ⟨%g, H⟩; iexists g; irw [e]; iexact H)

/-- What stays of the weights while their read tokens are out. -/
abbrev restW : sProp 𝕄 := mW.view.loc (c : Thread nD τ) ↦{Transfers.shareDrop fullShare 88} fw

/-- Three families held together are held family by family. -/
theorem sep3 {ι : Type} [DecidableEq ι] (S : Finset ι) (P R T : ι → sProp 𝕄) :
    bigSep S (fun k => iprop(P k ∗ R k ∗ T k)) = iprop(bigSep S P ∗ bigSep S R ∗ bigSep S T) :=
  (BI.bigSep_sep S P (fun k => iprop(R k ∗ T k))).trans (congrArg (fun X => iprop(bigSep S P ∗ X)) (BI.bigSep_sep S R T))

/-- The ring before the first chunk is started. -/
theorem ring_build (A : ℕ → Fin 8) (f : Buf (Elt F) (vW.view.loc (c : Thread nD τ))) :
    iprop(memP c vW f ∗ memP c mW fw ∗ bigSep Finset.univ fun k : Fin 88 => semVal ((c : Thread nD τ), cellAt ![k.val] (inb_cell k)) 0)
      ⊢ (iprop(ring c fw A 0 0 ∗ restW c fw) : sProp 𝕄) := by
  iintro ⟨HW, HM, HS⟩
  ihave HM := (show (memP c mW fw : sProp 𝕄) ⊢ iprop((mW.view.loc (c : Thread nD τ) ↦[Finset.univ]{Transfers.shareDrop fullShare 88} fw)
      ∗ bigSep Finset.univ fun k : Fin 88 => tokW c fw k Finset.univ) from by
    rw [memP, show mW.view.set = Finset.univ from View.set_whole _]
    exact Transfers.pointsTo_toks_split fullShare 88) $$ HM
  icases HM with ⟨HR, HT⟩
  isplitr [HR]; swap; · iexact HR
  iapply (show iprop((bigSep Finset.univ fun k : Fin 88 => semVal ((c : Thread nD τ), cellAt ![k.val] (inb_cell k)) 0)
      ∗ (bigSep Finset.univ fun k : Fin 88 => iprop(∃ f, (slotAt ![k.val, 0, 0] (inb_slot k)).view.loc (c : Thread nD τ) ↦[(slotAt ![k.val, 0, 0] (inb_slot k)).view.set]{fullShare} f))
      ∗ bigSep Finset.univ fun k : Fin 88 => tokW c fw k Finset.univ) ⊢ (ring c fw A 0 0 : sProp 𝕄) from by
    exact (Entails.of_eq (sep3 _ _ _ _).symm).trans (BI.bigSep_mono fun k _ => BI.Entails.refl _))
  isplitl [HS]; · iexact HS
  isplitl [HW]
  · iapply (show (memP c vW f : sProp 𝕄)
      ⊢ iprop(bigSep Finset.univ fun k : Fin 88 => iprop(∃ f, (slotAt ![k.val, 0, 0] (inb_slot k)).view.loc (c : Thread nD τ) ↦[(slotAt ![k.val, 0, 0] (inb_slot k)).view.set]{fullShare} f)) from by
      rw [slots_split]
      exact BI.bigSep_mono fun k _ => slot_any c k f)
    iexact HW
  iexact HT

/-- A chunk not on its way is a cell at zero, a slot at some contents, and its token. -/
theorem chunk_rest (A : ℕ → Fin 8) (d : ℕ) (k : Fin 88) :
    (chunk c fw A k (stateOf d d k) : sProp 𝕄) ⊢ freeAt c fw ![k.val, 0, 0] (inb_slot k) ![k.val] (inb_cell k) k := by
  unfold stateOf
  by_cases h : k.val < d
  · rw [if_pos h]
    unfold chunk
    iintro ⟨H1, ⟨%f, H2⟩, H3⟩
    isplitl [H1]; · iexact H1
    isplitl [H2]; · iexists _; iexact H2
    iexact H3
  · rw [if_neg h, if_neg h]
    exact .rfl

/-- The ring after the last chunk has arrived. -/
theorem ring_teardown (A : ℕ → Fin 8) (d : ℕ) (f₀ : Buf (Elt F) (vW.view.loc (c : Thread nD τ))) :
    iprop(ring c fw A d d ∗ restW c fw) ⊢ (iprop((∃ f, memP c vW f) ∗ memP c mW fw
      ∗ bigSep Finset.univ fun k : Fin 88 => semVal ((c : Thread nD τ), cellAt ![k.val] (inb_cell k)) 0) : sProp 𝕄) := by
  iintro ⟨HR, HM⟩
  ihave HR := (show (ring c fw A d d : sProp 𝕄) ⊢ iprop((bigSep Finset.univ fun k : Fin 88 => semVal ((c : Thread nD τ), cellAt ![k.val] (inb_cell k)) 0)
      ∗ (bigSep Finset.univ fun k : Fin 88 => iprop(∃ f, (slotAt ![k.val, 0, 0] (inb_slot k)).view.loc (c : Thread nD τ) ↦[(slotAt ![k.val, 0, 0] (inb_slot k)).view.set]{fullShare} f))
      ∗ bigSep Finset.univ fun k : Fin 88 => tokW c fw k Finset.univ) from by
    exact (BI.bigSep_mono fun k _ => chunk_rest c fw A d k).trans (Entails.of_eq (sep3 _ _ _ _))) $$ HR
  icases HR with ⟨HS, HW, HT⟩
  isplitl [HW]
  · iapply (slots_join c f₀); iexact HW
  isplitl [HM HT]
  · iapply (show iprop((mW.view.loc (c : Thread nD τ) ↦[Finset.univ]{Transfers.shareDrop fullShare 88} fw)
      ∗ bigSep Finset.univ fun k : Fin 88 => tokW c fw k Finset.univ) ⊢ (memP c mW fw : sProp 𝕄) from by
      rw [memP, show mW.view.set = Finset.univ from View.set_whole _]
      exact Transfers.pointsTo_toks_join fullShare 88)
    isplitl [HM]; · iexact HM
    iexact HT
  iexact HS

end Cert.Kernel.Moe

end
-- ==== Proof.Kernel.Launch.lean ====
/- The launch: the kernel run from any memory whose table of sizes is in range. -/
module

public import proofs.«01_k».proof.Proof.Kernel.Whole
public import proofs.«01_k».proof.Proof.Gen.Kernel.Frame
public import Idealize.ShloMosaic.Lib.Pipeline.Frame
public import Idealize.ShloMosaic.Lib.Pipeline.KitQuiescent

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

open Idealize.ShloMosaic.Pipeline (Dat BodyObligation)

/-! ## The whole buffers -/

variable (c : Dev nD)

/-- The buffers the kernel's scratch operands are, each at some contents. -/
theorem scoped_eq : (Pipeline.scopedRest (Ix := Unit) (Name := ℕ) (U := Pipeline.UC sig nD τ) (Lvl := ℕ) (Val := Elt F) spec0 c : sProp 𝕄)
    = iprop((∃ f, memP c vX f) ∗ (∃ f, memP c vXs f) ∗ (∃ f, memP c vWs f) ∗ (∃ f, memP c vW f) ∗ (∃ f, memP c vO f) ∗ (∃ f, memP c vB f) ∗ (∃ f, memP c sA f)) := by
  rw [scopedRest0_eq]
  unfold memP
  rw [show vX.view.set = Finset.univ from View.set_whole _, show vXs.view.set = Finset.univ from View.set_whole _,
    show vWs.view.set = Finset.univ from View.set_whole _, show vW.view.set = Finset.univ from View.set_whole _,
    show vO.view.set = Finset.univ from View.set_whole _, show vB.view.set = Finset.univ from View.set_whole _,
    show sA.view.set = Finset.univ from View.set_whole _]

/-- A whole buffer held at contents named is read off the memory. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := Pipeline.UC sig nD τ) (Lvl := ℕ) (Val := Elt F) ({()} : Finset Unit) (fun _ => ℓ) (fun _ => f) s'
  rw [BI.bigSep_singleton] at h
  iintro H
  ihave H := h $$ H
  icases H with ⟨%e, H⟩
  isplitr; · ipureintro; exact e () (Finset.mem_singleton_self _)
  iexact H

variable (m : (ℓ : Loc nD τ sig) → Buf (Elt F) ℓ) (ρ : Dev nD → PrngReg)

/-- Entry `k` of the table of sizes. -/
def tbl (k : Fin 8) : BitVec 32 := m ((c : Thread nD τ).loc main_arg2) (ix8 k)

/-- What the kernel's operands hold when it starts. -/
abbrev fwV : Buf (Elt F) (mW.view.loc (c : Thread nD τ)) := V m c main_arg3
abbrev fxV : Buf (Elt F) (mX.view.loc (c : Thread nD τ)) := V m c main_arg0
abbrev fsV : Buf (Elt F) (mXs.view.loc (c : Thread nD τ)) := V m c main_v0
abbrev fmV : Buf (Elt F) (mWs.view.loc (c : Thread nD τ)) := V m c main_arg4

/-- What is assumed of the run on one device: the sizes in range, the active experts named, and a property of the result's buffer
    that the kernel's steps keep. -/
structure Plan (A : ℕ → Fin 8) (P : ℕ → ℕ → ℕ → Buf (Elt F) (vO.view.loc (c : Thread nD τ)) → Prop) : Prop where
  range : InRange (tbl c m 0) (tbl c m 1) (tbl c m 2) (tbl c m 3) (tbl c m 4) (tbl c m 5) (tbl c m 6) (tbl c m 7)
  names : Names (sizes (tbl c m 0) (tbl c m 1) (tbl c m 2) (tbl c m 3) (tbl c m 4) (tbl c m 5) (tbl c m 6) (tbl c m 7)) A
  zero : P 0 0 0 (cleared c)
  steps : Steps c (fwV c m) (tbl c m 0) (tbl c m 1) (tbl c m 2) (tbl c m 3) (tbl c m 4) (tbl c m 5) (tbl c m 6) (tbl c m 7) A (brought c mWs vWs (fmV c m)) (brought c mX vX (fxV c m)) (scales c (fsV c m)) P

variable (A : Dev nD → ℕ → Fin 8) (P : (c : Dev nD) → ℕ → ℕ → ℕ → Buf (Elt F) (vO.view.loc (c : Thread nD τ)) → Prop)

/-- What the result holds at the end. -/
def Result (g : Buf (Elt F) (mO.view.loc (c : Thread nD τ))) : Prop :=
  ∃ (f : Buf (Elt F) (vO.view.loc (c : Thread nD τ))) (fm : Buf (Elt F) (mO.view.loc (c : Thread nD τ))),
    P c (cnt (sizes (tbl c m 0) (tbl c m 1) (tbl c m 2) (tbl c m 3) (tbl c m 4) (tbl c m 5) (tbl c m 6) (tbl c m 7)) 8) 0 0 f ∧ g = mO.view.writes (Elt F) fm [⟨Rect.whole S256x2816, ReadAs.same.apply (vO.view.read (Elt F) f)⟩]

/-- The operands, held whole at what they hold when the kernel starts, -/
def opsP : sProp 𝕄 := iprop(memP c mX (fxV c m) ∗ memP c mXs (fsV c m) ∗ memP c mW (fwV c m) ∗ memP c mWs (fmV c m))
/-- and the scratch buffers, the semaphores and the generator register. -/
def restP : sProp 𝕄 := iprop(Pipeline.ownSems0 osem c ∗ Pipeline.scopedRest (Ix := Unit) (Name := ℕ) (U := Pipeline.UC sig nD τ) (Lvl := ℕ) (Val := Elt F) spec0 c ∗ ∃ r, prngReg c r)

/-- What the kernel starts from -/
def startP : sProp 𝕄 := iprop(opsP c m ∗ memP c mO (V m c main_v1) ∗ restP (F := F) c)
/-- and ends with. -/
def endP : sProp 𝕄 := iprop(opsP c m ∗ (∃ g, ⌜Result c m P g⌝ ∗ memP c mO g) ∗ restP (F := F) c)

/-! ## The proof data -/

/-- What is held before and after the one point. -/
def phi (c : Dev nD) : ℕ → sProp 𝕄
  | 0 => startP c m
  | _ + 1 => endP c m P

/-- The proof data: the table of sizes left in place, the rest held by the kernel at its start and at its end. -/
def dats (_ : Fin 1) (c : Dev nD) : Dat τ (Elt F) Unit ℕ (Pipeline.UC sig nD τ) ℕ cfg0 c where
  A w := V m c (Pipeline.arrRef spec0 w)
  after w t := match w with
    | 0 => iblk m c 0 t
    | ⟨_ + 1, h⟩ => absurd h (Nat.not_lt.2 (Nat.le_add_left _ _))
  Φ t := phi m P c t.val
  q _ := fullShare
  owed _ := 0

theorem A_eq (w : Fin cfg0.W) : (dats m P 0 c).A w = V m c (Pipeline.arrRef spec0 w) := by dsimp only [dats]

theorem after_eq (t : Fin cfg0.N) : (dats m P 0 c).after 0 t = iblk m c 0 t := by dsimp only [dats]

/-- The window on the table of sizes holds it when the kernel starts. -/
theorem before_eq (t : Fin cfg0.N) (d) : (dats m P 0 c).before 0 t d = iblk m c 0 t :=
  ((dats m P 0 c).before_in_eq_fetched 0 rfl (fun _ => rfl) (fun _ _ _ => rfl) (fun t => by rw [after_eq]; unfold Dat.blockOf iblk; rw [A_eq]; try rfl) t d).trans
    (by unfold Dat.fetched Dat.blockOf iblk; rw [A_eq]; try rfl)

theorem Φ_start (t : Fin cfg0.N) : (dats m P 0 c).Φ t.castSucc = startP c m := by
  have := fin_N0 t; subst this; dsimp only [dats]; rfl

theorem Φ_end (t : Fin cfg0.N) : (dats m P 0 c).Φ t.succ = endP c m P := by
  have := fin_N0 t; subst this; dsimp only [dats]; rfl

/-! ## The body -/

/-- The window's staging buffer. -/
abbrev stg (t : Fin cfg0.N) : Memref sig .tc .smem S8 .i32 := win0_0.stage (cfg0.slots t 0)

/-- A staging buffer that reads the window's block holds the table of sizes. -/
theorem loads_of (t : Fin cfg0.N) (fg : Buf (Elt F) ((stg t).view.loc (c : Thread nD τ))) (h : (stg t).view.read (Elt F) fg = iblk m c 0 t) :
    Loads c (stg t) (tbl c m 0) (tbl c m 1) (tbl c m 2) (tbl c m 3) (tbl c m 4) (tbl c m 5) (tbl c m 6) (tbl c m 7) fg := by
  have e (k : Fin 8) (o : Fin 1 → ℕ) (ho : ∀ a, o a + S1.size a ≤ S8.size a) (h0 : o 0 = k.val) :
      (View.readAt (Elt F) (stg t).view (Rect.unit (s := S8) o S1.size ho).toLoadRect fg (Shape.Idx.first numel1_S1.ge) : BitVec 32) = tbl c m k := by
    have h1 := congrFun h (ix8 k)
    have h2 : (Rect.unit (s := S8) o S1.size ho).toLoadRect.idx (Shape.Idx.first numel1_S1.ge) = ix8 k := by
      funext a; fin_cases a; exact Fin.ext (by show o 0 + 1 * 0 = k.val; omega)
    rw [View.readAt_apply, h2]
    refine h1.trans ?_
    show V m c main_arg2 _ = _
    rw [V_main_arg2]
    refine congrArg (m ((c : Thread nD τ).loc main_arg2)) (funext fun a => ?_)
    fin_cases a; exact Fin.ext (by show 0 * 8 + 1 * k.val = k.val; omega)
  exact ⟨e 0 _ _ rfl, e 1 _ _ rfl, e 2 _ _ rfl, e 3 _ _ rfl, e 4 _ _ rfl, e 5 _ _ rfl, e 6 _ _ rfl, e 7 _ _ rfl⟩

/-- What the body is called with, and what it returns. -/
def bodyPre (t : Fin cfg0.N) : sProp 𝕄 :=
  iprop((dats m P 0 c).Φ t.castSucc ∗ (dats m P 0 c).owesAt () t.castSucc
    ∗ (∃ d, owns (c : Thread nD τ) (stg t) fullShare ((dats m P 0 c).before 0 t d)))
def bodyPost (t : Fin cfg0.N) : sProp 𝕄 :=
  iprop((dats m P 0 c).Φ t.succ ∗ (dats m P 0 c).owesAt () t.succ
    ∗ owns (c : Thread nD τ) (stg t) fullShare ((dats m P 0 c).after 0 t))

set_option maxHeartbeats 400000 in
/-- The body run at its one point. -/
theorem sound_body (hPl : Plan c m (A c) (P c)) (t : Fin cfg0.N) :
    bodyPre c m P t ⊢ wp frame (wpE (defs₀ (F := F)) Variants.none (c : Thread nD τ) none) Set.univ (bodyAt0 t) (fun _ => bodyPost c m P t) := by
  unfold bodyPre bodyPost bodyAt0
  rw [Φ_start, Φ_end, after_eq]
  simp only [before_eq]
  unfold Dat.owesAt Pipeline.owesWithin startP endP restP opsP owns
  rw [show (dats m P 0 c).owed t.castSucc = 0 from rfl, show (dats m P 0 c).owed t.succ = 0 from rfl, ownSems_eq, scoped_eq]
  iintro ⟨⟨⟨HmX, HmS, HmW, HmWs⟩, HmO, ⟨⟨⟨H7, H8, H9, H11⟩, Hcells⟩, ⟨⟨%fx, HvX⟩, ⟨%fxs, HvXs⟩, ⟨%fws, HvWs⟩, ⟨%fvw, HvW⟩, ⟨%fo, HvO⟩, ⟨%fB, HvB⟩, ⟨%fa, HA⟩⟩, Hg⟩⟩,
    ⟨%W, %hW, HO⟩, ⟨%d, %fg, %hfg, HG⟩⟩
  ihave HR := (ring_build c (fwV c m) (A c) fvw) $$ [HvW HmW Hcells]
  · isplitl [HvW]; · iexact HvW
    isplitl [HmW]; · iexact HmW
    iexact Hcells
  icases HR with ⟨HR, Hrest⟩
  iapply (body_run c (fwV c m) (stg t) (show (stg t).IsWhole from hstage0_0 0) (tbl c m 0) (tbl c m 1) (tbl c m 2) (tbl c m 3) (tbl c m 4) (tbl c m 5) (tbl c m 6) (tbl c m 7) hPl.range (A c) hPl.names fg (loads_of c m t fg hfg)
    (fxV c m) fx (fsV c m) fxs (fmV c m) fws fo fB fa (V m c main_v1) (P c) hPl.zero hPl.steps W _)
  isplitl [HG]; · iexact HG
  isplitl [HA]; · iexact HA
  isplitl [HmX]; · iexact HmX
  isplitl [HvX]; · iexact HvX
  isplitl [HmS]; · iexact HmS
  isplitl [HvXs]; · iexact HvXs
  isplitl [HmWs]; · iexact HmWs
  isplitl [HvWs]; · iexact HvWs
  isplitl [HvO]; · iexact HvO
  isplitl [HvB]; · iexact HvB
  isplitl [HmO]; · iexact HmO
  isplitl [HR]; · iexact HR
  isplitl [H7]; · iexact H7
  isplitl [H8]; · iexact H8
  isplitl [H9]; · iexact H9
  isplitl [H11]; · iexact H11
  isplitl [HO]; · iexact HO
  iintro ⟨HG, HA, HmX, HvX, HmS, HvXs, HmWs, HvWs, HvO, HvB, ⟨%f, %hf, HmO⟩, HR, H7, H8, H9, H11, ⟨%W', HO⟩⟩
  ihave HR := (ring_teardown c (fwV c m) (A c) _ fvw) $$ [HR Hrest]
  · isplitl [HR]; · iexact HR
    iexact Hrest
  icases HR with ⟨HvW, HmW, Hcells⟩
  isplitr [HO HG]
  · isplitl [HmX HmS HmW HmWs]
    · isplitl [HmX]; · iexact HmX
      isplitl [HmS]; · iexact HmS
      isplitl [HmW]; · iexact HmW
      iexact HmWs
    isplitl [HmO]
    · iexists _
      isplitr [HmO]
      swap
      · iexact HmO
      · ipureintro; exact ⟨f, _, hf, rfl⟩
    isplitl [H7 H8 H9 H11 Hcells]
    · isplitl [H7 H8 H9 H11]
      · isplitl [H7]; · iexact H7
        isplitl [H8]; · iexact H8
        isplitl [H9]; · iexact H9
        iexact H11
      iexact Hcells
    isplitr [Hg]
    · isplitl [HvX]; · iexact HvX
      isplitl [HvXs]; · iexact HvXs
      isplitl [HvWs]; · iexact HvWs
      isplitl [HvW]; · iexact HvW
      isplitl [HvO]; · iexact HvO
      isplitl [HvB]; · iexact HvB
      iexact HA
    iexact Hg
  isplitl [HO]
  · iexists W'; isplitr; · ipureintro; exact fun _ _ => Or.inl trivial
    iexact HO
  iexists fg
  isplitr; · ipureintro; exact hfg
  iexact HG

/-- The body table's row is the body. -/
theorem defs₀_row (t : Fin cfg0.N) : defs₀ (F := F) .tc cfg0.body (cfg0.bodyArgs t (cfg0.slots t)) = bodyAt0 t := by
  unfold defs₀; rw [Defs.onTc_tc]

theorem body_obligation (hPl : Plan c m (A c) (P c)) :
    BodyObligation (dats (F := F) m P 0 c) (defs₀ (F := F)) Variants.none () Set.univ := fun t => by
  rw [bigSep_W0, bigSep_W0, defs₀_row]
  exact triple_restated (sound_body c m A P hPl t) rfl .rfl fun _ => .rfl

/-! ## The launch -/

theorem hmainC (𝒱₀ : Variants) :
    Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- What the run ends with: the arguments as they were, the result as planned, every semaphore at zero. -/
def Final (r : PUnit × MemSt nD τ sig (Elt F)) : Prop :=
  (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ Result c m P (r.2.mem ((c.tc : Thread nD τ).loc main_v1)))
  ∧ r.2.sem = fun _ => 0

open Idealize.ShloMosaic.Pipeline Idealize.ShloMosaic.Rounds in
set_option backward.isDefEq.respectTransparency.types false in
set_option maxHeartbeats 400000 in
/-- From any memory with zero counters, every weakly fair execution of @main terminates in a state as `Final` says. -/
theorem run_main (hPl : ∀ c, Plan c m (A c) (P c)) :
    θ_run defs (onTc (τ := τ) (main (F := F))) (s₀ m ρ) (Final m P) :=
  θ_run_region_kit_quiescent cfgs (dats m P) () (0 : Fin 1) launch0 osemFacts embL defs₀ Variants.none m ρ main
    (fun c => (body_obligation c m A P (hPl c)).loose) (fun c => (dats m P 0 c).share_full fun _ => rfl) (fun _ _ => rfl)
    (G := fun _ => iprop(emp)) (u₀ := (initOf (cells cfgs launch0.cellOf_inj) (launchToks cfgs launch0.cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainC m Variants.none) (hA := fun c w => A_eq c m P w)
    (X := fun c => iprop((opsP c m ∗ memP c mO (V m c main_v1)) ∗ ownSems0 osem c ∗ ∃ r, prngReg c r))
    (Y := fun c => iprop((opsP c m ∗ (∃ g, ⌜Result c m P g⌝ ∗ memP c mO g)) ∗ ∃ r, prngReg c r))
    (Z := fun c => iprop(((c : Thread nD τ).loc main_arg1) ↦{fullShare} V m c main_arg1))
    (hX := fun c => by
      rw [unscopedRest0_eq]
      unfold opsP memP
      rw [show mX.view.set = Finset.univ from View.set_whole _, show mXs.view.set = Finset.univ from View.set_whole _,
        show mW.view.set = Finset.univ from View.set_whole _, show mWs.view.set = Finset.univ from View.set_whole _,
        show mO.view.set = Finset.univ from View.set_whole _]
      iintro ⟨⟨H0, H1, H3, H4, Hv0, Hv1⟩, Hos, -, Hp, -⟩; imodintro
      isplitr [H1]
      · isplitl [H0 H3 H4 Hv0 Hv1]
        · isplitr [Hv1]
          · isplitl [H0]; · iexact H0
            isplitl [Hv0]; · iexact Hv0
            isplitl [H3]; · iexact H3
            iexact H4
          iexact Hv1
        isplitl [Hos]; · iexact Hos
        iexists _; iexact Hp
      iexact H1)
    (hin := fun c => by
      rw [show (dats m P 0 c).Φ 0 = startP c m from by dsimp only [dats]; rfl]
      unfold startP restP
      iintro ⟨⟨⟨HR, HO⟩, Hos, Hp⟩, Hr⟩
      isplitl [HR]; · iexact HR
      isplitl [HO]; · iexact HO
      isplitl [Hos]; · iexact Hos
      isplitl [Hr] <;> iassumption)
    (hout := fun c => by
      rw [show (dats m P 0 c).Φ (Fin.last cfg0.N) = endP c m P from by dsimp only [dats]; rw [show (Fin.last cfg0.N).val = 1 from N_0]; rfl]
      unfold endP restP
      iintro ⟨HR, HO, Hos, Hr, Hp⟩
      isplitl [HR HO Hp]
      · isplitl [HR HO]
        · isplitl [HR] <;> iassumption
        iexact Hp
      isplitl [Hos] <;> iassumption)
    (QY := fun c s => s.mem ((c.tc : Thread nD τ).loc main_arg0) = V m c main_arg0
      ∧ s.mem ((c.tc : Thread nD τ).loc main_arg1) = V m c main_arg1
      ∧ s.mem ((c.tc : Thread nD τ).loc main_arg3) = V m c main_arg3
      ∧ s.mem ((c.tc : Thread nD τ).loc main_arg4) = V m c main_arg4
      ∧ Result c m P (s.mem ((c.tc : Thread nD τ).loc main_v1)))
    (hY := fun c s' => by
      unfold opsP memP
      rw [show mX.view.set = Finset.univ from View.set_whole _, show mXs.view.set = Finset.univ from View.set_whole _,
        show mW.view.set = Finset.univ from View.set_whole _, show mWs.view.set = Finset.univ from View.set_whole _,
        show mO.view.set = Finset.univ from View.set_whole _]
      iintro ⟨⟨⟨⟨H0, -, H3, H4⟩, ⟨%g, %hg, Hv1⟩⟩, -⟩, H1, HSI⟩
      ihave H := (read_one _ _ s') $$ [H0 HSI]
      · isplitl [H0]; · iexact H0
        iexact HSI
      icases H with ⟨%h0, HSI⟩
      ihave H := (read_one _ _ s') $$ [H1 HSI]
      · isplitl [H1]; · iexact H1
        iexact HSI
      icases H with ⟨%h1, HSI⟩
      ihave H := (read_one _ _ s') $$ [H3 HSI]
      · isplitl [H3]; · iexact H3
        iexact HSI
      icases H with ⟨%h3, HSI⟩
      ihave H := (read_one _ _ s') $$ [H4 HSI]
      · isplitl [H4]; · iexact H4
        iexact HSI
      icases H with ⟨%h4, HSI⟩
      ihave H := (read_one _ _ s') $$ [Hv1 HSI]
      · isplitl [Hv1]; · iexact Hv1
        iexact HSI
      icases H with ⟨%hv, HSI⟩
      imodintro
      isplitr
      · ipureintro; exact ⟨h0, h1, h3, h4, by rw [show s'.mem.mem ((c.tc : Thread nD τ).loc main_v1) = g from hv]; exact hg⟩
      iexact HSI)
    (hQ := fun s h hz => ⟨fun c => ⟨⟨(h c).2.1.trans (V_main_arg0 m c), (h c).2.2.1.trans (V_main_arg1 m c),
        ((h c).1 0).trans (((dats m P 0 c).arrAt_in 0 rfl _).trans ((A_eq c m P 0).trans (V_main_arg2 m c))),
        (h c).2.2.2.1.trans (V_main_arg3 m c), (h c).2.2.2.2.1.trans (V_main_arg4 m c)⟩, (h c).2.2.2.2.2⟩, hz⟩)

end Cert.Kernel.Moe

end
-- ==== Proof.Moe.Sizes.lean ====
/- The sizes the precondition speaks of, and the groups that have rows, named in order. -/
module

public import proofs.«01_k».proof.Proof.Moe.Words
public import proofs.«01_k».proof.Pre_sizes_in_range

@[expose] public section

namespace Cert.Moe

open Idealize.ShloMosaic

/-- A count below the whole count is the count before some group that has rows. -/
theorem cnt_hit (gs : ℕ → ℕ) (n a : ℕ) (h : a < cnt gs n) : ∃ i, i < n ∧ 0 < gs i ∧ cnt gs i = a := by
  induction n with
  | zero => exact absurd h (Nat.not_lt_zero a)
  | succ n ih =>
    by_cases h' : a < cnt gs n
    · obtain ⟨i, hi, h1, h2⟩ := ih h'
      exact ⟨i, by omega, h1, h2⟩
    · have e : cnt gs (n + 1) = cnt gs n + if 0 < gs n then 1 else 0 := rfl
      by_cases hg : 0 < gs n
      · rw [e, if_pos hg] at h; exact ⟨n, by omega, hg, by omega⟩
      · rw [e, if_neg hg] at h; omega

/-- The groups that have rows, in order. -/
theorem exists_names (gs : ℕ → ℕ) : ∃ A : ℕ → Fin 8, ∀ a, a < cnt gs 8 → 0 < gs (A a).val ∧ cnt gs (A a).val = a := by
  classical
  refine ⟨fun a => if h : a < cnt gs 8 then ⟨(cnt_hit gs 8 a h).choose, (cnt_hit gs 8 a h).choose_spec.1⟩ else 0, fun a h => ?_⟩
  dsimp only
  rw [dif_pos h]
  exact (cnt_hit gs 8 a h).choose_spec.2

/-- A word between 0 and `2^28 - 1`, as the precondition tests it. -/
theorem word_range (x : BitVec 32) (h : BitVec.ofBool (BitVec.sle 0#32 x) &&& BitVec.ofBool (BitVec.sle x 268435455#32) = 1#1) : x.toNat ≤ 268435455 := by
  have h1 : BitVec.sle 0#32 x = true := by
    by_contra hc; rw [Bool.not_eq_true] at hc; rw [hc] at h; revert h; cases BitVec.sle x 268435455#32 <;> decide
  have h2 : BitVec.sle x 268435455#32 = true := by
    by_contra hc; rw [Bool.not_eq_true] at hc; rw [hc] at h; revert h; cases BitVec.sle 0#32 x <;> decide
  simp only [BitVec.sle, decide_eq_true_eq] at h1 h2
  have e0 : (0#32 : BitVec 32).toInt = 0 := by decide
  have e1 : (268435455#32 : BitVec 32).toInt = 268435455 := by decide
  rw [e0] at h1
  rw [e1] at h2
  rw [BitVec.toInt_eq_toNat_cond] at h1 h2
  split at h1 <;> omega

/-- The precondition bounds every size. -/
theorem size_le [Cert.Pre_sizes_in_range.Facts] {F : FTy → Type} [FloatOps F]
    (a0 : FVec F Cert.Pre_sizes_in_range.S256x2048 .fp8e4m3) (a1 : FVec F Cert.Pre_sizes_in_range.S256 .f32) (a2 : IVec Cert.Pre_sizes_in_range.S8 32)
    (a3 : FVec F Cert.Pre_sizes_in_range.S8x2048x2816 .fp8e4m3) (a4 : FVec F Cert.Pre_sizes_in_range.S8x2816 .f32)
    (h : Cert.Pre_sizes_in_range.fn (F := F) a0 a1 a2 a3 a4 = fun _ => 1#1) (i : Cert.Pre_sizes_in_range.S8.Idx) : (a2 i).toNat ≤ 268435455 :=
  word_range _ (congrFun h i)

/-- Sizes each in range are in range together. -/
theorem inRange_of (f : Fin 8 → BitVec 32) (h : ∀ k, (f k).toNat ≤ 268435455) : InRange (f 0) (f 1) (f 2) (f 3) (f 4) (f 5) (f 6) (f 7) := by
  intro i
  match i with
  | 0 => exact h 0
  | 1 => exact h 1
  | 2 => exact h 2
  | 3 => exact h 3
  | 4 => exact h 4
  | 5 => exact h 5
  | 6 => exact h 6
  | 7 => exact h 7
  | _ + 8 => exact Nat.zero_le _

end Cert.Moe

end
-- ==== Proof.Kernel.FrameRun.lean ====
/- The frame: the kernel run from any memory whose sizes are in range ends with its arguments unchanged and every semaphore at zero. -/
module

public import proofs.«01_k».proof.Proof.Kernel.Launch
public import proofs.«01_k».proof.Proof.Moe.Sizes

@[expose] public section

set_option maxRecDepth 16384

noncomputable section

namespace Cert.Kernel.Moe

open Cert.Moe Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (m : (ℓ : Loc nD τ sig) → Buf (Elt F) ℓ) (ρ : Dev nD → PrngReg)

/-- Sizes in range, nothing asked of the result. -/
theorem frame_run (h : ∀ (c : Dev nD) (i : S8.Idx), (m ((c : Thread nD τ).loc main_arg2) i : BitVec 32).toNat ≤ 268435455) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => (hr.1 c).1, hr.2⟩)
    (run_main m ρ (fun c => (exists_names (sizes (tbl c m 0) (tbl c m 1) (tbl c m 2) (tbl c m 3) (tbl c m 4) (tbl c m 5) (tbl c m 6) (tbl c m 7))).choose) (fun _ _ _ _ _ => True)
      fun c => ⟨inRange_of (tbl c m) fun k => h c _, (exists_names _).choose_spec, trivial, ⟨fun _ _ _ _ _ _ _ _ _ _ _ _ _ => trivial, fun _ _ _ _ _ _ _ _ => trivial, fun _ _ _ => trivial⟩⟩)

end Cert.Kernel.Moe

end
-- ==== Proof.KernelIdeal.Checks.lean ====
/- The side conditions the kernel's body assumes, from the range of the group sizes. -/
module

public import proofs.«01_k».proof.KernelIdeal
public import proofs.«01_k».proof.Proof.Moe.Words

@[expose] public section

set_option maxRecDepth 16384

namespace Cert.KernelIdeal.Moe

open Idealize.ShloMosaic Cert.Moe

variable {v1 v7 v13 v19 v25 v31 v37 v43 : BitVec 32} (H : InRange v1 v7 v13 v19 v25 v31 v37 v43)

local notation "gs" => sizes v1 v7 v13 v19 v25 v31 v37 v43

/-! ## Offsets as numbers -/

/-- A one-axis offset in bounds. -/
theorem inb1 {f : Fin 1 → ℕ} {n b : ℕ} (hf : f 0 = n) (h : n + 1 ≤ b) : ∀ a : Fin 1, f a + S1.size a ≤ (⟨1, ![b]⟩ : Shape).size a := by
  intro a; fin_cases a; show f 0 + 1 ≤ b; omega

include H
theorem off1_eq : k0_off1 v1 0 = cnt gs 1 := cw1 H
theorem off2_eq : k0_off2 v1 v7 0 = cnt gs 2 := cw2 H
theorem off3_eq : k0_off3 v1 v7 v13 0 = cnt gs 3 := cw3 H
theorem off4_eq : k0_off4 v1 v7 v13 v19 0 = cnt gs 4 := cw4 H
theorem off5_eq : k0_off5 v1 v7 v13 v19 v25 0 = cnt gs 5 := cw5 H
theorem off6_eq : k0_off6 v1 v7 v13 v19 v25 v31 0 = cnt gs 6 := cw6 H
theorem off7_eq : k0_off7 v1 v7 v13 v19 v25 v31 v37 0 = cnt gs 7 := cw7 H

theorem chk1 : k0_chk1 v1 := inb1 (off1_eq H) (by have := cnt_le gs 1; omega)
theorem chk2 : k0_chk2 v1 v7 := inb1 (off2_eq H) (by have := cnt_le gs 2; omega)
theorem chk3 : k0_chk3 v1 v7 v13 := inb1 (off3_eq H) (by have := cnt_le gs 3; omega)
theorem chk4 : k0_chk4 v1 v7 v13 v19 := inb1 (off4_eq H) (by have := cnt_le gs 4; omega)
theorem chk5 : k0_chk5 v1 v7 v13 v19 v25 := inb1 (off5_eq H) (by have := cnt_le gs 5; omega)
theorem chk6 : k0_chk6 v1 v7 v13 v19 v25 v31 := inb1 (off6_eq H) (by have := cnt_le gs 6; omega)
theorem chk7 : k0_chk7 v1 v7 v13 v19 v25 v31 v37 := inb1 (off7_eq H) (by have := cnt_le gs 7; omega)

/-- The number of chunks, as the kernel computes it. -/
theorem nchunk_toNat : (Scalar.muli (nact v1 v7 v13 v19 v25 v31 v37 v43) 11#32).toNat = cnt gs 8 * 11 := by
  have h := nact_toNat H
  have h2 := nact_le H
  have e : (11#32 : BitVec 32).toNat = 11 := rfl
  rw [muli_toNat _ _ (by rw [e]; omega), h, e]

/-- The expert loop runs once for each group with rows. -/
theorem t1_trips : (k0_t1_loop v1 v7 v13 v19 v25 v31 v37 v43).trips = cnt gs 8 := by
  have h := nact_toNat H
  have h2 := nact_le H
  refine (main_trips (nact v1 v7 v13 v19 v25 v31 v37 v43)).trans ?_
  rw [toInt_of _ (by omega)]; omega

omit H in
theorem t1_ok : (k0_t1_loop v1 v7 v13 v19 v25 v31 v37 v43).OK := main_ok (nact v1 v7 v13 v19 v25 v31 v37 v43)

omit H in
theorem t7_ok : (k0_t7_loop v1 v7 v13 v19 v25 v31 v37 v43).OK := Scf.rem_ok 0#32 (Scalar.subi (nact v1 v7 v13 v19 v25 v31 v37 v43) 0#32)

omit H in
theorem t7_none (k : Fin (k0_t7_loop v1 v7 v13 v19 v25 v31 v37 v43).trips) : False :=
  Scf.rem_no_trip 0#32 (Scalar.subi (nact v1 v7 v13 v19 v25 v31 v37 v43) 0#32) k

theorem t1_lt (t : Fin (k0_t1_loop v1 v7 v13 v19 v25 v31 v37 v43).trips) : t.val < cnt gs 8 := by
  exact lt_of_lt_of_eq t.isLt (t1_trips H)

theorem t1_lt8 (t : Fin (k0_t1_loop v1 v7 v13 v19 v25 v31 v37 v43).trips) : t.val < 8 := by
  have := t1_lt H t; have := cnt_le gs 8; omega

omit H in
theorem t4_lt (t : Fin k0_t4_loop.trips) : t.val < 11 := lt_of_lt_of_le t.isLt (by decide)

section Chunk
variable (t1 : Fin (k0_t1_loop v1 v7 v13 v19 v25 v31 v37 v43).trips) (t4 : Fin k0_t4_loop.trips)

omit H in
theorem off24_eq (h8 : t1.val < 8) : k0_off24 v1 v7 v13 v19 v25 v31 v37 v43 t1 0 = t1.val := iv_toNat t1.val (by omega)

/-- The chunk waited for in slab `t4` of expert `t1`, -/
theorem chunk_toNat : (chunkW t1.val t4.val).toNat = t1.val * 11 + t4.val := chunkW_toNat _ _ (t1_lt8 H t1) (t4_lt t4)

/-- and the one eight chunks on, which is started there. -/
theorem next_toNat : (Scalar.addi (chunkW t1.val t4.val) 8#32).toNat = t1.val * 11 + t4.val + 8 := by
  have h := chunk_toNat H t1 t4
  have := t1_lt8 H t1
  have := t4_lt t4
  have e : (8#32 : BitVec 32).toNat = 8 := rfl
  rw [addi_toNat _ _ (by rw [e]; omega), h, e]

theorem cond9_iff : k0_cond9 v1 v7 v13 v19 v25 v31 v37 v43 t1 t4 = 1#1 ↔ t1.val * 11 + t4.val + 8 < cnt gs 8 * 11 := by
  have h := next_toNat H t1 t4
  have h2 := nchunk_toNat H
  have := t1_lt8 H t1
  have := t4_lt t4
  have := cnt_le gs 8
  have := slt_cond (Scalar.addi (chunkW t1.val t4.val) 8#32) (Scalar.muli (nact v1 v7 v13 v19 v25 v31 v37 v43) 11#32) (by omega) (by omega)
  rw [h, h2] at this
  exact this

theorem next_lt100 : (Scalar.addi (chunkW t1.val t4.val) 8#32).toNat < 100 := by
  have h := next_toNat H t1 t4
  have := t1_lt8 H t1
  have := t4_lt t4
  omega

theorem chunk_lt100 : (chunkW t1.val t4.val).toNat < 100 := by
  have h := chunk_toNat H t1 t4
  have := t1_lt8 H t1
  have := t4_lt t4
  omega

theorem off28_eq : k0_off28 v1 v7 v13 v19 v25 v31 v37 v43 t1 t4 0 = (t1.val * 11 + t4.val + 8) / 11 := by
  have h := fdiv11 _ (next_lt100 H t1 t4)
  rw [next_toNat H t1 t4] at h
  exact h

theorem off29_eq : k0_off29 v1 v7 v13 v19 v25 v31 v37 v43 t1 t4 0 = t1.val * 11 + t4.val + 8 := next_toNat H t1 t4

theorem off30_eq : k0_off30 v1 v7 v13 v19 v25 v31 v37 v43 t1 t4 = ![t1.val * 11 + t4.val + 8, 0, 0] := by
  show ![(Scalar.addi (chunkW t1.val t4.val) 8#32).toNat, 0, 0] = _
  rw [next_toNat H t1 t4]

theorem off31_eq (v : BitVec 32) : k0_off31 v1 v7 v13 v19 v25 v31 v37 v43 t1 t4 v = ![v.toNat, 0, (t1.val * 11 + t4.val + 8) % 11 * 256] := by
  have h := colW_toNat _ (next_lt100 H t1 t4)
  rw [next_toNat H t1 t4] at h
  rw [← h]; rfl

theorem mult9_eq : (k0_mult9 v1 v7 v13 v19 v25 v31 v37 v43 t1 t4).toNat = (t1.val * 11 + t4.val + 8) % 11 * 256 := by
  have h := colW_toNat _ (next_lt100 H t1 t4)
  rw [next_toNat H t1 t4] at h
  exact h

theorem off32_eq : k0_off32 v1 v7 v13 v19 v25 v31 v37 v43 t1 t4 0 = t1.val := by
  have h := fdiv11 _ (chunk_lt100 H t1 t4)
  rw [chunk_toNat H t1 t4] at h
  have := t4_lt t4
  exact h.trans (by omega)

theorem off33_eq : k0_off33 v1 v7 v13 v19 v25 v31 v37 v43 t1 t4 0 = t1.val * 11 + t4.val := chunk_toNat H t1 t4

theorem off34_eq : k0_off34 v1 v7 v13 v19 v25 v31 v37 v43 t1 t4 = ![t1.val * 11 + t4.val, 0, 0] := by
  show ![(chunkW t1.val t4.val).toNat, 0, 0] = _
  rw [chunk_toNat H t1 t4]

theorem off38_eq : k0_off38 v1 v7 v13 v19 v25 v31 v37 v43 t1 t4 = ![t1.val * 11 + t4.val, 0, 0] := by
  show ![(chunkW t1.val t4.val).toNat, 0, 0] = _
  rw [chunk_toNat H t1 t4]

theorem off35_eq (v : BitVec 32) : k0_off35 v1 v7 v13 v19 v25 v31 v37 v43 t1 t4 v = ![v.toNat, 0, t4.val * 256] := by
  have h := colW_toNat _ (chunk_lt100 H t1 t4)
  rw [chunk_toNat H t1 t4] at h
  have := t4_lt t4
  rw [show t4.val * 256 = (t1.val * 11 + t4.val) % 11 * 256 by omega, ← h]; rfl

theorem mult10_eq : (k0_mult10 v1 v7 v13 v19 v25 v31 v37 v43 t1 t4).toNat = (t1.val * 11 + t4.val) % 11 * 256 := by
  have h := colW_toNat _ (chunk_lt100 H t1 t4)
  rw [chunk_toNat H t1 t4] at h
  exact h

end Chunk

omit H in
/-- A slab of the weights in bounds. -/
theorem inbW {f : Fin 3 → ℕ} {e c : ℕ} (hf : f = ![e, 0, c]) (he : e < 8) (hc : c + 256 ≤ 2816) :
    ∀ a, f a + S1x2048x256.size a ≤ S8x2048x2816.size a := by
  subst hf; intro a; fin_cases a
  · show e + 1 ≤ 8; omega
  · show 0 + 2048 ≤ 2048; omega
  · show c + 256 ≤ 2816; omega

omit H in
/-- A slot of the weight ring in bounds. -/
theorem inbR {f : Fin 3 → ℕ} {e : ℕ} (hf : f = ![e, 0, 0]) (he : e < 88) :
    ∀ a, f a + S1x2048x256.size a ≤ S88x2048x256.size a := by
  subst hf; intro a; fin_cases a
  · show e + 1 ≤ 88; omega
  · show 0 + 2048 ≤ 2048; omega
  · show 0 + 256 ≤ 256; omega

/-- The chunk side conditions that hold for all group sizes in range. -/
theorem chk16 : k0_chk16 v1 v7 v13 v19 v25 v31 v37 v43 := by
  have h8 := cnt_le gs 8
  refine ⟨t1_ok, fun t1 => inb1 (off24_eq t1 (t1_lt8 H t1)) (t1_lt8 H t1), ?_, ?_, ?_, ?_, ?_, ?_, ?_, ?_, ?_, ?_, t7_ok,
    fun t => (t7_none t).elim, fun t => (t7_none t).elim, fun t => (t7_none t).elim, fun t => (t7_none t).elim, fun t => (t7_none t).elim,
    fun t => (t7_none t).elim, fun t => (t7_none t).elim, fun t => (t7_none t).elim, fun t => (t7_none t).elim, fun t => (t7_none t).elim,
    fun t => (t7_none t).elim⟩
  · intro t1 t4 h9
    have := (cond9_iff H t1 t4).mp h9
    exact inb1 (off28_eq H t1 t4) (by omega)
  · intro t1 t4 _
    rw [mult9_eq H t1 t4]; exact Nat.dvd_mul_left _ _
  · intro t1 t4 h9
    have := (cond9_iff H t1 t4).mp h9
    exact inb1 (off29_eq H t1 t4) (by omega)
  · intro t1 t4 h9
    have := (cond9_iff H t1 t4).mp h9
    exact inbR (off30_eq H t1 t4) (by omega)
  · intro t1 t4 h9 hinb
    exact Affine.words_rows (by decide) (by rw [off30_eq H t1 t4]; rfl) rfl
  · intro t1 t4
    exact inb1 (off32_eq H t1 t4) (t1_lt8 H t1)
  · intro t1 t4
    rw [mult10_eq H t1 t4]; exact Nat.dvd_mul_left _ _
  · intro t1 t4
    have := t1_lt8 H t1; have := t4_lt t4
    exact inb1 (off33_eq H t1 t4) (by omega)
  · intro t1 t4
    have := t1_lt8 H t1; have := t4_lt t4
    exact inbR (off34_eq H t1 t4) (by omega)
  · intro t1 t4 hinb
    exact Affine.words_rows (by decide) (by rw [off34_eq H t1 t4]; rfl) rfl

/-- The copy started in a slab stays inside the weights, if the word read is an expert. -/
theorem chk18 (t1 : Fin (k0_t1_loop v1 v7 v13 v19 v25 v31 v37 v43).trips) (t4 : Fin k0_t4_loop.trips) (v : BitVec 32) (hv : v.toNat < 8) :
    k0_chk18 v1 v7 v13 v19 v25 v31 v37 v43 t1 t4 v :=
  ⟨fun _ => inbW (off31_eq H t1 t4 v) hv (by omega),
    fun _ _ => Affine.words_rows (by decide) (by rw [off31_eq H t1 t4 v]; rfl) rfl⟩

/-- The copy waited for in a slab, likewise. -/
theorem chk19 (t1 : Fin (k0_t1_loop v1 v7 v13 v19 v25 v31 v37 v43).trips) (t4 : Fin k0_t4_loop.trips) (v : BitVec 32) (hv : v.toNat < 8) :
    k0_chk19 v1 v7 v13 v19 v25 v31 v37 v43 t1 t4 v :=
  ⟨inbW (off35_eq H t1 t4 v) hv (by have := t4_lt t4; omega),
    fun _ => Affine.words_rows (by decide) (by rw [off35_eq H t1 t4 v]; rfl) rfl⟩

/-! ## The expert's word -/

omit H in
/-- The prefix sum runs over the groups before the expert. -/
theorem t2_trips (v : BitVec 32) (hv : v.toNat < 8) : (k0_t2_loop v).trips = v.toNat := by
  refine (main_trips v).trans ?_
  rw [toInt_of _ (by omega)]; omega

omit H in
theorem off36_eq (v : BitVec 32) (t4 : Fin k0_t4_loop.trips) : k0_off36 v t4 = ![v.toNat, t4.val * 256] := by
  have := t4_lt t4
  have hiv := iv_toNat t4.val (by omega)
  have e : (256#32 : BitVec 32).toNat = 256 := rfl
  have := muli_toNat (Scf.iv 0#32 1#32 t4.val) 256#32 (by rw [hiv, e]; omega)
  rw [hiv, e] at this
  rw [← this]; rfl

omit H in
/-- What the body assumes of the expert it reads. -/
theorem chk17 (v : BitVec 32) (hv : v.toNat < 8) : k0_chk17 v := by
  refine ⟨main_ok v, fun t => ?_, Scf.rem_ok 0#32 (Scalar.subi v 0#32), fun t => (Scf.rem_no_trip 0#32 (Scalar.subi v 0#32) t).elim, ?_, fun t4 => ?_⟩
  · have := lt_of_lt_of_eq t.isLt (t2_trips v hv)
    exact inb1 (f := k0_off25 v t) (iv_toNat t.val (by omega)) (by omega)
  · exact inb1 (f := k0_off27 v) (n := v.toNat) rfl (by omega)
  · have := t4_lt t4
    rw [off36_eq]
    intro a; fin_cases a
    · show v.toNat + 1 ≤ 8; omega
    · show t4.val * 256 + 256 ≤ 2816; omega

/-! ## The row windows -/

section Rows
variable {s g : BitVec 32} (hs : s.toNat ≤ 1879048185) (hg : g.toNat ≤ 268435455)
include hs hg
omit H

theorem t5_trips : (k0_t5_loop s g).trips = (min (s.toNat + g.toNat) 256 + 127 - s.toNat / 32 * 32) / 128 :=
  (main_trips (nwinW s g)).trans (nwinW_toInt hs hg)

theorem row_eq (t : Fin (k0_t5_loop s g).trips) : (rowW s t.val).toNat = min (s.toNat / 32 * 32 + t.val * 128) 128 := by
  refine rowW_toNat hs hg t.val ?_
  exact lt_of_lt_of_eq t.isLt ((t5_trips hs hg).trans (nwinW_toInt hs hg).symm)

theorem off37_eq (t : Fin (k0_t5_loop s g).trips) : k0_off37 s g t = ![min (s.toNat / 32 * 32 + t.val * 128) 128, 0] := by
  rw [← row_eq hs hg t]; rfl

theorem off39_eq (t : Fin (k0_t5_loop s g).trips) : k0_off39 s g t = ![min (s.toNat / 32 * 32 + t.val * 128) 128, 0] := by
  rw [← row_eq hs hg t]; rfl

theorem off40_eq (t4 : Fin k0_t4_loop.trips) (t : Fin (k0_t5_loop s g).trips) :
    k0_off40 s g t4 t = ![min (s.toNat / 32 * 32 + t.val * 128) 128, t4.val * 256] := by
  have := t4_lt t4
  have hiv := iv_toNat t4.val (by omega)
  have e : (256#32 : BitVec 32).toNat = 256 := rfl
  have := muli_toNat (Scf.iv 0#32 1#32 t4.val) 256#32 (by rw [hiv, e]; omega)
  rw [hiv, e] at this
  rw [← row_eq hs hg t, ← this]; rfl

/-- What the body assumes of an expert's row windows. -/
theorem chk20 (H : InRange v1 v7 v13 v19 v25 v31 v37 v43) (t1 : Fin (k0_t1_loop v1 v7 v13 v19 v25 v31 v37 v43).trips) :
    k0_chk20 v1 v7 v13 v19 v25 v31 v37 v43 t1 s g := by
  have no6 : ∀ t : Fin (k0_t6_loop s g).trips, False := fun t => Scf.rem_no_trip 0#32 (Scalar.subi (nwinW s g) 0#32) t
  refine ⟨main_ok (nwinW s g), fun t => ?_, fun t => ?_, fun t4 t => ?_, fun t => ?_, fun t4 t => ?_, fun t4 t hinb => ?_,
    Scf.rem_ok 0#32 (Scalar.subi (nwinW s g) 0#32), fun t => (no6 t).elim, fun t => (no6 t).elim, fun _ t => (no6 t).elim,
    fun t => (no6 t).elim, fun _ t => (no6 t).elim, fun _ t => (no6 t).elim⟩
  · have h := row_eq hs hg t
    have : (k0_mult12 s g t).toNat = (rowW s t.val).toNat := rfl
    rw [this, h]; omega
  · rw [off37_eq hs hg t]; intro a; fin_cases a
    · show min (s.toNat / 32 * 32 + t.val * 128) 128 + 128 ≤ 256; omega
    · show 0 + 2048 ≤ 2048; omega
  · have := t1_lt8 H t1; have := t4_lt t4
    exact inbR (off38_eq H t1 t4) (by omega)
  · rw [off39_eq hs hg t]; intro a; fin_cases a
    · show min (s.toNat / 32 * 32 + t.val * 128) 128 + 128 ≤ 256; omega
    · show 0 + 128 ≤ 128; omega
  · have := t4_lt t4
    rw [off40_eq hs hg t4 t]; intro a; fin_cases a
    · show min (s.toNat / 32 * 32 + t.val * 128) 128 + 128 ≤ 256; omega
    · show t4.val * 256 + 256 ≤ 2816; omega
  · refine Affine.packed_dvd (by decide) ?_ (by decide)
    rw [off40_eq hs hg t4 t]
    show EltTy.packing .bf16 ∣ min (s.toNat / 32 * 32 + t.val * 128) 128
    show 2 ∣ min (s.toNat / 32 * 32 + t.val * 128) 128
    omega

end Rows

/-! ## The copies started before the loops -/

/-- There is a first chunk exactly where some group has rows. -/
theorem cond_iff (c : BitVec 32) (k : ℕ) (hc : c.toNat = k) (hk : k < 8) :
    (Scalar.cmpi .ne (Scalar.extui (Scalar.cmpi .slt c (Scalar.muli (nact v1 v7 v13 v19 v25 v31 v37 v43) 11#32))) 0#32 = 1#1) ↔ 0 < cnt gs 8 := by
  have h2 := nchunk_toNat H
  have := cnt_le gs 8
  rw [slt_cond _ _ (by omega) (by omega), h2, hc]
  omega

theorem cond1_iff : k0_cond1 v1 v7 v13 v19 v25 v31 v37 v43 = 1#1 ↔ 0 < cnt gs 8 := cond_iff H 0#32 0 rfl (by omega)
theorem cond2_iff : k0_cond2 v1 v7 v13 v19 v25 v31 v37 v43 = 1#1 ↔ 0 < cnt gs 8 := cond_iff H 1#32 1 rfl (by omega)
theorem cond3_iff : k0_cond3 v1 v7 v13 v19 v25 v31 v37 v43 = 1#1 ↔ 0 < cnt gs 8 := cond_iff H 2#32 2 rfl (by omega)
theorem cond4_iff : k0_cond4 v1 v7 v13 v19 v25 v31 v37 v43 = 1#1 ↔ 0 < cnt gs 8 := cond_iff H 3#32 3 rfl (by omega)
theorem cond5_iff : k0_cond5 v1 v7 v13 v19 v25 v31 v37 v43 = 1#1 ↔ 0 < cnt gs 8 := cond_iff H 4#32 4 rfl (by omega)
theorem cond6_iff : k0_cond6 v1 v7 v13 v19 v25 v31 v37 v43 = 1#1 ↔ 0 < cnt gs 8 := cond_iff H 5#32 5 rfl (by omega)
theorem cond7_iff : k0_cond7 v1 v7 v13 v19 v25 v31 v37 v43 = 1#1 ↔ 0 < cnt gs 8 := cond_iff H 6#32 6 rfl (by omega)
theorem cond8_iff : k0_cond8 v1 v7 v13 v19 v25 v31 v37 v43 = 1#1 ↔ 0 < cnt gs 8 := cond_iff H 7#32 7 rfl (by omega)

section First
omit H
variable (v : BitVec 32) (hv : v.toNat < 8)
theorem off9_eq : k0_off9 v = ![v.toNat, 0, 0] := rfl
theorem off11_eq : k0_off11 v = ![v.toNat, 0, 256] := rfl
theorem off13_eq : k0_off13 v = ![v.toNat, 0, 512] := rfl
theorem off15_eq : k0_off15 v = ![v.toNat, 0, 768] := rfl
theorem off17_eq : k0_off17 v = ![v.toNat, 0, 1024] := rfl
theorem off19_eq : k0_off19 v = ![v.toNat, 0, 1280] := rfl
theorem off21_eq : k0_off21 v = ![v.toNat, 0, 1536] := rfl
theorem off23_eq : k0_off23 v = ![v.toNat, 0, 1792] := rfl
include hv
theorem chk8 : k0_chk8 v1 v7 v13 v19 v25 v31 v37 v43 v :=
  ⟨fun _ => inbW (off9_eq v) hv (by omega), fun _ _ => Affine.words_rows (by decide) (by rw [off9_eq]; rfl) rfl⟩
theorem chk9 : k0_chk9 v1 v7 v13 v19 v25 v31 v37 v43 v :=
  ⟨fun _ => inbW (off11_eq v) hv (by omega), fun _ _ => Affine.words_rows (by decide) (by rw [off11_eq]; rfl) rfl⟩
theorem chk10 : k0_chk10 v1 v7 v13 v19 v25 v31 v37 v43 v :=
  ⟨fun _ => inbW (off13_eq v) hv (by omega), fun _ _ => Affine.words_rows (by decide) (by rw [off13_eq]; rfl) rfl⟩
theorem chk11 : k0_chk11 v1 v7 v13 v19 v25 v31 v37 v43 v :=
  ⟨fun _ => inbW (off15_eq v) hv (by omega), fun _ _ => Affine.words_rows (by decide) (by rw [off15_eq]; rfl) rfl⟩
theorem chk12 : k0_chk12 v1 v7 v13 v19 v25 v31 v37 v43 v :=
  ⟨fun _ => inbW (off17_eq v) hv (by omega), fun _ _ => Affine.words_rows (by decide) (by rw [off17_eq]; rfl) rfl⟩
theorem chk13 : k0_chk13 v1 v7 v13 v19 v25 v31 v37 v43 v :=
  ⟨fun _ => inbW (off19_eq v) hv (by omega), fun _ _ => Affine.words_rows (by decide) (by rw [off19_eq]; rfl) rfl⟩
theorem chk14 : k0_chk14 v1 v7 v13 v19 v25 v31 v37 v43 v :=
  ⟨fun _ => inbW (off21_eq v) hv (by omega), fun _ _ => Affine.words_rows (by decide) (by rw [off21_eq]; rfl) rfl⟩
theorem chk15 : k0_chk15 v1 v7 v13 v19 v25 v31 v37 v43 v :=
  ⟨fun _ => inbW (off23_eq v) hv (by omega), fun _ _ => Affine.words_rows (by decide) (by rw [off23_eq]; rfl) rfl⟩
end First

end Cert.KernelIdeal.Moe

end
-- ==== Proof.KernelIdeal.Base.lean ====
/- The weight ring: its slots, their cells and the tokens of the weights, each in one of three states. -/
module

public import proofs.«01_k».proof.Proof.KernelIdeal.Checks
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Routed
public import Idealize.ShloMosaic.Lib.LoopRemainder
public import Idealize.ShloMosaic.Lib.Ring
public import Idealize.ShloMosaic.Lib.Tactic
public import Idealize.ShloMosaic.Lib.Transfers

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

/-! ## The kernel's operands -/

abbrev mX : Memref sig .tc .hbm S256x2048 .fp8e4m3 := Memref.whole main_arg0
abbrev mXs : Memref sig .tc .hbm S2x128 .f32 := Memref.whole main_v0
abbrev mW : Memref sig .tc .hbm S8x2048x2816 .fp8e4m3 := Memref.whole main_arg3
abbrev mWs : Memref sig .tc .hbm S8x2816 .f32 := Memref.whole main_arg4
abbrev mO : Memref sig .tc .hbm S256x2816 .bf16 := Memref.whole main_v1
abbrev vX : Memref sig .tc .vmem S256x2048 .fp8e4m3 := Memref.whole cc0_scratch0
abbrev vXs : Memref sig .tc .vmem S2x128 .f32 := Memref.whole cc0_scratch1
abbrev vWs : Memref sig .tc .vmem S8x2816 .f32 := Memref.whole cc0_scratch2
abbrev vW : Memref sig .tc .vmem S88x2048x256 .fp8e4m3 := Memref.whole cc0_scratch3
abbrev vO : Memref sig .tc .vmem S256x2816 .bf16 := Memref.whole cc0_scratch4
abbrev vB : Memref sig .tc .vmem S256x128 .f32 := Memref.whole cc0_scratch5
abbrev sA : Memref sig .tc .smem S8 .i32 := Memref.whole cc0_scratch6

/-! ## Slots, cells and slabs -/

/-- A slot inside the ring buffer, -/
abbrev InSlot (o : Fin 3 → ℕ) : Prop := ∀ a, o a + S1x2048x256.size a ≤ S88x2048x256.size a
/-- a slab inside the weights, -/
abbrev InSlab (o : Fin 3 → ℕ) : Prop := ∀ a, o a + S1x2048x256.size a ≤ S8x2048x2816.size a
/-- a cell inside the semaphore array. -/
abbrev InCell (o : Fin 1 → ℕ) : Prop := ∀ a, o a + S1.size a ≤ S88.size a

/-- The slot of the weight ring at offsets `o`, -/
abbrev slotAt (o : Fin 3 → ℕ) (ho : InSlot o) : Memref sig .tc .vmem S2048x256 .fp8e4m3 :=
  (vW.slice (Rect.unit (s := S88x2048x256) o S1x2048x256.size ho) (fun _ => rfl)).squeeze S2048x256 squeezes_S1x2048x256_S2048x256
/-- the slab of the weights at offsets `o`, -/
abbrev slabAt (o : Fin 3 → ℕ) (ho : InSlab o) : Memref sig .tc .hbm S2048x256 .fp8e4m3 :=
  (mW.slice (Rect.unit (s := S8x2048x2816) o S1x2048x256.size ho) (fun _ => rfl)).squeeze S2048x256 squeezes_S1x2048x256_S2048x256
/-- and the cell at offset `o`. -/
abbrev cellAt (o : Fin 1 → ℕ) (ho : InCell o) : SemLoc sig :=
  SemLoc.dma ((cc0_scratch10.slice (Rect.unit (s := S88) o S1.size ho)).squeeze S_ squeezes_S1_S_).sem

/-- Place `k` of an eight-word list. -/
abbrev ix8 (k : Fin 8) : S8.Idx := fun a => ⟨k.val, by fin_cases a; exact k.isLt⟩

/-- The list of active experts in scalar memory, read at one place. -/
theorem sA_read (o : Fin 1 → ℕ) (ho : ∀ a, o a + S1.size a ≤ S8.size a) (fa : sA.view.ty.Contents (Elt F))
    (x : (Rect.unit (s := S8) o S1.size ho).toLoadRect.shape.Idx) (k : Fin 8) (hk : o 0 = k.val) :
    (View.readAt (Elt F) sA.view (Rect.unit (s := S8) o S1.size ho).toLoadRect fa x : BitVec 32) = fa (ix8 k) := by
  refine congrArg fa (funext fun a => Fin.ext ?_)
  fin_cases a
  have hx : (x 0).val = 0 := by have := (x 0).isLt; exact Nat.lt_one_iff.mp this
  show o 0 + 1 * (x 0).val = k.val
  omega

variable (c : Dev nD) (fw : Buf (Elt F) (mW.view.loc (c : Thread nD τ)))

/-- The read token of the weights that belongs to chunk `k`, on the elements `S`. -/
abbrev tokW (k : Fin 88) (S : Finset (Idx (mW.view.loc (c : Thread nD τ)))) : sProp 𝕄 :=
  mW.view.loc (c : Thread nD τ) ↦[S]{Transfers.shareTok fullShare 88 k} fw

/-- The contents a slot has once a slab has landed in it over `f`. -/
abbrev landed (o : Fin 3 → ℕ) (ho : InSlot o) (q : Fin 3 → ℕ) (hq : InSlab q) (f : Buf (Elt F) ((slotAt o ho).view.loc (c : Thread nD τ))) :
    Buf (Elt F) ((slotAt o ho).view.loc (c : Thread nD τ)) :=
  (slotAt o ho).view.writes (Elt F) f [⟨Rect.whole S2048x256, ReadAs.same.apply ((slabAt q hq).view.read (Elt F) fw)⟩]

/-- A chunk not yet started: its cell at zero, its slot at anything, its token whole. -/
abbrev freeAt (o : Fin 3 → ℕ) (ho : InSlot o) (s : Fin 1 → ℕ) (hs : InCell s) (k : Fin 88) : sProp 𝕄 :=
  iprop(semVal ((c : Thread nD τ), cellAt s hs) 0
    ∗ (∃ f, (slotAt o ho).view.loc (c : Thread nD τ) ↦[(slotAt o ho).view.set]{fullShare} f)
    ∗ tokW c fw k Finset.univ)

/-- A chunk on its way: the transfer of its slab into its slot, and the rest of its token. -/
abbrev flyAt (o : Fin 3 → ℕ) (ho : InSlot o) (s : Fin 1 → ℕ) (hs : InCell s) (q : Fin 3 → ℕ) (hq : InSlab q) (k : Fin 88) : sProp 𝕄 :=
  iprop((∃ f, Transfers.Flight countersEmb (c : Thread nD τ) (cellAt s hs) () 16384
      iprop(((slotAt o ho).view.loc (c : Thread nD τ) ↦[(slotAt o ho).view.set]{fullShare} landed c fw o ho q hq f)
        ∗ tokW c fw k (slabAt q hq).view.set))
    ∗ tokW c fw k (Finset.univ \ (slabAt q hq).view.set))

/-- A chunk that has arrived: its cell at zero, the slab in its slot, its token whole. -/
abbrev hereAt (o : Fin 3 → ℕ) (ho : InSlot o) (s : Fin 1 → ℕ) (hs : InCell s) (q : Fin 3 → ℕ) (hq : InSlab q) (k : Fin 88) : sProp 𝕄 :=
  iprop(semVal ((c : Thread nD τ), cellAt s hs) 0
    ∗ (∃ f, (slotAt o ho).view.loc (c : Thread nD τ) ↦[(slotAt o ho).view.set]{fullShare} landed c fw o ho q hq f)
    ∗ tokW c fw k Finset.univ)

theorem inb_slot (k : Fin 88) : ∀ a, (![k.val, 0, 0] : Fin 3 → ℕ) a + S1x2048x256.size a ≤ S88x2048x256.size a := inbR rfl k.isLt
theorem inb_cell (k : Fin 88) : ∀ a, (![k.val] : Fin 1 → ℕ) a + S1.size a ≤ S88.size a := inb1 rfl k.isLt
theorem inb_slab (e : Fin 8) (k : ℕ) : ∀ a, (![e.val, 0, k % 11 * 256] : Fin 3 → ℕ) a + S1x2048x256.size a ≤ S8x2048x2816.size a :=
  inbW rfl e.isLt (by omega)

/-- The state of a chunk. -/
inductive ChunkState | free | fly | here

/-- What is held of chunk `k` in each state, the active experts in order being `A`. -/
def chunk (A : ℕ → Fin 8) (k : Fin 88) (s : ChunkState) : sProp 𝕄 :=
  match s with
  | .free => freeAt c fw ![k.val, 0, 0] (inb_slot k) ![k.val] (inb_cell k) k
  | .fly => flyAt c fw ![k.val, 0, 0] (inb_slot k) ![k.val] (inb_cell k) ![(A (k.val / 11)).val, 0, k.val % 11 * 256] (inb_slab _ _) k
  | .here => hereAt c fw ![k.val, 0, 0] (inb_slot k) ![k.val] (inb_cell k) ![(A (k.val / 11)).val, 0, k.val % 11 * 256] (inb_slab _ _) k

/-- The state of chunk `k` when chunks below `d` have arrived and chunks below `i` have been started. -/
def stateOf (d i : ℕ) (k : Fin 88) : ChunkState := if k.val < d then .here else if k.val < i then .fly else .free

/-- The whole ring. -/
abbrev ring (A : ℕ → Fin 8) (d i : ℕ) : sProp 𝕄 := Ring.AtW (chunk c fw A) (stateOf d i)

variable {A : ℕ → Fin 8}

theorem chunk_free (k : Fin 88) (o : Fin 3 → ℕ) (ho : InSlot o) (s : Fin 1 → ℕ) (hs : InCell s) (eo : o = ![k.val, 0, 0]) (es : s 0 = k.val) :
    chunk c fw A k .free = freeAt c fw o ho s hs k := by
  obtain rfl : s = ![k.val] := by funext i; fin_cases i; exact es
  subst eo; rfl

theorem chunk_fly (k : Fin 88) (o : Fin 3 → ℕ) (ho : InSlot o) (s : Fin 1 → ℕ) (hs : InCell s) (q : Fin 3 → ℕ) (hq : InSlab q) (eo : o = ![k.val, 0, 0])
    (es : s 0 = k.val) (eq : q = ![(A (k.val / 11)).val, 0, k.val % 11 * 256]) :
    chunk c fw A k .fly = flyAt c fw o ho s hs q hq k := by
  obtain rfl : s = ![k.val] := by funext i; fin_cases i; exact es
  subst eo; subst eq; rfl

theorem chunk_here (k : Fin 88) (o : Fin 3 → ℕ) (ho : InSlot o) (s : Fin 1 → ℕ) (hs : InCell s) (q : Fin 3 → ℕ) (hq : InSlab q) (eo : o = ![k.val, 0, 0])
    (es : s 0 = k.val) (eq : q = ![(A (k.val / 11)).val, 0, k.val % 11 * 256]) :
    chunk c fw A k .here = hereAt c fw o ho s hs q hq k := by
  obtain rfl : s = ![k.val] := by funext i; fin_cases i; exact es
  subst eo; subst eq; rfl

/-- Starting the next chunk moves the second bound, -/
theorem state_start (d i : ℕ) (hi : i < 88) (h : d ≤ i) : Function.update (stateOf d i) ⟨i, hi⟩ .fly = stateOf d (i + 1) := by
  funext k
  by_cases e : k = ⟨i, hi⟩
  · subst e; rw [Function.update_self]; unfold stateOf; rw [if_neg (by simp; omega), if_pos (by simp)]
  · rw [Function.update_of_ne e]; unfold stateOf
    have : k.val ≠ i := fun h => e (Fin.ext h)
    by_cases h1 : k.val < d
    · rw [if_pos h1, if_pos h1]
    · rw [if_neg h1, if_neg h1]
      by_cases h2 : k.val < i
      · rw [if_pos h2, if_pos (by omega)]
      · rw [if_neg h2, if_neg (by omega)]

/-- and waiting for one the first. -/
theorem state_wait (d i : ℕ) (hd : d < 88) : Function.update (stateOf d i) ⟨d, hd⟩ .here = stateOf (d + 1) i := by
  funext k
  by_cases e : k = ⟨d, hd⟩
  · subst e; rw [Function.update_self]; unfold stateOf; rw [if_pos (by simp)]
  · rw [Function.update_of_ne e]; unfold stateOf
    have : k.val ≠ d := fun h => e (Fin.ext h)
    by_cases h1 : k.val < d
    · rw [if_pos h1, if_pos (show k.val < d + 1 by omega)]
    · rw [if_neg h1, if_neg (show ¬k.val < d + 1 by omega)]

/-- The ring with the next chunk to start and the next to wait for set apart, -/
theorem ring_focus₂ (d i : ℕ) (hd : d < 88) (hi : i < 88) (h : d < i) :
    (ring c fw A d i : sProp 𝕄) = iprop(chunk c fw A ⟨i, hi⟩ .free ∗ chunk c fw A ⟨d, hd⟩ .fly
      ∗ bigSep ((Finset.univ.erase (⟨i, hi⟩ : Fin 88)).erase ⟨d, hd⟩) fun k => chunk c fw A k (stateOf d i k)) := by
  have hne : (⟨d, hd⟩ : Fin 88) ≠ ⟨i, hi⟩ := fun e => by have := congrArg Fin.val e; simp at this; omega
  unfold ring
  rw [Ring.AtW_focus _ _ ⟨i, hi⟩, Ring.restW_focus _ _ _ _ hne]
  unfold stateOf
  rw [if_neg (show ¬i < d by omega), if_neg (lt_irrefl i), if_neg (lt_irrefl d), if_pos (show d < i from h)]

/-- and both put back, the one started and the other arrived. -/
theorem ring_update₂ (d i : ℕ) (hd : d < 88) (hi : i < 88) (h : d < i) :
    iprop(chunk c fw A ⟨i, hi⟩ .fly ∗ chunk c fw A ⟨d, hd⟩ .here
      ∗ bigSep ((Finset.univ.erase (⟨i, hi⟩ : Fin 88)).erase ⟨d, hd⟩) fun k => chunk c fw A k (stateOf d i k))
      ⊢ (ring c fw A (d + 1) (i + 1) : sProp 𝕄) := by
  have hne : (⟨d, hd⟩ : Fin 88) ≠ ⟨i, hi⟩ := fun e => by have := congrArg Fin.val e; simp at this; omega
  unfold ring
  rw [← state_start (d + 1) i hi (by omega), ← state_wait d i hd]
  iintro ⟨Hi, Hd⟩
  iapply (Ring.AtW_update (chunk c fw A) _ _ _)
  isplitl [Hi]; · iexact Hi
  iapply (Ring.restW_update₂ (chunk c fw A) _ _ _ hne _)
  iexact Hd

/-- The ring with the next chunk to wait for set apart, -/
theorem ring_focus (d i : ℕ) (hd : d < 88) (h : d < i) :
    (ring c fw A d i : sProp 𝕄) = iprop(chunk c fw A ⟨d, hd⟩ .fly ∗ Ring.restW (chunk c fw A) (stateOf d i) ⟨d, hd⟩) := by
  unfold ring
  rw [Ring.AtW_focus _ _ ⟨d, hd⟩]
  congr 2
  unfold stateOf
  rw [if_neg (lt_irrefl d), if_pos (show d < i from h)]

/-- and put back once it has arrived. -/
theorem ring_update (d i : ℕ) (hd : d < 88) :
    iprop(chunk c fw A ⟨d, hd⟩ .here ∗ Ring.restW (chunk c fw A) (stateOf d i) ⟨d, hd⟩) ⊢ (ring c fw A (d + 1) i : sProp 𝕄) := by
  unfold ring
  rw [← state_wait d i hd]
  exact Ring.AtW_update (chunk c fw A) _ _ _

theorem state_free (d i : ℕ) (hi : i < 88) (h : d ≤ i) : stateOf d i ⟨i, hi⟩ = .free := by
  unfold stateOf; rw [if_neg (by simp; omega), if_neg (by simp)]
theorem state_fly (d i : ℕ) (hd : d < 88) (h : d < i) : stateOf d i ⟨d, hd⟩ = .fly := by
  unfold stateOf; rw [if_neg (by simp), if_pos (by simpa using h)]
theorem state_here (d i k : ℕ) (hk : k < 88) (h : k < d) : stateOf d i ⟨k, hk⟩ = .here := by
  unfold stateOf; rw [if_pos (by simpa using h)]

end Cert.KernelIdeal.Moe

end
-- ==== Proof.KernelIdeal.Slab.lean ====
/- One slab of one expert: the next chunk started, this chunk waited for. -/
module

public import proofs.«01_k».proof.Proof.KernelIdeal.Base

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ)))
  (arg0 : Memref sig .tc .smem S8 .i32) (harg0 : arg0.IsWhole)
  (v1 v7 v13 v19 v25 v31 v37 v43 : BitVec 32) (H : InRange v1 v7 v13 v19 v25 v31 v37 v43)

local notation "gs" => sizes v1 v7 v13 v19 v25 v31 v37 v43

/-- The list of active experts in scalar memory. -/
abbrev actP (fa : Buf (Elt F) (sA.view.loc (c : Thread nD τ))) : sProp 𝕄 :=
  sA.view.loc (c : Thread nD τ) ↦[sA.view.set]{fullShare} fa

/-- What the kernel's weight scales in vector memory hold. -/
abbrev wsP (f : Buf (Elt F) (vWs.view.loc (c : Thread nD τ))) : sProp 𝕄 :=
  vWs.view.loc (c : Thread nD τ) ↦[vWs.view.set]{fullShare} f

/-- The list names the active experts in order. -/
def Lists (n : ℕ) (A : ℕ → Fin 8) (fa : Buf (Elt F) (sA.view.loc (c : Thread nD τ))) : Prop :=
  ∀ a : Fin 8, a.val < n → (fa (ix8 a) : BitVec 32).toNat = (A a.val).val

/-- The list read at the active expert `a`. -/
theorem Lists.read {n : ℕ} {A : ℕ → Fin 8} {fa : Buf (Elt F) (sA.view.loc (c : Thread nD τ))} (hfa : Lists c n A fa) (o : Fin 1 → ℕ)
    (ho : ∀ a, o a + S1.size a ≤ S8.size a) (x : (Rect.unit (s := S8) o S1.size ho).toLoadRect.shape.Idx) (a : ℕ) (h8 : a < 8) (ha : a < n) (ho0 : o 0 = a) :
    BitVec.toNat (View.readAt (Elt F) sA.view (Rect.unit (s := S8) o S1.size ho).toLoadRect fa x) = (A a).val := by
  rw [sA_read o ho fa x ⟨a, h8⟩ ho0]; exact hfa ⟨a, h8⟩ ha

/-- What the weight scales of one expert's slab read. -/
abbrev wsRead (fs : Buf (Elt F) (vWs.view.loc (c : Thread nD τ))) (v98 : BitVec 32) (hw17 : k0_chk17 v98) (t4 : Fin k0_t4_loop.trips) : Vec F S1x256 .f32 :=
  View.readAt (Elt F) vWs.view (Rect.unit (s := S8x2816) (k0_off36 v98 t4) S1x256.size (k0_off36_inb v98 hw17 t4)).toLoadRect fs

set_option maxHeartbeats 400000 in
include H in
/-- The wait for a chunk with another to start: that one is started, and this one arrives. -/
theorem part1_start
    (A : ℕ → Fin 8) (fa : Buf (Elt F) (sA.view.loc (c : Thread nD τ))) (fs : Buf (Elt F) (vWs.view.loc (c : Thread nD τ)))
    (hw16 : k0_chk16 v1 v7 v13 v19 v25 v31 v37 v43) (v47 : BitVec 32) (t1 : Fin (k0_t1_loop v1 v7 v13 v19 v25 v31 v37 v43).trips)
    (arg18 v98 : BitVec 32) (hw17 : k0_chk17 v98) (c0 c1 : BitVec 32) (t4 : Fin k0_t4_loop.trips)
    (hfa : Lists c (cnt (sizes v1 v7 v13 v19 v25 v31 v37 v43) 8) A fa) (W : Waits sig Unit)
    (Q : ((_ : BitVec 32) ×' (_ : BitVec 32) ×' Vec F S1x256 EltTy.f32) → sProp 𝕄)
    (h9 : k0_cond9 v1 v7 v13 v19 v25 v31 v37 v43 t1 t4 = 1#1) :
    iprop(ring c fw A (t1.val * 11 + t4.val) (t1.val * 11 + t4.val + 8) ∗ actP c fa ∗ wsP c fs ∗ owes (c : Thread nD τ) 0 W
        ∗ (∀ r, iprop(⌜r.2.2 = wsRead c fs v98 hw17 t4⌝ ∗ ring c fw A (t1.val * 11 + t4.val + 1) (t1.val * 11 + t4.val + 8 + 1) ∗ actP c fa ∗ wsP c fs
            ∗ (∃ W', owes (c : Thread nD τ) 0 W')) -∗ Q r))
      ⊢ wp frame (wpE (defs₀ (F := F)) Variants.none (c : Thread nD τ) none) Set.univ
          (k0_part1 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 c0 c1 t4) Q := by
  have hb := t1_lt8 H t1
  have hb4 := t4_lt t4
  have hbn := t1_lt H t1
  have hcnt := cnt_le (sizes v1 v7 v13 v19 v25 v31 v37 v43) 8
  have hd : t1.val * 11 + t4.val < 88 := by omega
  have hA2 := hfa.read c _ (k0_off32_inb v1 v7 v13 v19 v25 v31 v37 v43 hw16 t1 t4) (Shape.Idx.first numel1_S1.ge) t1.val (by omega) hbn (off32_eq H t1 t4)
  have h19 := chk19 H t1 t4 _ (lt_of_eq_of_lt hA2 (A _).isLt)
  have q1 : (t1.val * 11 + t4.val) / 11 = t1.val := by omega
  have q2 : (t1.val * 11 + t4.val) % 11 = t4.val := by omega
  have hq2 : k0_off35 v1 v7 v13 v19 v25 v31 v37 v43 t1 t4 (View.readAt (Elt F) sA.view (Rect.unit (s := S8) (k0_off32 v1 v7 v13 v19 v25 v31 v37 v43 t1 t4) S1.size (k0_off32_inb v1 v7 v13 v19 v25 v31 v37 v43 hw16 t1 t4)).toLoadRect fa (Shape.Idx.first numel1_S1.ge))
      = ![(A ((t1.val * 11 + t4.val) / 11)).val, 0, (t1.val * 11 + t4.val) % 11 * 256] := by
    rw [off35_eq H t1 t4, hA2, q1, q2]
  have hn := (cond9_iff H t1 t4).mp h9
  have hi : t1.val * 11 + t4.val + 8 < 88 := by omega
  have hA1 := hfa.read c _ (k0_off28_inb v1 v7 v13 v19 v25 v31 v37 v43 hw16 t1 t4 h9) (Shape.Idx.first numel1_S1.ge) ((t1.val * 11 + t4.val + 8) / 11) (by omega) (by omega) (off28_eq H t1 t4)
  have h18 := chk18 H t1 t4 _ (lt_of_eq_of_lt hA1 (A _).isLt)
  have hq1 : k0_off31 v1 v7 v13 v19 v25 v31 v37 v43 t1 t4 (View.readAt (Elt F) sA.view (Rect.unit (s := S8) (k0_off28 v1 v7 v13 v19 v25 v31 v37 v43 t1 t4) S1.size (k0_off28_inb v1 v7 v13 v19 v25 v31 v37 v43 hw16 t1 t4 h9)).toLoadRect fa (Shape.Idx.first numel1_S1.ge))
      = ![(A ((t1.val * 11 + t4.val + 8) / 11)).val, 0, (t1.val * 11 + t4.val + 8) % 11 * 256] := by
    rw [off31_eq H t1 t4, hA1]
  simp only [k0_part1_eq_skeleton]; unfold k0_part1_skel
  rw [ring_focus₂ c fw _ _ hd hi (by omega), chunk_free c fw ⟨t1.val * 11 + t4.val + 8, hi⟩ _ (k0_off30_inb v1 v7 v13 v19 v25 v31 v37 v43 hw16 t1 t4 h9) _ (k0_off29_inb v1 v7 v13 v19 v25 v31 v37 v43 hw16 t1 t4 h9) (off30_eq H t1 t4) (off29_eq H t1 t4),
    chunk_fly c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
  iintro ⟨⟨⟨Hcell, ⟨%f, Hslot⟩, Htok⟩, ⟨⟨%f2, Hfl⟩, Htok2⟩, Hrest⟩, HA, HS, HO, Hk⟩
  sl_exec
  sl_step
  iapply Hk
  isplitr; · ipureintro; rfl
  isplitr [HA HS HO]
  · iapply (ring_update₂ c fw _ _ hd hi (by omega))
    rw [chunk_fly c fw ⟨t1.val * 11 + t4.val + 8, hi⟩ _ (k0_off30_inb v1 v7 v13 v19 v25 v31 v37 v43 hw16 t1 t4 h9) _ (k0_off29_inb v1 v7 v13 v19 v25 v31 v37 v43 hw16 t1 t4 h9) _
      (k0_off31_inb v1 v7 v13 v19 v25 v31 v37 v43 t1 t4 _ h18 h9) (off30_eq H t1 t4) (off29_eq H t1 t4) hq1,
      chunk_here c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
    isplitl [Hcell Htok]
    · isplitl [Hcell]
      · iexists f; iexact Hcell
      · iexact Htok
    isplitr [Hrest]
    · isplitl [Hfl]; · iexact Hfl
      isplitl [Hfl_dst]; · iexists f2; iexact Hfl_dst
      iexact Htok2
    · iexact Hrest
  isplitl [HA]; · iexact HA
  isplitl [HS]; · iexact HS
  iexists _; iexact HO

set_option maxHeartbeats 400000 in
include H in
/-- The wait for a chunk with no other to start. -/
theorem part1_last
    (A : ℕ → Fin 8) (fa : Buf (Elt F) (sA.view.loc (c : Thread nD τ))) (fs : Buf (Elt F) (vWs.view.loc (c : Thread nD τ)))
    (hw16 : k0_chk16 v1 v7 v13 v19 v25 v31 v37 v43) (v47 : BitVec 32) (t1 : Fin (k0_t1_loop v1 v7 v13 v19 v25 v31 v37 v43).trips)
    (arg18 v98 : BitVec 32) (hw17 : k0_chk17 v98) (c0 c1 : BitVec 32) (t4 : Fin k0_t4_loop.trips)
    (hfa : Lists c (cnt (sizes v1 v7 v13 v19 v25 v31 v37 v43) 8) A fa) (W : Waits sig Unit)
    (Q : ((_ : BitVec 32) ×' (_ : BitVec 32) ×' Vec F S1x256 EltTy.f32) → sProp 𝕄)
    (h9 : ¬k0_cond9 v1 v7 v13 v19 v25 v31 v37 v43 t1 t4 = 1#1) (i : ℕ) (hi : t1.val * 11 + t4.val < i) :
    iprop(ring c fw A (t1.val * 11 + t4.val) i ∗ actP c fa ∗ wsP c fs ∗ owes (c : Thread nD τ) 0 W
        ∗ (∀ r, iprop(⌜r.2.2 = wsRead c fs v98 hw17 t4⌝ ∗ ring c fw A (t1.val * 11 + t4.val + 1) i ∗ actP c fa ∗ wsP c fs
            ∗ (∃ W', owes (c : Thread nD τ) 0 W')) -∗ Q r))
      ⊢ wp frame (wpE (defs₀ (F := F)) Variants.none (c : Thread nD τ) none) Set.univ
          (k0_part1 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 c0 c1 t4) Q := by
  have hb := t1_lt8 H t1
  have hb4 := t4_lt t4
  have hbn := t1_lt H t1
  have hcnt := cnt_le (sizes v1 v7 v13 v19 v25 v31 v37 v43) 8
  have hd : t1.val * 11 + t4.val < 88 := by omega
  have hA2 := hfa.read c _ (k0_off32_inb v1 v7 v13 v19 v25 v31 v37 v43 hw16 t1 t4) (Shape.Idx.first numel1_S1.ge) t1.val (by omega) hbn (off32_eq H t1 t4)
  have h19 := chk19 H t1 t4 _ (lt_of_eq_of_lt hA2 (A _).isLt)
  have q1 : (t1.val * 11 + t4.val) / 11 = t1.val := by omega
  have q2 : (t1.val * 11 + t4.val) % 11 = t4.val := by omega
  have hq2 : k0_off35 v1 v7 v13 v19 v25 v31 v37 v43 t1 t4 (View.readAt (Elt F) sA.view (Rect.unit (s := S8) (k0_off32 v1 v7 v13 v19 v25 v31 v37 v43 t1 t4) S1.size (k0_off32_inb v1 v7 v13 v19 v25 v31 v37 v43 hw16 t1 t4)).toLoadRect fa (Shape.Idx.first numel1_S1.ge))
      = ![(A ((t1.val * 11 + t4.val) / 11)).val, 0, (t1.val * 11 + t4.val) % 11 * 256] := by
    rw [off35_eq H t1 t4, hA2, q1, q2]
  simp only [k0_part1_eq_skeleton]; unfold k0_part1_skel
  rw [ring_focus c fw _ _ hd hi,
    chunk_fly c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
  iintro ⟨⟨⟨⟨%f2, Hfl⟩, Htok2⟩, Hrest⟩, HA, HS, HO, Hk⟩
  sl_exec
  sl_step
  iapply Hk
  isplitr; · ipureintro; rfl
  isplitr [HA HS HO]
  · iapply (ring_update c fw _ _ hd)
    rw [chunk_here c fw ⟨t1.val * 11 + t4.val, hd⟩ _ (k0_off34_inb v1 v7 v13 v19 v25 v31 v37 v43 hw16 t1 t4) _ (k0_off33_inb v1 v7 v13 v19 v25 v31 v37 v43 hw16 t1 t4) _
      (k0_off35_inb v1 v7 v13 v19 v25 v31 v37 v43 t1 t4 _ h19) (off34_eq H t1 t4) (off33_eq H t1 t4) hq2]
    isplitr [Hrest]
    · isplitl [Hfl]; · iexact Hfl
      isplitl [Hfl_dst]; · iexists f2; iexact Hfl_dst
      iexact Htok2
    · iexact Hrest
  isplitl [HA]; · iexact HA
  isplitl [HS]; · iexact HS
  iexists _; iexact HO

include H in
/-- The wait for a chunk, whether or not there is another to start. -/
theorem part1_run
    (A : ℕ → Fin 8) (fa : Buf (Elt F) (sA.view.loc (c : Thread nD τ))) (fs : Buf (Elt F) (vWs.view.loc (c : Thread nD τ)))
    (hw16 : k0_chk16 v1 v7 v13 v19 v25 v31 v37 v43) (v47 : BitVec 32) (t1 : Fin (k0_t1_loop v1 v7 v13 v19 v25 v31 v37 v43).trips)
    (arg18 v98 : BitVec 32) (hw17 : k0_chk17 v98) (c0 c1 : BitVec 32) (t4 : Fin k0_t4_loop.trips)
    (hfa : Lists c (cnt (sizes v1 v7 v13 v19 v25 v31 v37 v43) 8) A fa) (W : Waits sig Unit)
    (Q : ((_ : BitVec 32) ×' (_ : BitVec 32) ×' Vec F S1x256 EltTy.f32) → sProp 𝕄) :
    iprop(ring c fw A (t1.val * 11 + t4.val) (min (t1.val * 11 + t4.val + 8) (cnt (sizes v1 v7 v13 v19 v25 v31 v37 v43) 8 * 11)) ∗ actP c fa ∗ wsP c fs ∗ owes (c : Thread nD τ) 0 W
        ∗ (∀ r, iprop(⌜r.2.2 = wsRead c fs v98 hw17 t4⌝ ∗ ring c fw A (t1.val * 11 + t4.val + 1) (min (t1.val * 11 + t4.val + 1 + 8) (cnt (sizes v1 v7 v13 v19 v25 v31 v37 v43) 8 * 11)) ∗ actP c fa ∗ wsP c fs
            ∗ (∃ W', owes (c : Thread nD τ) 0 W')) -∗ Q r))
      ⊢ wp frame (wpE (defs₀ (F := F)) Variants.none (c : Thread nD τ) none) Set.univ
          (k0_part1 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 c0 c1 t4) Q := by
  have hbn := t1_lt H t1
  have hb4 := t4_lt t4
  by_cases h9 : k0_cond9 v1 v7 v13 v19 v25 v31 v37 v43 t1 t4 = 1#1
  · have hn := (cond9_iff H t1 t4).mp h9
    rw [show min (t1.val * 11 + t4.val + 8) (cnt (sizes v1 v7 v13 v19 v25 v31 v37 v43) 8 * 11) = t1.val * 11 + t4.val + 8 by omega,
      show min (t1.val * 11 + t4.val + 1 + 8) (cnt (sizes v1 v7 v13 v19 v25 v31 v37 v43) 8 * 11) = t1.val * 11 + t4.val + 8 + 1 by omega]
    exact part1_start c fw arg0 harg0 v1 v7 v13 v19 v25 v31 v37 v43 H A fa fs hw16 v47 t1 arg18 v98 hw17 c0 c1 t4 hfa W Q h9
  · have hn : ¬t1.val * 11 + t4.val + 8 < cnt (sizes v1 v7 v13 v19 v25 v31 v37 v43) 8 * 11 := fun h => h9 ((cond9_iff H t1 t4).mpr h)
    rw [show min (t1.val * 11 + t4.val + 8) (cnt (sizes v1 v7 v13 v19 v25 v31 v37 v43) 8 * 11) = cnt (sizes v1 v7 v13 v19 v25 v31 v37 v43) 8 * 11 by omega,
      show min (t1.val * 11 + t4.val + 1 + 8) (cnt (sizes v1 v7 v13 v19 v25 v31 v37 v43) 8 * 11) = cnt (sizes v1 v7 v13 v19 v25 v31 v37 v43) 8 * 11 by omega]
    exact part1_last c fw arg0 harg0 v1 v7 v13 v19 v25 v31 v37 v43 H A fa fs hw16 v47 t1 arg18 v98 hw17 c0 c1 t4 hfa W Q h9 _ (by omega)

end Cert.KernelIdeal.Moe

end
-- ==== Proof.KernelIdeal.Window.lean ====
/- One row window of one slab, and the loop over a slab's windows. -/
module

public import proofs.«01_k».proof.Proof.KernelIdeal.Slab

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (arg0 : Memref sig .tc .smem S8 .i32) (harg0 : arg0.IsWhole)
  (v1 v7 v13 v19 v25 v31 v37 v43 : BitVec 32)

/-- The activations in vector memory, -/
abbrev xP (f : Buf (Elt F) (vX.view.loc (c : Thread nD τ))) : sProp 𝕄 := vX.view.loc (c : Thread nD τ) ↦[vX.view.set]{fullShare} f
/-- the row scales, each repeated along its row, -/
abbrev bP (f : Buf (Elt F) (vB.view.loc (c : Thread nD τ))) : sProp 𝕄 := vB.view.loc (c : Thread nD τ) ↦[vB.view.set]{fullShare} f
/-- the output, -/
abbrev oP (f : Buf (Elt F) (vO.view.loc (c : Thread nD τ))) : sProp 𝕄 := vO.view.loc (c : Thread nD τ) ↦[vO.view.set]{fullShare} f
/-- and one slot of the weight ring. -/
abbrev slotP (o : Fin 3 → ℕ) (ho : InSlot o) (f : Buf (Elt F) ((slotAt o ho).view.loc (c : Thread nD τ))) : sProp 𝕄 :=
  (slotAt o ho).view.loc (c : Thread nD τ) ↦[(slotAt o ho).view.set]{fullShare} f

/-- The slab of the weights at offsets `q`, as the three-dimensional block the product takes. -/
abbrev slabVec (fw : Buf (Elt F) (mW.view.loc (c : Thread nD τ))) (q : Fin 3 → ℕ) (hq : InSlab q) : Vec F S1x2048x256 .fp8e4m3 :=
  View.readAt (Elt F) mW.view (Rect.unit (s := S8x2048x2816) q S1x2048x256.size hq).toLoadRect fw

/-- A slot a slab has landed in reads the slab. -/
theorem landed_read (fw : Buf (Elt F) (mW.view.loc (c : Thread nD τ))) (o : Fin 3 → ℕ) (ho : InSlot o) (q : Fin 3 → ℕ) (hq : InSlab q)
    (f : Buf (Elt F) ((slotAt o ho).view.loc (c : Thread nD τ))) :
    View.readAt (Elt F) vW.view (Rect.unit (s := S88x2048x256) o S1x2048x256.size ho).toLoadRect (landed c fw o ho q hq f) = slabVec c fw q hq := by
  have h := View.read_writes_whole (slotAt o ho).view f (ReadAs.same.apply ((slabAt q hq).view.read (Elt F) fw))
  have hn : S2048x256.numel = (Rect.unit (s := S88x2048x256) o S1x2048x256.size ho).shape.numel := squeezes_S1x2048x256_S2048x256.numel_eq
  funext x
  have hx := congrFun h ((Shape.reshapeEquiv hn).symm x)
  have e1 : (slotAt o ho).view.read (Elt F) (landed c fw o ho q hq f) ((Shape.reshapeEquiv hn).symm x)
      = View.readAt (Elt F) vW.view (Rect.unit (s := S88x2048x256) o S1x2048x256.size ho).toLoadRect (landed c fw o ho q hq f) (Shape.reshapeEquiv hn ((Shape.reshapeEquiv hn).symm x)) := rfl
  have e2 : ReadAs.same.apply ((slabAt q hq).view.read (Elt F) fw) ((Shape.reshapeEquiv hn).symm x)
      = slabVec c fw q hq (Shape.reshapeEquiv hn ((Shape.reshapeEquiv hn).symm x)) := rfl
  rw [Equiv.apply_symm_apply] at e1 e2
  exact e1.symm.trans (hx.trans e2)

/-- The output once one window has been computed over it. -/
abbrev winOut (fx : Buf (Elt F) (vX.view.loc (c : Thread nD τ))) (fb : Buf (Elt F) (vB.view.loc (c : Thread nD τ)))
    (t1 : Fin (k0_t1_loop v1 v7 v13 v19 v25 v31 v37 v43).trips) (v105 v107 : BitVec 32) (hw20 : k0_chk20 v1 v7 v13 v19 v25 v31 v37 v43 t1 v105 v107) (v109 v127 : BitVec 32)
    (t4 : Fin k0_t4_loop.trips) (v189 : Vec F S1x256 .f32) (w : Vec F S1x2048x256 .fp8e4m3)
    (k : Fin (k0_t5_loop v105 v107).trips) (fo : Buf (Elt F) (vO.view.loc (c : Thread nD τ))) : Buf (Elt F) (vO.view.loc (c : Thread nD τ)) :=
  vO.view.writes (Elt F) fo [⟨Rect.unit (s := S256x2816) (k0_off40 v105 v107 t4 k) S128x256.size (k0_off40_inb v1 v7 v13 v19 v25 v31 v37 v43 t1 v105 v107 hw20 t4 k),
    k0_pay2 v105 v107 v109 v127 v189 k
      (View.readAt (Elt F) vX.view (Rect.unit (s := S256x2048) (k0_off37 v105 v107 k) S128x2048.size (k0_off37_inb v1 v7 v13 v19 v25 v31 v37 v43 t1 v105 v107 hw20 k)).toLoadRect fx) w
      (View.readAt (Elt F) vB.view (Rect.unit (s := S256x128) (k0_off39 v105 v107 k) S128x128.size (k0_off39_inb v1 v7 v13 v19 v25 v31 v37 v43 t1 v105 v107 hw20 k)).toLoadRect fb)
      (View.readAt (Elt F) vO.view (Rect.unit (s := S256x2816) (k0_off40 v105 v107 t4 k) S128x256.size (k0_off40_inb v1 v7 v13 v19 v25 v31 v37 v43 t1 v105 v107 hw20 t4 k)).toLoadRect fo)⟩]

set_option maxHeartbeats 400000 in
/-- One window. -/
theorem t5_trip (H : InRange v1 v7 v13 v19 v25 v31 v37 v43) (fx : Buf (Elt F) (vX.view.loc (c : Thread nD τ))) (fb : Buf (Elt F) (vB.view.loc (c : Thread nD τ)))
    (t1 : Fin (k0_t1_loop v1 v7 v13 v19 v25 v31 v37 v43).trips) (v105 v107 : BitVec 32) (hw20 : k0_chk20 v1 v7 v13 v19 v25 v31 v37 v43 t1 v105 v107) (v109 v127 : BitVec 32)
    (t4 : Fin k0_t4_loop.trips) (v189 : Vec F S1x256 .f32) (ho : InSlot (k0_off38 v1 v7 v13 v19 v25 v31 v37 v43 t1 t4))
    (fs : Buf (Elt F) ((slotAt (k0_off38 v1 v7 v13 v19 v25 v31 v37 v43 t1 t4) ho).view.loc (c : Thread nD τ))) (w : Vec F S1x2048x256 .fp8e4m3)
    (hw : View.readAt (Elt F) vW.view (Rect.unit (s := S88x2048x256) (k0_off38 v1 v7 v13 v19 v25 v31 v37 v43 t1 t4) S1x2048x256.size ho).toLoadRect fs = w)
    (fo : Buf (Elt F) (vO.view.loc (c : Thread nD τ)))
    (k : Fin (k0_t5_loop v105 v107).trips) (acc : BitVec 32) (Q : BitVec 32 → sProp 𝕄) :
    iprop(xP c fx ∗ bP c fb ∗ slotP c _ ho fs ∗ oP c fo
        ∗ (∀ r, iprop(xP c fx ∗ bP c fb ∗ slotP c _ ho fs ∗ oP c (winOut c v1 v7 v13 v19 v25 v31 v37 v43 fx fb t1 v105 v107 hw20 v109 v127 t4 v189 w k fo)) -∗ Q r))
      ⊢ wp frame (wpE (defs₀ (F := F)) Variants.none (c : Thread nD τ) none) Set.univ
          (k0_t5_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 t1 v105 v107 hw20 v109 v127 t4 v189 k acc) Q := by
  letI : ClosedOff (k0_off38 v1 v7 v13 v19 v25 v31 v37 v43 t1 t4) := ⟨![t1.val * 11 + t4.val, 0, 0], off38_eq H t1 t4⟩
  subst hw
  unfold k0_t5_body
  iintro ⟨HX, HB, HS, HO, Hk⟩
  sl_exec
  sl_step
  iapply Hk
  isplitl [HX]; · iexact HX
  isplitl [HB]; · iexact HB
  isplitl [HS]; · iexact HS
  iexact HO

/-- What holds between the windows of a slab: the operands, and the output at some contents that `P` knows. -/
abbrev winInv (fx : Buf (Elt F) (vX.view.loc (c : Thread nD τ))) (fb : Buf (Elt F) (vB.view.loc (c : Thread nD τ)))
    (o : Fin 3 → ℕ) (ho : InSlot o) (fs : Buf (Elt F) ((slotAt o ho).view.loc (c : Thread nD τ)))
    (P : Buf (Elt F) (vO.view.loc (c : Thread nD τ)) → Prop) : sProp 𝕄 :=
  iprop(xP c fx ∗ bP c fb ∗ slotP c o ho fs ∗ ∃ fo, ⌜P fo⌝ ∗ oP c fo)

set_option maxHeartbeats 400000 in
/-- The loop over a slab's windows, and the remainder loop that runs no trip: whatever each window carries on is carried through. -/
theorem t5_loop (H : InRange v1 v7 v13 v19 v25 v31 v37 v43) (fx : Buf (Elt F) (vX.view.loc (c : Thread nD τ))) (fb : Buf (Elt F) (vB.view.loc (c : Thread nD τ)))
    (t1 : Fin (k0_t1_loop v1 v7 v13 v19 v25 v31 v37 v43).trips) (v105 v107 : BitVec 32) (hw20 : k0_chk20 v1 v7 v13 v19 v25 v31 v37 v43 t1 v105 v107) (v109 v127 : BitVec 32)
    (t4 : Fin k0_t4_loop.trips) (v189 : Vec F S1x256 .f32) (ho : InSlot (k0_off38 v1 v7 v13 v19 v25 v31 v37 v43 t1 t4))
    (fs : Buf (Elt F) ((slotAt (k0_off38 v1 v7 v13 v19 v25 v31 v37 v43 t1 t4) ho).view.loc (c : Thread nD τ))) (w : Vec F S1x2048x256 .fp8e4m3)
    (hw : View.readAt (Elt F) vW.view (Rect.unit (s := S88x2048x256) (k0_off38 v1 v7 v13 v19 v25 v31 v37 v43 t1 t4) S1x2048x256.size ho).toLoadRect fs = w)
    (P : ℕ → Buf (Elt F) (vO.view.loc (c : Thread nD τ)) → Prop)
    (hP : ∀ (k : Fin (k0_t5_loop v105 v107).trips) fo, P k.val fo → P (k.val + 1) (winOut c v1 v7 v13 v19 v25 v31 v37 v43 fx fb t1 v105 v107 hw20 v109 v127 t4 v189 w k fo))
    (kk : BitVec 32 → Prog (TpuEff nD τ sig (Elt F) Λ₀ .tc) (BitVec 32)) (Q : BitVec 32 → sProp 𝕄) :
    iprop(winInv c fx fb _ ho fs (P 0)
        ∗ (∀ r, winInv c fx fb _ ho fs (P (k0_t5_loop v105 v107).trips) -∗ wp frame (wpE (defs₀ (F := F)) Variants.none (c : Thread nD τ) none) Set.univ (kk r) Q))
      ⊢ wp frame (wpE (defs₀ (F := F)) Variants.none (c : Thread nD τ) none) Set.univ
          (Scf.Loop.for (k0_t5_loop v105 v107) (k0_t5_ok v1 v7 v13 v19 v25 v31 v37 v43 t1 v105 v107 hw20) 0#32
            (k0_t5_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 t1 v105 v107 hw20 v109 v127 t4 v189) >>= kk) Q := by
  refine BI.wand_elim (Scf.wp_for_bind frame (wpE (defs₀ (F := F)) Variants.none (c : Thread nD τ) none) Set.univ _ _ _ _ _ _
    (fun k _ => winInv c fx fb _ ho fs (P k)) ?_)
  intro k acc
  iintro ⟨HX, HB, HS, HO⟩
  icases HO with ⟨%fo, %hfo, HO⟩
  iapply (t5_trip c arg0 harg0 v1 v7 v13 v19 v25 v31 v37 v43 H fx fb t1 v105 v107 hw20 v109 v127 t4 v189 ho fs w hw fo k acc _)
  isplitl [HX]; · iexact HX
  isplitl [HB]; · iexact HB
  isplitl [HS]; · iexact HS
  isplitl [HO]; · iexact HO
  iintro %r ⟨HX, HB, HS, HO⟩
  isplitl [HX]; · iexact HX
  isplitl [HB]; · iexact HB
  isplitl [HS]; · iexact HS
  iexists _
  isplitr
  · ipureintro; exact hP k fo hfo
  iexact HO

end Cert.KernelIdeal.Moe

end
-- ==== Proof.KernelIdeal.Expert.lean ====
/- The slabs of one expert: each waited for, its windows computed, and one more started. -/
module

public import proofs.«01_k».proof.Proof.KernelIdeal.Window

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

theorem inb_slabOf (A : ℕ → Fin 8) (a : ℕ) (t4 : Fin k0_t4_loop.trips) : InSlab ![(A a).val, 0, t4.val * 256] :=
  inbW rfl (A a).isLt (by have := t4_lt t4; omega)

/-- The slab of the weights an active expert multiplies by. -/
abbrev slabOf (A : ℕ → Fin 8) (a : ℕ) (t4 : Fin k0_t4_loop.trips) : Vec F S1x2048x256 .fp8e4m3 :=
  slabVec c fw ![(A a).val, 0, t4.val * 256] (inb_slabOf A a t4)

/-- What holds between two slabs: the ring, what the kernel reads, and the output at contents that `P` knows. `d` chunks have arrived. -/
abbrev slabInv (A : ℕ → Fin 8) (n d : ℕ) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (P : Buf (Elt F) (vO.view.loc (c : Thread nD τ)) → Prop) : sProp 𝕄 :=
  iprop(ring c fw A d (min (d + 8) (n * 11)) ∗ actP c fa ∗ wsP c fs ∗ (∃ W, owes (c : Thread nD τ) 0 W) ∗ xP c fx ∗ bP c fb
    ∗ ∃ fo, ⌜P fo⌝ ∗ oP c fo)

set_option maxHeartbeats 400000 in
/-- The slot of a chunk that has arrived, taken out of the ring to be read and put back. -/
theorem ring_take (A : ℕ → Fin 8) (d i k : ℕ) (hk : k < 88) (hd : k < d) (o : Fin 3 → ℕ) (ho : InSlot o) (q : Fin 3 → ℕ) (hq : InSlab q)
    (eo : o = ![k, 0, 0]) (eq : q = ![(A (k / 11)).val, 0, k % 11 * 256]) :
    (ring c fw A d i : sProp 𝕄) ⊢ iprop(∃ fs, ⌜View.readAt (Elt F) vW.view (Rect.unit (s := S88x2048x256) o S1x2048x256.size ho).toLoadRect fs = slabVec c fw q hq⌝
      ∗ slotP c o ho fs ∗ (slotP c o ho fs -∗ ring c fw A d i)) := by
  unfold ring
  rw [Ring.AtW_focus _ _ (⟨k, hk⟩ : Fin 88), state_here d i k hk hd,
    chunk_here c fw (A := A) ⟨k, hk⟩ o ho ![k] (inb_cell ⟨k, hk⟩) q hq eo rfl eq]
  iintro ⟨⟨Hc, ⟨%f, HS⟩, Ht⟩, HR⟩
  iexists _
  isplitr; · ipureintro; exact landed_read c fw o ho q hq f
  isplitl [HS]; · iexact HS
  iintro HS
  isplitr [HR]
  · isplitl [Hc]; · iexact Hc
    isplitl [HS]; · iexists f; iexact HS
    iexact Ht
  · iexact HR

set_option maxHeartbeats 400000 in
/-- One slab. -/
theorem t4_trip (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (hw16 : k0_chk16 v1 v7 v13 v19 v25 v31 v37 v43) (v47 : BitVec 32)
    (t1 : Fin (k0_t1_loop v1 v7 v13 v19 v25 v31 v37 v43).trips) (arg18 v98 : BitVec 32) (hw17 : k0_chk17 v98) (v105 v107 : BitVec 32) (hw20 : k0_chk20 v1 v7 v13 v19 v25 v31 v37 v43 t1 v105 v107)
    (v109 v127 v130 v128 v131 v133 : BitVec 32) (v134 : BitVec 1)
    (t4 : Fin k0_t4_loop.trips) (hfa : Lists c (cnt (sizes v1 v7 v13 v19 v25 v31 v37 v43) 8) A fa)
    (P : ℕ → Buf (Elt F) (vO.view.loc (c : Thread nD τ)) → Prop)
    (hP : ∀ (k : Fin (k0_t5_loop v105 v107).trips) fo, P k.val fo
      → P (k.val + 1) (winOut c v1 v7 v13 v19 v25 v31 v37 v43 fx fb t1 v105 v107 hw20 v109 v127 t4 (wsRead c fs v98 hw17 t4) (slabOf c fw A t1.val t4) k fo))
    (acc : BitVec 32) (Q : BitVec 32 → sProp 𝕄) :
    iprop(slabInv c fw A (cnt (sizes v1 v7 v13 v19 v25 v31 v37 v43) 8) (t1.val * 11 + t4.val) fa fs fx fb (P 0)
        ∗ (∀ r, slabInv c fw A (cnt (sizes v1 v7 v13 v19 v25 v31 v37 v43) 8) (t1.val * 11 + t4.val + 1) fa fs fx fb (P (k0_t5_loop v105 v107).trips) -∗ Q r))
      ⊢ wp frame (wpE (defs₀ (F := F)) Variants.none (c : Thread nD τ) none) Set.univ
          (k0_t4_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 v105 v107 hw20 v109 v127 v130 v128 v131 v133 v134 t4 acc) Q := by
  have hb := t1_lt8 H t1
  have hbn := t1_lt H t1
  have hb4 := t4_lt t4
  have hd : t1.val * 11 + t4.val < 88 := by omega
  unfold k0_t4_body
  rw [wp_bind]
  iintro ⟨⟨HR, HA, HW, HO, HX, HB, Ho⟩, Hk⟩
  icases HO with ⟨%W, HO⟩
  iapply (part1_run c fw arg0 harg0 v1 v7 v13 v19 v25 v31 v37 v43 H A fa fs hw16 v47 t1 arg18 v98 hw17 0#32 1#32 t4 hfa W _)
  isplitl [HR]; · iexact HR
  isplitl [HA]; · iexact HA
  isplitl [HW]; · iexact HW
  isplitl [HO]; · iexact HO
  iintro %r ⟨%hr, HR, HA, HW, HO⟩
  obtain ⟨r1, r2, v189⟩ := r
  obtain rfl : v189 = wsRead c fs v98 hw17 t4 := hr
  have ho : InSlot (k0_off38 v1 v7 v13 v19 v25 v31 v37 v43 t1 t4) := by rw [off38_eq H t1 t4]; exact inb_slot ⟨_, hd⟩
  have q1 : (t1.val * 11 + t4.val) / 11 = t1.val := by omega
  have q2 : (t1.val * 11 + t4.val) % 11 = t4.val := by omega
  ihave HR2 := (ring_take c fw A (t1.val * 11 + t4.val + 1) (min (t1.val * 11 + t4.val + 1 + 8) (cnt (sizes v1 v7 v13 v19 v25 v31 v37 v43) 8 * 11)) (t1.val * 11 + t4.val) hd (by omega)
    (k0_off38 v1 v7 v13 v19 v25 v31 v37 v43 t1 t4) ho ![(A t1.val).val, 0, t4.val * 256] (inb_slabOf A t1.val t4) (off38_eq H t1 t4) (by rw [q1, q2])) $$ HR
  icases HR2 with ⟨%fs2, %hfs2, HS, HR⟩
  iapply (t5_loop c arg0 harg0 v1 v7 v13 v19 v25 v31 v37 v43 H fx fb t1 v105 v107 hw20 v109 v127 t4 (wsRead c fs v98 hw17 t4) ho fs2
    (slabOf c fw A t1.val t4) hfs2 P hP _ _)
  isplitl [HX HB HS Ho]
  · isplitl [HX]; · iexact HX
    isplitl [HB]; · iexact HB
    isplitl [HS]; · iexact HS
    iexact Ho
  iintro %r ⟨HX, HB, HS, Ho⟩
  sl_exec
  sl_step
  iapply Hk
  isplitl [HR HS]
  · iapply HR; iexact HS
  isplitl [HA]; · iexact HA
  isplitl [HW]; · iexact HW
  isplitl [HO]; · iexact HO
  isplitl [HX]; · iexact HX
  isplitl [HB]; · iexact HB
  iexact Ho

end Cert.KernelIdeal.Moe

end
-- ==== Proof.KernelIdeal.Head.lean ====
/- The head of one expert's step: which expert it is, where its rows start, and how many there are. -/
module

public import proofs.«01_k».proof.Proof.KernelIdeal.Expert

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (arg0 : Memref sig .tc .smem S8 .i32) (harg0 : arg0.IsWhole)
  (v1 v7 v13 v19 v25 v31 v37 v43 : BitVec 32)

/-- The table of group sizes in scalar memory, -/
abbrev gsP (f : Buf (Elt F) (arg0.view.loc (c : Thread nD τ))) : sProp 𝕄 := arg0.view.loc (c : Thread nD τ) ↦[arg0.view.set]{fullShare} f

/-- which holds the sizes `gs`. -/
def Tbl (f : Buf (Elt F) (arg0.view.loc (c : Thread nD τ))) (gs : ℕ → ℕ) : Prop :=
  ∀ (o : Fin 1 → ℕ) (ho : ∀ a, o a + S1.size a ≤ S8.size a),
    BitVec.toNat (View.readAt (Elt F) arg0.view (Rect.unit (s := S8) o S1.size ho).toLoadRect f (Shape.Idx.first numel1_S1.ge)) = gs (o 0)

/-- A sum of two words that name known numbers. -/
theorem add_of {x y : BitVec 32} {a b : ℕ} (hx : x.toNat = a) (hy : y.toNat = b) (h : a + b < 4294967296) : (Scalar.addi x y).toNat = a + b := by
  subst hx hy; exact addi_toNat x y h

set_option maxHeartbeats 400000 in
/-- The loop that adds up the sizes of the groups before an expert's: it ends at the expert's first row. -/
theorem t2_loop (H : InRange v1 v7 v13 v19 v25 v31 v37 v43) (fg : Buf (Elt F) (arg0.view.loc (c : Thread nD τ))) (hfg : Tbl c arg0 fg (sizes v1 v7 v13 v19 v25 v31 v37 v43))
    (hw16 : k0_chk16 v1 v7 v13 v19 v25 v31 v37 v43) (c0 c1 : BitVec 32) (t1 : Fin (k0_t1_loop v1 v7 v13 v19 v25 v31 v37 v43).trips) (v98 : BitVec 32) (hw17 : k0_chk17 v98) (hv : v98.toNat < 8)
    (kk : BitVec 32 → Prog (TpuEff nD τ sig (Elt F) Λ₀ .tc) (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1)) (Q : (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1) → sProp 𝕄) :
    iprop(gsP c arg0 fg
        ∗ (∀ r : BitVec 32, iprop(⌜r.toNat = start (sizes v1 v7 v13 v19 v25 v31 v37 v43) v98.toNat⌝ ∗ gsP c arg0 fg) -∗ wp frame (wpE (defs₀ (F := F)) Variants.none (c : Thread nD τ) none) Set.univ (kk r) Q))
      ⊢ wp frame (wpE (defs₀ (F := F)) Variants.none (c : Thread nD τ) none) Set.univ
          (Scf.Loop.for (k0_t2_loop v98) (k0_t2_ok v98 hw17) 0#32
            (k0_t2_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 c0 c1 t1 v98 hw17) >>= kk) Q := by
  rw [← t2_trips v98 hv]
  have h0 : (gsP c arg0 fg : sProp 𝕄) ⊢ iprop(⌜(0#32 : BitVec 32).toNat = start (sizes v1 v7 v13 v19 v25 v31 v37 v43) 0⌝ ∗ gsP c arg0 fg) := by
    iintro HG
    isplitr; · ipureintro; rfl
    iexact HG
  refine BI.wand_elim (h0.trans (Scf.wp_for_bind frame (wpE (defs₀ (F := F)) Variants.none (c : Thread nD τ) none) Set.univ _ _ _ _ _ _
    (fun k (r : BitVec 32) => iprop(⌜r.toNat = start (sizes v1 v7 v13 v19 v25 v31 v37 v43) k⌝ ∗ gsP c arg0 fg)) ?_))
  intro k acc
  have hk := lt_of_lt_of_eq k.isLt (t2_trips v98 hv)
  iintro ⟨%ha, HG⟩
  have h1 := hfg (k0_off25 v98 k) (k0_off25_inb v98 hw17 k)
  rw [show k0_off25 v98 k 0 = k.val from iv_toNat k.val (by omega)] at h1
  have h2 := start_le (sizes v1 v7 v13 v19 v25 v31 v37 v43) 268435455 H k.val
  have h3 := H k.val
  have key := add_of ha h1 (by omega)
  unfold k0_t2_body
  sl_exec
  sl_step
  isplitr
  · ipureintro; exact key
  · iexact HG

set_option maxHeartbeats 400000 in
/-- The head of an expert's step. -/
theorem part2_run (H : InRange v1 v7 v13 v19 v25 v31 v37 v43) (A : ℕ → Fin 8) (fa : Buf (Elt F) (sA.view.loc (c : Thread nD τ)))
    (fg : Buf (Elt F) (arg0.view.loc (c : Thread nD τ))) (hfg : Tbl c arg0 fg (sizes v1 v7 v13 v19 v25 v31 v37 v43))
    (hw16 : k0_chk16 v1 v7 v13 v19 v25 v31 v37 v43) (c0 c1 : BitVec 32) (t1 : Fin (k0_t1_loop v1 v7 v13 v19 v25 v31 v37 v43).trips)
    (hfa : Lists c (cnt (sizes v1 v7 v13 v19 v25 v31 v37 v43) 8) A fa) (Q : (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1) → sProp 𝕄) :
    iprop(gsP c arg0 fg ∗ actP c fa
        ∗ (∀ r : (Σ' (arg18 : BitVec 32) (v98 : Elt F .i32) (k0_hw17 : k0_chk17 v98) (v105 : BitVec 32) (v107 : Elt F .i32) (k0_hw20 : k0_chk20 v1 v7 v13 v19 v25 v31 v37 v43 t1 v105 v107) (v109 : BitVec 32) (v127 : BitVec 32) (v130 : BitVec 32) (c128_i32_61 : BitVec 32) (v131 : BitVec 32) (v133 : BitVec 32), BitVec 1), iprop(⌜r.2.1.toNat = (A t1.val).val ∧ r.2.2.2.1.toNat = start (sizes v1 v7 v13 v19 v25 v31 v37 v43) (A t1.val).val ∧ BitVec.toNat r.2.2.2.2.1 = sizes v1 v7 v13 v19 v25 v31 v37 v43 (A t1.val).val
            ∧ r.2.2.2.2.2.2.1 = endW r.2.2.2.1 r.2.2.2.2.1 ∧ r.2.2.2.2.2.2.2.1 = baseW r.2.2.2.1⌝ ∗ gsP c arg0 fg ∗ actP c fa) -∗ Q r))
      ⊢ wp frame (wpE (defs₀ (F := F)) Variants.none (c : Thread nD τ) none) Set.univ
          (k0_part2 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 c0 c1 t1) Q := by
  have hb := t1_lt8 H t1
  have hbn := t1_lt H t1
  have hA := hfa.read c _ (k0_off24_inb v1 v7 v13 v19 v25 v31 v37 v43 hw16 t1) (Shape.Idx.first numel1_S1.ge) t1.val hb hbn (off24_eq t1 hb)
  have hA8 := lt_of_eq_of_lt hA (A t1.val).isLt
  have h17 := chk17 _ hA8
  simp only [k0_part2_eq_skeleton]; unfold k0_part2_skel
  iintro ⟨HG, HA, Hk⟩
  have hG := hfg (k0_off27 (View.readAt (Elt F) sA.view (Rect.unit (s := S8) (k0_off24 v1 v7 v13 v19 v25 v31 v37 v43 t1) S1.size (k0_off24_inb v1 v7 v13 v19 v25 v31 v37 v43 hw16 t1)).toLoadRect fa (Shape.Idx.first numel1_S1.ge))) (k0_off27_inb _ h17)
  rw [show k0_off27 (View.readAt (Elt F) sA.view (Rect.unit (s := S8) (k0_off24 v1 v7 v13 v19 v25 v31 v37 v43 t1) S1.size (k0_off24_inb v1 v7 v13 v19 v25 v31 v37 v43 hw16 t1)).toLoadRect fa (Shape.Idx.first numel1_S1.ge)) 0 = (A t1.val).val from hA] at hG
  have h2 := start_le (sizes v1 v7 v13 v19 v25 v31 v37 v43) 268435455 H (A t1.val).val
  have h8 := (A t1.val).isLt
  sl_exec
  iapply (t2_loop c arg0 harg0 v1 v7 v13 v19 v25 v31 v37 v43 H fg hfg hw16 c0 c1 t1 _ _ hA8 _ _)
  isplitl [HG]; · iexact HG
  iintro %s ⟨%hs, HG⟩
  replace hs := hs.trans (congrArg (start (sizes v1 v7 v13 v19 v25 v31 v37 v43)) hA)
  have h20 := chk20 (s := s) (g := View.readAt (Elt F) arg0.view (Rect.unit (s := S8) (k0_off27 (View.readAt (Elt F) sA.view (Rect.unit (s := S8) (k0_off24 v1 v7 v13 v19 v25 v31 v37 v43 t1) S1.size (k0_off24_inb v1 v7 v13 v19 v25 v31 v37 v43 hw16 t1)).toLoadRect fa (Shape.Idx.first numel1_S1.ge))) S1.size (k0_off27_inb _ h17)).toLoadRect fg (Shape.Idx.first numel1_S1.ge))
    (by rw [hs]; omega) (lt_of_eq_of_lt hG (Nat.lt_succ_of_le (H _)) |> Nat.le_of_lt_succ) H t1
  sl_exec
  sl_step
  iapply Hk
  isplitr
  · ipureintro; exact ⟨hA, hs, hG, rfl, rfl⟩
  isplitl [HG]; · iexact HG
  iexact HA

end Cert.KernelIdeal.Moe

end
-- ==== Proof.KernelIdeal.Experts.lean ====
/- The loop over the active experts. -/
module

public import proofs.«01_k».proof.Proof.KernelIdeal.Head

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

/-- A property of the output that every window, the end of every slab and the end of every expert carry on: `P a j k` of the output
when `k` windows of slab `j` of active expert `a` are done. -/
structure Steps (A : ℕ → Fin 8) (fs : Buf (Elt F) (vWs.view.loc (c : Thread nD τ)))
    (fx : Buf (Elt F) (vX.view.loc (c : Thread nD τ))) (fb : Buf (Elt F) (vB.view.loc (c : Thread nD τ)))
    (P : ℕ → ℕ → ℕ → Buf (Elt F) (vO.view.loc (c : Thread nD τ)) → Prop) : Prop where
  win : ∀ (t1 : Fin (k0_t1_loop v1 v7 v13 v19 v25 v31 v37 v43).trips) (v98 : BitVec 32) (hw17 : k0_chk17 v98) (v105 v107 : BitVec 32) (hw20 : k0_chk20 v1 v7 v13 v19 v25 v31 v37 v43 t1 v105 v107)
    (t4 : Fin k0_t4_loop.trips) (k : Fin (k0_t5_loop v105 v107).trips) fo,
    v98.toNat = (A t1.val).val → v105.toNat = start (sizes v1 v7 v13 v19 v25 v31 v37 v43) (A t1.val).val → v107.toNat = sizes v1 v7 v13 v19 v25 v31 v37 v43 (A t1.val).val →
    P t1.val t4.val k.val fo →
    P t1.val t4.val (k.val + 1) (winOut c v1 v7 v13 v19 v25 v31 v37 v43 fx fb t1 v105 v107 hw20 (endW v105 v107) (baseW v105) t4 (wsRead c fs v98 hw17 t4) (slabOf c fw A t1.val t4) k fo)
  slab : ∀ (t1 : Fin (k0_t1_loop v1 v7 v13 v19 v25 v31 v37 v43).trips) (v105 v107 : BitVec 32) (t4 : Fin k0_t4_loop.trips) fo,
    v105.toNat = start (sizes v1 v7 v13 v19 v25 v31 v37 v43) (A t1.val).val → v107.toNat = sizes v1 v7 v13 v19 v25 v31 v37 v43 (A t1.val).val →
    P t1.val t4.val (k0_t5_loop v105 v107).trips fo → P t1.val (t4.val + 1) 0 fo
  expert : ∀ (t1 : Fin (k0_t1_loop v1 v7 v13 v19 v25 v31 v37 v43).trips) fo, P t1.val 11 0 fo → P (t1.val + 1) 0 0 fo

theorem t4_trips : k0_t4_loop.trips = 11 := by decide

/-- The loop over the slabs of one expert. -/
theorem t4_loop (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (hw16 : k0_chk16 v1 v7 v13 v19 v25 v31 v37 v43) (v47 : BitVec 32)
    (t1 : Fin (k0_t1_loop v1 v7 v13 v19 v25 v31 v37 v43).trips) (arg18 v98 : BitVec 32) (hw17 : k0_chk17 v98) (v105 v107 : BitVec 32) (hw20 : k0_chk20 v1 v7 v13 v19 v25 v31 v37 v43 t1 v105 v107)
    (v109 v127 v130 v128 v131 v133 : BitVec 32) (v134 : BitVec 1)
    (hfa : Lists c (cnt (sizes v1 v7 v13 v19 v25 v31 v37 v43) 8) A fa)
    (P : ℕ → ℕ → ℕ → Buf (Elt F) (vO.view.loc (c : Thread nD τ)) → Prop) (hP : Steps c fw v1 v7 v13 v19 v25 v31 v37 v43 A fs fx fb P)
    (h98 : v98.toNat = (A t1.val).val) (h105 : v105.toNat = start (sizes v1 v7 v13 v19 v25 v31 v37 v43) (A t1.val).val) (h107 : v107.toNat = sizes v1 v7 v13 v19 v25 v31 v37 v43 (A t1.val).val)
    (h109 : v109 = endW v105 v107) (h127 : v127 = baseW v105)
    (kk : BitVec 32 → Prog (TpuEff nD τ sig (Elt F) Λ₀ .tc) (BitVec 32)) (Q : BitVec 32 → sProp 𝕄) :
    iprop(slabInv c fw A (cnt (sizes v1 v7 v13 v19 v25 v31 v37 v43) 8) (t1.val * 11) fa fs fx fb (P t1.val 0 0)
        ∗ (∀ r, slabInv c fw A (cnt (sizes v1 v7 v13 v19 v25 v31 v37 v43) 8) (t1.val * 11 + k0_t4_loop.trips) fa fs fx fb (P t1.val k0_t4_loop.trips 0)
            -∗ wp frame (wpE (defs₀ (F := F)) Variants.none (c : Thread nD τ) none) Set.univ (kk r) Q))
      ⊢ wp frame (wpE (defs₀ (F := F)) Variants.none (c : Thread nD τ) none) Set.univ
          (Scf.Loop.for k0_t4_loop k0_t4_ok 0#32
            (k0_t4_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 arg18 v98 hw17 v105 v107 hw20 v109 v127 v130 v128 v131 v133 v134) >>= kk) Q := by
  subst h109 h127
  refine BI.wand_elim (Scf.wp_for_bind frame (wpE (defs₀ (F := F)) Variants.none (c : Thread nD τ) none) Set.univ _ _ _ _ _ _
    (fun j _ => slabInv c fw A (cnt (sizes v1 v7 v13 v19 v25 v31 v37 v43) 8) (t1.val * 11 + j) fa fs fx fb (P t1.val j 0)) ?_)
  intro t4 acc
  iintro HI
  iapply (t4_trip c fw arg0 harg0 v1 v7 v13 v19 v25 v31 v37 v43 H A fa fs fx fb hw16 v47 t1 arg18 v98 hw17 v105 v107 hw20 _ _ v130 v128 v131 v133 v134 t4 hfa
    (fun k => P t1.val t4.val k) (fun k fo => hP.win t1 v98 hw17 v105 v107 hw20 t4 k fo h98 h105 h107) acc _)
  isplitl [HI]; · iexact HI
  iintro %r ⟨HR, HA, HW, HO, HX, HB, ⟨%fo, %hfo, Ho⟩⟩
  isplitl [HR]; · iexact HR
  isplitl [HA]; · iexact HA
  isplitl [HW]; · iexact HW
  isplitl [HO]; · iexact HO
  isplitl [HX]; · iexact HX
  isplitl [HB]; · iexact HB
  iexists fo
  isplitr; · ipureintro; exact hP.slab t1 v105 v107 t4 fo h105 h107 hfo
  iexact Ho

set_option maxHeartbeats 400000 in
/-- One expert. -/
theorem t1_trip (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (fg : Buf (Elt F) (arg0.view.loc (c : Thread nD τ))) (hfg : Tbl c arg0 fg (sizes v1 v7 v13 v19 v25 v31 v37 v43))
    (hw16 : k0_chk16 v1 v7 v13 v19 v25 v31 v37 v43) (v47 : BitVec 32) (hfa : Lists c (cnt (sizes v1 v7 v13 v19 v25 v31 v37 v43) 8) A fa)
    (P : ℕ → ℕ → ℕ → Buf (Elt F) (vO.view.loc (c : Thread nD τ)) → Prop) (hP : Steps c fw v1 v7 v13 v19 v25 v31 v37 v43 A fs fx fb P)
    (t1 : Fin (k0_t1_loop v1 v7 v13 v19 v25 v31 v37 v43).trips) (acc : BitVec 32) (Q : BitVec 32 → sProp 𝕄) :
    iprop(gsP c arg0 fg ∗ slabInv c fw A (cnt (sizes v1 v7 v13 v19 v25 v31 v37 v43) 8) (t1.val * 11) fa fs fx fb (P t1.val 0 0)
        ∗ (∀ r, iprop(gsP c arg0 fg ∗ slabInv c fw A (cnt (sizes v1 v7 v13 v19 v25 v31 v37 v43) 8) ((t1.val + 1) * 11) fa fs fx fb (P (t1.val + 1) 0 0)) -∗ Q r))
      ⊢ wp frame (wpE (defs₀ (F := F)) Variants.none (c : Thread nD τ) none) Set.univ
          (k0_t1_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47 t1 acc) Q := by
  unfold k0_t1_body
  rw [wp_bind]
  iintro ⟨HG, ⟨HR, HA, Hrest⟩, Hk⟩
  iapply (part2_run c arg0 harg0 v1 v7 v13 v19 v25 v31 v37 v43 H A fa fg hfg hw16 0#32 1#32 t1 hfa _)
  isplitl [HG]; · iexact HG
  isplitl [HA]; · iexact HA
  iintro %r ⟨%hr, HG, HA⟩
  obtain ⟨arg18, v98, hw17, v105, v107, hw20, v109, v127, v130, v128, v131, v133, v134⟩ := r
  obtain ⟨h98, h105, h107, h109, h127⟩ := hr
  iapply (t4_loop c fw arg0 harg0 v1 v7 v13 v19 v25 v31 v37 v43 H A fa fs fx fb hw16 v47 t1 arg18 v98 hw17 v105 v107 hw20 v109 v127 v130 v128 v131 v133 v134 hfa P hP h98 h105 h107 h109 h127 _ _)
  isplitl [HR HA Hrest]
  · isplitl [HR]; · iexact HR
    isplitl [HA]; · iexact HA
    iexact Hrest
  iintro %r2 HI
  sl_exec
  sl_step
  iapply Hk
  isplitl [HG]; · iexact HG
  rw [show (t1.val + 1) * 11 = t1.val * 11 + k0_t4_loop.trips by rw [t4_trips]; omega]
  icases HI with ⟨HR, HA, HW, HO, HX, HB, ⟨%fo, %hfo, Ho⟩⟩
  isplitl [HR]; · iexact HR
  isplitl [HA]; · iexact HA
  isplitl [HW]; · iexact HW
  isplitl [HO]; · iexact HO
  isplitl [HX]; · iexact HX
  isplitl [HB]; · iexact HB
  iexists fo
  isplitr
  · ipureintro
    rw [t4_trips] at hfo
    exact hP.expert t1 fo hfo
  iexact Ho

/-- All of them. -/
theorem t1_loop (H : InRange v1 v7 v13 v19 v25 v31 v37 v43) (A : ℕ → Fin 8) (fa : Buf (Elt F) (sA.view.loc (c : Thread nD τ))) (fs : Buf (Elt F) (vWs.view.loc (c : Thread nD τ)))
    (fx : Buf (Elt F) (vX.view.loc (c : Thread nD τ))) (fb : Buf (Elt F) (vB.view.loc (c : Thread nD τ)))
    (fg : Buf (Elt F) (arg0.view.loc (c : Thread nD τ))) (hfg : Tbl c arg0 fg (sizes v1 v7 v13 v19 v25 v31 v37 v43))
    (hw16 : k0_chk16 v1 v7 v13 v19 v25 v31 v37 v43) (v47 : BitVec 32) (hfa : Lists c (cnt (sizes v1 v7 v13 v19 v25 v31 v37 v43) 8) A fa)
    (P : ℕ → ℕ → ℕ → Buf (Elt F) (vO.view.loc (c : Thread nD τ)) → Prop) (hP : Steps c fw v1 v7 v13 v19 v25 v31 v37 v43 A fs fx fb P)
    (kk : BitVec 32 → Prog (TpuEff nD τ sig (Elt F) Λ₀ .tc) PUnit) (Q : PUnit → sProp 𝕄) :
    iprop((gsP c arg0 fg ∗ slabInv c fw A (cnt (sizes v1 v7 v13 v19 v25 v31 v37 v43) 8) (0 * 11) fa fs fx fb (P 0 0 0))
        ∗ (∀ r, iprop(gsP c arg0 fg ∗ slabInv c fw A (cnt (sizes v1 v7 v13 v19 v25 v31 v37 v43) 8) ((k0_t1_loop v1 v7 v13 v19 v25 v31 v37 v43).trips * 11) fa fs fx fb (P (k0_t1_loop v1 v7 v13 v19 v25 v31 v37 v43).trips 0 0))
            -∗ wp frame (wpE (defs₀ (F := F)) Variants.none (c : Thread nD τ) none) Set.univ (kk r) Q))
      ⊢ wp frame (wpE (defs₀ (F := F)) Variants.none (c : Thread nD τ) none) Set.univ
          (Scf.Loop.for (k0_t1_loop v1 v7 v13 v19 v25 v31 v37 v43) (k0_t1_ok v1 v7 v13 v19 v25 v31 v37 v43 hw16) 0#32
            (k0_t1_body (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 hw16 v47) >>= kk) Q := by
  refine BI.wand_elim (Scf.wp_for_bind frame (wpE (defs₀ (F := F)) Variants.none (c : Thread nD τ) none) Set.univ _ _ _ _ _ _
    (fun a _ => iprop(gsP c arg0 fg ∗ slabInv c fw A (cnt (sizes v1 v7 v13 v19 v25 v31 v37 v43) 8) (a * 11) fa fs fx fb (P a 0 0))) ?_)
  intro t1 acc
  iintro ⟨HG, HI⟩
  iapply (t1_trip c fw arg0 harg0 v1 v7 v13 v19 v25 v31 v37 v43 H A fa fs fx fb fg hfg hw16 v47 hfa P hP t1 acc _)
  isplitl [HG]; · iexact HG
  isplitl [HI]; · iexact HI
  iintro %r HI
  iexact HI

end Cert.KernelIdeal.Moe

end
-- ==== Proof.KernelIdeal.Start.lean ====
/- The start of the body: three copies into vector memory are started, and the list of active experts is built. -/
module

public import proofs.«01_k».proof.Proof.KernelIdeal.Experts
public import Idealize.ShloMosaic.Lib.WritesUnit

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (arg0 : Memref sig .tc .smem S8 .i32) (harg0 : arg0.IsWhole)
  (v1 v7 v13 v19 v25 v31 v37 v43 : BitVec 32)

/-- Entry `i` of the table of sizes. -/
abbrev gsAt (fg : Buf (Elt F) (arg0.view.loc (c : Thread nD τ))) (i : ℕ) (hi : ∀ a, (![i] : Fin 1 → ℕ) a + S1.size a ≤ S8.size a) : BitVec 32 :=
  View.readAt (Elt F) arg0.view (Rect.unit (s := S8) ![i] S1.size hi).toLoadRect fg (Shape.Idx.first numel1_S1.ge)

/-- The eight words the table holds. -/
structure Loads (fg : Buf (Elt F) (arg0.view.loc (c : Thread nD τ))) : Prop where
  h0 : gsAt c arg0 fg 0 inb_S8_S1_0 = v1
  h1 : gsAt c arg0 fg 1 inb_S8_S1_1 = v7
  h2 : gsAt c arg0 fg 2 inb_S8_S1_2 = v13
  h3 : gsAt c arg0 fg 3 inb_S8_S1_3 = v19
  h4 : gsAt c arg0 fg 4 inb_S8_S1_4 = v25
  h5 : gsAt c arg0 fg 5 inb_S8_S1_5 = v31
  h6 : gsAt c arg0 fg 6 inb_S8_S1_6 = v37
  h7 : gsAt c arg0 fg 7 inb_S8_S1_7 = v43

/-- The list after `n` groups: each of them that has rows is at its place. -/
def Filled (n : ℕ) (gs : ℕ → ℕ) (fa : Buf (Elt F) (sA.view.loc (c : Thread nD τ))) : Prop :=
  ∀ i, i < n → 0 < gs i → ∀ k : Fin 8, k.val = cnt gs i → (fa (ix8 k) : BitVec 32).toNat = i

theorem Filled.zero (gs : ℕ → ℕ) (fa : Buf (Elt F) (sA.view.loc (c : Thread nD τ))) : Filled c 0 gs fa := fun i hi => absurd hi (Nat.not_lt_zero i)

/-- One more group. -/
theorem Filled.cons {gs : ℕ → ℕ} (fa : Buf (Elt F) (sA.view.loc (c : Thread nD τ))) (L : List (View.Piece (Elt F) S8 .i32)) (n : ℕ) (w : BitVec 32) (hw : w.toNat = n)
    (o : Fin 1 → ℕ) (ho : ∀ a, o a + S1.size a ≤ S8.size a) (h0 : o 0 = cnt gs n) (h : Filled c n gs (sA.view.writes (Elt F) fa L)) :
    Filled c (n + 1) gs (sA.view.writes (Elt F) fa (⟨Rect.unit (s := S8) o S1.size ho, fun _ => w⟩ :: L)) := by
  intro i hi hg k hk
  by_cases e : i = n
  · subst e
    have := View.read_writes_cons_unit_of_mem sA.view fa ho (fun _ => w) L (ix8 k) (fun a => ⟨0, by fin_cases a; exact Nat.one_pos⟩) rfl (by
      intro a; fin_cases a; show k.val = o 0 + 0; omega)
    exact (congrArg BitVec.toNat this).trans hw
  · have hlt : i < n := by omega
    have hc := cnt_lt gs hlt hg
    have := View.read_writes_cons_unit_of_not_mem sA.view fa ho (fun _ => w) L (ix8 k) rfl 0 (.inl (show k.val < o 0 by omega))
    exact (congrArg BitVec.toNat this).trans (h i hlt hg k hk)

/-- An operand in the host's memory, or in vector memory, held whole. -/
abbrev memP {sp : Space} {s : Shape} {e : EltTy} (M : Memref sig .tc sp s e) (f : Buf (Elt F) (M.view.loc (c : Thread nD τ))) : sProp 𝕄 :=
  M.view.loc (c : Thread nD τ) ↦[M.view.set]{fullShare} f

/-- The copy of a whole operand `M` into `V`, on its way on the cell `l`: it gives both back, `V` holding what `M` reads. -/
abbrev flyP {sp sp' : Space} {s : Shape} {e : EltTy} (M : Memref sig .tc sp s e) (V : Memref sig .tc sp' s e) (l : SemLoc sig) (n : ℕ)
    (f : Buf (Elt F) (M.view.loc (c : Thread nD τ))) (g : Buf (Elt F) (V.view.loc (c : Thread nD τ))) : sProp 𝕄 :=
  Transfers.Flight countersEmb (c : Thread nD τ) l () n
    iprop(memP c V (V.view.writes (Elt F) g [⟨Rect.whole s, ReadAs.same.apply (M.view.read (Elt F) f)⟩]) ∗ memP c M f)

set_option maxHeartbeats 400000 in
/-- The three copies started, and the first five groups listed. -/
theorem part5_run (H : InRange v1 v7 v13 v19 v25 v31 v37 v43) (fg : Buf (Elt F) (arg0.view.loc (c : Thread nD τ))) (hL : Loads c arg0 v1 v7 v13 v19 v25 v31 v37 v43 fg)
    (fmx : Buf (Elt F) (mX.view.loc (c : Thread nD τ))) (fx : Buf (Elt F) (vX.view.loc (c : Thread nD τ)))
    (fms : Buf (Elt F) (mXs.view.loc (c : Thread nD τ))) (fxs : Buf (Elt F) (vXs.view.loc (c : Thread nD τ)))
    (fmw : Buf (Elt F) (mWs.view.loc (c : Thread nD τ))) (fws : Buf (Elt F) (vWs.view.loc (c : Thread nD τ)))
    (fa : Buf (Elt F) (sA.view.loc (c : Thread nD τ))) (W : Waits sig Unit) (Q : (Σ' (v1 : Elt F .i32) (v7 : Elt F .i32) (v13 : Elt F .i32) (v19 : Elt F .i32) (v25 : Elt F .i32) (k0_hw5 : k0_chk5 v1 v7 v13 v19 v25) (v28 : BitVec 32), BitVec 32) → sProp 𝕄) :
    iprop(gsP c arg0 fg ∗ actP c fa ∗ memP c mX fmx ∗ memP c vX fx ∗ memP c mXs fms ∗ memP c vXs fxs ∗ memP c mWs fmw ∗ memP c vWs fws
        ∗ semVal ((c : Thread nD τ), SemLoc.dma cc0_scratch7.sem) 0 ∗ semVal ((c : Thread nD τ), SemLoc.dma cc0_scratch8.sem) 0 ∗ semVal ((c : Thread nD τ), SemLoc.dma cc0_scratch9.sem) 0
        ∗ owes (c : Thread nD τ) 0 W
        ∗ (∀ r, iprop(⌜r.1 = v1 ∧ r.2.1 = v7 ∧ r.2.2.1 = v13 ∧ r.2.2.2.1 = v19 ∧ r.2.2.2.2.1 = v25 ∧ r.2.2.2.2.2.2.2 = 5#32⌝ ∗ gsP c arg0 fg
            ∗ (∃ fa', ⌜Filled c 5 (sizes v1 v7 v13 v19 v25 v31 v37 v43) fa'⌝ ∗ actP c fa')
            ∗ flyP c mX vX (SemLoc.dma cc0_scratch7.sem) 16384 fmx fx ∗ flyP c mXs vXs (SemLoc.dma cc0_scratch8.sem) 32 fms fxs
            ∗ flyP c mWs vWs (SemLoc.dma cc0_scratch9.sem) 2816 fmw fws ∗ owes (c : Thread nD τ) 0 W) -∗ Q r))
      ⊢ wp frame (wpE (defs₀ (F := F)) Variants.none (c : Thread nD τ) none) Set.univ
          (k0_part5 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11) Q := by
  obtain ⟨rfl, rfl, rfl, rfl, rfl, rfl, rfl, rfl⟩ := hL
  have h1 := chk1 H
  have h2 := chk2 H
  have h3 := chk3 H
  have h4 := chk4 H
  have h5 := chk5 H
  simp only [k0_part5_eq_skeleton]; unfold k0_part5_skel
  iintro ⟨HG, HA, HmX, HvX, HmS, HvS, HmW, HvW, Hs7, Hs8, Hs9, HO, Hk⟩
  sl_exec
  sl_step
  iapply Hk
  isplitr; · ipureintro; exact ⟨rfl, rfl, rfl, rfl, rfl, rfl⟩
  isplitl [HG]; · iexact HG
  isplitl [HA]
  · iexists _
    isplitr [HA]
    swap
    · iexact HA
    · ipureintro
      exact Filled.cons c fa _ 4 4#32 rfl _ _ (off4_eq H) (Filled.cons c fa _ 3 3#32 rfl _ _ (off3_eq H) (Filled.cons c fa _ 2 2#32 rfl _ _ (off2_eq H)
        (Filled.cons c fa _ 1 1#32 rfl _ _ (off1_eq H) (Filled.cons c fa [] 0 0#32 rfl ![0] inb_S8_S1_0 rfl (Filled.zero c _ _)))))
  isplitl [Hs7]; · iexact Hs7
  isplitl [Hs8]; · iexact Hs8
  isplitl [Hs9]; · iexact Hs9
  iexact HO

end Cert.KernelIdeal.Moe

end
-- ==== Proof.KernelIdeal.Start6.lean ====
/- The list of active experts completed, and the first three chunks started. -/
module

public import proofs.«01_k».proof.Proof.KernelIdeal.Start

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

/-- The next chunk to start, out of the ring, -/
theorem ring_open (A : ℕ → Fin 8) (k : ℕ) (hk : k < 88) (o : Fin 3 → ℕ) (ho : InSlot o) (s : Fin 1 → ℕ) (hs : InCell s) (eo : o = ![k, 0, 0]) (es : s 0 = k) :
    (ring c fw A 0 k : sProp 𝕄) ⊢ iprop(freeAt c fw o ho s hs ⟨k, hk⟩ ∗ Ring.restW (chunk c fw A) (stateOf 0 k) ⟨k, hk⟩) := by
  unfold ring
  rw [Ring.AtW_focus _ _ (⟨k, hk⟩ : Fin 88), state_free 0 k hk (by omega), chunk_free c fw (A := A) ⟨k, hk⟩ o ho s hs eo es]

/-- and put back on its way. -/
theorem ring_close (A : ℕ → Fin 8) (k : ℕ) (hk : k < 88) (o : Fin 3 → ℕ) (ho : InSlot o) (s : Fin 1 → ℕ) (hs : InCell s) (q : Fin 3 → ℕ) (hq : InSlab q)
    (eo : o = ![k, 0, 0]) (es : s 0 = k) (eq : q = ![(A (k / 11)).val, 0, k % 11 * 256]) :
    iprop(flyAt c fw o ho s hs q hq ⟨k, hk⟩ ∗ Ring.restW (chunk c fw A) (stateOf 0 k) ⟨k, hk⟩) ⊢ (ring c fw A 0 (k + 1) : sProp 𝕄) := by
  unfold ring
  rw [← state_start 0 k hk (by omega), ← chunk_fly c fw (A := A) ⟨k, hk⟩ o ho s hs q hq eo es eq]
  exact Ring.AtW_update (chunk c fw A) _ _ _

/-- `A` names the groups that have rows, in order. -/
def Names (gs : ℕ → ℕ) (A : ℕ → Fin 8) : Prop := ∀ a, a < cnt gs 8 → 0 < gs (A a).val ∧ cnt gs (A a).val = a

/-- A list with all eight groups names them. -/
theorem Filled.lists {gs : ℕ → ℕ} {A : ℕ → Fin 8} (hA : Names gs A) {fa : Buf (Elt F) (sA.view.loc (c : Thread nD τ))} (h : Filled c 8 gs fa) :
    Lists c (cnt gs 8) A fa := fun a ha => h _ (A a.val).isLt (hA _ ha).1 a (hA _ ha).2.symm

/-- The contents of the list of active experts put out of sight. -/
theorem act_hide {fa : Buf (Elt F) (sA.view.loc (c : Thread nD τ))} : (actP c fa : sProp 𝕄) ⊢ iprop(∃ fb, ⌜fb = fa⌝ ∗ actP c fb) := by
  iintro H
  iexists fa
  isplitr; · ipureintro; rfl
  iexact H

set_option maxHeartbeats 400000 in
/-- There are chunks: three are started. -/
theorem part6_start (H : InRange v1 v7 v13 v19 v25 v31 v37 v43) (A : ℕ → Fin 8) (hA : Names (sizes v1 v7 v13 v19 v25 v31 v37 v43) A)
    (fg : Buf (Elt F) (arg0.view.loc (c : Thread nD τ))) (hL : Loads c arg0 v1 v7 v13 v19 v25 v31 v37 v43 fg)
    (fa : Buf (Elt F) (sA.view.loc (c : Thread nD τ))) (hfa : Filled c 5 (sizes v1 v7 v13 v19 v25 v31 v37 v43) fa) (hw5 : k0_chk5 v1 v7 v13 v19 v25) (v28 : BitVec 32)
    (hn : 0 < cnt (sizes v1 v7 v13 v19 v25 v31 v37 v43) 8) (W : Waits sig Unit) (Q : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32) → sProp 𝕄) :
    iprop(gsP c arg0 fg ∗ actP c fa ∗ ring c fw A 0 0 ∗ owes (c : Thread nD τ) 0 W
        ∗ (∀ r : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32), iprop(⌜r.1 = v31 ∧ r.2.1 = v37 ∧ r.2.2.1 = v43⌝ ∗ gsP c arg0 fg
            ∗ (∃ fa', ⌜Lists c (cnt (sizes v1 v7 v13 v19 v25 v31 v37 v43) 8) A fa'⌝ ∗ actP c fa')
            ∗ ring c fw A 0 3 ∗ owes (c : Thread nD τ) 0 W) -∗ Q r))
      ⊢ wp frame (wpE (defs₀ (F := F)) Variants.none (c : Thread nD τ) none) Set.univ
          (k0_part6 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 hw5 v28 5#32) Q := by
  have h6 := chk6 H
  have h7 := chk7 H
  have h8 := (chk16 H : k0_chk16 v1 v7 v13 v19 v25 v31 v37 v43)
  obtain ⟨h0, h1, h2, h3, h4, rfl, rfl, rfl⟩ := hL
  simp only [k0_part6_eq_skeleton]; unfold k0_part6_skel
  iintro ⟨HG, HA, HR, HO, Hk⟩
  sl_exec
  ihave HE := (act_hide c) $$ HA
  icases HE with ⟨%fb, %e, HA⟩
  have hfb : Lists c (cnt (sizes v1 v7 v13 v19 v25 (gsAt c arg0 fg 5 inb_S8_S1_5) (gsAt c arg0 fg 6 inb_S8_S1_6) (gsAt c arg0 fg 7 inb_S8_S1_7)) 8) A fb := by
    rw [e]
    exact Filled.lists c hA (Filled.cons c fa _ 7 7#32 rfl _ h7 (off7_eq H) (Filled.cons c fa _ 6 6#32 rfl _ h6 (off6_eq H) (Filled.cons c fa [] 5 5#32 rfl _ hw5 (off5_eq H) hfa)))
  have ha0 := hfb.read c k0_off8 k0_off8_inb (Shape.Idx.first numel1_S1.ge) 0 (by omega) hn (by rfl)
  have hc0 : k0_chk8 v1 v7 v13 v19 v25 (gsAt c arg0 fg 5 inb_S8_S1_5) (gsAt c arg0 fg 6 inb_S8_S1_6) (gsAt c arg0 fg 7 inb_S8_S1_7) _ := chk8 _ (lt_of_eq_of_lt ha0 (A 0).isLt)
  have hq0 : k0_off9 (View.readAt (Elt F) sA.view (Rect.unit (s := S8) k0_off8 S1.size k0_off8_inb).toLoadRect fb (Shape.Idx.first numel1_S1.ge)) = ![(A (0 / 11)).val, 0, 0 % 11 * 256] := by
    rw [off9_eq, ha0]
  have hd0 := (cond1_iff H).2 hn
  have ha1 := hfb.read c k0_off10 k0_off10_inb (Shape.Idx.first numel1_S1.ge) 0 (by omega) hn (by rfl)
  have hc1 : k0_chk9 v1 v7 v13 v19 v25 (gsAt c arg0 fg 5 inb_S8_S1_5) (gsAt c arg0 fg 6 inb_S8_S1_6) (gsAt c arg0 fg 7 inb_S8_S1_7) _ := chk9 _ (lt_of_eq_of_lt ha1 (A 0).isLt)
  have hq1 : k0_off11 (View.readAt (Elt F) sA.view (Rect.unit (s := S8) k0_off10 S1.size k0_off10_inb).toLoadRect fb (Shape.Idx.first numel1_S1.ge)) = ![(A (1 / 11)).val, 0, 1 % 11 * 256] := by
    rw [off11_eq, ha1]
  have hd1 := (cond2_iff H).2 hn
  have ha2 := hfb.read c k0_off12 k0_off12_inb (Shape.Idx.first numel1_S1.ge) 0 (by omega) hn (by rfl)
  have hc2 : k0_chk10 v1 v7 v13 v19 v25 (gsAt c arg0 fg 5 inb_S8_S1_5) (gsAt c arg0 fg 6 inb_S8_S1_6) (gsAt c arg0 fg 7 inb_S8_S1_7) _ := chk10 _ (lt_of_eq_of_lt ha2 (A 0).isLt)
  have hq2 : k0_off13 (View.readAt (Elt F) sA.view (Rect.unit (s := S8) k0_off12 S1.size k0_off12_inb).toLoadRect fb (Shape.Idx.first numel1_S1.ge)) = ![(A (2 / 11)).val, 0, 2 % 11 * 256] := by
    rw [off13_eq, ha2]
  have hd2 := (cond3_iff H).2 hn
  ihave HC := (ring_open c fw A 0 (by omega) ![0, 0, 0] inb_S88x2048x256_S1x2048x256_0_0_0 ![0] inb_S88_S1_0 rfl rfl) $$ HR
  icases HC with ⟨⟨Hcell0, ⟨%f0, Hslot0⟩, Htok0⟩, HR⟩
  sl_exec
  ihave HR := (ring_close c fw A 0 (by omega) ![0, 0, 0] inb_S88x2048x256_S1x2048x256_0_0_0 ![0] inb_S88_S1_0 _ (k0_off9_inb v1 v7 v13 v19 v25 (gsAt c arg0 fg 5 inb_S8_S1_5) (gsAt c arg0 fg 6 inb_S8_S1_6) (gsAt c arg0 fg 7 inb_S8_S1_7) _ hc0 hd0) rfl rfl hq0) $$ [Hcell0 Htok0 HR]
  · isplitr [HR]
    · isplitl [Hcell0]; · iexists f0; iexact Hcell0
      iexact Htok0
    · iexact HR
  ihave HC := (ring_open c fw A 1 (by omega) ![1, 0, 0] inb_S88x2048x256_S1x2048x256_1_0_0 ![1] inb_S88_S1_1 rfl rfl) $$ HR
  icases HC with ⟨⟨Hcell1, ⟨%f1, Hslot1⟩, Htok1⟩, HR⟩
  sl_exec
  ihave HR := (ring_close c fw A 1 (by omega) ![1, 0, 0] inb_S88x2048x256_S1x2048x256_1_0_0 ![1] inb_S88_S1_1 _ (k0_off11_inb v1 v7 v13 v19 v25 (gsAt c arg0 fg 5 inb_S8_S1_5) (gsAt c arg0 fg 6 inb_S8_S1_6) (gsAt c arg0 fg 7 inb_S8_S1_7) _ hc1 hd1) rfl rfl hq1) $$ [Hcell1 Htok1 HR]
  · isplitr [HR]
    · isplitl [Hcell1]; · iexists f1; iexact Hcell1
      iexact Htok1
    · iexact HR
  ihave HC := (ring_open c fw A 2 (by omega) ![2, 0, 0] inb_S88x2048x256_S1x2048x256_2_0_0 ![2] inb_S88_S1_2 rfl rfl) $$ HR
  icases HC with ⟨⟨Hcell2, ⟨%f2, Hslot2⟩, Htok2⟩, HR⟩
  sl_exec
  ihave HR := (ring_close c fw A 2 (by omega) ![2, 0, 0] inb_S88x2048x256_S1x2048x256_2_0_0 ![2] inb_S88_S1_2 _ (k0_off13_inb v1 v7 v13 v19 v25 (gsAt c arg0 fg 5 inb_S8_S1_5) (gsAt c arg0 fg 6 inb_S8_S1_6) (gsAt c arg0 fg 7 inb_S8_S1_7) _ hc2 hd2) rfl rfl hq2) $$ [Hcell2 Htok2 HR]
  · isplitr [HR]
    · isplitl [Hcell2]; · iexists f2; iexact Hcell2
      iexact Htok2
    · iexact HR
  sl_exec
  sl_step
  iapply Hk
  isplitr; · ipureintro; exact ⟨rfl, rfl, rfl⟩
  isplitl [HG]; · iexact HG
  isplitl [HA]
  · iexists fb
    isplitr; · ipureintro; exact hfb
    iexact HA
  isplitl [HR]; · iexact HR
  iexact HO

set_option maxHeartbeats 400000 in
/-- There are none: nothing is started. -/
theorem part6_none (H : InRange v1 v7 v13 v19 v25 v31 v37 v43) (A : ℕ → Fin 8) (hA : Names (sizes v1 v7 v13 v19 v25 v31 v37 v43) A)
    (fg : Buf (Elt F) (arg0.view.loc (c : Thread nD τ))) (hL : Loads c arg0 v1 v7 v13 v19 v25 v31 v37 v43 fg)
    (fa : Buf (Elt F) (sA.view.loc (c : Thread nD τ))) (hfa : Filled c 5 (sizes v1 v7 v13 v19 v25 v31 v37 v43) fa) (hw5 : k0_chk5 v1 v7 v13 v19 v25) (v28 : BitVec 32)
    (hn : ¬0 < cnt (sizes v1 v7 v13 v19 v25 v31 v37 v43) 8) (W : Waits sig Unit) (Q : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32) → sProp 𝕄) :
    iprop(gsP c arg0 fg ∗ actP c fa ∗ ring c fw A 0 0 ∗ owes (c : Thread nD τ) 0 W
        ∗ (∀ r : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32), iprop(⌜r.1 = v31 ∧ r.2.1 = v37 ∧ r.2.2.1 = v43⌝ ∗ gsP c arg0 fg
            ∗ (∃ fa', ⌜Lists c (cnt (sizes v1 v7 v13 v19 v25 v31 v37 v43) 8) A fa'⌝ ∗ actP c fa')
            ∗ ring c fw A 0 0 ∗ owes (c : Thread nD τ) 0 W) -∗ Q r))
      ⊢ wp frame (wpE (defs₀ (F := F)) Variants.none (c : Thread nD τ) none) Set.univ
          (k0_part6 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 hw5 v28 5#32) Q := by
  have h6 := chk6 H
  have h7 := chk7 H
  have h8 := (chk16 H : k0_chk16 v1 v7 v13 v19 v25 v31 v37 v43)
  obtain ⟨h0, h1, h2, h3, h4, rfl, rfl, rfl⟩ := hL
  simp only [k0_part6_eq_skeleton]; unfold k0_part6_skel
  iintro ⟨HG, HA, HR, HO, Hk⟩
  sl_exec
  ihave HE := (act_hide c) $$ HA
  icases HE with ⟨%fb, %e, HA⟩
  have hfb : Lists c (cnt (sizes v1 v7 v13 v19 v25 (gsAt c arg0 fg 5 inb_S8_S1_5) (gsAt c arg0 fg 6 inb_S8_S1_6) (gsAt c arg0 fg 7 inb_S8_S1_7)) 8) A fb := by
    rw [e]
    exact Filled.lists c hA (Filled.cons c fa _ 7 7#32 rfl _ h7 (off7_eq H) (Filled.cons c fa _ 6 6#32 rfl _ h6 (off6_eq H) (Filled.cons c fa [] 5 5#32 rfl _ hw5 (off5_eq H) hfa)))
  have hd0 := mt (cond1_iff H).1 hn
  have hd1 := mt (cond2_iff H).1 hn
  have hd2 := mt (cond3_iff H).1 hn
  sl_exec
  sl_step
  iapply Hk
  isplitr; · ipureintro; exact ⟨rfl, rfl, rfl⟩
  isplitl [HG]; · iexact HG
  isplitl [HA]
  · iexists fb
    isplitr; · ipureintro; exact hfb
    iexact HA
  isplitl [HR]; · iexact HR
  iexact HO

/-- Either way. -/
theorem part6_run (H : InRange v1 v7 v13 v19 v25 v31 v37 v43) (A : ℕ → Fin 8) (hA : Names (sizes v1 v7 v13 v19 v25 v31 v37 v43) A)
    (fg : Buf (Elt F) (arg0.view.loc (c : Thread nD τ))) (hL : Loads c arg0 v1 v7 v13 v19 v25 v31 v37 v43 fg)
    (fa : Buf (Elt F) (sA.view.loc (c : Thread nD τ))) (hfa : Filled c 5 (sizes v1 v7 v13 v19 v25 v31 v37 v43) fa) (hw5 : k0_chk5 v1 v7 v13 v19 v25) (v28 : BitVec 32)
     (W : Waits sig Unit) (Q : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32) → sProp 𝕄) :
    iprop(gsP c arg0 fg ∗ actP c fa ∗ ring c fw A 0 0 ∗ owes (c : Thread nD τ) 0 W
        ∗ (∀ r : (Σ' (v31 : Elt F .i32) (v37 : Elt F .i32) (v43 : Elt F .i32) (k0_hw16 : k0_chk16 v1 v7 v13 v19 v25 v31 v37 v43) (v46 : BitVec 32) (v47 : BitVec 32) (v58 : BitVec 32) (c3_i32_20 : BitVec 32), BitVec 32), iprop(⌜r.1 = v31 ∧ r.2.1 = v37 ∧ r.2.2.1 = v43⌝ ∗ gsP c arg0 fg
            ∗ (∃ fa', ⌜Lists c (cnt (sizes v1 v7 v13 v19 v25 v31 v37 v43) 8) A fa'⌝ ∗ actP c fa')
            ∗ ring c fw A 0 (min 3 (cnt (sizes v1 v7 v13 v19 v25 v31 v37 v43) 8 * 11)) ∗ owes (c : Thread nD τ) 0 W) -∗ Q r))
      ⊢ wp frame (wpE (defs₀ (F := F)) Variants.none (c : Thread nD τ) none) Set.univ
          (k0_part6 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 hw5 v28 5#32) Q := by
  by_cases hn : 0 < cnt (sizes v1 v7 v13 v19 v25 v31 v37 v43) 8
  · rw [show min 3 (cnt (sizes v1 v7 v13 v19 v25 v31 v37 v43) 8 * 11) = 3 by omega]
    exact part6_start c fw arg0 harg0 v1 v7 v13 v19 v25 v31 v37 v43 H A hA fg hL fa hfa hw5 v28 hn W Q
  · rw [show min 3 (cnt (sizes v1 v7 v13 v19 v25 v31 v37 v43) 8 * 11) = 0 by omega]
    exact part6_none c fw arg0 harg0 v1 v7 v13 v19 v25 v31 v37 v43 H A hA fg hL fa hfa hw5 v28 hn W Q

end Cert.KernelIdeal.Moe

end
-- ==== Proof.KernelIdeal.Start7.lean ====
/- The next five chunks started, the output cleared, and the row scales spread over the lanes. -/
module

public import proofs.«01_k».proof.Proof.KernelIdeal.Start6

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

/-- One row of the row scales, as the copy brings them. -/
abbrev xsRow (fms : Buf (Elt F) (mXs.view.loc (c : Thread nD τ))) (h : ℕ) (hi : ∀ a, (![h, 0] : Fin 2 → ℕ) a + S1x128.size a ≤ S2x128.size a) : Vec F S1x128 .f32 :=
  vXs.view.readCov [⟨Rect.whole S2x128, ReadAs.same.apply (mXs.view.read (Elt F) fms)⟩] (Rect.unit (s := S2x128) ![h, 0] S1x128.size hi).toLoadRect

set_option maxHeartbeats 400000 in
/-- There are chunks: five more are started. -/
theorem part7_start (H : InRange v1 v7 v13 v19 v25 v31 v37 v43) (A : ℕ → Fin 8)
    (fb : Buf (Elt F) (sA.view.loc (c : Thread nD τ))) (hfb : Lists c (cnt (sizes v1 v7 v13 v19 v25 v31 v37 v43) 8) A fb) (v47 v58 c3 c0 : BitVec 32)
    (fms : Buf (Elt F) (mXs.view.loc (c : Thread nD τ))) (fxs : Buf (Elt F) (vXs.view.loc (c : Thread nD τ)))
    (fo : Buf (Elt F) (vO.view.loc (c : Thread nD τ))) (fB : Buf (Elt F) (vB.view.loc (c : Thread nD τ)))
    (hn : 0 < cnt (sizes v1 v7 v13 v19 v25 v31 v37 v43) 8) (W : Waits sig Unit) (Q : (Σ' (_ : FVec F S128x128 .f32), Vec F S128x128 .f32) → sProp 𝕄) :
    iprop(actP c fb ∗ ring c fw A 0 3 ∗ memP c vO fo ∗ memP c vB fB ∗ flyP c mXs vXs (SemLoc.dma cc0_scratch8.sem) 32 fms fxs ∗ owes (c : Thread nD τ) 0 W
        ∗ (∀ r : (Σ' (_ : FVec F S128x128 .f32), Vec F S128x128 .f32), iprop(⌜r.1 = k0_pay8 (xsRow c fms 1 inb_S2x128_S1x128_1_0)⌝ ∗ actP c fb ∗ ring c fw A 0 8
            ∗ memP c vO (vO.view.writes (Elt F) fo [⟨Rect.unit (s := S256x2816) ![0, 0] S256x2816.size inb_S256x2816_S256x2816_0_0, k0_pay6⟩])
            ∗ memP c vB (vB.view.writes (Elt F) fB [⟨Rect.unit (s := S256x128) ![0, 0] S128x128.size inb_S256x128_S128x128_0_0, k0_pay7 (xsRow c fms 0 inb_S2x128_S1x128_0_0)⟩])
            ∗ memP c vXs (vXs.view.writes (Elt F) fxs [⟨Rect.whole S2x128, ReadAs.same.apply (mXs.view.read (Elt F) fms)⟩]) ∗ memP c mXs fms
            ∗ semVal ((c : Thread nD τ), SemLoc.dma cc0_scratch8.sem) 0 ∗ (∃ W, owes (c : Thread nD τ) 0 W)) -∗ Q r))
      ⊢ wp frame (wpE (defs₀ (F := F)) Variants.none (c : Thread nD τ) none) Set.univ
          (k0_part7 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 v47 v58 c3 c0) Q := by
  simp only [k0_part7_eq_skeleton]; unfold k0_part7_skel
  iintro ⟨HA, HR, HvO, HvB, HF, HO, Hk⟩
  have ha3 := hfb.read c k0_off14 k0_off14_inb (Shape.Idx.first numel1_S1.ge) 0 (by omega) hn (by rfl)
  have hc3 : k0_chk11 v1 v7 v13 v19 v25 v31 v37 v43 _ := chk11 _ (lt_of_eq_of_lt ha3 (A 0).isLt)
  have hq3 : k0_off15 (View.readAt (Elt F) sA.view (Rect.unit (s := S8) k0_off14 S1.size k0_off14_inb).toLoadRect fb (Shape.Idx.first numel1_S1.ge)) = ![(A (3 / 11)).val, 0, 3 % 11 * 256] := by
    rw [off15_eq, ha3]
  have hd3 := (cond4_iff H).2 hn
  have ha4 := hfb.read c k0_off16 k0_off16_inb (Shape.Idx.first numel1_S1.ge) 0 (by omega) hn (by rfl)
  have hc4 : k0_chk12 v1 v7 v13 v19 v25 v31 v37 v43 _ := chk12 _ (lt_of_eq_of_lt ha4 (A 0).isLt)
  have hq4 : k0_off17 (View.readAt (Elt F) sA.view (Rect.unit (s := S8) k0_off16 S1.size k0_off16_inb).toLoadRect fb (Shape.Idx.first numel1_S1.ge)) = ![(A (4 / 11)).val, 0, 4 % 11 * 256] := by
    rw [off17_eq, ha4]
  have hd4 := (cond5_iff H).2 hn
  have ha5 := hfb.read c k0_off18 k0_off18_inb (Shape.Idx.first numel1_S1.ge) 0 (by omega) hn (by rfl)
  have hc5 : k0_chk13 v1 v7 v13 v19 v25 v31 v37 v43 _ := chk13 _ (lt_of_eq_of_lt ha5 (A 0).isLt)
  have hq5 : k0_off19 (View.readAt (Elt F) sA.view (Rect.unit (s := S8) k0_off18 S1.size k0_off18_inb).toLoadRect fb (Shape.Idx.first numel1_S1.ge)) = ![(A (5 / 11)).val, 0, 5 % 11 * 256] := by
    rw [off19_eq, ha5]
  have hd5 := (cond6_iff H).2 hn
  have ha6 := hfb.read c k0_off20 k0_off20_inb (Shape.Idx.first numel1_S1.ge) 0 (by omega) hn (by rfl)
  have hc6 : k0_chk14 v1 v7 v13 v19 v25 v31 v37 v43 _ := chk14 _ (lt_of_eq_of_lt ha6 (A 0).isLt)
  have hq6 : k0_off21 (View.readAt (Elt F) sA.view (Rect.unit (s := S8) k0_off20 S1.size k0_off20_inb).toLoadRect fb (Shape.Idx.first numel1_S1.ge)) = ![(A (6 / 11)).val, 0, 6 % 11 * 256] := by
    rw [off21_eq, ha6]
  have hd6 := (cond7_iff H).2 hn
  have ha7 := hfb.read c k0_off22 k0_off22_inb (Shape.Idx.first numel1_S1.ge) 0 (by omega) hn (by rfl)
  have hc7 : k0_chk15 v1 v7 v13 v19 v25 v31 v37 v43 _ := chk15 _ (lt_of_eq_of_lt ha7 (A 0).isLt)
  have hq7 : k0_off23 (View.readAt (Elt F) sA.view (Rect.unit (s := S8) k0_off22 S1.size k0_off22_inb).toLoadRect fb (Shape.Idx.first numel1_S1.ge)) = ![(A (7 / 11)).val, 0, 7 % 11 * 256] := by
    rw [off23_eq, ha7]
  have hd7 := (cond8_iff H).2 hn
  ihave HC := (ring_open c fw A 3 (by omega) ![3, 0, 0] inb_S88x2048x256_S1x2048x256_3_0_0 ![3] inb_S88_S1_3 rfl rfl) $$ HR
  icases HC with ⟨⟨Hcell3, ⟨%f3, Hslot3⟩, Htok3⟩, HR⟩
  sl_exec
  ihave HR := (ring_close c fw A 3 (by omega) ![3, 0, 0] inb_S88x2048x256_S1x2048x256_3_0_0 ![3] inb_S88_S1_3 _ (k0_off15_inb v1 v7 v13 v19 v25 v31 v37 v43 _ hc3 hd3) rfl rfl hq3) $$ [Hcell3 Htok3 HR]
  · isplitr [HR]
    · isplitl [Hcell3]; · iexists f3; iexact Hcell3
      iexact Htok3
    · iexact HR
  ihave HC := (ring_open c fw A 4 (by omega) ![4, 0, 0] inb_S88x2048x256_S1x2048x256_4_0_0 ![4] inb_S88_S1_4 rfl rfl) $$ HR
  icases HC with ⟨⟨Hcell4, ⟨%f4, Hslot4⟩, Htok4⟩, HR⟩
  sl_exec
  ihave HR := (ring_close c fw A 4 (by omega) ![4, 0, 0] inb_S88x2048x256_S1x2048x256_4_0_0 ![4] inb_S88_S1_4 _ (k0_off17_inb v1 v7 v13 v19 v25 v31 v37 v43 _ hc4 hd4) rfl rfl hq4) $$ [Hcell4 Htok4 HR]
  · isplitr [HR]
    · isplitl [Hcell4]; · iexists f4; iexact Hcell4
      iexact Htok4
    · iexact HR
  ihave HC := (ring_open c fw A 5 (by omega) ![5, 0, 0] inb_S88x2048x256_S1x2048x256_5_0_0 ![5] inb_S88_S1_5 rfl rfl) $$ HR
  icases HC with ⟨⟨Hcell5, ⟨%f5, Hslot5⟩, Htok5⟩, HR⟩
  sl_exec
  ihave HR := (ring_close c fw A 5 (by omega) ![5, 0, 0] inb_S88x2048x256_S1x2048x256_5_0_0 ![5] inb_S88_S1_5 _ (k0_off19_inb v1 v7 v13 v19 v25 v31 v37 v43 _ hc5 hd5) rfl rfl hq5) $$ [Hcell5 Htok5 HR]
  · isplitr [HR]
    · isplitl [Hcell5]; · iexists f5; iexact Hcell5
      iexact Htok5
    · iexact HR
  ihave HC := (ring_open c fw A 6 (by omega) ![6, 0, 0] inb_S88x2048x256_S1x2048x256_6_0_0 ![6] inb_S88_S1_6 rfl rfl) $$ HR
  icases HC with ⟨⟨Hcell6, ⟨%f6, Hslot6⟩, Htok6⟩, HR⟩
  sl_exec
  ihave HR := (ring_close c fw A 6 (by omega) ![6, 0, 0] inb_S88x2048x256_S1x2048x256_6_0_0 ![6] inb_S88_S1_6 _ (k0_off21_inb v1 v7 v13 v19 v25 v31 v37 v43 _ hc6 hd6) rfl rfl hq6) $$ [Hcell6 Htok6 HR]
  · isplitr [HR]
    · isplitl [Hcell6]; · iexists f6; iexact Hcell6
      iexact Htok6
    · iexact HR
  ihave HC := (ring_open c fw A 7 (by omega) ![7, 0, 0] inb_S88x2048x256_S1x2048x256_7_0_0 ![7] inb_S88_S1_7 rfl rfl) $$ HR
  icases HC with ⟨⟨Hcell7, ⟨%f7, Hslot7⟩, Htok7⟩, HR⟩
  sl_exec
  ihave HR := (ring_close c fw A 7 (by omega) ![7, 0, 0] inb_S88x2048x256_S1x2048x256_7_0_0 ![7] inb_S88_S1_7 _ (k0_off23_inb v1 v7 v13 v19 v25 v31 v37 v43 _ hc7 hd7) rfl rfl hq7) $$ [Hcell7 Htok7 HR]
  · isplitr [HR]
    · isplitl [Hcell7]; · iexists f7; iexact Hcell7
      iexact Htok7
    · iexact HR
  sl_exec
  sl_step
  iapply Hk
  isplitr; · ipureintro; rfl
  isplitl [HA]; · iexact HA
  isplitl [HR]; · iexact HR
  isplitl [HvO]; · iexact HvO
  isplitl [HvB]; · iexact HvB
  isplitl [HF_dst]; · iexact HF_dst
  isplitl [HF_src]; · iexact HF_src
  isplitl [HF]; · iexact HF
  iexists _; iexact HO

set_option maxHeartbeats 400000 in
/-- There are none. -/
theorem part7_none (H : InRange v1 v7 v13 v19 v25 v31 v37 v43) (A : ℕ → Fin 8)
    (fb : Buf (Elt F) (sA.view.loc (c : Thread nD τ))) (hfb : Lists c (cnt (sizes v1 v7 v13 v19 v25 v31 v37 v43) 8) A fb) (v47 v58 c3 c0 : BitVec 32)
    (fms : Buf (Elt F) (mXs.view.loc (c : Thread nD τ))) (fxs : Buf (Elt F) (vXs.view.loc (c : Thread nD τ)))
    (fo : Buf (Elt F) (vO.view.loc (c : Thread nD τ))) (fB : Buf (Elt F) (vB.view.loc (c : Thread nD τ)))
    (hn : ¬0 < cnt (sizes v1 v7 v13 v19 v25 v31 v37 v43) 8) (W : Waits sig Unit) (Q : (Σ' (_ : FVec F S128x128 .f32), Vec F S128x128 .f32) → sProp 𝕄) :
    iprop(actP c fb ∗ ring c fw A 0 0 ∗ memP c vO fo ∗ memP c vB fB ∗ flyP c mXs vXs (SemLoc.dma cc0_scratch8.sem) 32 fms fxs ∗ owes (c : Thread nD τ) 0 W
        ∗ (∀ r : (Σ' (_ : FVec F S128x128 .f32), Vec F S128x128 .f32), iprop(⌜r.1 = k0_pay8 (xsRow c fms 1 inb_S2x128_S1x128_1_0)⌝ ∗ actP c fb ∗ ring c fw A 0 0
            ∗ memP c vO (vO.view.writes (Elt F) fo [⟨Rect.unit (s := S256x2816) ![0, 0] S256x2816.size inb_S256x2816_S256x2816_0_0, k0_pay6⟩])
            ∗ memP c vB (vB.view.writes (Elt F) fB [⟨Rect.unit (s := S256x128) ![0, 0] S128x128.size inb_S256x128_S128x128_0_0, k0_pay7 (xsRow c fms 0 inb_S2x128_S1x128_0_0)⟩])
            ∗ memP c vXs (vXs.view.writes (Elt F) fxs [⟨Rect.whole S2x128, ReadAs.same.apply (mXs.view.read (Elt F) fms)⟩]) ∗ memP c mXs fms
            ∗ semVal ((c : Thread nD τ), SemLoc.dma cc0_scratch8.sem) 0 ∗ (∃ W, owes (c : Thread nD τ) 0 W)) -∗ Q r))
      ⊢ wp frame (wpE (defs₀ (F := F)) Variants.none (c : Thread nD τ) none) Set.univ
          (k0_part7 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 v47 v58 c3 c0) Q := by
  simp only [k0_part7_eq_skeleton]; unfold k0_part7_skel
  iintro ⟨HA, HR, HvO, HvB, HF, HO, Hk⟩
  have hd3 := mt (cond4_iff H).1 hn
  have hd4 := mt (cond5_iff H).1 hn
  have hd5 := mt (cond6_iff H).1 hn
  have hd6 := mt (cond7_iff H).1 hn
  have hd7 := mt (cond8_iff H).1 hn
  sl_exec
  sl_step
  iapply Hk
  isplitr; · ipureintro; rfl
  isplitl [HA]; · iexact HA
  isplitl [HR]; · iexact HR
  isplitl [HvO]; · iexact HvO
  isplitl [HvB]; · iexact HvB
  isplitl [HF_dst]; · iexact HF_dst
  isplitl [HF_src]; · iexact HF_src
  isplitl [HF]; · iexact HF
  iexists _; iexact HO

/-- Either way. -/
theorem part7_run (H : InRange v1 v7 v13 v19 v25 v31 v37 v43) (A : ℕ → Fin 8)
    (fb : Buf (Elt F) (sA.view.loc (c : Thread nD τ))) (hfb : Lists c (cnt (sizes v1 v7 v13 v19 v25 v31 v37 v43) 8) A fb) (v47 v58 c3 c0 : BitVec 32)
    (fms : Buf (Elt F) (mXs.view.loc (c : Thread nD τ))) (fxs : Buf (Elt F) (vXs.view.loc (c : Thread nD τ)))
    (fo : Buf (Elt F) (vO.view.loc (c : Thread nD τ))) (fB : Buf (Elt F) (vB.view.loc (c : Thread nD τ)))
     (W : Waits sig Unit) (Q : (Σ' (_ : FVec F S128x128 .f32), Vec F S128x128 .f32) → sProp 𝕄) :
    iprop(actP c fb ∗ ring c fw A 0 (min 3 (cnt (sizes v1 v7 v13 v19 v25 v31 v37 v43) 8 * 11)) ∗ memP c vO fo ∗ memP c vB fB ∗ flyP c mXs vXs (SemLoc.dma cc0_scratch8.sem) 32 fms fxs ∗ owes (c : Thread nD τ) 0 W
        ∗ (∀ r : (Σ' (_ : FVec F S128x128 .f32), Vec F S128x128 .f32), iprop(⌜r.1 = k0_pay8 (xsRow c fms 1 inb_S2x128_S1x128_1_0)⌝ ∗ actP c fb ∗ ring c fw A 0 (min 8 (cnt (sizes v1 v7 v13 v19 v25 v31 v37 v43) 8 * 11))
            ∗ memP c vO (vO.view.writes (Elt F) fo [⟨Rect.unit (s := S256x2816) ![0, 0] S256x2816.size inb_S256x2816_S256x2816_0_0, k0_pay6⟩])
            ∗ memP c vB (vB.view.writes (Elt F) fB [⟨Rect.unit (s := S256x128) ![0, 0] S128x128.size inb_S256x128_S128x128_0_0, k0_pay7 (xsRow c fms 0 inb_S2x128_S1x128_0_0)⟩])
            ∗ memP c vXs (vXs.view.writes (Elt F) fxs [⟨Rect.whole S2x128, ReadAs.same.apply (mXs.view.read (Elt F) fms)⟩]) ∗ memP c mXs fms
            ∗ semVal ((c : Thread nD τ), SemLoc.dma cc0_scratch8.sem) 0 ∗ (∃ W, owes (c : Thread nD τ) 0 W)) -∗ Q r))
      ⊢ wp frame (wpE (defs₀ (F := F)) Variants.none (c : Thread nD τ) none) Set.univ
          (k0_part7 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11 v1 v7 v13 v19 v25 v31 v37 v43 v47 v58 c3 c0) Q := by
  by_cases hn : 0 < cnt (sizes v1 v7 v13 v19 v25 v31 v37 v43) 8
  · rw [show min 3 (cnt (sizes v1 v7 v13 v19 v25 v31 v37 v43) 8 * 11) = 3 by omega, show min 8 (cnt (sizes v1 v7 v13 v19 v25 v31 v37 v43) 8 * 11) = 8 by omega]
    exact part7_start c fw arg0 harg0 v1 v7 v13 v19 v25 v31 v37 v43 H A fb hfb v47 v58 c3 c0 fms fxs fo fB hn W Q
  · rw [show min 3 (cnt (sizes v1 v7 v13 v19 v25 v31 v37 v43) 8 * 11) = 0 by omega, show min 8 (cnt (sizes v1 v7 v13 v19 v25 v31 v37 v43) 8 * 11) = 0 by omega]
    exact part7_none c fw arg0 harg0 v1 v7 v13 v19 v25 v31 v37 v43 H A fb hfb v47 v58 c3 c0 fms fxs fo fB hn W Q

end Cert.KernelIdeal.Moe

end
-- ==== Proof.KernelIdeal.Run.lean ====
/- The whole kernel body, from its operands and its empty ring to the stored result. -/
module

public import proofs.«01_k».proof.Proof.KernelIdeal.Experts
public import proofs.«01_k».proof.Proof.KernelIdeal.Start7

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (c : Dev nD) (fw : Buf (Elt F) (mW.view.loc (c : Thread nD τ))) (arg0 : Memref sig .tc .smem S8 .i32) (harg0 : arg0.IsWhole)
  (v1 v7 v13 v19 v25 v31 v37 v43 : BitVec 32)

include harg0 in
/-- The table read at any place is the group's size. -/
theorem Loads.tbl (fg : Buf (Elt F) (arg0.view.loc (c : Thread nD τ))) (hL : Loads c arg0 v1 v7 v13 v19 v25 v31 v37 v43 fg) : Tbl c arg0 fg (sizes v1 v7 v13 v19 v25 v31 v37 v43) := by
  intro o ho
  obtain ⟨rfl, rfl, rfl, rfl, rfl, rfl, rfl, rfl⟩ := hL
  have hi : o 0 < 8 := by have := ho 0; exact this
  have key : ∀ (i : ℕ) (hi : ∀ a, (![i] : Fin 1 → ℕ) a + S1.size a ≤ S8.size a), o 0 = i →
      View.readAt (Elt F) arg0.view (Rect.unit (s := S8) o S1.size ho).toLoadRect fg (Shape.Idx.first numel1_S1.ge) = gsAt c arg0 fg i hi := by
    intro i hi e
    obtain rfl : o = ![i] := by funext a; fin_cases a; exact e
    rfl
  rcases (show o 0 = 0 ∨ o 0 = 1 ∨ o 0 = 2 ∨ o 0 = 3 ∨ o 0 = 4 ∨ o 0 = 5 ∨ o 0 = 6 ∨ o 0 = 7 by omega) with hk | hk | hk | hk | hk | hk | hk | hk
  · rw [key 0 inb_S8_S1_0 hk, hk]; rfl
  · rw [key 1 inb_S8_S1_1 hk, hk]; rfl
  · rw [key 2 inb_S8_S1_2 hk, hk]; rfl
  · rw [key 3 inb_S8_S1_3 hk, hk]; rfl
  · rw [key 4 inb_S8_S1_4 hk, hk]; rfl
  · rw [key 5 inb_S8_S1_5 hk, hk]; rfl
  · rw [key 6 inb_S8_S1_6 hk, hk]; rfl
  · rw [key 7 inb_S8_S1_7 hk, hk]; rfl

/-- The row scales spread over the lanes. -/
abbrev scales (fms : Buf (Elt F) (mXs.view.loc (c : Thread nD τ))) : Buf (Elt F) (vB.view.loc (c : Thread nD τ)) :=
  vB.view.writes (Elt F) vB.view.junk [⟨Rect.unit (s := S256x128) ![128, 0] S128x128.size inb_S256x128_S128x128_128_0, k0_pay1 (k0_pay8 (xsRow c fms 1 inb_S2x128_S1x128_1_0))⟩,
    ⟨Rect.unit (s := S256x128) ![0, 0] S128x128.size inb_S256x128_S128x128_0_0, k0_pay7 (xsRow c fms 0 inb_S2x128_S1x128_0_0)⟩]

/-- The output cleared. -/
abbrev cleared : Buf (Elt F) (vO.view.loc (c : Thread nD τ)) :=
  vO.view.writes (Elt F) vO.view.junk [⟨Rect.unit (s := S256x2816) ![0, 0] S256x2816.size inb_S256x2816_S256x2816_0_0, k0_pay6⟩]

/-- An operand brought whole from `M` into `V`. -/
abbrev brought {sp sp' : Space} {s : Shape} {e : EltTy} (M : Memref sig .tc sp s e) (V : Memref sig .tc sp' s e)
    (f : Buf (Elt F) (M.view.loc (c : Thread nD τ))) : Buf (Elt F) (V.view.loc (c : Thread nD τ)) :=
  V.view.writes (Elt F) V.view.junk [⟨Rect.whole s, ReadAs.same.apply (M.view.read (Elt F) f)⟩]

/-- After the last expert every chunk started has arrived. -/
theorem ring_end (A : ℕ → Fin 8) (H : InRange v1 v7 v13 v19 v25 v31 v37 v43) :
    (ring c fw A ((k0_t1_loop v1 v7 v13 v19 v25 v31 v37 v43).trips * 11) (min ((k0_t1_loop v1 v7 v13 v19 v25 v31 v37 v43).trips * 11 + 8) (cnt (sizes v1 v7 v13 v19 v25 v31 v37 v43) 8 * 11)) : sProp 𝕄)
      ⊢ ring c fw A (cnt (sizes v1 v7 v13 v19 v25 v31 v37 v43) 8 * 11) (cnt (sizes v1 v7 v13 v19 v25 v31 v37 v43) 8 * 11) := by
  rw [t1_trips H, Nat.min_eq_right (Nat.le_add_right _ 8)]

set_option maxHeartbeats 400000 in
/-- The body. -/
theorem body_run (H : InRange v1 v7 v13 v19 v25 v31 v37 v43) (A : ℕ → Fin 8) (hA : Names (sizes v1 v7 v13 v19 v25 v31 v37 v43) A) (fg : Buf (Elt F) (arg0.view.loc (c : Thread nD τ))) (hL : Loads c arg0 v1 v7 v13 v19 v25 v31 v37 v43 fg)
    (fmx : Buf (Elt F) (mX.view.loc (c : Thread nD τ))) (fx : Buf (Elt F) (vX.view.loc (c : Thread nD τ)))
    (fms : Buf (Elt F) (mXs.view.loc (c : Thread nD τ))) (fxs : Buf (Elt F) (vXs.view.loc (c : Thread nD τ)))
    (fmw : Buf (Elt F) (mWs.view.loc (c : Thread nD τ))) (fws : Buf (Elt F) (vWs.view.loc (c : Thread nD τ)))
    (fo : Buf (Elt F) (vO.view.loc (c : Thread nD τ))) (fB : Buf (Elt F) (vB.view.loc (c : Thread nD τ)))
    (fa : Buf (Elt F) (sA.view.loc (c : Thread nD τ))) (fm : Buf (Elt F) (mO.view.loc (c : Thread nD τ)))
    (P : ℕ → ℕ → ℕ → Buf (Elt F) (vO.view.loc (c : Thread nD τ)) → Prop) (hP0 : P 0 0 0 (cleared c))
    (hP : Steps c fw v1 v7 v13 v19 v25 v31 v37 v43 A (brought c mWs vWs fmw) (brought c mX vX fmx) (scales c fms) P)
    (W : Waits sig Unit) (Q : PUnit → sProp 𝕄) :
    iprop(gsP c arg0 fg ∗ actP c fa ∗ memP c mX fmx ∗ memP c vX fx ∗ memP c mXs fms ∗ memP c vXs fxs ∗ memP c mWs fmw ∗ memP c vWs fws
        ∗ memP c vO fo ∗ memP c vB fB ∗ memP c mO fm ∗ ring c fw A 0 0
        ∗ semVal ((c : Thread nD τ), SemLoc.dma cc0_scratch7.sem) 0 ∗ semVal ((c : Thread nD τ), SemLoc.dma cc0_scratch8.sem) 0 ∗ semVal ((c : Thread nD τ), SemLoc.dma cc0_scratch9.sem) 0 ∗ semVal ((c : Thread nD τ), SemLoc.dma cc0_scratch11.sem) 0 ∗ owes (c : Thread nD τ) 0 W
        ∗ (iprop(gsP c arg0 fg ∗ (∃ fa, actP c fa) ∗ memP c mX fmx ∗ (∃ f, memP c vX f) ∗ memP c mXs fms ∗ (∃ f, memP c vXs f) ∗ memP c mWs fmw ∗ (∃ f, memP c vWs f)
            ∗ (∃ f, memP c vO f) ∗ (∃ f, memP c vB f)
            ∗ (∃ f, ⌜P (cnt (sizes v1 v7 v13 v19 v25 v31 v37 v43) 8) 0 0 f⌝ ∗ memP c mO (mO.view.writes (Elt F) fm [⟨Rect.whole S256x2816, ReadAs.same.apply (vO.view.read (Elt F) f)⟩]))
            ∗ ring c fw A (cnt (sizes v1 v7 v13 v19 v25 v31 v37 v43) 8 * 11) (cnt (sizes v1 v7 v13 v19 v25 v31 v37 v43) 8 * 11)
            ∗ semVal ((c : Thread nD τ), SemLoc.dma cc0_scratch7.sem) 0 ∗ semVal ((c : Thread nD τ), SemLoc.dma cc0_scratch8.sem) 0 ∗ semVal ((c : Thread nD τ), SemLoc.dma cc0_scratch9.sem) 0 ∗ semVal ((c : Thread nD τ), SemLoc.dma cc0_scratch11.sem) 0 ∗ (∃ W, owes (c : Thread nD τ) 0 W)) -∗ Q ⟨⟩))
      ⊢ wp frame (wpE (defs₀ (F := F)) Variants.none (c : Thread nD τ) none) Set.univ
          (cc0_moe_grouped_fp8 (F := F) arg0 harg0 mX (Memref.isWhole_whole _) mXs (Memref.isWhole_whole _) mW (Memref.isWhole_whole _) mWs (Memref.isWhole_whole _) mO (Memref.isWhole_whole _) vX (Memref.isWhole_whole _) vXs (Memref.isWhole_whole _) vWs (Memref.isWhole_whole _) vW (Memref.isWhole_whole _) vO (Memref.isWhole_whole _) vB (Memref.isWhole_whole _) sA (Memref.isWhole_whole _) cc0_scratch7 cc0_scratch8 cc0_scratch9 cc0_scratch10 cc0_scratch11) Q := by
  have htbl := hL.tbl c arg0 harg0
  simp only [cc0_moe_grouped_fp8_eq_skeleton]; unfold cc0_moe_grouped_fp8_skel
  rw [wp_bind]
  iintro ⟨HG, HA, HmX, HvX, HmS, HvS, HmW, HvW, HvO, HvB, HmO, HR, Hs7, Hs8, Hs9, Hs11, HO, Hk⟩
  iapply (part5_run c arg0 harg0 v1 v7 v13 v19 v25 v31 v37 v43 H fg hL fmx fx fms fxs fmw fws fa W _)
  isplitl [HG]; · iexact HG
  isplitl [HA]; · iexact HA
  isplitl [HmX]; · iexact HmX
  isplitl [HvX]; · iexact HvX
  isplitl [HmS]; · iexact HmS
  isplitl [HvS]; · iexact HvS
  isplitl [HmW]; · iexact HmW
  isplitl [HvW]; · iexact HvW
  isplitl [Hs7]; · iexact Hs7
  isplitl [Hs8]; · iexact Hs8
  isplitl [Hs9]; · iexact Hs9
  isplitl [HO]; · iexact HO
  iintro %r ⟨%hr, HG, ⟨%fa5, %hfa5, HA⟩, Hf7, Hf8, Hf9, HO⟩
  obtain ⟨a1, a2, a3, a4, a5, hw5, v28, c5⟩ := r
  obtain ⟨e1, e2, e3, e4, e5, e6⟩ := hr
  dsimp only at e1 e2 e3 e4 e5 e6
  subst e1 e2 e3 e4 e5 e6
  irw [wp_bind]
  iapply (part6_run c fw arg0 harg0 _ _ _ _ _ v31 v37 v43 H A hA fg hL fa5 hfa5 hw5 v28 W _)
  isplitl [HG]; · iexact HG
  isplitl [HA]; · iexact HA
  isplitl [HR]; · iexact HR
  isplitl [HO]; · iexact HO
  iintro %r ⟨%hr, HG, ⟨%fa6, %hfa6, HA⟩, HR, HO⟩
  obtain ⟨a6, a7, a8, hw16, v46, v47, v58, c3, c0⟩ := r
  obtain ⟨e1, e2, e3⟩ := hr
  dsimp only at e1 e2 e3
  subst e1 e2 e3
  irw [wp_bind]
  iapply (part7_run c fw arg0 harg0 _ _ _ _ _ _ _ _ H A fa6 hfa6 v47 v58 c3 c0 fms fxs fo fB W _)
  isplitl [HA]; · iexact HA
  isplitl [HR]; · iexact HR
  isplitl [HvO]; · iexact HvO
  isplitl [HvB]; · iexact HvB
  isplitl [Hf8]; · iexact Hf8
  isplitl [HO]; · iexact HO
  iintro %r ⟨%hr, HA, HR, HvO, HvB, HvS, HmS, Hs8, ⟨%W7, HO⟩⟩
  obtain ⟨a9, a10⟩ := r
  dsimp only at hr
  subst hr
  sl_exec
  iapply (t1_loop c fw arg0 harg0 _ _ _ _ _ _ _ _ H A fa6 (brought c mWs vWs fmw) (brought c mX vX fmx) (scales c fms) fg htbl hw16 v47 hfa6 P hP)
  isplitl [HG HR HA Hf9_dst HO Hf7_dst HvB HvO]
  · isplitl [HG]; · iexact HG
    isplitl [HR]; · irw [Nat.zero_mul, Nat.zero_add]; iexact HR
    isplitl [HA]; · iexact HA
    isplitl [Hf9_dst]; · iexact Hf9_dst
    isplitl [HO]; · iexists _; iexact HO
    isplitl [Hf7_dst]; · iexact Hf7_dst
    isplitl [HvB]; · iexact HvB
    iexists _
    isplitr [HvO]
    swap
    · iexact HvO
    · ipureintro; exact hP0
  iintro %r ⟨HG, HR, HA, HvW, ⟨%W8, HO⟩, HvX, HvB, ⟨%f, %hf, HvO⟩⟩
  sl_exec
  sl_step
  iapply Hk
  isplitl [HG]; · iexact HG
  isplitl [HA]; · iexists _; iexact HA
  isplitl [Hf7_src]; · iexact Hf7_src
  isplitl [HvX]; · iexists _; iexact HvX
  isplitl [HmS]; · iexact HmS
  isplitl [HvS]; · iexists _; iexact HvS
  isplitl [Hf9_src]; · iexact Hf9_src
  isplitl [HvW]; · iexists _; iexact HvW
  isplitl [HvO]; · iexists _; iexact HvO
  isplitl [HvB]; · iexists _; iexact HvB
  rw [t1_trips H] at hf
  isplitl [HmO]
  · iexists f
    isplitr; · ipureintro; exact hf
    iexact HmO
  isplitl [HR]
  · iapply (ring_end c fw _ _ _ _ _ _ _ _ A H)
    iexact HR
  isplitl [Hf7]; · iexact Hf7
  isplitl [Hs8]; · iexact Hs8
  isplitl [Hf9]; · iexact Hf9
  isplitl [Hs11]; · iexact Hs11
  iexists _; iexact HO

end Cert.KernelIdeal.Moe

end
-- ==== Proof.KernelIdeal.Whole.lean ====
/- The weight ring made from the whole buffers and cells it consists of, and taken apart again. -/
module

public import proofs.«01_k».proof.Proof.KernelIdeal.Run

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

/-! ## The ring's cells -/

/-- The kernel's own semaphores: the three of the operand copies, the one of the result's, and the ring's. -/
def osem : Fin 4 ⊕ Fin 88 → SemLoc sig
  | .inl j => (![SemLoc.dma cc0_scratch7.sem, SemLoc.dma cc0_scratch8.sem, SemLoc.dma cc0_scratch9.sem, SemLoc.dma cc0_scratch11.sem] : Fin 4 → SemLoc sig) j
  | .inr k => cellAt ![k.val] (inb_cell k)

/-- The number of each of them in the pool. -/
def osemNum : Fin 4 ⊕ Fin 88 → ℕ
  | .inl j => (![1, 2, 3, 92] : Fin 4 → ℕ) j
  | .inr k => 4 + k.val

theorem osemNum_lt (k : Fin 4 ⊕ Fin 88) : 1 ≤ osemNum k ∧ osemNum k < 93 := by
  rcases k with j | k
  · fin_cases j <;> exact ⟨by decide, by decide⟩
  · have := k.isLt
    exact ⟨by show 1 ≤ 4 + k.val; omega, by show 4 + k.val < 93; omega⟩

theorem cell_val : ∀ k : Fin 88, cellAt ![k.val] (inb_cell k) = SemLoc.dma ⟨4 + k.val, by have := k.isLt; show 4 + k.val < 93; omega⟩ := by
  decide +kernel

theorem osem_eq (k : Fin 4 ⊕ Fin 88) : osem k = SemLoc.dma ⟨osemNum k, (osemNum_lt k).2⟩ := by
  rcases k with j | k
  · fin_cases j <;> rfl
  · exact cell_val k

theorem osemNum_inj {a b : Fin 4 ⊕ Fin 88} (h : osemNum a = osemNum b) : a = b := by
  rcases a with j | k <;> rcases b with j' | k'
  · congr 1; revert h; fin_cases j <;> fin_cases j' <;> simp [osemNum]
  · exfalso; have := k'.isLt; revert h; fin_cases j <;> simp [osemNum] <;> omega
  · exfalso; have := k.isLt; revert h; fin_cases j' <;> simp [osemNum] <;> omega
  · congr 1; exact Fin.ext (by have : 4 + k.val = 4 + k'.val := h; omega)

theorem dma_scoped : ∀ i : Fin 93, (SemLoc.dma i : SemLoc sig).isScoped .tc = true := by decide +kernel

theorem osemFacts : Pipeline.OwnSemFacts spec0 osem where
  isScoped k := by rw [osem_eq]; exact dma_scoped _
  inj a b h := by
    rw [osem_eq, osem_eq] at h
    injection h with h
    exact osemNum_inj (congrArg Fin.val h)
  disj k w s h := by
    rw [osem_eq] at h
    injection h with h
    have h1 := (osemNum_lt k).1
    have h2 := congrArg Fin.val h
    have h3 : ∀ (w : Fin 1) (s : Fin (spec0 w).nbuf), ((spec0 w).sem s).val = 0 := by decide
    rw [h3] at h2
    exact absurd h2 (by show osemNum k ≠ 0; omega)

variable (c : Dev nD) (fw : Buf (Elt F) (mW.view.loc (c : Thread nD τ)))

/-- All of them at zero: the four, and the ring's. -/
theorem ownSems_eq : (Pipeline.ownSems0 (Ix := Unit) (Name := ℕ) (U := Pipeline.UC sig nD τ) (Lvl := ℕ) (Val := Elt F) (τ := τ) osem c : sProp 𝕄)
    = iprop((semVal ((c : Thread nD τ), SemLoc.dma cc0_scratch7.sem) 0 ∗ semVal ((c : Thread nD τ), SemLoc.dma cc0_scratch8.sem) 0
        ∗ semVal ((c : Thread nD τ), SemLoc.dma cc0_scratch9.sem) 0 ∗ semVal ((c : Thread nD τ), SemLoc.dma cc0_scratch11.sem) 0)
      ∗ bigSep Finset.univ fun k : Fin 88 => semVal ((c : Thread nD τ), cellAt ![k.val] (inb_cell k)) 0) := by
  unfold Pipeline.ownSems0
  rw [BI.bigSep_univ_sum]
  congr 1
  exact bigSep_univ_eq_bigSepL [(0 : Fin 4), 1, 2, 3] (by decide) (by decide) _

/-! ## The ring's slots -/

/-- The elements of slot `k`. -/
abbrev slotSet (k : Fin 88) : Finset S88x2048x256.Idx := (Rect.unit (s := S88x2048x256) ![k.val, 0, 0] S1x2048x256.size (inb_slot k)).set

theorem slot_set (k : Fin 88) : (slotAt ![k.val, 0, 0] (inb_slot k)).view.set = slotSet k :=
  (View.set_reshape _ _).trans (View.set_slice_whole _ _)

theorem slots_disjoint (b b' : Fin 88) (h : b ≠ b') : Disjoint (slotSet b) (slotSet b') :=
  Ring.lead_disjoint (s := S88x2048x256) (NB := 88) 0 1 (fun b => ![b.val, 0, 0]) S1x2048x256.size inb_slot (fun b => (Nat.one_mul _).symm) rfl b b' h

theorem slots_cover : Finset.univ.biUnion slotSet = Finset.univ :=
  Ring.lead_cover (s := S88x2048x256) (NB := 88) 0 1 (fun b => ![b.val, 0, 0]) S1x2048x256.size inb_slot (fun b => (Nat.one_mul _).symm)
    (fun b a ha => by fin_cases a <;> first | exact absurd rfl ha | rfl) rfl (fun a ha => by fin_cases a <;> first | exact absurd rfl ha | rfl) rfl

/-- The whole ring buffer is its slots. -/
theorem slots_split (f : Buf (Elt F) (vW.view.loc (c : Thread nD τ))) :
    (memP c vW f : sProp 𝕄) = bigSep Finset.univ fun k : Fin 88 =>
      ((slotAt ![k.val, 0, 0] (inb_slot k)).view.loc (c : Thread nD τ) ↦[(slotAt ![k.val, 0, 0] (inb_slot k)).view.set]{fullShare} f : sProp 𝕄) := by
  have h := Ring.pointsTo_blocks (Ix := Unit) (Name := ℕ) (U := Pipeline.UC sig nD τ) (Lvl := ℕ) (Val := Elt F) (ℓ := vW.view.loc (c : Thread nD τ)) (q := fullShare) slotSet slots_disjoint slots_cover f
  rw [memP, show vW.view.set = Finset.univ from View.set_whole _]
  refine h.trans (BI.bigSep_congr fun k _ => ?_)
  rw [slot_set]

/-- A slot at contents named is a slot at some contents. -/
theorem slot_any (k : Fin 88) (f : Buf (Elt F) (vW.view.loc (c : Thread nD τ))) :
    ((slotAt ![k.val, 0, 0] (inb_slot k)).view.loc (c : Thread nD τ) ↦[(slotAt ![k.val, 0, 0] (inb_slot k)).view.set]{fullShare} f : sProp 𝕄)
      ⊢ iprop(∃ f, (slotAt ![k.val, 0, 0] (inb_slot k)).view.loc (c : Thread nD τ) ↦[(slotAt ![k.val, 0, 0] (inb_slot k)).view.set]{fullShare} f) := by
  iintro H; iexists _; iexact H

/-- A slot at some contents, its elements spelled as a part of the ring buffer. -/
theorem slot_part (k : Fin 88) :
    (iprop(∃ f, (slotAt ![k.val, 0, 0] (inb_slot k)).view.loc (c : Thread nD τ) ↦[(slotAt ![k.val, 0, 0] (inb_slot k)).view.set]{fullShare} f) : sProp 𝕄)
      ⊢ iprop(∃ f, vW.view.loc (c : Thread nD τ) ↦[slotSet k]{fullShare} f) := by
  rw [slot_set]

/-- The slots, each at contents of its own, are the whole ring buffer at some contents. -/
theorem slots_join (f₀ : Buf (Elt F) (vW.view.loc (c : Thread nD τ))) :
    (bigSep Finset.univ fun k : Fin 88 => iprop(∃ f, (slotAt ![k.val, 0, 0] (inb_slot k)).view.loc (c : Thread nD τ) ↦[(slotAt ![k.val, 0, 0] (inb_slot k)).view.set]{fullShare} f))
      ⊢ (iprop(∃ f, memP c vW f) : sProp 𝕄) := by
  have h := Ring.pointsTo_blocks_join_exists (Ix := Unit) (Name := ℕ) (U := Pipeline.UC sig nD τ) (Lvl := ℕ) (Val := Elt F) (ℓ := vW.view.loc (c : Thread nD τ)) (q := fullShare) slotSet slots_disjoint slots_cover f₀
  have e (g : Buf (Elt F) (vW.view.loc (c : Thread nD τ))) : (memP c vW g : sProp 𝕄) = (vW.view.loc (c : Thread nD τ) ↦{fullShare} g) := by
    rw [memP, show vW.view.set = Finset.univ from View.set_whole _]
  refine BI.Entails.trans (BI.bigSep_mono fun k _ => slot_part c k) (BI.Entails.trans h ?_)
  exact (show (iprop(∃ g, vW.view.loc (c : Thread nD τ) ↦{fullShare} g) : sProp 𝕄) ⊢ iprop(∃ f, memP c vW f) from by
    iintro ⟨%g, H⟩; iexists g; irw [e]; iexact H)

/-- What stays of the weights while their read tokens are out. -/
abbrev restW : sProp 𝕄 := mW.view.loc (c : Thread nD τ) ↦{Transfers.shareDrop fullShare 88} fw

/-- Three families held together are held family by family. -/
theorem sep3 {ι : Type} [DecidableEq ι] (S : Finset ι) (P R T : ι → sProp 𝕄) :
    bigSep S (fun k => iprop(P k ∗ R k ∗ T k)) = iprop(bigSep S P ∗ bigSep S R ∗ bigSep S T) :=
  (BI.bigSep_sep S P (fun k => iprop(R k ∗ T k))).trans (congrArg (fun X => iprop(bigSep S P ∗ X)) (BI.bigSep_sep S R T))

/-- The ring before the first chunk is started. -/
theorem ring_build (A : ℕ → Fin 8) (f : Buf (Elt F) (vW.view.loc (c : Thread nD τ))) :
    iprop(memP c vW f ∗ memP c mW fw ∗ bigSep Finset.univ fun k : Fin 88 => semVal ((c : Thread nD τ), cellAt ![k.val] (inb_cell k)) 0)
      ⊢ (iprop(ring c fw A 0 0 ∗ restW c fw) : sProp 𝕄) := by
  iintro ⟨HW, HM, HS⟩
  ihave HM := (show (memP c mW fw : sProp 𝕄) ⊢ iprop((mW.view.loc (c : Thread nD τ) ↦[Finset.univ]{Transfers.shareDrop fullShare 88} fw)
      ∗ bigSep Finset.univ fun k : Fin 88 => tokW c fw k Finset.univ) from by
    rw [memP, show mW.view.set = Finset.univ from View.set_whole _]
    exact Transfers.pointsTo_toks_split fullShare 88) $$ HM
  icases HM with ⟨HR, HT⟩
  isplitr [HR]; swap; · iexact HR
  iapply (show iprop((bigSep Finset.univ fun k : Fin 88 => semVal ((c : Thread nD τ), cellAt ![k.val] (inb_cell k)) 0)
      ∗ (bigSep Finset.univ fun k : Fin 88 => iprop(∃ f, (slotAt ![k.val, 0, 0] (inb_slot k)).view.loc (c : Thread nD τ) ↦[(slotAt ![k.val, 0, 0] (inb_slot k)).view.set]{fullShare} f))
      ∗ bigSep Finset.univ fun k : Fin 88 => tokW c fw k Finset.univ) ⊢ (ring c fw A 0 0 : sProp 𝕄) from by
    exact (Entails.of_eq (sep3 _ _ _ _).symm).trans (BI.bigSep_mono fun k _ => BI.Entails.refl _))
  isplitl [HS]; · iexact HS
  isplitl [HW]
  · iapply (show (memP c vW f : sProp 𝕄)
      ⊢ iprop(bigSep Finset.univ fun k : Fin 88 => iprop(∃ f, (slotAt ![k.val, 0, 0] (inb_slot k)).view.loc (c : Thread nD τ) ↦[(slotAt ![k.val, 0, 0] (inb_slot k)).view.set]{fullShare} f)) from by
      rw [slots_split]
      exact BI.bigSep_mono fun k _ => slot_any c k f)
    iexact HW
  iexact HT

/-- A chunk not on its way is a cell at zero, a slot at some contents, and its token. -/
theorem chunk_rest (A : ℕ → Fin 8) (d : ℕ) (k : Fin 88) :
    (chunk c fw A k (stateOf d d k) : sProp 𝕄) ⊢ freeAt c fw ![k.val, 0, 0] (inb_slot k) ![k.val] (inb_cell k) k := by
  unfold stateOf
  by_cases h : k.val < d
  · rw [if_pos h]
    unfold chunk
    iintro ⟨H1, ⟨%f, H2⟩, H3⟩
    isplitl [H1]; · iexact H1
    isplitl [H2]; · iexists _; iexact H2
    iexact H3
  · rw [if_neg h, if_neg h]
    exact .rfl

/-- The ring after the last chunk has arrived. -/
theorem ring_teardown (A : ℕ → Fin 8) (d : ℕ) (f₀ : Buf (Elt F) (vW.view.loc (c : Thread nD τ))) :
    iprop(ring c fw A d d ∗ restW c fw) ⊢ (iprop((∃ f, memP c vW f) ∗ memP c mW fw
      ∗ bigSep Finset.univ fun k : Fin 88 => semVal ((c : Thread nD τ), cellAt ![k.val] (inb_cell k)) 0) : sProp 𝕄) := by
  iintro ⟨HR, HM⟩
  ihave HR := (show (ring c fw A d d : sProp 𝕄) ⊢ iprop((bigSep Finset.univ fun k : Fin 88 => semVal ((c : Thread nD τ), cellAt ![k.val] (inb_cell k)) 0)
      ∗ (bigSep Finset.univ fun k : Fin 88 => iprop(∃ f, (slotAt ![k.val, 0, 0] (inb_slot k)).view.loc (c : Thread nD τ) ↦[(slotAt ![k.val, 0, 0] (inb_slot k)).view.set]{fullShare} f))
      ∗ bigSep Finset.univ fun k : Fin 88 => tokW c fw k Finset.univ) from by
    exact (BI.bigSep_mono fun k _ => chunk_rest c fw A d k).trans (Entails.of_eq (sep3 _ _ _ _))) $$ HR
  icases HR with ⟨HS, HW, HT⟩
  isplitl [HW]
  · iapply (slots_join c f₀); iexact HW
  isplitl [HM HT]
  · iapply (show iprop((mW.view.loc (c : Thread nD τ) ↦[Finset.univ]{Transfers.shareDrop fullShare 88} fw)
      ∗ bigSep Finset.univ fun k : Fin 88 => tokW c fw k Finset.univ) ⊢ (memP c mW fw : sProp 𝕄) from by
      rw [memP, show mW.view.set = Finset.univ from View.set_whole _]
      exact Transfers.pointsTo_toks_join fullShare 88)
    isplitl [HM]; · iexact HM
    iexact HT
  iexact HS

end Cert.KernelIdeal.Moe

end
-- ==== Proof.KernelIdeal.Launch.lean ====
/- The launch: the kernel run from any memory whose table of sizes is in range. -/
module

public import proofs.«01_k».proof.Proof.KernelIdeal.Whole
public import proofs.«01_k».proof.Proof.Gen.KernelIdeal.Frame
public import Idealize.ShloMosaic.Lib.Pipeline.Frame
public import Idealize.ShloMosaic.Lib.Pipeline.KitQuiescent

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

open Idealize.ShloMosaic.Pipeline (Dat BodyObligation)

/-! ## The whole buffers -/

variable (c : Dev nD)

/-- The buffers the kernel's scratch operands are, each at some contents. -/
theorem scoped_eq : (Pipeline.scopedRest (Ix := Unit) (Name := ℕ) (U := Pipeline.UC sig nD τ) (Lvl := ℕ) (Val := Elt F) spec0 c : sProp 𝕄)
    = iprop((∃ f, memP c vX f) ∗ (∃ f, memP c vXs f) ∗ (∃ f, memP c vWs f) ∗ (∃ f, memP c vW f) ∗ (∃ f, memP c vO f) ∗ (∃ f, memP c vB f) ∗ (∃ f, memP c sA f)) := by
  rw [scopedRest0_eq]
  unfold memP
  rw [show vX.view.set = Finset.univ from View.set_whole _, show vXs.view.set = Finset.univ from View.set_whole _,
    show vWs.view.set = Finset.univ from View.set_whole _, show vW.view.set = Finset.univ from View.set_whole _,
    show vO.view.set = Finset.univ from View.set_whole _, show vB.view.set = Finset.univ from View.set_whole _,
    show sA.view.set = Finset.univ from View.set_whole _]

/-- A whole buffer held at contents named is read off the memory. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := Pipeline.UC sig nD τ) (Lvl := ℕ) (Val := Elt F) ({()} : Finset Unit) (fun _ => ℓ) (fun _ => f) s'
  rw [BI.bigSep_singleton] at h
  iintro H
  ihave H := h $$ H
  icases H with ⟨%e, H⟩
  isplitr; · ipureintro; exact e () (Finset.mem_singleton_self _)
  iexact H

variable (m : (ℓ : Loc nD τ sig) → Buf (Elt F) ℓ) (ρ : Dev nD → PrngReg)

/-- Entry `k` of the table of sizes. -/
def tbl (k : Fin 8) : BitVec 32 := m ((c : Thread nD τ).loc main_arg2) (ix8 k)

/-- What the kernel's operands hold when it starts. -/
abbrev fwV : Buf (Elt F) (mW.view.loc (c : Thread nD τ)) := V m c main_arg3
abbrev fxV : Buf (Elt F) (mX.view.loc (c : Thread nD τ)) := V m c main_arg0
abbrev fsV : Buf (Elt F) (mXs.view.loc (c : Thread nD τ)) := V m c main_v0
abbrev fmV : Buf (Elt F) (mWs.view.loc (c : Thread nD τ)) := V m c main_arg4

/-- What is assumed of the run on one device: the sizes in range, the active experts named, and a property of the result's buffer
    that the kernel's steps keep. -/
structure Plan (A : ℕ → Fin 8) (P : ℕ → ℕ → ℕ → Buf (Elt F) (vO.view.loc (c : Thread nD τ)) → Prop) : Prop where
  range : InRange (tbl c m 0) (tbl c m 1) (tbl c m 2) (tbl c m 3) (tbl c m 4) (tbl c m 5) (tbl c m 6) (tbl c m 7)
  names : Names (sizes (tbl c m 0) (tbl c m 1) (tbl c m 2) (tbl c m 3) (tbl c m 4) (tbl c m 5) (tbl c m 6) (tbl c m 7)) A
  zero : P 0 0 0 (cleared c)
  steps : Steps c (fwV c m) (tbl c m 0) (tbl c m 1) (tbl c m 2) (tbl c m 3) (tbl c m 4) (tbl c m 5) (tbl c m 6) (tbl c m 7) A (brought c mWs vWs (fmV c m)) (brought c mX vX (fxV c m)) (scales c (fsV c m)) P

variable (A : Dev nD → ℕ → Fin 8) (P : (c : Dev nD) → ℕ → ℕ → ℕ → Buf (Elt F) (vO.view.loc (c : Thread nD τ)) → Prop)

/-- What the result holds at the end. -/
def Result (g : Buf (Elt F) (mO.view.loc (c : Thread nD τ))) : Prop :=
  ∃ (f : Buf (Elt F) (vO.view.loc (c : Thread nD τ))) (fm : Buf (Elt F) (mO.view.loc (c : Thread nD τ))),
    P c (cnt (sizes (tbl c m 0) (tbl c m 1) (tbl c m 2) (tbl c m 3) (tbl c m 4) (tbl c m 5) (tbl c m 6) (tbl c m 7)) 8) 0 0 f ∧ g = mO.view.writes (Elt F) fm [⟨Rect.whole S256x2816, ReadAs.same.apply (vO.view.read (Elt F) f)⟩]

/-- The operands, held whole at what they hold when the kernel starts, -/
def opsP : sProp 𝕄 := iprop(memP c mX (fxV c m) ∗ memP c mXs (fsV c m) ∗ memP c mW (fwV c m) ∗ memP c mWs (fmV c m))
/-- and the scratch buffers, the semaphores and the generator register. -/
def restP : sProp 𝕄 := iprop(Pipeline.ownSems0 osem c ∗ Pipeline.scopedRest (Ix := Unit) (Name := ℕ) (U := Pipeline.UC sig nD τ) (Lvl := ℕ) (Val := Elt F) spec0 c ∗ ∃ r, prngReg c r)

/-- What the kernel starts from -/
def startP : sProp 𝕄 := iprop(opsP c m ∗ memP c mO (V m c main_v1) ∗ restP (F := F) c)
/-- and ends with. -/
def endP : sProp 𝕄 := iprop(opsP c m ∗ (∃ g, ⌜Result c m P g⌝ ∗ memP c mO g) ∗ restP (F := F) c)

/-! ## The proof data -/

/-- What is held before and after the one point. -/
def phi (c : Dev nD) : ℕ → sProp 𝕄
  | 0 => startP c m
  | _ + 1 => endP c m P

/-- The proof data: the table of sizes left in place, the rest held by the kernel at its start and at its end. -/
def dats (_ : Fin 1) (c : Dev nD) : Dat τ (Elt F) Unit ℕ (Pipeline.UC sig nD τ) ℕ cfg0 c where
  A w := V m c (Pipeline.arrRef spec0 w)
  after w t := match w with
    | 0 => iblk m c 0 t
    | ⟨_ + 1, h⟩ => absurd h (Nat.not_lt.2 (Nat.le_add_left _ _))
  Φ t := phi m P c t.val
  q _ := fullShare
  owed _ := 0

theorem A_eq (w : Fin cfg0.W) : (dats m P 0 c).A w = V m c (Pipeline.arrRef spec0 w) := by dsimp only [dats]

theorem after_eq (t : Fin cfg0.N) : (dats m P 0 c).after 0 t = iblk m c 0 t := by dsimp only [dats]

/-- The window on the table of sizes holds it when the kernel starts. -/
theorem before_eq (t : Fin cfg0.N) (d) : (dats m P 0 c).before 0 t d = iblk m c 0 t :=
  ((dats m P 0 c).before_in_eq_fetched 0 rfl (fun _ => rfl) (fun _ _ _ => rfl) (fun t => by rw [after_eq]; unfold Dat.blockOf iblk; rw [A_eq]; try rfl) t d).trans
    (by unfold Dat.fetched Dat.blockOf iblk; rw [A_eq]; try rfl)

theorem Φ_start (t : Fin cfg0.N) : (dats m P 0 c).Φ t.castSucc = startP c m := by
  have := fin_N0 t; subst this; dsimp only [dats]; rfl

theorem Φ_end (t : Fin cfg0.N) : (dats m P 0 c).Φ t.succ = endP c m P := by
  have := fin_N0 t; subst this; dsimp only [dats]; rfl

/-! ## The body -/

/-- The window's staging buffer. -/
abbrev stg (t : Fin cfg0.N) : Memref sig .tc .smem S8 .i32 := win0_0.stage (cfg0.slots t 0)

/-- A staging buffer that reads the window's block holds the table of sizes. -/
theorem loads_of (t : Fin cfg0.N) (fg : Buf (Elt F) ((stg t).view.loc (c : Thread nD τ))) (h : (stg t).view.read (Elt F) fg = iblk m c 0 t) :
    Loads c (stg t) (tbl c m 0) (tbl c m 1) (tbl c m 2) (tbl c m 3) (tbl c m 4) (tbl c m 5) (tbl c m 6) (tbl c m 7) fg := by
  have e (k : Fin 8) (o : Fin 1 → ℕ) (ho : ∀ a, o a + S1.size a ≤ S8.size a) (h0 : o 0 = k.val) :
      (View.readAt (Elt F) (stg t).view (Rect.unit (s := S8) o S1.size ho).toLoadRect fg (Shape.Idx.first numel1_S1.ge) : BitVec 32) = tbl c m k := by
    have h1 := congrFun h (ix8 k)
    have h2 : (Rect.unit (s := S8) o S1.size ho).toLoadRect.idx (Shape.Idx.first numel1_S1.ge) = ix8 k := by
      funext a; fin_cases a; exact Fin.ext (by show o 0 + 1 * 0 = k.val; omega)
    rw [View.readAt_apply, h2]
    refine h1.trans ?_
    show V m c main_arg2 _ = _
    rw [V_main_arg2]
    refine congrArg (m ((c : Thread nD τ).loc main_arg2)) (funext fun a => ?_)
    fin_cases a; exact Fin.ext (by show 0 * 8 + 1 * k.val = k.val; omega)
  exact ⟨e 0 _ _ rfl, e 1 _ _ rfl, e 2 _ _ rfl, e 3 _ _ rfl, e 4 _ _ rfl, e 5 _ _ rfl, e 6 _ _ rfl, e 7 _ _ rfl⟩

/-- What the body is called with, and what it returns. -/
def bodyPre (t : Fin cfg0.N) : sProp 𝕄 :=
  iprop((dats m P 0 c).Φ t.castSucc ∗ (dats m P 0 c).owesAt () t.castSucc
    ∗ (∃ d, owns (c : Thread nD τ) (stg t) fullShare ((dats m P 0 c).before 0 t d)))
def bodyPost (t : Fin cfg0.N) : sProp 𝕄 :=
  iprop((dats m P 0 c).Φ t.succ ∗ (dats m P 0 c).owesAt () t.succ
    ∗ owns (c : Thread nD τ) (stg t) fullShare ((dats m P 0 c).after 0 t))

set_option maxHeartbeats 400000 in
/-- The body run at its one point. -/
theorem sound_body (hPl : Plan c m (A c) (P c)) (t : Fin cfg0.N) :
    bodyPre c m P t ⊢ wp frame (wpE (defs₀ (F := F)) Variants.none (c : Thread nD τ) none) Set.univ (bodyAt0 t) (fun _ => bodyPost c m P t) := by
  unfold bodyPre bodyPost bodyAt0
  rw [Φ_start, Φ_end, after_eq]
  simp only [before_eq]
  unfold Dat.owesAt Pipeline.owesWithin startP endP restP opsP owns
  rw [show (dats m P 0 c).owed t.castSucc = 0 from rfl, show (dats m P 0 c).owed t.succ = 0 from rfl, ownSems_eq, scoped_eq]
  iintro ⟨⟨⟨HmX, HmS, HmW, HmWs⟩, HmO, ⟨⟨⟨H7, H8, H9, H11⟩, Hcells⟩, ⟨⟨%fx, HvX⟩, ⟨%fxs, HvXs⟩, ⟨%fws, HvWs⟩, ⟨%fvw, HvW⟩, ⟨%fo, HvO⟩, ⟨%fB, HvB⟩, ⟨%fa, HA⟩⟩, Hg⟩⟩,
    ⟨%W, %hW, HO⟩, ⟨%d, %fg, %hfg, HG⟩⟩
  ihave HR := (ring_build c (fwV c m) (A c) fvw) $$ [HvW HmW Hcells]
  · isplitl [HvW]; · iexact HvW
    isplitl [HmW]; · iexact HmW
    iexact Hcells
  icases HR with ⟨HR, Hrest⟩
  iapply (body_run c (fwV c m) (stg t) (show (stg t).IsWhole from hstage0_0 0) (tbl c m 0) (tbl c m 1) (tbl c m 2) (tbl c m 3) (tbl c m 4) (tbl c m 5) (tbl c m 6) (tbl c m 7) hPl.range (A c) hPl.names fg (loads_of c m t fg hfg)
    (fxV c m) fx (fsV c m) fxs (fmV c m) fws fo fB fa (V m c main_v1) (P c) hPl.zero hPl.steps W _)
  isplitl [HG]; · iexact HG
  isplitl [HA]; · iexact HA
  isplitl [HmX]; · iexact HmX
  isplitl [HvX]; · iexact HvX
  isplitl [HmS]; · iexact HmS
  isplitl [HvXs]; · iexact HvXs
  isplitl [HmWs]; · iexact HmWs
  isplitl [HvWs]; · iexact HvWs
  isplitl [HvO]; · iexact HvO
  isplitl [HvB]; · iexact HvB
  isplitl [HmO]; · iexact HmO
  isplitl [HR]; · iexact HR
  isplitl [H7]; · iexact H7
  isplitl [H8]; · iexact H8
  isplitl [H9]; · iexact H9
  isplitl [H11]; · iexact H11
  isplitl [HO]; · iexact HO
  iintro ⟨HG, HA, HmX, HvX, HmS, HvXs, HmWs, HvWs, HvO, HvB, ⟨%f, %hf, HmO⟩, HR, H7, H8, H9, H11, ⟨%W', HO⟩⟩
  ihave HR := (ring_teardown c (fwV c m) (A c) _ fvw) $$ [HR Hrest]
  · isplitl [HR]; · iexact HR
    iexact Hrest
  icases HR with ⟨HvW, HmW, Hcells⟩
  isplitr [HO HG]
  · isplitl [HmX HmS HmW HmWs]
    · isplitl [HmX]; · iexact HmX
      isplitl [HmS]; · iexact HmS
      isplitl [HmW]; · iexact HmW
      iexact HmWs
    isplitl [HmO]
    · iexists _
      isplitr [HmO]
      swap
      · iexact HmO
      · ipureintro; exact ⟨f, _, hf, rfl⟩
    isplitl [H7 H8 H9 H11 Hcells]
    · isplitl [H7 H8 H9 H11]
      · isplitl [H7]; · iexact H7
        isplitl [H8]; · iexact H8
        isplitl [H9]; · iexact H9
        iexact H11
      iexact Hcells
    isplitr [Hg]
    · isplitl [HvX]; · iexact HvX
      isplitl [HvXs]; · iexact HvXs
      isplitl [HvWs]; · iexact HvWs
      isplitl [HvW]; · iexact HvW
      isplitl [HvO]; · iexact HvO
      isplitl [HvB]; · iexact HvB
      iexact HA
    iexact Hg
  isplitl [HO]
  · iexists W'; isplitr; · ipureintro; exact fun _ _ => Or.inl trivial
    iexact HO
  iexists fg
  isplitr; · ipureintro; exact hfg
  iexact HG

/-- The body table's row is the body. -/
theorem defs₀_row (t : Fin cfg0.N) : defs₀ (F := F) .tc cfg0.body (cfg0.bodyArgs t (cfg0.slots t)) = bodyAt0 t := by
  unfold defs₀; rw [Defs.onTc_tc]

theorem body_obligation (hPl : Plan c m (A c) (P c)) :
    BodyObligation (dats (F := F) m P 0 c) (defs₀ (F := F)) Variants.none () Set.univ := fun t => by
  rw [bigSep_W0, bigSep_W0, defs₀_row]
  exact triple_restated (sound_body c m A P hPl t) rfl .rfl fun _ => .rfl

/-! ## The launch -/

theorem hmainC (𝒱₀ : Variants) :
    Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- What the run ends with: the arguments as they were, the result as planned, every semaphore at zero. -/
def Final (r : PUnit × MemSt nD τ sig (Elt F)) : Prop :=
  (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ Result c m P (r.2.mem ((c.tc : Thread nD τ).loc main_v1)))
  ∧ r.2.sem = fun _ => 0

open Idealize.ShloMosaic.Pipeline Idealize.ShloMosaic.Rounds in
set_option backward.isDefEq.respectTransparency.types false in
set_option maxHeartbeats 400000 in
/-- From any memory with zero counters, every weakly fair execution of @main terminates in a state as `Final` says. -/
theorem run_main (hPl : ∀ c, Plan c m (A c) (P c)) :
    θ_run defs (onTc (τ := τ) (main (F := F))) (s₀ m ρ) (Final m P) :=
  θ_run_region_kit_quiescent cfgs (dats m P) () (0 : Fin 1) launch0 osemFacts embL defs₀ Variants.none m ρ main
    (fun c => (body_obligation c m A P (hPl c)).loose) (fun c => (dats m P 0 c).share_full fun _ => rfl) (fun _ _ => rfl)
    (G := fun _ => iprop(emp)) (u₀ := (initOf (cells cfgs launch0.cellOf_inj) (launchToks cfgs launch0.cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainC m Variants.none) (hA := fun c w => A_eq c m P w)
    (X := fun c => iprop((opsP c m ∗ memP c mO (V m c main_v1)) ∗ ownSems0 osem c ∗ ∃ r, prngReg c r))
    (Y := fun c => iprop((opsP c m ∗ (∃ g, ⌜Result c m P g⌝ ∗ memP c mO g)) ∗ ∃ r, prngReg c r))
    (Z := fun c => iprop(((c : Thread nD τ).loc main_arg1) ↦{fullShare} V m c main_arg1))
    (hX := fun c => by
      rw [unscopedRest0_eq]
      unfold opsP memP
      rw [show mX.view.set = Finset.univ from View.set_whole _, show mXs.view.set = Finset.univ from View.set_whole _,
        show mW.view.set = Finset.univ from View.set_whole _, show mWs.view.set = Finset.univ from View.set_whole _,
        show mO.view.set = Finset.univ from View.set_whole _]
      iintro ⟨⟨H0, H1, H3, H4, Hv0, Hv1⟩, Hos, -, Hp, -⟩; imodintro
      isplitr [H1]
      · isplitl [H0 H3 H4 Hv0 Hv1]
        · isplitr [Hv1]
          · isplitl [H0]; · iexact H0
            isplitl [Hv0]; · iexact Hv0
            isplitl [H3]; · iexact H3
            iexact H4
          iexact Hv1
        isplitl [Hos]; · iexact Hos
        iexists _; iexact Hp
      iexact H1)
    (hin := fun c => by
      rw [show (dats m P 0 c).Φ 0 = startP c m from by dsimp only [dats]; rfl]
      unfold startP restP
      iintro ⟨⟨⟨HR, HO⟩, Hos, Hp⟩, Hr⟩
      isplitl [HR]; · iexact HR
      isplitl [HO]; · iexact HO
      isplitl [Hos]; · iexact Hos
      isplitl [Hr] <;> iassumption)
    (hout := fun c => by
      rw [show (dats m P 0 c).Φ (Fin.last cfg0.N) = endP c m P from by dsimp only [dats]; rw [show (Fin.last cfg0.N).val = 1 from N_0]; rfl]
      unfold endP restP
      iintro ⟨HR, HO, Hos, Hr, Hp⟩
      isplitl [HR HO Hp]
      · isplitl [HR HO]
        · isplitl [HR] <;> iassumption
        iexact Hp
      isplitl [Hos] <;> iassumption)
    (QY := fun c s => s.mem ((c.tc : Thread nD τ).loc main_arg0) = V m c main_arg0
      ∧ s.mem ((c.tc : Thread nD τ).loc main_arg1) = V m c main_arg1
      ∧ s.mem ((c.tc : Thread nD τ).loc main_arg3) = V m c main_arg3
      ∧ s.mem ((c.tc : Thread nD τ).loc main_arg4) = V m c main_arg4
      ∧ Result c m P (s.mem ((c.tc : Thread nD τ).loc main_v1)))
    (hY := fun c s' => by
      unfold opsP memP
      rw [show mX.view.set = Finset.univ from View.set_whole _, show mXs.view.set = Finset.univ from View.set_whole _,
        show mW.view.set = Finset.univ from View.set_whole _, show mWs.view.set = Finset.univ from View.set_whole _,
        show mO.view.set = Finset.univ from View.set_whole _]
      iintro ⟨⟨⟨⟨H0, -, H3, H4⟩, ⟨%g, %hg, Hv1⟩⟩, -⟩, H1, HSI⟩
      ihave H := (read_one _ _ s') $$ [H0 HSI]
      · isplitl [H0]; · iexact H0
        iexact HSI
      icases H with ⟨%h0, HSI⟩
      ihave H := (read_one _ _ s') $$ [H1 HSI]
      · isplitl [H1]; · iexact H1
        iexact HSI
      icases H with ⟨%h1, HSI⟩
      ihave H := (read_one _ _ s') $$ [H3 HSI]
      · isplitl [H3]; · iexact H3
        iexact HSI
      icases H with ⟨%h3, HSI⟩
      ihave H := (read_one _ _ s') $$ [H4 HSI]
      · isplitl [H4]; · iexact H4
        iexact HSI
      icases H with ⟨%h4, HSI⟩
      ihave H := (read_one _ _ s') $$ [Hv1 HSI]
      · isplitl [Hv1]; · iexact Hv1
        iexact HSI
      icases H with ⟨%hv, HSI⟩
      imodintro
      isplitr
      · ipureintro; exact ⟨h0, h1, h3, h4, by rw [show s'.mem.mem ((c.tc : Thread nD τ).loc main_v1) = g from hv]; exact hg⟩
      iexact HSI)
    (hQ := fun s h hz => ⟨fun c => ⟨⟨(h c).2.1.trans (V_main_arg0 m c), (h c).2.2.1.trans (V_main_arg1 m c),
        ((h c).1 0).trans (((dats m P 0 c).arrAt_in 0 rfl _).trans ((A_eq c m P 0).trans (V_main_arg2 m c))),
        (h c).2.2.2.1.trans (V_main_arg3 m c), (h c).2.2.2.2.1.trans (V_main_arg4 m c)⟩, (h c).2.2.2.2.2⟩, hz⟩)

end Cert.KernelIdeal.Moe

end
-- ==== Proof.KernelIdeal.FrameRun.lean ====
/- The frame: the kernel run from any memory whose sizes are in range ends with its arguments unchanged and every semaphore at zero. -/
module

public import proofs.«01_k».proof.Proof.KernelIdeal.Launch
public import proofs.«01_k».proof.Proof.Moe.Sizes

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UC sig nD τ) ℕ

variable (m : (ℓ : Loc nD τ sig) → Buf (Elt F) ℓ) (ρ : Dev nD → PrngReg)

/-- Sizes in range, nothing asked of the result. -/
theorem frame_run (h : ∀ (c : Dev nD) (i : S8.Idx), (m ((c : Thread nD τ).loc main_arg2) i : BitVec 32).toNat ≤ 268435455) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => (hr.1 c).1, hr.2⟩)
    (run_main m ρ (fun c => (exists_names (sizes (tbl c m 0) (tbl c m 1) (tbl c m 2) (tbl c m 3) (tbl c m 4) (tbl c m 5) (tbl c m 6) (tbl c m 7))).choose) (fun _ _ _ _ _ => True)
      fun c => ⟨inRange_of (tbl c m) fun k => h c _, (exists_names _).choose_spec, trivial, ⟨fun _ _ _ _ _ _ _ _ _ _ _ _ _ => trivial, fun _ _ _ _ _ _ _ _ => trivial, fun _ _ _ => trivial⟩⟩)

end Cert.KernelIdeal.Moe

end
-- ==== Proof.Moe.Mask.lean ====
/- A choice by a range of rows, as both programs spell it. -/
module

public import proofs.«01_k».proof.Proof.Moe.Words

@[expose] public section

namespace Cert.Moe

open Idealize.ShloMosaic

/-- The choice by `s ≤ r` and `r < e`, on words below `2^31`. -/
theorem select_range {α : Type} (r s e : BitVec 32) (hr : r.toNat < 2147483648) (hs : s.toNat < 2147483648) (he : e.toNat < 2147483648) (a b : α) :
    Scalar.select (IntOp.andi (IntOp.cmpi .sge r s) (IntOp.cmpi .slt r e)) a b = if s.toNat ≤ r.toNat ∧ r.toNat < e.toNat then a else b := by
  have h1 := toInt_of r hr
  have h2 := toInt_of s hs
  have h3 := toInt_of e he
  have e1 : BitVec.sle s r = decide (s.toNat ≤ r.toNat) := by
    simp only [BitVec.sle, h1, h2, Int.ofNat_le]
  have e2 : BitVec.slt r e = decide (r.toNat < e.toNat) := by
    simp only [BitVec.slt, h1, h3, Int.ofNat_lt]
  show (if IntOp.andi (BitVec.ofBool (BitVec.sle s r)) (BitVec.ofBool (BitVec.slt r e)) = 1#1 then a else b) = _
  rw [e1, e2]
  by_cases c1 : s.toNat ≤ r.toNat <;> by_cases c2 : r.toNat < e.toNat
  · rw [decide_eq_true c1, decide_eq_true c2, if_pos (by decide), if_pos ⟨c1, c2⟩]
  · rw [decide_eq_true c1, decide_eq_false c2, if_neg (by decide), if_neg fun h => c2 h.2]
  · rw [decide_eq_false c1, decide_eq_true c2, if_neg (by decide), if_neg fun h => c1 h.1]
  · rw [decide_eq_false c1, decide_eq_false c2, if_neg (by decide), if_neg fun h => c1 h.1]

end Cert.Moe
-- ==== Proof.Moe.Spec.lean ====
/- The product both programs compute, element by element. -/
module

public import proofs.«01_k».proof.Proof.Moe.Words
public import Mathlib.Data.EReal.Operations

@[expose] public section

noncomputable section

namespace Cert.Moe

/-- Row `r` is one of group `e`'s rows. -/
def Own (gs : ℕ → ℕ) (e r : ℕ) : Prop := start gs e ≤ r ∧ r < start gs e + gs e

theorem start_succ (gs : ℕ → ℕ) (n : ℕ) : start gs (n + 1) = start gs n + gs n := rfl

/-- A row is in at most one group. -/
theorem Own.unique {gs : ℕ → ℕ} {e e' r : ℕ} (h : Own gs e r) (h' : Own gs e' r) : e = e' := by
  rcases Nat.lt_trichotomy e e' with hl | rfl | hl
  · have h1 := start_mono gs (show e + 1 ≤ e' from hl)
    rw [start_succ] at h1
    have := h.2; have := h'.1; omega
  · rfl
  · have h1 := start_mono gs (show e' + 1 ≤ e from hl)
    rw [start_succ] at h1
    have := h.1; have := h'.2; omega

/-- A group that has a row has rows. -/
theorem Own.pos {gs : ℕ → ℕ} {e r : ℕ} (h : Own gs e r) : 0 < gs e := by
  have := h.1; have := h.2; omega

/-- What is computed for row `r` of the activations `x` by group `e`, at column `j`: the row times the group's weights `w`, times the row's scale `xs`,
    times the group's scale `ws` of that column. -/
def cell (x : Fin 256 → Fin 2048 → EReal) (xs : Fin 256 → EReal) (w : Fin 8 → Fin 2048 → Fin 2816 → EReal) (ws : Fin 8 → Fin 2816 → EReal)
    (e : Fin 8) (r : Fin 256) (j : Fin 2816) : EReal :=
  (∑ k : Fin 2048, x r k * w e k j) * xs r * ws e j

/-- `v` is the result at row `r` and column `j`, `C e` being what group `e` computes there: the value of the row's group, and zero where the row is in no group. -/
def IsVal (gs : ℕ → ℕ) (C : Fin 8 → EReal) (r : ℕ) (v : EReal) : Prop :=
  (∀ e : Fin 8, Own gs e.val r → v = C e) ∧ ((∀ e : Fin 8, ¬Own gs e.val r) → v = 0)

/-- There is one result. -/
theorem IsVal.unique {gs : ℕ → ℕ} {C : Fin 8 → EReal} {r : ℕ} {v v' : EReal} (h : IsVal gs C r v) (h' : IsVal gs C r v') : v = v' := by
  by_cases he : ∃ e : Fin 8, Own gs e.val r
  · obtain ⟨e, he⟩ := he
    exact (h.1 e he).trans (h'.1 e he).symm
  · exact (h.2 fun e h => he ⟨e, h⟩).trans (h'.2 fun e h => he ⟨e, h⟩).symm

end Cert.Moe

end
-- ==== Proof.KernelIdeal.Payload.lean ====
/- What the body stores, element by element. -/
module

public import proofs.«01_k».proof.Proof.KernelIdeal.Expert
public import proofs.«01_k».proof.Proof.Moe.Mask
public import proofs.«01_k».proof.Proof.Moe.Spec
public import Idealize.ShloMosaic.Lib.Pointwise

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- One window, the row scales being constant along their rows: inside the group's rows the product of the row with the slab, scaled, and elsewhere what was there. -/
theorem pay2_at {s g : BitVec 32} (hs : s.toNat ≤ 1879048185) (hg : g.toNat ≤ 268435455) (ws : Vec Ideal S1x256 .f32) (k : Fin (k0_t5_loop s g).trips)
    (x : Vec Ideal S128x2048 .fp8e4m3) (w : Vec Ideal S1x2048x256 .fp8e4m3) (b : Vec Ideal S128x128 .f32) (o : Vec Ideal S128x256 .bf16) (p : Fin 128) (q : Fin 256)
    (bs : EReal) (hb : ∀ i : Fin 128, b (ix2 p i) = bs) (r : ℕ) (hr : r = min (s.toNat / 32 * 32 + k.val * 128) 128 + p.val) :
    (k0_pay2 (F := Ideal) s g (endW s g) (baseW s) ws k x w b o (ix2 p q) : EReal)
      = if s.toNat ≤ r ∧ r < s.toNat + g.toNat then (∑ i : Fin 2048, (x (ix2 p i) : EReal) * w (ix3 0 i q)) * bs * ws (ix2 0 q) else o (ix2 p q) := by
  have h1 := row_eq hs hg k
  have h2 := endW_toNat hs hg
  have hp := p.isLt
  have h3 : (BitVec.ofNat 32 p.val).toNat = p.val := by rw [BitVec.toNat_ofNat]; exact Nat.mod_eq_of_lt (by omega)
  have h4 : (IntOp.addi (rowW s k.val) (BitVec.ofNat 32 p.val)).toNat = r :=
    (addi_toNat (rowW s k.val) (BitVec.ofNat 32 p.val) (by rw [h1, h3]; omega)).trans (by rw [h1, h3, hr])
  have h5 := select_range (IntOp.addi (rowW s k.val) (BitVec.ofNat 32 p.val)) s (endW s g) (by rw [h4]; omega) (by omega) (by rw [h2]; omega)
    ((∑ i : Fin 2048, (x (ix2 p i) : EReal) * w (ix3 0 i q)) * bs * ws (ix2 0 q)) (o (ix2 p q) : EReal)
  rw [h4, h2] at h5
  refine Eq.trans ?_ (h5.trans ?_)
  · pointwise [k0_pay2, hb]
    rw [dite_eq_ite, ite_self]; rfl
  · by_cases hc : s.toNat ≤ r ∧ r < s.toNat + g.toNat
    · rw [if_pos hc, if_pos ⟨hc.1, by omega⟩]
    · rw [if_neg hc, if_neg fun h => hc ⟨h.1, by omega⟩]

/-- The row scales of rows 0 to 127, each repeated along its row, -/
theorem pay7_at (v : Vec Ideal S1x128 .f32) (i j : Fin 128) : k0_pay7 (F := Ideal) v (ix2 i j) = v (ix2 0 i) := by
  pointwise [k0_pay7]

/-- of rows 128 to 255, -/
theorem pay8_at (v : Vec Ideal S1x128 .f32) (i j : Fin 128) : k0_pay1 (F := Ideal) (k0_pay8 v) (ix2 i j) = v (ix2 0 i) := by
  pointwise [k0_pay8, k0_pay1]

/-- and the zeros the output starts from. -/
theorem pay6_at (r : Fin 256) (j : Fin 2816) : (k0_pay6 (F := Ideal) (ix2 r j) : EReal) = 0 := by
  pointwise [k0_pay6]

end Cert.KernelIdeal.Moe

end
-- ==== Proof.KernelIdeal.Contents.lean ====
/- What a window reads, element by element, off the arguments. -/
module

public import proofs.«01_k».proof.Proof.KernelIdeal.Launch
public import proofs.«01_k».proof.Proof.KernelIdeal.Payload

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A load of a box reads, at a place of the box, what is there. -/
theorem readAt_at {sp : Space} {s : Shape} {e : EltTy} (v : View sig .tc sp s e) {off size : Fin s.rank → ℕ} (inb : ∀ a, off a + size a ≤ s.size a)
    (f : v.ty.Contents (Elt Ideal)) (x : (Rect.unit (s := s) off size inb).toLoadRect.shape.Idx) (y : s.Idx) (h : ∀ a, (y a).val = off a + (x a).val) :
    View.readAt (Elt Ideal) v (Rect.unit (s := s) off size inb).toLoadRect f x = v.read (Elt Ideal) f y := by
  refine congrArg (v.read (Elt Ideal) f) (funext fun a => Fin.ext ?_)
  show off a + 1 * (x a).val = (y a).val
  rw [h]; omega

variable (c : Dev nD) (m : (ℓ : Loc nD τ sig) → Buf (Elt Ideal) ℓ)

/-- The activations, -/
def xF (r : Fin 256) (k : Fin 2048) : EReal := m ((c : Thread nD τ).loc main_arg0) (ix2 r k)
/-- the row scales, -/
def xsF (r : Fin 256) : EReal := m ((c : Thread nD τ).loc main_arg1) (ix1 r)
/-- the weights, -/
def wF (e : Fin 8) (k : Fin 2048) (j : Fin 2816) : EReal := m ((c : Thread nD τ).loc main_arg3) (ix3 e k j)
/-- and the column scales, as functions of their places. -/
def wsF (e : Fin 8) (j : Fin 2816) : EReal := m ((c : Thread nD τ).loc main_arg4) (ix2 e j)

/-- The rows of a window. -/
theorem x_at {off : Fin 2 → ℕ} (ho : ∀ a, off a + S128x2048.size a ≤ S256x2048.size a) (r0 : ℕ) (h : off = ![r0, 0]) (p : Fin 128) (i : Fin 2048)
    (r : Fin 256) (hr : r.val = r0 + p.val) :
    (View.readAt (Elt Ideal) vX.view (Rect.unit (s := S256x2048) off S128x2048.size ho).toLoadRect (brought c mX vX (fxV c m)) (ix2 p i) : EReal) = xF c m r i := by
  subst h
  rw [readAt_at vX.view ho _ (ix2 p i) (ix2 r i : S256x2048.Idx) (by intro a; fin_cases a; exacts [hr, (Nat.zero_add _).symm])]
  rw [View.read_writes_whole]
  show fxV c m (ix2 r i) = xF c m r i
  rw [show fxV c m = m ((c : Thread nD τ).loc main_arg0) from V_main_arg0 m c]; rfl

/-- The slab of a group's weights. -/
theorem w_at (A : ℕ → Fin 8) (a : ℕ) (t4 : Fin k0_t4_loop.trips) (i : Fin 2048) (q : Fin 256) (j : Fin 2816) (hj : j.val = t4.val * 256 + q.val) :
    (slabOf c (fwV c m) A a t4 (ix3 0 i q) : EReal) = wF c m (A a) i j := by
  rw [slabOf, slabVec, readAt_at mW.view (inb_slabOf A a t4) _ (ix3 0 i q) (ix3 (A a) i j : S8x2048x2816.Idx) (by
    intro a; fin_cases a; exacts [(Nat.add_zero _).symm, (Nat.zero_add _).symm, hj])]
  show fwV c m (ix3 (A a) i j) = _
  rw [show fwV c m = m ((c : Thread nD τ).loc main_arg3) from V_main_arg3 m c]; rfl

/-- The column scales of a group's slab. -/
theorem ws_at (v98 : BitVec 32) (hw17 : k0_chk17 v98) (t4 : Fin k0_t4_loop.trips) (e : Fin 8) (he : v98.toNat = e.val) (q : Fin 256) (j : Fin 2816)
    (hj : j.val = t4.val * 256 + q.val) :
    (wsRead c (brought c mWs vWs (fmV c m)) v98 hw17 t4 (ix2 0 q) : EReal) = wsF c m e j := by
  rw [wsRead, readAt_at vWs.view (size := S1x256.size) _ _ (ix2 0 q) (ix2 e j : S8x2816.Idx) (by
    intro a
    refine Eq.trans ?_ (congrArg (· + (ix2 0 q a : Fin _).val) (congrFun (off36_eq v98 t4) a).symm)
    fin_cases a; exacts [he.symm.trans (Nat.add_zero _).symm, hj])]
  rw [View.read_writes_whole]
  show fmV c m (ix2 e j) = wsF c m e j
  rw [show fmV c m = m ((c : Thread nD τ).loc main_arg4) from V_main_arg4 m c]; rfl

/-- The row scales in two rows of 128, as the host lays them out. -/
theorem v0_at (h : Fin 2) (i : Fin 128) (r : Fin 256) (hr : r.val = h.val * 128 + i.val) : (fsV c m (ix2 h i) : EReal) = xsF c m r := by
  show (V m c main_v0 (ix2 h i) : EReal) = _
  have e : V m c main_v0 = shapeCast S2x128 (m ((c : Thread nD τ).loc main_arg1)) shapeCasts_S256_S2x128 := by
    simp only [V, hostOps0]; after_results; try rfl
  rw [e]
  have : (shapeCast S2x128 (m ((c : Thread nD τ).loc main_arg1) : Vec Ideal S256 .f32) shapeCasts_S256_S2x128 (ix2 h i) : EReal) = xsF c m r := by
    pointwise
    exact congrArg (fun x => (m ((c : Thread nD τ).loc main_arg1) (ix1 x) : EReal)) (Fin.ext hr.symm)
  exact this

/-- One row of them. -/
theorem xsRow_at (h : ℕ) (hi : ∀ a, (![h, 0] : Fin 2 → ℕ) a + S1x128.size a ≤ S2x128.size a) (h' : Fin 2) (eh : h'.val = h) (i : Fin 128) (r : Fin 256)
    (hr : r.val = h * 128 + i.val) : (xsRow c (fsV c m) h hi (ix2 0 i) : EReal) = xsF c m r := by
  rw [xsRow, View.readCov, readAt_at vXs.view hi _ (ix2 0 i) (ix2 h' i : S2x128.Idx) (by
    intro a; fin_cases a; exacts [eh.trans (Nat.add_zero _).symm, (Nat.zero_add _).symm])]
  rw [View.read_writes_whole]
  exact v0_at c m h' i r (by rw [eh]; exact hr)

/-- The row scales, each repeated along its row. -/
theorem scales_at (r : Fin 256) (i : Fin 128) : (vB.view.read (Elt Ideal) (scales c (fsV c m)) (ix2 r i) : EReal) = xsF c m r := by
  have hr := r.isLt
  by_cases h : r.val < 128
  · rw [scales, View.read_writes_cons_unit_of_not_mem vB.view _ _ _ _ (ix2 r i : S256x128.Idx) rfl (0 : Fin 2) (.inl h)]
    rw [View.read_writes_cons_unit_of_mem vB.view (off := ![0, 0]) (off' := ![0, 0]) (size := S128x128.size) _ _ _ [] (ix2 r i : S256x128.Idx) (ix2 ⟨r.val, h⟩ i : S128x128.Idx) rfl (by
      intro a; fin_cases a; exacts [(Nat.zero_add _).symm, (Nat.zero_add _).symm])]
    exact (pay7_at _ ⟨r.val, h⟩ i).trans (xsRow_at c m 0 _ 0 rfl ⟨r.val, h⟩ r (by show r.val = 0 * 128 + r.val; omega))
  · have h2 : r.val - 128 < 128 := by omega
    rw [scales, View.read_writes_cons_unit_of_mem vB.view (off := ![128, 0]) (off' := ![128, 0]) (size := S128x128.size) _ _ _ _ (ix2 r i : S256x128.Idx) (ix2 ⟨r.val - 128, h2⟩ i : S128x128.Idx) rfl (by
      intro a; fin_cases a
      · show r.val = 128 + (r.val - 128); omega
      · exact (Nat.zero_add _).symm)]
    exact (pay8_at _ ⟨r.val - 128, h2⟩ i).trans (xsRow_at c m 1 _ 1 rfl ⟨r.val - 128, h2⟩ r (by show r.val = 1 * 128 + (r.val - 128); omega))

/-- The scales of a window's rows. -/
theorem b_at {off : Fin 2 → ℕ} (ho : ∀ a, off a + S128x128.size a ≤ S256x128.size a) (r0 : ℕ) (h : off = ![r0, 0]) (p i : Fin 128)
    (r : Fin 256) (hr : r.val = r0 + p.val) :
    (View.readAt (Elt Ideal) vB.view (Rect.unit (s := S256x128) off S128x128.size ho).toLoadRect (scales c (fsV c m)) (ix2 p i) : EReal) = xsF c m r := by
  subst h
  rw [readAt_at vB.view ho _ (ix2 p i) (ix2 r i : S256x128.Idx) (by intro a; fin_cases a; exacts [hr, (Nat.zero_add _).symm])]
  exact scales_at c m r i

/-- The output starts at zero. -/
theorem cleared_at (r : Fin 256) (j : Fin 2816) : (vO.view.read (Elt Ideal) (cleared c) (ix2 r j) : EReal) = 0 := by
  rw [cleared, View.read_writes_cons_unit_of_mem vO.view (off := ![0, 0]) (off' := ![0, 0]) (size := S256x2816.size) _ _ _ [] (ix2 r j : S256x2816.Idx) (ix2 r j : S256x2816.Idx) rfl (by
    intro a; fin_cases a; exacts [(Nat.zero_add _).symm, (Nat.zero_add _).symm])]
  exact pay6_at r j

end Cert.KernelIdeal.Moe

end
-- ==== Proof.Moe.Done.lean ====
/- Which elements of the result are computed at a point of the kernel's loops, and what each of the loops' steps adds. -/
module

public import proofs.«01_k».proof.Proof.Moe.Spec

@[expose] public section

noncomputable section

namespace Cert.Moe

variable (gs : ℕ → ℕ) (A : ℕ → Fin 8) (C : Fin 8 → EReal)

/-- At group `A t1`, slab `t4` and window `k`, the element at row `r` and column `j` of group `e` is computed: the group has been gone through, or the
    kernel is at it and has gone past the column's slab, or is in that slab and past the row. -/
def Done (t1 t4 k : ℕ) (e : Fin 8) (r j : ℕ) : Prop :=
  (∃ a, a < t1 ∧ A a = e) ∨ (A t1 = e ∧ (j / 256 < t4 ∨ (j / 256 = t4 ∧ r < start gs e.val / 32 * 32 + 128 * k)))

/-- The element at row `r` and column `j` is `v`: what its group computes where that is done, zero where it is not. -/
def Inv (t1 t4 k r j : ℕ) (v : EReal) : Prop :=
  (∀ e : Fin 8, Own gs e.val r → Done gs A t1 t4 k e r j → v = C e) ∧ ((∀ e : Fin 8, Own gs e.val r → ¬Done gs A t1 t4 k e r j) → v = 0)

variable {gs A C}

/-- Where the same is done, the same holds. -/
theorem Inv.of_iff {t1 t4 k t1' t4' k' r j : ℕ} {v : EReal} (h : Inv gs A C t1 t4 k r j v)
    (hi : ∀ e : Fin 8, Own gs e.val r → (Done gs A t1 t4 k e r j ↔ Done gs A t1' t4' k' e r j)) : Inv gs A C t1' t4' k' r j v :=
  ⟨fun e ho hd => h.1 e ho ((hi e ho).mpr hd), fun hn => h.2 fun e ho hd => hn e ho ((hi e ho).mp hd)⟩

/-- Nothing is done at the start. -/
theorem Inv.zero (r j : ℕ) : Inv gs A C 0 0 0 r j 0 := by
  refine ⟨fun e ho hd => ?_, fun _ => rfl⟩
  rcases hd with ⟨a, ha, _⟩ | ⟨_, h | ⟨_, h⟩⟩
  · omega
  · omega
  · have := ho.1; omega

/-- A window computes its rows of the group, in the columns of its slab. -/
theorem Inv.win {t1 t4 k r j : ℕ} {v v' : EReal} (hr : r < 256) (h : Inv gs A C t1 t4 k r j v)
    (hin : min (start gs (A t1).val / 32 * 32 + k * 128) 128 ≤ r → r < min (start gs (A t1).val / 32 * 32 + k * 128) 128 + 128 → j / 256 = t4 →
      Own gs (A t1).val r → v' = C (A t1))
    (hout : ¬(min (start gs (A t1).val / 32 * 32 + k * 128) 128 ≤ r ∧ r < min (start gs (A t1).val / 32 * 32 + k * 128) 128 + 128 ∧ j / 256 = t4 ∧
      Own gs (A t1).val r) → v' = v) : Inv gs A C t1 t4 (k + 1) r j v' := by
  by_cases hw : min (start gs (A t1).val / 32 * 32 + k * 128) 128 ≤ r ∧ r < min (start gs (A t1).val / 32 * 32 + k * 128) 128 + 128 ∧ j / 256 = t4 ∧
      Own gs (A t1).val r
  · obtain ⟨h1, h2, h3, h4⟩ := hw
    have hv := hin h1 h2 h3 h4
    refine ⟨fun e ho _ => ?_, fun hn => (hn (A t1) h4 (.inr ⟨rfl, .inr ⟨h3, by omega⟩⟩)).elim⟩
    rw [hv, Fin.ext (Own.unique h4 ho)]
  · rw [hout hw]
    refine h.of_iff fun e ho => ⟨?_, ?_⟩
    · rintro (h' | ⟨he, h' | ⟨h1, h2⟩⟩)
      · exact .inl h'
      · exact .inr ⟨he, .inl h'⟩
      · exact .inr ⟨he, .inr ⟨h1, by omega⟩⟩
    · rintro (h' | ⟨he, h' | ⟨h1, h2⟩⟩)
      · exact .inl h'
      · exact .inr ⟨he, .inl h'⟩
      · subst he
        refine .inr ⟨rfl, .inr ⟨h1, ?_⟩⟩
        by_contra hc
        exact hw ⟨by omega, by omega, h1, ho⟩

/-- Past a slab's last window the slab is done. -/
theorem Inv.slab {t1 t4 k r j : ℕ} {v : EReal} (hr : r < 256) (h : Inv gs A C t1 t4 k r j v)
    (hk : k = (min (start gs (A t1).val + gs (A t1).val) 256 + 127 - start gs (A t1).val / 32 * 32) / 128) : Inv gs A C t1 (t4 + 1) 0 r j v := by
  refine h.of_iff fun e ho => ⟨?_, ?_⟩
  · rintro (h' | ⟨he, h' | ⟨h1, h2⟩⟩)
    · exact .inl h'
    · exact .inr ⟨he, .inl (by omega)⟩
    · exact .inr ⟨he, .inl (by omega)⟩
  · rintro (h' | ⟨he, h' | ⟨h1, h2⟩⟩)
    · exact .inl h'
    · by_cases h3 : j / 256 < t4
      · exact .inr ⟨he, .inl h3⟩
      · subst he
        have := ho.1; have := ho.2
        exact .inr ⟨rfl, .inr ⟨by omega, by omega⟩⟩
    · have := ho.1; omega

/-- Past the last slab the group is done. -/
theorem Inv.expert {t1 r j : ℕ} {v : EReal} (hj : j < 2816) (h : Inv gs A C t1 11 0 r j v) : Inv gs A C (t1 + 1) 0 0 r j v := by
  refine h.of_iff fun e ho => ⟨?_, ?_⟩
  · rintro (⟨a, ha, h'⟩ | ⟨he, _⟩)
    · exact .inl ⟨a, by omega, h'⟩
    · exact .inl ⟨t1, by omega, he⟩
  · rintro (⟨a, ha, h'⟩ | ⟨he, h' | ⟨h1, h2⟩⟩)
    · by_cases hat : a = t1
      · subst hat; exact .inr ⟨h', .inl (by omega)⟩
      · exact .inl ⟨a, by omega, h'⟩
    · omega
    · have := ho.1; omega

/-- With every group that has rows gone through, the result is there. -/
theorem Inv.isVal {r j : ℕ} {v : EReal} (hA : ∀ a, a < cnt gs 8 → 0 < gs (A a).val ∧ cnt gs (A a).val = a) (h : Inv gs A C (cnt gs 8) 0 0 r j v) :
    IsVal gs C r v := by
  refine ⟨fun e ho => h.1 e ho (.inl ⟨cnt gs e.val, cnt_lt gs e.isLt ho.pos, ?_⟩), fun hn => h.2 fun e ho => (hn e ho).elim⟩
  obtain ⟨h1, h2⟩ := hA (cnt gs e.val) (cnt_lt gs e.isLt ho.pos)
  exact Fin.ext (cnt_inj gs h1 ho.pos h2)

end Cert.Moe

end
-- ==== Proof.KernelIdeal.Inv.lean ====
/- What the kernel's loops have computed, at real numbers: the steps keep it. -/
module

public import proofs.«01_k».proof.Proof.KernelIdeal.Contents
public import proofs.«01_k».proof.Proof.Moe.Done

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (c : Dev nD) (m : (ℓ : Loc nD τ sig) → Buf (Elt Ideal) ℓ)

/-- The group sizes, -/
abbrev gsF : ℕ → ℕ := sizes (tbl c m 0) (tbl c m 1) (tbl c m 2) (tbl c m 3) (tbl c m 4) (tbl c m 5) (tbl c m 6) (tbl c m 7)
/-- and what a group computes at a place. -/
abbrev cF (e : Fin 8) (r : Fin 256) (j : Fin 2816) : EReal := cell (xF c m) (xsF c m) (wF c m) (wsF c m) e r j

/-- What holds of the output at group `A t1`, slab `t4` and window `k`. -/
def outInv (A : ℕ → Fin 8) (t1 t4 k : ℕ) (fo : Buf (Elt Ideal) (vO.view.loc (c : Thread nD τ))) : Prop :=
  ∀ (r : Fin 256) (j : Fin 2816), Inv (gsF c m) A (fun e => cF c m e r j) t1 t4 k r.val j.val (vO.view.read (Elt Ideal) fo (ix2 r j) : EReal)

variable (H : InRange (tbl c m 0) (tbl c m 1) (tbl c m 2) (tbl c m 3) (tbl c m 4) (tbl c m 5) (tbl c m 6) (tbl c m 7))
include H

/-- A group's first row is a small word, -/
theorem s_le (e : Fin 8) : start (gsF c m) e.val ≤ 1879048185 := by
  have h1 := start_le (gsF c m) 268435455 H e.val
  have := e.isLt
  omega

section Window
variable (A : ℕ → Fin 8) (t1 : Fin (k0_t1_loop (tbl c m 0) (tbl c m 1) (tbl c m 2) (tbl c m 3) (tbl c m 4) (tbl c m 5) (tbl c m 6) (tbl c m 7)).trips) (v98 : BitVec 32) (hw17 : k0_chk17 v98) (v105 v107 : BitVec 32)
  (hw20 : k0_chk20 (tbl c m 0) (tbl c m 1) (tbl c m 2) (tbl c m 3) (tbl c m 4) (tbl c m 5) (tbl c m 6) (tbl c m 7) t1 v105 v107) (t4 : Fin k0_t4_loop.trips) (k : Fin (k0_t5_loop v105 v107).trips) (fo : Buf (Elt Ideal) (vO.view.loc (c : Thread nD τ)))
  (h98 : v98.toNat = (A t1.val).val) (h105 : v105.toNat = start (gsF c m) (A t1.val).val) (h107 : v107.toNat = gsF c m (A t1.val).val)

/-- The output after a window. -/
abbrev afterWin : Buf (Elt Ideal) (vO.view.loc (c : Thread nD τ)) :=
  winOut c (tbl c m 0) (tbl c m 1) (tbl c m 2) (tbl c m 3) (tbl c m 4) (tbl c m 5) (tbl c m 6) (tbl c m 7) (brought c mX vX (fxV c m)) (scales c (fsV c m)) t1 v105 v107 hw20 (endW v105 v107) (baseW v105) t4
    (wsRead c (brought c mWs vWs (fmV c m)) v98 hw17 t4) (slabOf c (fwV c m) A t1.val t4) k fo

include h98 h105 h107

/-- In the window. -/
theorem win_in (r : Fin 256) (j : Fin 2816) (h1 : min (start (gsF c m) (A t1.val).val / 32 * 32 + k.val * 128) 128 ≤ r.val)
    (h2 : r.val < min (start (gsF c m) (A t1.val).val / 32 * 32 + k.val * 128) 128 + 128) (h3 : j.val / 256 = t4.val) :
    (vO.view.read (Elt Ideal) (afterWin c m A t1 v98 hw17 v105 v107 hw20 t4 k fo) (ix2 r j) : EReal)
      = if start (gsF c m) (A t1.val).val ≤ r.val ∧ r.val < start (gsF c m) (A t1.val).val + gsF c m (A t1.val).val then cF c m (A t1.val) r j
        else vO.view.read (Elt Ideal) fo (ix2 r j) := by
  have hs : v105.toNat ≤ 1879048185 := h105.trans_le (s_le c m H _)
  have hg : v107.toNat ≤ 268435455 := h107.trans_le (H _)
  have hoff := off40_eq hs hg t4 k
  rw [← h105] at h1 h2
  have hr0 : r.val = min (v105.toNat / 32 * 32 + k.val * 128) 128 + (r.val - min (v105.toNat / 32 * 32 + k.val * 128) 128) := by omega
  have hp : r.val - min (v105.toNat / 32 * 32 + k.val * 128) 128 < 128 := by omega
  have hj0 : j.val = t4.val * 256 + (j.val - t4.val * 256) := by omega
  have hq : j.val - t4.val * 256 < 256 := by omega
  have e1 := View.read_writes_cons_unit_of_mem vO.view (off := k0_off40 v105 v107 t4 k) (size := S128x256.size) fo
    (k0_off40_inb (tbl c m 0) (tbl c m 1) (tbl c m 2) (tbl c m 3) (tbl c m 4) (tbl c m 5) (tbl c m 6) (tbl c m 7) t1 v105 v107 hw20 t4 k)
    (k0_pay2 (F := Ideal) v105 v107 (endW v105 v107) (baseW v105) (wsRead c (brought c mWs vWs (fmV c m)) v98 hw17 t4) k
      (View.readAt (Elt Ideal) vX.view (Rect.unit (s := S256x2048) (k0_off37 v105 v107 k) S128x2048.size (k0_off37_inb (tbl c m 0) (tbl c m 1) (tbl c m 2) (tbl c m 3) (tbl c m 4) (tbl c m 5) (tbl c m 6) (tbl c m 7) t1 v105 v107 hw20 k)).toLoadRect (brought c mX vX (fxV c m)))
      (slabOf c (fwV c m) A t1.val t4)
      (View.readAt (Elt Ideal) vB.view (Rect.unit (s := S256x128) (k0_off39 v105 v107 k) S128x128.size (k0_off39_inb (tbl c m 0) (tbl c m 1) (tbl c m 2) (tbl c m 3) (tbl c m 4) (tbl c m 5) (tbl c m 6) (tbl c m 7) t1 v105 v107 hw20 k)).toLoadRect (scales c (fsV c m)))
      (View.readAt (Elt Ideal) vO.view (Rect.unit (s := S256x2816) (k0_off40 v105 v107 t4 k) S128x256.size (k0_off40_inb (tbl c m 0) (tbl c m 1) (tbl c m 2) (tbl c m 3) (tbl c m 4) (tbl c m 5) (tbl c m 6) (tbl c m 7) t1 v105 v107 hw20 t4 k)).toLoadRect fo))
    [] (ix2 r j : S256x2816.Idx) (ix2 ⟨_, hp⟩ ⟨_, hq⟩ : S128x256.Idx) hoff (by intro a; fin_cases a; exacts [hr0, hj0])
  refine e1.trans ?_
  have e2 := pay2_at hs hg (wsRead c (brought c mWs vWs (fmV c m)) v98 hw17 t4) k
      (View.readAt (Elt Ideal) vX.view (Rect.unit (s := S256x2048) (k0_off37 v105 v107 k) S128x2048.size (k0_off37_inb (tbl c m 0) (tbl c m 1) (tbl c m 2) (tbl c m 3) (tbl c m 4) (tbl c m 5) (tbl c m 6) (tbl c m 7) t1 v105 v107 hw20 k)).toLoadRect (brought c mX vX (fxV c m)))
      (slabOf c (fwV c m) A t1.val t4)
      (View.readAt (Elt Ideal) vB.view (Rect.unit (s := S256x128) (k0_off39 v105 v107 k) S128x128.size (k0_off39_inb (tbl c m 0) (tbl c m 1) (tbl c m 2) (tbl c m 3) (tbl c m 4) (tbl c m 5) (tbl c m 6) (tbl c m 7) t1 v105 v107 hw20 k)).toLoadRect (scales c (fsV c m)))
      (View.readAt (Elt Ideal) vO.view (Rect.unit (s := S256x2816) (k0_off40 v105 v107 t4 k) S128x256.size (k0_off40_inb (tbl c m 0) (tbl c m 1) (tbl c m 2) (tbl c m 3) (tbl c m 4) (tbl c m 5) (tbl c m 6) (tbl c m 7) t1 v105 v107 hw20 t4 k)).toLoadRect fo)
      ⟨_, hp⟩ ⟨_, hq⟩ (xsF c m r)
      (fun i => b_at c m (k0_off39_inb (tbl c m 0) (tbl c m 1) (tbl c m 2) (tbl c m 3) (tbl c m 4) (tbl c m 5) (tbl c m 6) (tbl c m 7) t1 v105 v107 hw20 k) _ (off39_eq hs hg k) ⟨_, hp⟩ i r hr0) r.val hr0
  refine e2.trans ?_
  refine if_congr (by rw [h105, h107]) ?_ ?_
  · refine congrArg₂ (· * ·) (congrArg (· * xsF c m r) (Finset.sum_congr rfl fun i _ => ?_)) ?_
    · exact congrArg₂ (· * ·) (x_at c m (k0_off37_inb (tbl c m 0) (tbl c m 1) (tbl c m 2) (tbl c m 3) (tbl c m 4) (tbl c m 5) (tbl c m 6) (tbl c m 7) t1 v105 v107 hw20 k) _ (off37_eq hs hg k) ⟨_, hp⟩ i r hr0) (w_at c m A t1.val t4 i ⟨_, hq⟩ j hj0)
    · exact ws_at c m v98 hw17 t4 (A t1.val) h98 ⟨_, hq⟩ j hj0
  · refine readAt_at vO.view (k0_off40_inb (tbl c m 0) (tbl c m 1) (tbl c m 2) (tbl c m 3) (tbl c m 4) (tbl c m 5) (tbl c m 6) (tbl c m 7) t1 v105 v107 hw20 t4 k) fo (ix2 ⟨_, hp⟩ ⟨_, hq⟩ : S128x256.Idx) (ix2 r j : S256x2816.Idx) fun a => ?_
    refine Eq.trans ?_ (congrArg (· + ((ix2 ⟨_, hp⟩ ⟨_, hq⟩ : S128x256.Idx) a).val) (congrFun hoff a).symm)
    fin_cases a; exacts [hr0, hj0]

/-- Outside it. -/
theorem win_out (r : Fin 256) (j : Fin 2816) (h : ¬(min (start (gsF c m) (A t1.val).val / 32 * 32 + k.val * 128) 128 ≤ r.val
      ∧ r.val < min (start (gsF c m) (A t1.val).val / 32 * 32 + k.val * 128) 128 + 128 ∧ j.val / 256 = t4.val)) :
    (vO.view.read (Elt Ideal) (afterWin c m A t1 v98 hw17 v105 v107 hw20 t4 k fo) (ix2 r j) : EReal) = vO.view.read (Elt Ideal) fo (ix2 r j) := by
  have hs : v105.toNat ≤ 1879048185 := h105.trans_le (s_le c m H _)
  have hg : v107.toNat ≤ 268435455 := h107.trans_le (H _)
  have hoff := off40_eq hs hg t4 k
  rw [← h105] at h
  by_cases hr : r.val < min (v105.toNat / 32 * 32 + k.val * 128) 128 ∨ min (v105.toNat / 32 * 32 + k.val * 128) 128 + 128 ≤ r.val
  · exact View.read_writes_cons_unit_of_not_mem vO.view (size := S128x256.size) fo _ _ [] (ix2 r j : S256x2816.Idx) hoff (0 : Fin 2) hr
  · have hj : j.val < t4.val * 256 ∨ t4.val * 256 + 256 ≤ j.val := by omega
    exact View.read_writes_cons_unit_of_not_mem vO.view (size := S128x256.size) fo _ _ [] (ix2 r j : S256x2816.Idx) hoff (1 : Fin 2) hj

end Window

/-- The steps of the loops keep what holds of the output. -/
theorem out_steps (A : ℕ → Fin 8) :
    Steps c (fwV c m) (tbl c m 0) (tbl c m 1) (tbl c m 2) (tbl c m 3) (tbl c m 4) (tbl c m 5) (tbl c m 6) (tbl c m 7) A (brought c mWs vWs (fmV c m)) (brought c mX vX (fxV c m)) (scales c (fsV c m)) (outInv c m A) where
  win := by
    intro t1 v98 hw17 v105 v107 hw20 t4 k fo h98 h105 h107 hP r j
    refine (hP r j).win r.isLt (fun h1 h2 h3 h4 => ?_) fun hn => ?_
    · exact (win_in c m H A t1 v98 hw17 v105 v107 hw20 t4 k fo h98 h105 h107 r j h1 h2 h3).trans (if_pos h4)
    · by_cases hw : min (start (gsF c m) (A t1.val).val / 32 * 32 + k.val * 128) 128 ≤ r.val
        ∧ r.val < min (start (gsF c m) (A t1.val).val / 32 * 32 + k.val * 128) 128 + 128 ∧ j.val / 256 = t4.val
      · exact (win_in c m H A t1 v98 hw17 v105 v107 hw20 t4 k fo h98 h105 h107 r j hw.1 hw.2.1 hw.2.2).trans
          (if_neg fun h4 => hn ⟨hw.1, hw.2.1, hw.2.2, h4⟩)
      · exact win_out c m H A t1 v98 hw17 v105 v107 hw20 t4 k fo h98 h105 h107 r j hw
  slab := by
    intro t1 v105 v107 t4 fo h105 h107 hP r j
    have hs : v105.toNat ≤ 1879048185 := h105.trans_le (s_le c m H _)
    have hg : v107.toNat ≤ 268435455 := h107.trans_le (H _)
    refine (hP r j).slab r.isLt ?_
    rw [t5_trips hs hg, h105, h107]
  expert := fun t1 fo hP r j => (hP r j).expert j.isLt

omit H in
/-- They start from the cleared output. -/
theorem out_zero (A : ℕ → Fin 8) : outInv c m A 0 0 0 (cleared c) := by
  intro r j
  rw [cleared_at]
  exact Inv.zero _ _

end Cert.KernelIdeal.Moe

end
-- ==== Proof.KernelIdeal.ValueRun.lean ====
/- The kernel run at real numbers: the arguments unchanged and the result that of each row's group. -/
module

public import proofs.«01_k».proof.Proof.KernelIdeal.Inv
public import proofs.«01_k».proof.Proof.Moe.Sizes

@[expose] public section

set_option maxRecDepth 16384

noncomputable section

namespace Cert.KernelIdeal.Moe

open Cert.Moe Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

/-- What the kernel leaves in its result is, element by element, the value of the row's group. -/
theorem result_isVal (c : Dev nD) (A : Dev nD → ℕ → Fin 8) (hA : Names (gsF c m) (A c)) (g : Buf (Elt Ideal) (mO.view.loc (c : Thread nD τ)))
    (h : Result c m (fun c => outInv c m (A c)) g) (r : Fin 256) (j : Fin 2816) :
    IsVal (gsF c m) (fun e => cF c m e r j) r.val (g (ix2 r j) : EReal) := by
  obtain ⟨f, fm, hP, hg⟩ := h
  have e0 : mO.view.read (Elt Ideal) g = ReadAs.same.apply (vO.view.read (Elt Ideal) f) := by
    rw [hg]; exact View.read_writes_whole mO.view fm (ReadAs.same.apply (vO.view.read (Elt Ideal) f))
  have e1 : (g (ix2 r j) : EReal) = vO.view.read (Elt Ideal) f (ix2 r j) := congrFun e0 (ix2 r j)
  rw [e1]
  exact (hP r j).isVal hA

/-- The run. -/
theorem value_run (h : ∀ (c : Dev nD) (i : S8.Idx), (m ((c : Thread nD τ).loc main_arg2) i : BitVec 32).toNat ≤ 268435455) :
    θ_run defs (onTc (τ := τ) (main (F := Ideal))) ⟨m, fun _ => 0, ρ⟩ (fun r => ∀ c : Dev nD,
      (∀ (a : Fin 256) (j : Fin 2816), IsVal (gsF c m) (fun e => cF c m e a j) a.val (r.2.mem ((c.tc : Thread nD τ).loc main_v1) (ix2 a j) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hR (c : Dev nD) : InRange (tbl c m 0) (tbl c m 1) (tbl c m 2) (tbl c m 3) (tbl c m 4) (tbl c m 5) (tbl c m 6) (tbl c m 7) := inRange_of (tbl c m) fun k => h c _
  (θ_run defs _ _).mono (fun _ hr c => ⟨result_isVal m c (fun c => (exists_names (gsF c m)).choose) (exists_names (gsF c m)).choose_spec _ (hr.1 c).2, (hr.1 c).1⟩)
    (run_main m ρ (fun c => (exists_names (gsF c m)).choose) (fun c => outInv c m (exists_names (gsF c m)).choose)
      fun c => ⟨hR c, (exists_names (gsF c m)).choose_spec, out_zero c m _, out_steps c m (hR c) _⟩)

end Cert.KernelIdeal.Moe

end
-- ==== Proof.Moe.Pick.lean ====
/- Selecting by row ranges one group after another, as the reference does. -/
module

public import proofs.«01_k».proof.Proof.Moe.Mask
public import proofs.«01_k».proof.Proof.Moe.Spec

@[expose] public section

noncomputable section

namespace Cert.Moe

open Idealize.ShloMosaic

/-- The first row of group `n`, as a word. -/
def stW (G : ℕ → BitVec 32) : ℕ → BitVec 32
  | 0 => 0#32
  | n + 1 => Scalar.addi (stW G n) (G n)

/-- Whether row `r` is one of group `n`'s, as the reference tests it. -/
def mkW (G : ℕ → BitVec 32) (n r : ℕ) : BitVec 1 :=
  IntOp.andi (IntOp.cmpi .sge (BitVec.ofNat 32 r) (stW G n)) (IntOp.cmpi .slt (BitVec.ofNat 32 r) (stW G (n + 1)))

/-- Of the first `n` groups the value of the last one that row `r` is in, zero if there is none. -/
def pickW (G : ℕ → BitVec 32) (f : ℕ → EReal) (r : ℕ) : ℕ → EReal
  | 0 => 0
  | n + 1 => Scalar.select (mkW G n r) (f n) (pickW G f r n)

variable {G : ℕ → BitVec 32} {gs : ℕ → ℕ} (hG : ∀ n, n < 8 → (G n).toNat = gs n) (hgs : ∀ n, gs n ≤ 268435455)
include hG hgs

/-- It is that number. -/
theorem stW_toNat (n : ℕ) (hn : n ≤ 8) : (stW G n).toNat = start gs n := by
  induction n with
  | zero => rfl
  | succ n ih =>
    have h1 := ih (by omega)
    have h2 := hG n (by omega)
    have h3 := hgs n
    have h4 := start_le gs 268435455 hgs n
    show (Scalar.addi (stW G n) (G n)).toNat = start gs n + gs n
    rw [addi_toNat _ _ (by rw [h1, h2]; omega), h1, h2]

/-- The test is whether the row is one of the group's. -/
theorem select_mkW {n r : ℕ} (hn : n < 8) (hr : r < 256) (a b : EReal) : Scalar.select (mkW G n r) a b = if start gs n ≤ r ∧ r < start gs n + gs n then a else b := by
  have h1 := stW_toNat hG hgs n (by omega)
  have h2 := stW_toNat hG hgs (n + 1) (by omega)
  have h3 := hgs n
  have h4 := start_le gs 268435455 hgs n
  have h5 : (BitVec.ofNat 32 r).toNat = r := by rw [BitVec.toNat_ofNat]; exact Nat.mod_eq_of_lt (by omega)
  rw [start_succ] at h2
  by_cases hs : start gs n + gs n < 2147483648
  · have h := select_range (BitVec.ofNat 32 r) (stW G n) (stW G (n + 1)) (by rw [h5]; omega) (by rw [h1]; omega) (by rw [h2]; omega) a b
    rw [h1, h2, h5] at h
    exact h
  · omega

/-- A row of a group picks the group's value. -/
theorem pickW_own {f : ℕ → EReal} {e r : ℕ} (hr : r < 256) (ho : Own gs e r) (n : ℕ) (hn : n ≤ 8) (he : e < n) : pickW G f r n = f e := by
  induction n with
  | zero => omega
  | succ n ih =>
    show Scalar.select (mkW G n r) (f n) (pickW G f r n) = f e
    rw [select_mkW hG hgs (by omega) hr]
    by_cases h : e = n
    · subst h; exact if_pos ho
    · exact (if_neg fun hc => h (Own.unique ho hc)).trans (ih (by omega) (by omega))

/-- A row of no group picks zero. -/
theorem pickW_none {f : ℕ → EReal} {r : ℕ} (hr : r < 256) (n : ℕ) (hn : n ≤ 8) (ho : ∀ e, e < n → ¬Own gs e r) : pickW G f r n = 0 := by
  induction n with
  | zero => rfl
  | succ n ih =>
    show Scalar.select (mkW G n r) (f n) (pickW G f r n) = 0
    rw [select_mkW hG hgs (by omega) hr]
    exact (if_neg (ho n (by omega))).trans (ih (by omega) fun e h => ho e (by omega))

/-- Picking a product and a scale, and scaling the product by the row's scale and that one, gives the result. -/
theorem pickW_isVal {d s : ℕ → EReal} {x : EReal} {C : Fin 8 → EReal} {r : ℕ} (hr : r < 256) (hC : ∀ e : Fin 8, C e = d e.val * x * s e.val) :
    IsVal gs C r (pickW G d r 8 * x * pickW G s r 8) := by
  refine ⟨fun e ho => ?_, fun hn => ?_⟩
  · rw [pickW_own hG hgs hr ho 8 le_rfl e.isLt, pickW_own hG hgs hr ho 8 le_rfl e.isLt, hC]
  · have h : ∀ e, e < 8 → ¬Own gs e r := fun e he => hn ⟨e, he⟩
    rw [pickW_none hG hgs hr 8 le_rfl h, pickW_none hG hgs hr 8 le_rfl h, mul_zero]

end Cert.Moe

end
-- ==== Proof.ReferenceIdeal.Chain.lean ====
/- The reference's result, element by element. -/
module

public import proofs.«01_k».proof.Proof.Gen.ReferenceIdeal.Value
public import proofs.«01_k».proof.Proof.Moe.Pick
public import Idealize.ShloMosaic.Lib.Pointwise

@[expose] public section

set_option maxRecDepth 16384

noncomputable section

namespace Cert.ReferenceIdeal.Moe

open Cert.Moe Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (G : ℕ → BitVec 32) (x : Vec Ideal S256x2048 .fp8e4m3) (w : ℕ → Vec Ideal S1x2048x2816 .fp8e4m3) (s : ℕ → Vec Ideal S1x2816 .f32) (r : Fin 256) (j : Fin 2816)

/-- The row numbers. -/
abbrev rows : IVec S256x2816 32 := iota .tc S256x2816 32 [0] iota_S256x2816_d0_w32

/-- The product of row `r` with group `n`'s weights in column `j`, -/
abbrev dotF (n : ℕ) : EReal := ∑ k : Fin 2048, (x (ix2 r k) : EReal) * w n (ix3 0 k j)
/-- and the group's scale of the column. -/
abbrev sclF (n : ℕ) : EReal := s n (ix2 0 j)

/-- Products after groups 0 and 1, -/
theorem pay4_at : (k0_pay4 (F := Ideal) (G 0) x (w 0) (G 1) x (w 1) (ix2 r j) : EReal) = pickW G (dotF x w r j) r 2 := by
  pointwise [k0_pay4, k0_pay2, k0_pay3]
  rfl

/-- scales after groups 0 and 1, -/
theorem pay5_at : (k0_pay5 (F := Ideal) (G 0) (s 0) (G 1) (s 1) (ix2 r j) : EReal) = pickW G (sclF s j) r 2 := by
  pointwise [k0_pay5, k0_pay2, k0_pay3]
  rfl

/-- products after groups 2 and 3, -/
theorem pay8_at (a : FVec Ideal S256x2816 .f32) (ha : (a (ix2 r j) : EReal) = pickW G (dotF x w r j) r 2) :
    (k0_pay8 (F := Ideal) rows (stW G 2) a (stW G 3) x (w 2) (G 3) x (w 3) (ix2 r j) : EReal) = pickW G (dotF x w r j) r 4 := by
  pointwise [k0_pay8, k0_pay6, k0_pay7, ha]
  rfl

/-- scales after groups 2 and 3, -/
theorem pay9_at (a : FVec Ideal S256x2816 .f32) (ha : (a (ix2 r j) : EReal) = pickW G (sclF s j) r 2) :
    (k0_pay9 (F := Ideal) rows (stW G 2) a (stW G 3) (s 2) (G 3) (s 3) (ix2 r j) : EReal) = pickW G (sclF s j) r 4 := by
  pointwise [k0_pay9, k0_pay6, k0_pay7, ha]
  rfl

/-- the test of group 4, -/
theorem pay10_at : k0_pay10 (F := Ideal) rows (stW G 3) (G 3) (G 4) (ix2 r j) = mkW G 4 r := by
  pointwise [k0_pay10]
  rfl

/-- scales after groups 4 and 5, -/
theorem pay12_at (a : FVec Ideal S256x2816 .f32) (ha : (a (ix2 r j) : EReal) = pickW G (sclF s j) r 4) (c4 : IVec S256x2816 1) (hc : c4 (ix2 r j) = mkW G 4 r) :
    (k0_pay12 (F := Ideal) rows a (stW G 5) c4 (s 4) (G 5) (s 5) (ix2 r j) : EReal) = pickW G (sclF s j) r 6 := by
  pointwise [k0_pay12, k0_pay11, ha, hc]
  rfl

/-- the test of group 6, -/
theorem pay13_at : k0_pay13 (F := Ideal) rows (stW G 5) (G 5) (G 6) (ix2 r j) = mkW G 6 r := by
  pointwise [k0_pay13]
  rfl

/-- products after groups 4, 5 and 6, -/
theorem pay14_at (a : FVec Ideal S256x2816 .f32) (ha : (a (ix2 r j) : EReal) = pickW G (dotF x w r j) r 4) (c4 : IVec S256x2816 1) (hc : c4 (ix2 r j) = mkW G 4 r) :
    (k0_pay14 (F := Ideal) rows a (stW G 5) c4 x (w 4) (G 5) x (w 5) (G 6) x (w 6) (ix2 r j) : EReal) = pickW G (dotF x w r j) r 7 := by
  pointwise [k0_pay14, k0_pay11, k0_pay13, ha, hc]
  rfl

/-- group 6's scales, -/
theorem pay15_at : (k0_pay15 (F := Ideal) (s 6) (ix2 0 j) : EReal) = sclF s j 6 := by
  pointwise [k0_pay15]

/-- and the result. -/
theorem pay1_at (b a : FVec Ideal S256x2816 .f32) (hb : (b (ix2 r j) : EReal) = pickW G (sclF s j) r 6) (c6 : IVec S256x2816 1) (hc : c6 (ix2 r j) = mkW G 6 r)
    (ha : (a (ix2 r j) : EReal) = pickW G (dotF x w r j) r 7) (s6 : FVec Ideal S1x2816 .f32) (hs : (s6 (ix2 0 j) : EReal) = sclF s j 6) (xs : Vec Ideal S256x1 .f32) :
    (k0_pay1 (F := Ideal) rows b (stW G 7) c6 a s6 (G 7) x (w 7) (s 7) xs (ix2 r j) : EReal)
      = pickW G (dotF x w r j) r 8 * xs (ix2 r 0) * pickW G (sclF s j) r 8 := by
  pointwise [k0_pay1, ha, hb, hc, hs]
  rfl

/-- The reference's result, as its body computes it. -/
def refOut (xs : Vec Ideal S256x1 .f32) : FVec Ideal S256x2816 .bf16 :=
  k0_pay1 (F := Ideal) rows
    (k0_pay12 rows (k0_pay9 rows (stW G 2) (k0_pay5 (G 0) (s 0) (G 1) (s 1)) (stW G 3) (s 2) (G 3) (s 3)) (stW G 5) (k0_pay10 (F := Ideal) rows (stW G 3) (G 3) (G 4)) (s 4) (G 5) (s 5))
    (stW G 7) (k0_pay13 (F := Ideal) rows (stW G 5) (G 5) (G 6))
    (k0_pay14 rows (k0_pay8 rows (stW G 2) (k0_pay4 (G 0) x (w 0) (G 1) x (w 1)) (stW G 3) x (w 2) (G 3) x (w 3)) (stW G 5) (k0_pay10 (F := Ideal) rows (stW G 3) (G 3) (G 4)) x (w 4) (G 5) x (w 5) (G 6) x (w 6))
    (k0_pay15 (s 6)) (G 7) x (w 7) (s 7) xs

/-- It picks the product and the scale of the row's group. -/
theorem refOut_at (xs : Vec Ideal S256x1 .f32) :
    (refOut G x w s xs (ix2 r j) : EReal) = pickW G (dotF x w r j) r 8 * xs (ix2 r 0) * pickW G (sclF s j) r 8 :=
  pay1_at G x w s r j _ _ (pay12_at G s r j _ (pay9_at G s r j _ (pay5_at G s r j)) _ (pay10_at G r j)) _ (pay13_at G r j)
    (pay14_at G x w r j _ (pay8_at G x w r j _ (pay4_at G x w r j)) _ (pay10_at G r j)) _ (pay15_at s j) xs

end Cert.ReferenceIdeal.Moe

end
-- ==== Proof.ReferenceIdeal.Result.lean ====
/- The reference's result in terms of its arguments. -/
module

public import proofs.«01_k».proof.Proof.ReferenceIdeal.Chain
public import Idealize.ShloMosaic.Lib.WritesUnit

@[expose] public section

set_option maxRecDepth 16384

noncomputable section

namespace Cert.ReferenceIdeal.Moe

open Cert.Moe Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Eight things by number. -/
def sel8 {α : Type} (f : Fin 8 → α) : ℕ → α
  | 0 => f 0 | 1 => f 1 | 2 => f 2 | 3 => f 3 | 4 => f 4 | 5 => f 5 | 6 => f 6 | _ => f 7

theorem sel8_val {α : Type} (f : Fin 8 → α) (e : Fin 8) : sel8 f e.val = f e := by
  fin_cases e <;> rfl

/-- A load of a box reads, at a place of the box, what is there. -/
theorem readAt_at {sp : Space} {s : Shape} {e : EltTy} (v : View sig .tc sp s e) {off size : Fin s.rank → ℕ} (inb : ∀ a, off a + size a ≤ s.size a)
    (f : v.ty.Contents (Elt Ideal)) (x : (Rect.unit (s := s) off size inb).toLoadRect.shape.Idx) (y : s.Idx) (h : ∀ a, (y a).val = off a + (x a).val) :
    View.readAt (Elt Ideal) v (Rect.unit (s := s) off size inb).toLoadRect f x = v.read (Elt Ideal) f y := by
  refine congrArg (v.read (Elt Ideal) f) (funext fun a => Fin.ext ?_)
  show off a + 1 * (x a).val = (y a).val
  rw [h]; omega

section Body
variable (c : Dev nD) (arg0 : Memref sig .tc .smem S8 .i32) (harg0 : arg0.IsWhole) (arg1 : Memref sig .tc .vmem S256x2048 .fp8e4m3) (harg1 : arg1.IsWhole) (arg2 : Memref sig .tc .vmem S256x1 .f32) (harg2 : arg2.IsWhole) (arg3 : Memref sig .tc .vmem S8x2048x2816 .fp8e4m3) (harg3 : arg3.IsWhole) (arg4 : Memref sig .tc .vmem S8x2816 .f32) (harg4 : arg4.IsWhole) (arg5 : Memref sig .tc .vmem S256x2816 .bf16) (harg5 : arg5.IsWhole)
  (x0 : Vec Ideal S8 .i32) (x1 : Vec Ideal S256x2048 .fp8e4m3) (x2 : Vec Ideal S256x1 .f32) (x3 : Vec Ideal S8x2048x2816 .fp8e4m3) (x4 : Vec Ideal S8x2816 .f32)

theorem inb0 (e : Fin 8) : ∀ a, (![e.val] : Fin 1 → ℕ) a + S1.size a ≤ S8.size a := by
  intro a; fin_cases a; show e.val + 1 ≤ 8; omega
theorem inb3 (e : Fin 8) : ∀ a, (![e.val, 0, 0] : Fin 3 → ℕ) a + S1x2048x2816.size a ≤ S8x2048x2816.size a := by
  intro a; fin_cases a; exacts [(show e.val + 1 ≤ 8 by omega), le_rfl, le_rfl]
theorem inb4 (e : Fin 8) : ∀ a, (![e.val, 0] : Fin 2 → ℕ) a + S1x2816.size a ≤ S8x2816.size a := by
  intro a; fin_cases a; exacts [(show e.val + 1 ≤ 8 by omega), le_rfl]

/-- The size of a group, as the body loads it, -/
def rdG (e : Fin 8) : BitVec 32 :=
  View.readAt (Elt Ideal) arg0.view (Rect.unit (s := S8) ![e.val] S1.size (inb0 e)).toLoadRect (harg0.unread x0) (Shape.Idx.first (numel1_S1.symm ▸ Nat.one_pos))
/-- the activations, -/
def rdX : Vec Ideal S256x2048 .fp8e4m3 :=
  View.readAt (Elt Ideal) arg1.view (Rect.unit (s := S256x2048) ![0, 0] S256x2048.size inb_S256x2048_S256x2048_0_0).toLoadRect (harg1.unread x1)
/-- the row scales, -/
def rdXs : Vec Ideal S256x1 .f32 :=
  View.readAt (Elt Ideal) arg2.view (Rect.unit (s := S256x1) ![0, 0] S256x1.size inb_S256x1_S256x1_0_0).toLoadRect (harg2.unread x2)
/-- the group's weights -/
def rdW (e : Fin 8) : Vec Ideal S1x2048x2816 .fp8e4m3 :=
  View.readAt (Elt Ideal) arg3.view (Rect.unit (s := S8x2048x2816) ![e.val, 0, 0] S1x2048x2816.size (inb3 e)).toLoadRect (harg3.unread x3)
/-- and its column scales. -/
def rdS (e : Fin 8) : Vec Ideal S1x2816 .f32 :=
  View.readAt (Elt Ideal) arg4.view (Rect.unit (s := S8x2816) ![e.val, 0] S1x2816.size (inb4 e)).toLoadRect (harg4.unread x4)

theorem rdG_eq (e : Fin 8) : rdG arg0 harg0 x0 e = x0 (ix1 e) := by
  rw [rdG, readAt_at arg0.view (inb0 e) _ _ (ix1 e : S8.Idx) (by
    intro a; fin_cases a
    have := ((Shape.Idx.first (s := S1) (numel1_S1.symm ▸ Nat.one_pos)) 0).isLt
    show e.val = e.val + ((Shape.Idx.first (s := S1) (numel1_S1.symm ▸ Nat.one_pos)) 0).val
    have h1 : S1.size 0 = 1 := rfl
    omega), harg0.read_unread]

theorem rdX_eq (r : Fin 256) (k : Fin 2048) : (rdX arg1 harg1 x1 (ix2 r k) : EReal) = x1 (ix2 r k) := by
  rw [rdX, readAt_at arg1.view inb_S256x2048_S256x2048_0_0 _ _ (ix2 r k : S256x2048.Idx) (by
    intro a; fin_cases a; exacts [(Nat.zero_add _).symm, (Nat.zero_add _).symm]), harg1.read_unread]

theorem rdXs_eq (r : Fin 256) : (rdXs arg2 harg2 x2 (ix2 r 0) : EReal) = x2 (ix2 r 0) := by
  rw [rdXs, readAt_at arg2.view inb_S256x1_S256x1_0_0 _ _ (ix2 r 0 : S256x1.Idx) (by
    intro a; fin_cases a; exacts [(Nat.zero_add _).symm, (Nat.zero_add _).symm]), harg2.read_unread]

theorem rdW_eq (e : Fin 8) (k : Fin 2048) (j : Fin 2816) : (rdW arg3 harg3 x3 e (ix3 0 k j) : EReal) = x3 (ix3 e k j) := by
  rw [rdW, readAt_at arg3.view (inb3 e) _ _ (ix3 e k j : S8x2048x2816.Idx) (by
    intro a; fin_cases a; exacts [(Nat.add_zero _).symm, (Nat.zero_add _).symm, (Nat.zero_add _).symm]), harg3.read_unread]

theorem rdS_eq (e : Fin 8) (j : Fin 2816) : (rdS arg4 harg4 x4 e (ix2 0 j) : EReal) = x4 (ix2 e j) := by
  rw [rdS, readAt_at arg4.view (inb4 e) _ _ (ix2 e j : S8x2816.Idx) (by
    intro a; fin_cases a; exacts [(Nat.add_zero _).symm, (Nat.zero_add _).symm]), harg4.read_unread]

/-- The body stores the reference's result. -/
theorem pieces_eq : (kernelRun0_A (F := Ideal) c arg0 harg0 arg1 harg1 arg2 harg2 arg3 harg3 arg4 harg4 arg5 harg5 x0 x1 x2 x3 x4).1
    = [⟨Rect.unit (s := S256x2816) ![0, 0] S256x2816.size inb_S256x2816_S256x2816_0_0,
        refOut (sel8 (rdG arg0 harg0 x0)) (rdX arg1 harg1 x1) (sel8 (rdW arg3 harg3 x3)) (sel8 (rdS arg4 harg4 x4)) (rdXs arg2 harg2 x2)⟩] := by
  rfl

/-- It is the result. -/
theorem out_isVal (gs : ℕ → ℕ) (hG : ∀ e : Fin 8, (x0 (ix1 e)).toNat = gs e.val) (hgs : ∀ n, gs n ≤ 268435455) (r : Fin 256) (j : Fin 2816) :
    IsVal gs (fun e => cell (fun r k => x1 (ix2 r k)) (fun r => x2 (ix2 r 0)) (fun e k j => x3 (ix3 e k j)) (fun e j => x4 (ix2 e j)) e r j) r.val
      (out0_A_5 (F := Ideal) c arg0 harg0 arg1 harg1 arg2 harg2 arg3 harg3 arg4 harg4 arg5 harg5 x0 x1 x2 x3 x4 (ix2 r j) : EReal) := by
  rw [out0_A_5, pieces_eq, View.read_writes_cons_unit_of_mem VO0_5 (off := ![0, 0]) (off' := ![0, 0]) (size := S256x2816.size) _ _ _ []
    (ix2 r j : S256x2816.Idx) (ix2 r j : S256x2816.Idx) rfl (by intro a; fin_cases a; exacts [(Nat.zero_add _).symm, (Nat.zero_add _).symm]), refOut_at, rdXs_eq]
  refine pickW_isVal (fun n hn => ?_) hgs r.isLt fun e => ?_
  · rw [sel8_val (rdG arg0 harg0 x0) ⟨n, hn⟩, rdG_eq]; exact hG ⟨n, hn⟩
  · rw [dotF, sclF, sel8_val, sel8_val, rdS_eq]
    refine congrArg (· * _ * _) (Finset.sum_congr rfl fun k _ => ?_)
    rw [rdX_eq, rdW_eq]

end Body

end Cert.ReferenceIdeal.Moe

end
-- ==== Proof.ReferenceIdeal.Array.lean ====
/- The reference's result array, element by element. -/
module

public import proofs.«01_k».proof.Proof.ReferenceIdeal.Result
public import Idealize.ShloMosaic.Lib.StableHlo.Run

@[expose] public section

set_option maxRecDepth 16384

noncomputable section

namespace Cert.ReferenceIdeal.Moe

open Cert.Moe Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD) (t : Fin cfg0.N)

/-- What the body is given of the sizes, -/
theorem iblk0_at (e : Fin 8) : (iblk m c 0 t (ix1 e) : BitVec 32) = m ((c : Thread nD τ).loc main_arg2) (ix1 e) := by
  have h : iblk m c 0 t (ix1 e) = V m c main_arg2 (ix1 e) := congrArg (V m c main_arg2) (by
    funext a; refine Fin.ext ?_; fin_cases a; show 0 * 8 + 1 * e.val = e.val; omega)
  rw [h, V_main_arg2]

/-- the activations, -/
theorem iblk1_at (r : Fin 256) (k : Fin 2048) : (iblk m c 1 t (ix2 r k) : EReal) = m ((c : Thread nD τ).loc main_arg0) (ix2 r k) := by
  have h : iblk m c 1 t (ix2 r k) = V m c main_arg0 (ix2 r k) := congrArg (V m c main_arg0) (by
    funext a; refine Fin.ext ?_; fin_cases a
    · show 0 * 256 + 1 * r.val = r.val; omega
    · show 0 * 2048 + 1 * k.val = k.val; omega)
  rw [h, V_main_arg0]

/-- the row scales as a column, -/
theorem iblk2_at (r : Fin 256) : (iblk m c 2 t (ix2 r 0) : EReal) = m ((c : Thread nD τ).loc main_arg1) (ix1 r) := by
  have h : iblk m c 2 t (ix2 r 0) = V m c main_v0 (ix2 r 0) := congrArg (V m c main_v0) (by
    funext a; refine Fin.ext ?_; fin_cases a
    · show 0 * 256 + 1 * r.val = r.val; omega
    · rfl)
  have e : V m c main_v0 = broadcastInDim S256x1 ![0] bcast_S256_S256x1_0 (m ((c : Thread nD τ).loc main_arg1)) := by
    simp only [V, hostOps0]; after_results; try rfl
  rw [h, e]
  have h2 : (broadcastInDim S256x1 ![0] bcast_S256_S256x1_0 (m ((c : Thread nD τ).loc main_arg1) : Vec Ideal S256 .f32) (ix2 r 0) : EReal)
      = m ((c : Thread nD τ).loc main_arg1) (ix1 r) := by
    pointwise
  exact h2

/-- the weights -/
theorem iblk3_at (e : Fin 8) (k : Fin 2048) (j : Fin 2816) : (iblk m c 3 t (ix3 e k j) : EReal) = m ((c : Thread nD τ).loc main_arg3) (ix3 e k j) := by
  have h : iblk m c 3 t (ix3 e k j) = V m c main_arg3 (ix3 e k j) := congrArg (V m c main_arg3) (by
    funext a; refine Fin.ext ?_; fin_cases a
    · show 0 * 8 + 1 * e.val = e.val; omega
    · show 0 * 2048 + 1 * k.val = k.val; omega
    · show 0 * 2816 + 1 * j.val = j.val; omega)
  rw [h, V_main_arg3]

/-- and the column scales. -/
theorem iblk4_at (e : Fin 8) (j : Fin 2816) : (iblk m c 4 t (ix2 e j) : EReal) = m ((c : Thread nD τ).loc main_arg4) (ix2 e j) := by
  have h : iblk m c 4 t (ix2 e j) = V m c main_arg4 (ix2 e j) := congrArg (V m c main_arg4) (by
    funext a; refine Fin.ext ?_; fin_cases a
    · show 0 * 8 + 1 * e.val = e.val; omega
    · show 0 * 2816 + 1 * j.val = j.val; omega)
  rw [h, V_main_arg4]

/-- The one grid point. -/
def t0 : Fin cfg0.N := ⟨0, by decide⟩

/-- The result array holds what the body leaves. -/
theorem arr_at (r : Fin 256) (j : Fin 2816) : ((dats m 0 c).arrAt 5 cfg0.N (ix2 r j) : EReal) = outsAt0 m c t0 (ix2 r j) := by
  have h := congrFun (Value.blocks5 m c t0 (by decide +kernel)) (ix2 r j)
  rw [Value.flushed5] at h
  refine Eq.trans (congrArg ((dats m 0 c).arrAt 5 cfg0.N) ?_) h
  funext a; refine Fin.ext ?_; fin_cases a
  · show r.val = 0 * 256 + 1 * r.val; omega
  · show j.val = 0 * 2816 + 1 * j.val; omega

/-- Element by element the reference's result is that of the row's group. -/
theorem ref_isVal (gs : ℕ → ℕ) (hG : ∀ e : Fin 8, (m ((c : Thread nD τ).loc main_arg2) (ix1 e) : BitVec 32).toNat = gs e.val) (hgs : ∀ n, gs n ≤ 268435455) (r : Fin 256) (j : Fin 2816) :
    IsVal gs (fun e => cell (fun r k => m ((c : Thread nD τ).loc main_arg0) (ix2 r k)) (fun r => m ((c : Thread nD τ).loc main_arg1) (ix1 r))
      (fun e k j => m ((c : Thread nD τ).loc main_arg3) (ix3 e k j)) (fun e j => m ((c : Thread nD τ).loc main_arg4) (ix2 e j)) e r j) r.val
      ((dats m 0 c).arrAt 5 cfg0.N (ix2 r j) : EReal) := by
  rw [arr_at, outsAt0]
  have h := out_isVal c (ms0_0 t0) (hs0_0 t0) (ms0_1 t0) (hs0_1 t0) (ms0_2 t0) (hs0_2 t0) (ms0_3 t0) (hs0_3 t0) (ms0_4 t0) (hs0_4 t0) (ms0_5 t0) (hs0_5 t0)
    (iblk m c 0 t0) (iblk m c 1 t0) (iblk m c 2 t0) (iblk m c 3 t0) (iblk m c 4 t0) gs (fun e => by rw [iblk0_at]; exact hG e) hgs r j
  rw [show (fun r k => iblk m c 1 t0 (ix2 r k) : Fin 256 → Fin 2048 → EReal) = fun r k => m ((c : Thread nD τ).loc main_arg0) (ix2 r k) from
      funext fun r => funext fun k => iblk1_at m c t0 r k,
    show (fun r => iblk m c 2 t0 (ix2 r 0) : Fin 256 → EReal) = fun r => m ((c : Thread nD τ).loc main_arg1) (ix1 r) from funext fun r => iblk2_at m c t0 r,
    show (fun e k j => iblk m c 3 t0 (ix3 e k j) : Fin 8 → Fin 2048 → Fin 2816 → EReal) = fun e k j => m ((c : Thread nD τ).loc main_arg3) (ix3 e k j) from
      funext fun e => funext fun k => funext fun j => iblk3_at m c t0 e k j,
    show (fun e j => iblk m c 4 t0 (ix2 e j) : Fin 8 → Fin 2816 → EReal) = fun e j => m ((c : Thread nD τ).loc main_arg4) (ix2 e j) from
      funext fun e => funext fun j => iblk4_at m c t0 e j] at h
  exact h

end Cert.ReferenceIdeal.Moe

end
-- ==== Proof.Algebraic.lean ====
/- At real numbers the kernel and the reference compute the same result. -/
module

public import proofs.«01_k».proof.Defs
public import proofs.«01_k».proof.Proof.Gen.Pre_sizes_in_range
public import proofs.«01_k».proof.Proof.KernelIdeal.ValueRun
public import proofs.«01_k».proof.Proof.ReferenceIdeal.Array

@[expose] public section

set_option maxRecDepth 16384

noncomputable section

namespace Cert.Moe

open Idealize.ShloMosaic Idealize.ShloMosaic.TcCoe Idealize.ShloMosaic.Tactic Idealize.SL.Sem

/-- Each size is the array's element. -/
theorem size_at (c : Dev Cert.KernelIdeal.nD) (m : (ℓ : Loc Cert.KernelIdeal.nD Cert.KernelIdeal.τ Cert.KernelIdeal.sig) → Buf (Elt Ideal) ℓ) (e : Fin 8) :
    (m ((c.tc : Thread Cert.KernelIdeal.nD Cert.KernelIdeal.τ).loc Cert.KernelIdeal.main_arg2) (ix1 e) : BitVec 32).toNat = Cert.KernelIdeal.Moe.gsF c m e.val := by
  have h (k : Fin 8) : (m ((c.tc : Thread Cert.KernelIdeal.nD Cert.KernelIdeal.τ).loc Cert.KernelIdeal.main_arg2) (ix1 k) : BitVec 32) = Cert.KernelIdeal.Moe.tbl c m k :=
    congrArg (m ((c.tc : Thread Cert.KernelIdeal.nD Cert.KernelIdeal.τ).loc Cert.KernelIdeal.main_arg2)) (by
      funext a; refine Fin.ext ?_; fin_cases a; rfl)
  rw [h]
  match e with
  | 0 => rfl | 1 => rfl | 2 => rfl | 3 => rfl | 4 => rfl | 5 => rfl | 6 => rfl | 7 => rfl

/-- The reference's result of the kernel's arguments, element by element. -/
theorem ref_of_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hsz : ∀ i : Cert.KernelIdeal.S8.Idx, (m ((c.tc : Thread Cert.KernelIdeal.nD Cert.KernelIdeal.τ).loc Cert.KernelIdeal.main_arg2) i : BitVec 32).toNat ≤ 268435455)
    (r : Fin 256) (j : Fin 2816) :
    IsVal (Cert.KernelIdeal.Moe.gsF c m) (fun e => Cert.KernelIdeal.Moe.cF c m e r j) r.val
      ((Cert.ReferenceIdeal.Gen.dats m' 0 c).arrAt 5 Cert.ReferenceIdeal.cfg0.N (ix2 r j) : EReal) := by
  have h := Cert.ReferenceIdeal.Moe.ref_isVal m' c (Cert.KernelIdeal.Moe.gsF c m)
    (fun e => by rw [h2]; exact size_at c m e) (inRange_of (Cert.KernelIdeal.Moe.tbl c m) fun k => hsz _) r j
  rw [h0, h1, h3, h4] at h
  exact h

/-- The claim: from the same arguments, sizes in range, both programs end with the same result and their arguments unchanged. -/
theorem algebraic : Cert.algebraic_KernelIdeal_ReferenceIdeal (hKernelIdeal := Cert.KernelIdeal.Gen.facts) (hReferenceIdeal := Cert.ReferenceIdeal.Gen.facts)
    (hPre_sizes_in_range := Cert.Pre_sizes_in_range.Gen.facts) := by
  intro m g m' g' hpre hargs
  have hsz : ∀ (c : Dev Cert.KernelIdeal.nD) (i : Cert.KernelIdeal.S8.Idx),
      (m ((c.tc : Thread Cert.KernelIdeal.nD Cert.KernelIdeal.τ).loc Cert.KernelIdeal.main_arg2) i : BitVec 32).toNat ≤ 268435455 :=
    fun c i => size_le _ _ _ _ _ (hpre c) i
  refine ⟨fun c => (Cert.ReferenceIdeal.Gen.dats m' 0 c).arrAt 5 Cert.ReferenceIdeal.cfg0.N, ?_, Cert.ReferenceIdeal.Value.run_blocks m' g'⟩
  refine (θ_run _ _ _).mono (fun r hr c => ⟨?_, (hr c).2⟩) (Cert.KernelIdeal.Moe.value_run m g hsz)
  obtain ⟨h0, h1, h2, h3, h4⟩ := hargs c
  refine funext fun (i : Cert.KernelIdeal.S256x2816.Idx) => ?_
  idx_vars i
  exact IsVal.unique ((hr c).1 i0 i1) (ref_of_args m m' c h0 h1 h2 h3 h4 (hsz c) i0 i1)

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_in_range
public import proofs.«01_k».proof.Proof.Kernel.FrameRun
public import proofs.«01_k».proof.Proof.KernelIdeal.FrameRun
public import proofs.«01_k».proof.Proof.Moe.Sizes
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the two readings of the kernel by their frame runs, the reference by its own, and the two programs' results by `Cert.Moe.algebraic`. -/
theorem claim : Cert.Claim :=
  ⟨Cert.Kernel.Gen.facts, Cert.KernelIdeal.Gen.facts, Cert.ReferenceIdeal.Gen.facts, Cert.Pre_sizes_in_range.Gen.facts,
    fun m g h => Cert.Kernel.Moe.frame_run m g fun c i => Cert.Moe.size_le _ _ _ _ _ (h c) i,
    fun m g h => Cert.KernelIdeal.Moe.frame_run m g fun c i => Cert.Moe.size_le _ _ _ _ _ (h c) i,
    fun m g _ => Cert.ReferenceIdeal.Gen.frame m g,
    fun m g _ => Cert.ReferenceIdeal.Gen.frame m g,
    trivial,
    Cert.Moe.algebraic⟩

end Cert.Proof

end
